-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2 = (fun _ => 1#1)

def Pre_Kernel2 [hPre_grouped : Cert.Pre_grouped.Facts] (m : (ℓ : Loc Cert.Kernel2.nD Cert.Kernel2.τ Cert.Kernel2.sig) → Buf (Elt Bits) ℓ) : Prop :=
  ∀ c : Dev Cert.Kernel2.nD,
    (Cert.Pre_grouped.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2))).1 = (fun _ => 1#1)
    ∧ (Cert.Pre_grouped.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2))).2.1 = (fun _ => 1#1)
    ∧ (Cert.Pre_grouped.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2))).2.2 = (fun _ => 1#1)

def Pre_Kernel2Ideal [hPre_grouped : Cert.Pre_grouped.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_grouped.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2))).1 = (fun _ => 1#1)
    ∧ (Cert.Pre_grouped.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2))).2.1 = (fun _ => 1#1)
    ∧ (Cert.Pre_grouped.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2))).2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_grouped [hPre_grouped : Cert.Pre_grouped.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_grouped.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2))).1 = (fun _ => 1#1)
    ∧ (Cert.Pre_grouped.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2))).2.1 = (fun _ => 1#1)
    ∧ (Cert.Pre_grouped.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2))).2.2 = (fun _ => 1#1)

def Pre_Kernel3 [hPre_grouped_act : Cert.Pre_grouped_act.Facts] (m : (ℓ : Loc Cert.Kernel3.nD Cert.Kernel3.τ Cert.Kernel3.sig) → Buf (Elt Bits) ℓ) : Prop :=
  ∀ c : Dev Cert.Kernel3.nD,
    (Cert.Pre_grouped_act.fn (F := Bits) (m ((c.tc : Thread Cert.Kernel3.nD Cert.Kernel3.τ).loc Cert.Kernel3.main_arg0)) (m ((c.tc : Thread Cert.Kernel3.nD Cert.Kernel3.τ).loc Cert.Kernel3.main_arg1)) (m ((c.tc : Thread Cert.Kernel3.nD Cert.Kernel3.τ).loc Cert.Kernel3.main_arg2))).1 = (fun _ => 1#1)
    ∧ (Cert.Pre_grouped_act.fn (F := Bits) (m ((c.tc : Thread Cert.Kernel3.nD Cert.Kernel3.τ).loc Cert.Kernel3.main_arg0)) (m ((c.tc : Thread Cert.Kernel3.nD Cert.Kernel3.τ).loc Cert.Kernel3.main_arg1)) (m ((c.tc : Thread Cert.Kernel3.nD Cert.Kernel3.τ).loc Cert.Kernel3.main_arg2))).2.1 = (fun _ => 1#1)
    ∧ (Cert.Pre_grouped_act.fn (F := Bits) (m ((c.tc : Thread Cert.Kernel3.nD Cert.Kernel3.τ).loc Cert.Kernel3.main_arg0)) (m ((c.tc : Thread Cert.Kernel3.nD Cert.Kernel3.τ).loc Cert.Kernel3.main_arg1)) (m ((c.tc : Thread Cert.Kernel3.nD Cert.Kernel3.τ).loc Cert.Kernel3.main_arg2))).2.2 = (fun _ => 1#1)

def Pre_Kernel3Ideal [hPre_grouped_act : Cert.Pre_grouped_act.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_grouped_act.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2))).1 = (fun _ => 1#1)
    ∧ (Cert.Pre_grouped_act.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2))).2.1 = (fun _ => 1#1)
    ∧ (Cert.Pre_grouped_act.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2))).2.2 = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_grouped_act [hPre_grouped_act : Cert.Pre_grouped_act.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_grouped_act.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2))).1 = (fun _ => 1#1)
    ∧ (Cert.Pre_grouped_act.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2))).2.1 = (fun _ => 1#1)
    ∧ (Cert.Pre_grouped_act.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2))).2.2 = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] [hPre_grouped : Cert.Pre_grouped.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] [hPre_grouped : Cert.Pre_grouped.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Reference2Ideal_pre_grouped [hReference2Ideal : Cert.Reference2Ideal.Facts] [hPre_grouped : Cert.Pre_grouped.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_grouped m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] [hPre_grouped_act : Cert.Pre_grouped_act.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] [hPre_grouped_act : Cert.Pre_grouped_act.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Reference3Ideal_pre_grouped_act [hReference3Ideal : Cert.Reference3Ideal.Facts] [hPre_grouped_act : Cert.Pre_grouped_act.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_grouped_act m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3)
      ∧ r.2.mem ((c.tc : Thread Cert.Kernel17.nD Cert.Kernel17.τ).loc Cert.Kernel17.main_arg4) = m ((c.tc : Thread Cert.Kernel17.nD Cert.Kernel17.τ).loc Cert.Kernel17.main_arg4)
      ∧ r.2.mem ((c.tc : Thread Cert.Kernel17.nD Cert.Kernel17.τ).loc Cert.Kernel17.main_arg5) = m ((c.tc : Thread Cert.Kernel17.nD Cert.Kernel17.τ).loc Cert.Kernel17.main_arg5))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
      ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4)
      ∧ r.2.mem ((c.tc : Thread Cert.Kernel17Ideal.nD Cert.Kernel17Ideal.τ).loc Cert.Kernel17Ideal.main_arg5) = m ((c.tc : Thread Cert.Kernel17Ideal.nD Cert.Kernel17Ideal.τ).loc Cert.Kernel17Ideal.main_arg5))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3)
      ∧ r.2.mem ((c.tc : Thread Cert.Reference17Ideal.nD Cert.Reference17Ideal.τ).loc Cert.Reference17Ideal.main_arg4) = m ((c.tc : Thread Cert.Reference17Ideal.nD Cert.Reference17Ideal.τ).loc Cert.Reference17Ideal.main_arg4)
      ∧ r.2.mem ((c.tc : Thread Cert.Reference17Ideal.nD Cert.Reference17Ideal.τ).loc Cert.Reference17Ideal.main_arg5) = m ((c.tc : Thread Cert.Reference17Ideal.nD Cert.Reference17Ideal.τ).loc Cert.Reference17Ideal.main_arg5))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2))
      ∧ r.2.sem = fun _ => 0)

def preserves_Kernel_KernelIdeal : Prop :=
  IdealRules.named_const.Statement Cert.KernelIdeal.κ "log2e_inv_sqrt_d" .f32 0x3DD53B95#32 (((Real.log 2)⁻¹ * (Real.sqrt 192)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] [hPre_grouped : Cert.Pre_grouped.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v11) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] [hPre_grouped_act : Cert.Pre_grouped_act.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v7) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v3) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v6) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v4)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v4) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v4) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v4)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v4) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v9) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)) →
    ∃ (v0 : (c : Dev Cert.Kernel7Ideal.nD) → Buf (Elt Ideal) ((c.tc : Thread Cert.Kernel7Ideal.nD Cert.Kernel7Ideal.τ).loc Cert.Kernel7Ideal.main_v11)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v11) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v12) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)) →
    ∃ (v0 : (c : Dev Cert.Kernel8Ideal.nD) → Buf (Elt Ideal) ((c.tc : Thread Cert.Kernel8Ideal.nD Cert.Kernel8Ideal.τ).loc Cert.Kernel8Ideal.main_v4)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v4) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v4) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v4)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v4) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v3) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v4)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v4) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v2) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)) →
    ∃ (v0 : (c : Dev Cert.Kernel11Ideal.nD) → Buf (Elt Ideal) ((c.tc : Thread Cert.Kernel11Ideal.nD Cert.Kernel11Ideal.τ).loc Cert.Kernel11Ideal.main_v12)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v12) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v34) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)) →
    ∃ (v0 : (c : Dev Cert.Kernel12Ideal.nD) → Buf (Elt Ideal) ((c.tc : Thread Cert.Kernel12Ideal.nD Cert.Kernel12Ideal.τ).loc Cert.Kernel12Ideal.main_v5)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v5) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v16) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)) →
    ∃ (v0 : (c : Dev Cert.Kernel13Ideal.nD) → Buf (Elt Ideal) ((c.tc : Thread Cert.Kernel13Ideal.nD Cert.Kernel13Ideal.τ).loc Cert.Kernel13Ideal.main_v5)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v5) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v16) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)) →
    ∃ (v0 : (c : Dev Cert.Kernel14Ideal.nD) → Buf (Elt Ideal) ((c.tc : Thread Cert.Kernel14Ideal.nD Cert.Kernel14Ideal.τ).loc Cert.Kernel14Ideal.main_v53)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v53) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v98) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v5)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v5) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v3) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)) →
    ∃ (v0 : (c : Dev Cert.Kernel16Ideal.nD) → Buf (Elt Ideal) ((c.tc : Thread Cert.Kernel16Ideal.nD Cert.Kernel16Ideal.τ).loc Cert.Kernel16Ideal.main_v2)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v2) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v20) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)
      ∧ m' ((c.tc : Thread Cert.Reference17Ideal.nD Cert.Reference17Ideal.τ).loc Cert.Reference17Ideal.main_arg4) = m ((c.tc : Thread Cert.Kernel17Ideal.nD Cert.Kernel17Ideal.τ).loc Cert.Kernel17Ideal.main_arg4)
      ∧ m' ((c.tc : Thread Cert.Reference17Ideal.nD Cert.Reference17Ideal.τ).loc Cert.Reference17Ideal.main_arg5) = m ((c.tc : Thread Cert.Kernel17Ideal.nD Cert.Kernel17Ideal.τ).loc Cert.Kernel17Ideal.main_arg5)) →
    ∃ (v0 : (c : Dev Cert.Kernel17Ideal.nD) → Buf (Elt Ideal) ((c.tc : Thread Cert.Kernel17Ideal.nD Cert.Kernel17Ideal.τ).loc Cert.Kernel17Ideal.main_v6)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v6) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
          ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4)
          ∧ r.2.mem ((c.tc : Thread Cert.Kernel17Ideal.nD Cert.Kernel17Ideal.τ).loc Cert.Kernel17Ideal.main_arg5) = m ((c.tc : Thread Cert.Kernel17Ideal.nD Cert.Kernel17Ideal.τ).loc Cert.Kernel17Ideal.main_arg5))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v24) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3)
          ∧ r.2.mem ((c.tc : Thread Cert.Reference17Ideal.nD Cert.Reference17Ideal.τ).loc Cert.Reference17Ideal.main_arg4) = m' ((c.tc : Thread Cert.Reference17Ideal.nD Cert.Reference17Ideal.τ).loc Cert.Reference17Ideal.main_arg4)
          ∧ r.2.mem ((c.tc : Thread Cert.Reference17Ideal.nD Cert.Reference17Ideal.τ).loc Cert.Reference17Ideal.main_arg5) = m' ((c.tc : Thread Cert.Reference17Ideal.nD Cert.Reference17Ideal.τ).loc Cert.Reference17Ideal.main_arg5))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)) →
    ∃ (v0 : (c : Dev Cert.Kernel18Ideal.nD) → Buf (Elt Ideal) ((c.tc : Thread Cert.Kernel18Ideal.nD Cert.Kernel18Ideal.τ).loc Cert.Kernel18Ideal.main_v2)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v2) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v19) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hPre_finite : Cert.Pre_finite.Facts) (hPre_grouped : Cert.Pre_grouped.Facts) (hPre_grouped_act : Cert.Pre_grouped_act.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2) (hPre_grouped := hPre_grouped)
    ∧ quiescent_Kernel2Ideal (hKernel2Ideal := hKernel2Ideal) (hPre_grouped := hPre_grouped)
    ∧ quiescent_Reference2Ideal (hReference2Ideal := hReference2Ideal)
    ∧ quiescent_Reference2Ideal_pre_grouped (hReference2Ideal := hReference2Ideal) (hPre_grouped := hPre_grouped)
    ∧ quiescent_Kernel3 (hKernel3 := hKernel3) (hPre_grouped_act := hPre_grouped_act)
    ∧ quiescent_Kernel3Ideal (hKernel3Ideal := hKernel3Ideal) (hPre_grouped_act := hPre_grouped_act)
    ∧ quiescent_Reference3Ideal (hReference3Ideal := hReference3Ideal)
    ∧ quiescent_Reference3Ideal_pre_grouped_act (hReference3Ideal := hReference3Ideal) (hPre_grouped_act := hPre_grouped_act)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal) (hPre_grouped := hPre_grouped)
    ∧ preserves_Kernel3_Kernel3Ideal
    ∧ algebraic_Kernel3Ideal_Reference3Ideal (hKernel3Ideal := hKernel3Ideal) (hReference3Ideal := hReference3Ideal) (hPre_grouped_act := hPre_grouped_act)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
-- ==== Pre_finite.lean ====
abbrev S4x4096x8x192 : Shape := ⟨4, ![4, 4096, 8, 192]⟩
abbrev S4x4096x8x128 : Shape := ⟨4, ![4, 4096, 8, 128]⟩
abbrev S_ : Shape := ⟨0, ![]⟩

class Facts : Prop where
  bcast_S_S4x4096x8x192 : S_.BroadcastsInDim S4x4096x8x192 (![] : Fin 0 → Fin S4x4096x8x192.rank)

variable [Facts]

def fn {F : FTy → Type} [FloatOps F] (main_arg0 : FVec F S4x4096x8x192 .f32) (main_arg1 : FVec F S4x4096x8x192 .f32) (main_arg2 : FVec F S4x4096x8x128 .f32) : IVec S4x4096x8x192 1 × IVec S4x4096x8x192 1 :=
  let main_v0 : FVec F S4x4096x8x192 .f32 := Host.absf main_arg0
  let main_cst : FVec F S_ .f32 := constant S_ .f32 0x7F800000#32
  let main_v1 : FVec F S4x4096x8x192 .f32 := broadcastInDim S4x4096x8x192 ![] bcast_S_S4x4096x8x192 main_cst
  let main_v2 : IVec S4x4096x8x192 1 := cmpf .olt main_v0 main_v1
  let main_v3 : FVec F S4x4096x8x192 .f32 := Host.absf main_arg1
  let main_cst_0 : FVec F S_ .f32 := constant S_ .f32 0x7F800000#32
  let main_v4 : FVec F S4x4096x8x192 .f32 := broadcastInDim S4x4096x8x192 ![] bcast_S_S4x4096x8x192 main_cst_0
  let main_v5 : IVec S4x4096x8x192 1 := cmpf .olt main_v3 main_v4
  (main_v2, main_v5)
-- ==== Pre_grouped.lean ====
abbrev S40960x2048 : Shape := ⟨2, ![40960, 2048]⟩
abbrev S81 : Shape := ⟨1, ![81]⟩
abbrev S8x2048x14336 : Shape := ⟨3, ![8, 2048, 14336]⟩
abbrev S40 : Shape := ⟨1, ![40]⟩
abbrev S_ : Shape := ⟨0, ![]⟩
abbrev S1 : Shape := ⟨1, ![1]⟩
abbrev S40x1x1 : Shape := ⟨3, ![40, 1, 1]⟩
abbrev S1024 : Shape := ⟨1, ![1024]⟩
abbrev S1x1024x1 : Shape := ⟨3, ![1, 1024, 1]⟩
abbrev S40x1024x1 : Shape := ⟨3, ![40, 1024, 1]⟩
abbrev S40x1024x2048 : Shape := ⟨3, ![40, 1024, 2048]⟩

class Facts : Prop where
  slices_S81_S40_0 : S81.Slices ![0] S40
  bcast_S_S40 : S_.BroadcastsInDim S40 (![] : Fin 0 → Fin S40.rank)
  slices_S81_S1_40 : S81.Slices ![40] S1
  shapeCasts_S1_S_ : S1.ShapeCasts S_
  bcast_S40_S40x1x1_0 : S40.BroadcastsInDim S40x1x1 (![0] : Fin 1 → Fin S40x1x1.rank)
  bcast_S1024_S1x1024x1_1 : S1024.BroadcastsInDim S1x1024x1 (![1] : Fin 1 → Fin S1x1024x1.rank)
  bcast_S_S40x1x1 : S_.BroadcastsInDim S40x1x1 (![] : Fin 0 → Fin S40x1x1.rank)
  slices_S81_S40_41 : S81.Slices ![41] S40
  bcast_S1x1024x1_S40x1024x1_0_1_2 : S1x1024x1.BroadcastsInDim S40x1024x1 (![0, 1, 2] : Fin 3 → Fin S40x1024x1.rank)
  bcast_S40x1x1_S40x1024x1_0_1_2 : S40x1x1.BroadcastsInDim S40x1024x1 (![0, 1, 2] : Fin 3 → Fin S40x1024x1.rank)
  shapeCasts_S40960x2048_S40x1024x2048 : S40960x2048.ShapeCasts S40x1024x2048
  bcast_S_S40x1024x2048 : S_.BroadcastsInDim S40x1024x2048 (![] : Fin 0 → Fin S40x1024x2048.rank)
  bcast_S40x1024x1_S40x1024x2048_0_1_2 : S40x1024x1.BroadcastsInDim S40x1024x2048 (![0, 1, 2] : Fin 3 → Fin S40x1024x2048.rank)

variable [Facts]

def fn_part1 {F : FTy → Type} [FloatOps F] (main_arg0 : FVec F S40960x2048 .f32) (main_arg1 : IVec S81 32) (main_v6 : IVec S40 1) (main_v13 : IVec S_ 1) (main_v15 : IVec S40x1x1 32) (main_v17 : IVec S1x1024x1 32) (main_v19 : IVec S_ 32) : IVec S40 1 × IVec S_ 1 × IVec S40x1024x2048 1 :=
  let main_v20 : IVec S40x1x1 32 := broadcastInDim S40x1x1 ![] bcast_S_S40x1x1 main_v19
  let main_v21 : IVec S40x1x1 1 := cmpi .slt main_v15 main_v20
  let main_v22 : IVec S40 32 := (extractStridedSlice S40 ![41] · slices_S81_S40_41) main_arg1
  let main_v23 : IVec S40x1x1 32 := broadcastInDim S40x1x1 ![0] bcast_S40_S40x1x1_0 main_v22
  let main_v24 : IVec S40x1024x1 32 := broadcastInDim S40x1024x1 ![0, 1, 2] bcast_S1x1024x1_S40x1024x1_0_1_2 main_v17
  let main_v25 : IVec S40x1024x1 32 := broadcastInDim S40x1024x1 ![0, 1, 2] bcast_S40x1x1_S40x1024x1_0_1_2 main_v23
  let main_v26 : IVec S40x1024x1 1 := cmpi .slt main_v24 main_v25
  let main_v27 : IVec S40x1024x1 1 := broadcastInDim S40x1024x1 ![0, 1, 2] bcast_S40x1x1_S40x1024x1_0_1_2 main_v21
  let main_v28 : IVec S40x1024x1 1 := andi main_v27 main_v26
  let main_v29 : FVec F S40x1024x2048 .f32 := shapeCast S40x1024x2048 main_arg0 shapeCasts_S40960x2048_S40x1024x2048
  let main_cst : FVec F S_ .f32 := constant S_ .f32 0x00000000#32
  let main_v30 : FVec F S40x1024x2048 .f32 := broadcastInDim S40x1024x2048 ![] bcast_S_S40x1024x2048 main_cst
  let main_v31 : IVec S40x1024x2048 1 := cmpf .oeq main_v29 main_v30
  let main_v32 : IVec S40x1024x2048 1 := broadcastInDim S40x1024x2048 ![0, 1, 2] bcast_S40x1024x1_S40x1024x2048_0_1_2 main_v28
  let main_v33 : IVec S40x1024x2048 1 := ori main_v32 main_v31
  (main_v6, main_v13, main_v33)

def fn {F : FTy → Type} [FloatOps F] (main_arg0 : FVec F S40960x2048 .f32) (main_arg1 : IVec S81 32) (main_arg2 : FVec F S8x2048x14336 .f32) : IVec S40 1 × IVec S_ 1 × IVec S40x1024x2048 1 :=
  let main_v0 : IVec S40 32 := (extractStridedSlice S40 ![0] · slices_S81_S40_0) main_arg1
  let main_c : IVec S_ 32 := constantI S_ 32 0#32
  let main_v1 : IVec S40 32 := broadcastInDim S40 ![] bcast_S_S40 main_c
  let main_v2 : IVec S40 1 := cmpi .sge main_v0 main_v1
  let main_v3 : IVec S40 32 := (extractStridedSlice S40 ![0] · slices_S81_S40_0) main_arg1
  let main_c_0 : IVec S_ 32 := constantI S_ 32 8#32
  let main_v4 : IVec S40 32 := broadcastInDim S40 ![] bcast_S_S40 main_c_0
  let main_v5 : IVec S40 1 := cmpi .slt main_v3 main_v4
  let main_v6 : IVec S40 1 := andi main_v2 main_v5
  let main_v7 : IVec S1 32 := (extractStridedSlice S1 ![40] · slices_S81_S1_40) main_arg1
  let main_v8 : IVec S_ 32 := shapeCast S_ main_v7 shapeCasts_S1_S_
  let main_c_1 : IVec S_ 32 := constantI S_ 32 1#32
  let main_v9 : IVec S_ 1 := cmpi .sge main_v8 main_c_1
  let main_v10 : IVec S1 32 := (extractStridedSlice S1 ![40] · slices_S81_S1_40) main_arg1
  let main_v11 : IVec S_ 32 := shapeCast S_ main_v10 shapeCasts_S1_S_
  let main_c_2 : IVec S_ 32 := constantI S_ 32 40#32
  let main_v12 : IVec S_ 1 := cmpi .sle main_v11 main_c_2
  let main_v13 : IVec S_ 1 := andi main_v9 main_v12
  let main_v14 : IVec S40 32 := iotaInDim S40 32 0
  let main_v15 : IVec S40x1x1 32 := broadcastInDim S40x1x1 ![0] bcast_S40_S40x1x1_0 main_v14
  let main_v16 : IVec S1024 32 := iotaInDim S1024 32 0
  let main_v17 : IVec S1x1024x1 32 := broadcastInDim S1x1024x1 ![1] bcast_S1024_S1x1024x1_1 main_v16
  let main_v18 : IVec S1 32 := (extractStridedSlice S1 ![40] · slices_S81_S1_40) main_arg1
  let main_v19 : IVec S_ 32 := shapeCast S_ main_v18 shapeCasts_S1_S_
  fn_part1 (F := F) main_arg0 main_arg1 main_v6 main_v13 main_v15 main_v17 main_v19
-- ==== Pre_grouped_act.lean ====
abbrev S40960x7168 : Shape := ⟨2, ![40960, 7168]⟩
abbrev S81 : Shape := ⟨1, ![81]⟩
abbrev S8x7168x2048 : Shape := ⟨3, ![8, 7168, 2048]⟩
abbrev S40 : Shape := ⟨1, ![40]⟩
abbrev S_ : Shape := ⟨0, ![]⟩
abbrev S1 : Shape := ⟨1, ![1]⟩
abbrev S40x1x1 : Shape := ⟨3, ![40, 1, 1]⟩
abbrev S1024 : Shape := ⟨1, ![1024]⟩
abbrev S1x1024x1 : Shape := ⟨3, ![1, 1024, 1]⟩
abbrev S40x1024x1 : Shape := ⟨3, ![40, 1024, 1]⟩
abbrev S40x1024x7168 : Shape := ⟨3, ![40, 1024, 7168]⟩

class Facts : Prop where
  slices_S81_S40_0 : S81.Slices ![0] S40
  bcast_S_S40 : S_.BroadcastsInDim S40 (![] : Fin 0 → Fin S40.rank)
  slices_S81_S1_40 : S81.Slices ![40] S1
  shapeCasts_S1_S_ : S1.ShapeCasts S_
  bcast_S40_S40x1x1_0 : S40.BroadcastsInDim S40x1x1 (![0] : Fin 1 → Fin S40x1x1.rank)
  bcast_S1024_S1x1024x1_1 : S1024.BroadcastsInDim S1x1024x1 (![1] : Fin 1 → Fin S1x1024x1.rank)
  bcast_S_S40x1x1 : S_.BroadcastsInDim S40x1x1 (![] : Fin 0 → Fin S40x1x1.rank)
  slices_S81_S40_41 : S81.Slices ![41] S40
  bcast_S1x1024x1_S40x1024x1_0_1_2 : S1x1024x1.BroadcastsInDim S40x1024x1 (![0, 1, 2] : Fin 3 → Fin S40x1024x1.rank)
  bcast_S40x1x1_S40x1024x1_0_1_2 : S40x1x1.BroadcastsInDim S40x1024x1 (![0, 1, 2] : Fin 3 → Fin S40x1024x1.rank)
  shapeCasts_S40960x7168_S40x1024x7168 : S40960x7168.ShapeCasts S40x1024x7168
  bcast_S_S40x1024x7168 : S_.BroadcastsInDim S40x1024x7168 (![] : Fin 0 → Fin S40x1024x7168.rank)
  bcast_S40x1024x1_S40x1024x7168_0_1_2 : S40x1024x1.BroadcastsInDim S40x1024x7168 (![0, 1, 2] : Fin 3 → Fin S40x1024x7168.rank)

variable [Facts]

def fn_part1 {F : FTy → Type} [FloatOps F] (main_arg0 : FVec F S40960x7168 .bf16) (main_arg1 : IVec S81 32) (main_v6 : IVec S40 1) (main_v13 : IVec S_ 1) (main_v15 : IVec S40x1x1 32) (main_v17 : IVec S1x1024x1 32) (main_v19 : IVec S_ 32) : IVec S40 1 × IVec S_ 1 × IVec S40x1024x7168 1 :=
  let main_v20 : IVec S40x1x1 32 := broadcastInDim S40x1x1 ![] bcast_S_S40x1x1 main_v19
  let main_v21 : IVec S40x1x1 1 := cmpi .slt main_v15 main_v20
  let main_v22 : IVec S40 32 := (extractStridedSlice S40 ![41] · slices_S81_S40_41) main_arg1
  let main_v23 : IVec S40x1x1 32 := broadcastInDim S40x1x1 ![0] bcast_S40_S40x1x1_0 main_v22
  let main_v24 : IVec S40x1024x1 32 := broadcastInDim S40x1024x1 ![0, 1, 2] bcast_S1x1024x1_S40x1024x1_0_1_2 main_v17
  let main_v25 : IVec S40x1024x1 32 := broadcastInDim S40x1024x1 ![0, 1, 2] bcast_S40x1x1_S40x1024x1_0_1_2 main_v23
  let main_v26 : IVec S40x1024x1 1 := cmpi .slt main_v24 main_v25
  let main_v27 : IVec S40x1024x1 1 := broadcastInDim S40x1024x1 ![0, 1, 2] bcast_S40x1x1_S40x1024x1_0_1_2 main_v21
  let main_v28 : IVec S40x1024x1 1 := andi main_v27 main_v26
  let main_v29 : FVec F S40x1024x7168 .bf16 := shapeCast S40x1024x7168 main_arg0 shapeCasts_S40960x7168_S40x1024x7168
  let main_cst : FVec F S_ .bf16 := constant S_ .bf16 0x0000#16
  let main_v30 : FVec F S40x1024x7168 .bf16 := broadcastInDim S40x1024x7168 ![] bcast_S_S40x1024x7168 main_cst
  let main_v31 : IVec S40x1024x7168 1 := cmpf .oeq main_v29 main_v30
  let main_v32 : IVec S40x1024x7168 1 := broadcastInDim S40x1024x7168 ![0, 1, 2] bcast_S40x1024x1_S40x1024x7168_0_1_2 main_v28
  let main_v33 : IVec S40x1024x7168 1 := ori main_v32 main_v31
  (main_v6, main_v13, main_v33)

def fn {F : FTy → Type} [FloatOps F] (main_arg0 : FVec F S40960x7168 .bf16) (main_arg1 : IVec S81 32) (main_arg2 : FVec F S8x7168x2048 .f32) : IVec S40 1 × IVec S_ 1 × IVec S40x1024x7168 1 :=
  let main_v0 : IVec S40 32 := (extractStridedSlice S40 ![0] · slices_S81_S40_0) main_arg1
  let main_c : IVec S_ 32 := constantI S_ 32 0#32
  let main_v1 : IVec S40 32 := broadcastInDim S40 ![] bcast_S_S40 main_c
  let main_v2 : IVec S40 1 := cmpi .sge main_v0 main_v1
  let main_v3 : IVec S40 32 := (extractStridedSlice S40 ![0] · slices_S81_S40_0) main_arg1
  let main_c_0 : IVec S_ 32 := constantI S_ 32 8#32
  let main_v4 : IVec S40 32 := broadcastInDim S40 ![] bcast_S_S40 main_c_0
  let main_v5 : IVec S40 1 := cmpi .slt main_v3 main_v4
  let main_v6 : IVec S40 1 := andi main_v2 main_v5
  let main_v7 : IVec S1 32 := (extractStridedSlice S1 ![40] · slices_S81_S1_40) main_arg1
  let main_v8 : IVec S_ 32 := shapeCast S_ main_v7 shapeCasts_S1_S_
  let main_c_1 : IVec S_ 32 := constantI S_ 32 1#32
  let main_v9 : IVec S_ 1 := cmpi .sge main_v8 main_c_1
  let main_v10 : IVec S1 32 := (extractStridedSlice S1 ![40] · slices_S81_S1_40) main_arg1
  let main_v11 : IVec S_ 32 := shapeCast S_ main_v10 shapeCasts_S1_S_
  let main_c_2 : IVec S_ 32 := constantI S_ 32 40#32
  let main_v12 : IVec S_ 1 := cmpi .sle main_v11 main_c_2
  let main_v13 : IVec S_ 1 := andi main_v9 main_v12
  let main_v14 : IVec S40 32 := iotaInDim S40 32 0
  let main_v15 : IVec S40x1x1 32 := broadcastInDim S40x1x1 ![0] bcast_S40_S40x1x1_0 main_v14
  let main_v16 : IVec S1024 32 := iotaInDim S1024 32 0
  let main_v17 : IVec S1x1024x1 32 := broadcastInDim S1x1024x1 ![1] bcast_S1024_S1x1024x1_1 main_v16
  let main_v18 : IVec S1 32 := (extractStridedSlice S1 ![40] · slices_S81_S1_40) main_arg1
  let main_v19 : IVec S_ 32 := shapeCast S_ main_v18 shapeCasts_S1_S_
  fn_part1 (F := F) main_arg0 main_arg1 main_v6 main_v13 main_v15 main_v17 main_v19
-- ==== Kernel.lean ====
abbrev S4x4096x8x192 : Shape := ⟨4, ![4, 4096, 8, 192]⟩
abbrev S4x4096x8x128 : Shape := ⟨4, ![4, 4096, 8, 128]⟩
abbrev S16384x8x192 : Shape := ⟨3, ![16384, 8, 192]⟩
abbrev S8x16384x192 : Shape := ⟨3, ![8, 16384, 192]⟩
abbrev S_ : Shape := ⟨0, ![]⟩
abbrev S8x16384x256 : Shape := ⟨3, ![8, 16384, 256]⟩
abbrev S16384x8x128 : Shape := ⟨3, ![16384, 8, 128]⟩
abbrev S8x16384x128 : Shape := ⟨3, ![8, 16384, 128]⟩
abbrev S16384x1024 : Shape := ⟨2, ![16384, 1024]⟩
abbrev S1x1024x256 : Shape := ⟨3, ![1, 1024, 256]⟩
abbrev S1x4096x256 : Shape := ⟨3, ![1, 4096, 256]⟩
abbrev S1024x128 : Shape := ⟨2, ![1024, 128]⟩
abbrev S1024x256 : Shape := ⟨2, ![1024, 256]⟩
abbrev S1x512x256 : Shape := ⟨3, ![1, 512, 256]⟩
abbrev S512x256 : Shape := ⟨2, ![512, 256]⟩
abbrev S1024x512 : Shape := ⟨2, ![1024, 512]⟩
abbrev S1024 : Shape := ⟨1, ![1024]⟩
abbrev S1024x1 : Shape := ⟨2, ![1024, 1]⟩

abbrev nBuf : Space → Nat
  | .hbm => 22
  | .vmem => 8
  | .smem => 0
  | _ => 0

abbrev bufTy : (tb : Table) → Fin (tcTables nBuf tb) → BufTy
  | .hbm, ⟨0, _⟩ => ⟨S4x4096x8x192, .f32⟩
  | .hbm, ⟨1, _⟩ => ⟨S4x4096x8x192, .f32⟩
  | .hbm, ⟨2, _⟩ => ⟨S4x4096x8x128, .f32⟩
  | .hbm, ⟨3, _⟩ => ⟨S16384x8x192, .f32⟩
  | .hbm, ⟨4, _⟩ => ⟨S8x16384x192, .f32⟩
  | .hbm, ⟨5, _⟩ => ⟨S_, .i32⟩
  | .hbm, ⟨6, _⟩ => ⟨S_, .f32⟩
  | .hbm, ⟨7, _⟩ => ⟨S8x16384x256, .f32⟩
  | .hbm, ⟨8, _⟩ => ⟨S8x16384x256, .bf16⟩
  | .hbm, ⟨9, _⟩ => ⟨S16384x8x192, .f32⟩
  | .hbm, ⟨10, _⟩ => ⟨S8x16384x192, .f32⟩
  | .hbm, ⟨11, _⟩ => ⟨S_, .i32⟩
  | .hbm, ⟨12, _⟩ => ⟨S_, .f32⟩
  | .hbm, ⟨13, _⟩ => ⟨S8x16384x256, .f32⟩
  | .hbm, ⟨14, _⟩ => ⟨S8x16384x256, .bf16⟩
  | .hbm, ⟨15, _⟩ => ⟨S16384x8x128, .f32⟩
  | .hbm, ⟨16, _⟩ => ⟨S8x16384x128, .f32⟩
  | .hbm, ⟨17, _⟩ => ⟨S8x16384x128, .bf16⟩
  | .hbm, ⟨18, _⟩ => ⟨S_, .bf16⟩
  | .hbm, ⟨19, _⟩ => ⟨S8x16384x128, .bf16⟩
  | .hbm, ⟨20, _⟩ => ⟨S8x16384x256, .bf16⟩
  | .hbm, ⟨21, _⟩ => ⟨S16384x1024, .bf16⟩
  | .local _ .vmem, ⟨0, _⟩ => ⟨S1x1024x256, .bf16⟩
  | .local _ .vmem, ⟨1, _⟩ => ⟨S1x1024x256, .bf16⟩
  | .local _ .vmem, ⟨2, _⟩ => ⟨S1x4096x256, .bf16⟩
  | .local _ .vmem, ⟨3, _⟩ => ⟨S1x4096x256, .bf16⟩
  | .local _ .vmem, ⟨4, _⟩ => ⟨S1x4096x256, .bf16⟩
  | .local _ .vmem, ⟨5, _⟩ => ⟨S1x4096x256, .bf16⟩
  | .local _ .vmem, ⟨6, _⟩ => ⟨S1024x128, .bf16⟩
  | .local _ .vmem, ⟨7, _⟩ => ⟨S1024x128, .bf16⟩
  | _, _ => ⟨S4x4096x8x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c_0 : Ref sig .tc := ⟨.hbm, 11, rfl⟩
abbrev main_call1_v0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 8, 4], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  let c0_i32_0 : BitVec 32 := 0#32
  ![arg1.toNat, v1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

abbrev stage0_0 : Fin 2 → Memref sig .tc .vmem S1x1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== KernelIdeal.lean ====
variable {F : FTy → Type} [FloatOps F] [Named F]
def κ : String → Option EReal := fun
  | "log2e_inv_sqrt_d" => some (((Real.log 2)⁻¹ * (Real.sqrt 192)⁻¹ : ℝ) : EReal)
  | _ => none
-- ==== ReferenceIdeal.lean ====
abbrev S4x4096x8x192 : Shape := ⟨4, ![4, 4096, 8, 192]⟩
abbrev S4x4096x8x128 : Shape := ⟨4, ![4, 4096, 8, 128]⟩
abbrev S4x8x4096x192 : Shape := ⟨4, ![4, 8, 4096, 192]⟩
abbrev S4x8x4096x128 : Shape := ⟨4, ![4, 8, 4096, 128]⟩
abbrev S_ : Shape := ⟨0, ![]⟩
abbrev S4x8x4096x4096 : Shape := ⟨4, ![4, 8, 4096, 4096]⟩
abbrev S4x8x4096 : Shape := ⟨3, ![4, 8, 4096]⟩
abbrev S4x8x4096x1 : Shape := ⟨4, ![4, 8, 4096, 1]⟩
abbrev S16384x1024 : Shape := ⟨2, ![16384, 1024]⟩

abbrev nBuf : Space → Nat
  | .hbm => 31
  | .vmem => 0
  | .smem => 0
  | _ => 0

abbrev bufTy : (tb : Table) → Fin (tcTables nBuf tb) → BufTy
  | .hbm, ⟨0, _⟩ => ⟨S4x4096x8x192, .f32⟩
  | .hbm, ⟨1, _⟩ => ⟨S4x4096x8x192, .f32⟩
  | .hbm, ⟨2, _⟩ => ⟨S4x4096x8x128, .f32⟩
  | .hbm, ⟨3, _⟩ => ⟨S4x8x4096x192, .f32⟩
  | .hbm, ⟨4, _⟩ => ⟨S4x8x4096x192, .f32⟩
  | .hbm, ⟨5, _⟩ => ⟨S4x8x4096x128, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S4x8x4096x4096, .f32⟩
  | .hbm, ⟨11, _⟩ => ⟨S4x8x4096x4096, .f32⟩
  | .hbm, ⟨12, _⟩ => ⟨S4x8x4096x4096, .f32⟩
  | .hbm, ⟨13, _⟩ => ⟨S_, .f32⟩
  | .hbm, ⟨14, _⟩ => ⟨S4x8x4096, .f32⟩
  | .hbm, ⟨15, _⟩ => ⟨S_, .f32⟩
  | .hbm, ⟨16, _⟩ => ⟨S4x8x4096, .f32⟩
  | .hbm, ⟨17, _⟩ => ⟨S4x8x4096, .f32⟩
  | .hbm, ⟨18, _⟩ => ⟨S4x8x4096x1, .f32⟩
  | .hbm, ⟨19, _⟩ => ⟨S4x8x4096x4096, .f32⟩
  | .hbm, ⟨20, _⟩ => ⟨S4x8x4096x4096, .f32⟩
  | .hbm, ⟨21, _⟩ => ⟨S4x8x4096x4096, .f32⟩
  | .hbm, ⟨22, _⟩ => ⟨S_, .f32⟩
  | .hbm, ⟨23, _⟩ => ⟨S4x8x4096, .f32⟩
  | .hbm, ⟨24, _⟩ => ⟨S4x8x4096x1, .f32⟩
  | .hbm, ⟨25, _⟩ => ⟨S4x8x4096x4096, .f32⟩
  | .hbm, ⟨26, _⟩ => ⟨S4x8x4096x4096, .f32⟩
  | .hbm, ⟨27, _⟩ => ⟨S4x8x4096x128, .f32⟩
  | .hbm, ⟨28, _⟩ => ⟨S4x4096x8x128, .f32⟩
  | .hbm, ⟨29, _⟩ => ⟨S16384x1024, .f32⟩
  | .hbm, ⟨30, _⟩ => ⟨S16384x1024, .bf16⟩
  | _, _ => ⟨S4x4096x8x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_3 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩

abbrev nD : Nat := 1
abbrev τ : Topo := Topo.v7x

variable {F : FTy → Type} [FloatOps F]
-- ==== Kernel2.lean ====
abbrev S40960x2048 : Shape := ⟨2, ![40960, 2048]⟩
abbrev S81 : Shape := ⟨1, ![81]⟩
abbrev S8x2048x14336 : Shape := ⟨3, ![8, 2048, 14336]⟩
abbrev S40960x7168 : Shape := ⟨2, ![40960, 7168]⟩
abbrev S1024x2048 : Shape := ⟨2, ![1024, 2048]⟩
abbrev S1 : Shape := ⟨1, ![1]⟩
abbrev S1x2048x512 : Shape := ⟨3, ![1, 2048, 512]⟩
abbrev S1024x512 : Shape := ⟨2, ![1024, 512]⟩
abbrev S1x2048x256 : Shape := ⟨3, ![1, 2048, 256]⟩
abbrev S2048x256 : Shape := ⟨2, ![2048, 256]⟩
abbrev S1024x256 : Shape := ⟨2, ![1024, 256]⟩
abbrev S512x2048 : Shape := ⟨2, ![512, 2048]⟩
abbrev S512x256 : Shape := ⟨2, ![512, 256]⟩
abbrev S512x512 : Shape := ⟨2, ![512, 512]⟩

abbrev nBuf : Space → Nat
  | .hbm => 3
  | .vmem => 9
  | .smem => 1
  | _ => 0

abbrev bufTy : (tb : Table) → Fin (tcTables nBuf tb) → BufTy
  | .hbm, ⟨0, _⟩ => ⟨S40960x2048, .f32⟩
  | .hbm, ⟨1, _⟩ => ⟨S8x2048x14336, .f32⟩
  | .hbm, ⟨2, _⟩ => ⟨S40960x7168, .bf16⟩
  | .local _ .vmem, ⟨0, _⟩ => ⟨S1024x2048, .f32⟩
  | .local _ .vmem, ⟨1, _⟩ => ⟨S1024x2048, .f32⟩
  | .local _ .vmem, ⟨2, _⟩ => ⟨S1x2048x512, .f32⟩
  | .local _ .vmem, ⟨3, _⟩ => ⟨S1x2048x512, .f32⟩
  | .local _ .vmem, ⟨4, _⟩ => ⟨S1x2048x512, .f32⟩
  | .local _ .vmem, ⟨5, _⟩ => ⟨S1x2048x512, .f32⟩
  | .local _ .vmem, ⟨6, _⟩ => ⟨S1024x512, .bf16⟩
  | .local _ .vmem, ⟨7, _⟩ => ⟨S1024x512, .bf16⟩
  | .local _ .vmem, ⟨8, _⟩ => ⟨S1024x2048, .bf16⟩
  | .local _ .smem, ⟨0, _⟩ => ⟨S81, .i32⟩
  | _, _ => ⟨S40960x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg2 : Ref sig .tc := ⟨.hbm, 1, rfl⟩
abbrev main_v0 : Ref sig .tc := ⟨.hbm, 2, rfl⟩
abbrev main_arg1 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![40, 14], ![false, false]⟩

abbrev pre0 : Pipeline.Prefetch sig := ⟨1, ![main_arg1.idx], fun | 0 => main_arg1.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let c41_i32 : BitVec 32 := 41#32
  let arg0 : BitVec 32 := BitVec.ofNat 32 (i 0).val
  let v2 : BitVec 32 := Scalar.addi c41_i32 arg0
  let v3 : Index := Scalar.indexCast v2
  ![v3.toNat]
def k0_cond2 (i : grid0.Coords) (v0 : BitVec 32) (v4 : BitVec 32) : BitVec 1 :=
  let arg0 : BitVec 32 := BitVec.ofNat 32 (i 0).val
  let v1 : BitVec 1 := Scalar.cmpi .slt arg0 v0
  let c512_i32 : BitVec 32 := 512#32
  let v5 : BitVec 1 := Scalar.cmpi .sgt v4 c512_i32
  let v10 : BitVec 1 := Scalar.andi v1 v5
  let v11 : BitVec 32 := Scalar.extui v10
  let c0_i32_1 : BitVec 32 := 0#32
  let v12 : BitVec 1 := Scalar.cmpi .ne v11 c0_i32_1
  v12

def k0_cond3 (i : grid0.Coords) (v0 : BitVec 32) (v4 : BitVec 32) : BitVec 1 :=
  let arg0 : BitVec 32 := BitVec.ofNat 32 (i 0).val
  let v1 : BitVec 1 := Scalar.cmpi .slt arg0 v0
  let c512_i32 : BitVec 32 := 512#32
  let v5 : BitVec 1 := Scalar.cmpi .sgt v4 c512_i32
  let v_true : BitVec 1 := 1#1
  let v13 : BitVec 1 := Scalar.xori v5 v_true
  let v14 : BitVec 1 := Scalar.andi v1 v13
  let v15 : BitVec 32 := Scalar.extui v14
  let c0_i32_2 : BitVec 32 := 0#32
  let v16 : BitVec 1 := Scalar.cmpi .ne v15 c0_i32_2
  v16

def k0_cond4 (i : grid0.Coords) (v0 : BitVec 32) : BitVec 1 :=
  let arg0 : BitVec 32 := BitVec.ofNat 32 (i 0).val
  let v1 : BitVec 1 := Scalar.cmpi .slt arg0 v0
  let true_3 : BitVec 1 := 1#1
  let v17 : BitVec 1 := Scalar.xori v1 true_3
  let v18 : BitVec 32 := Scalar.extui v17
  let c0_i32_4 : BitVec 32 := 0#32
  let v19 : BitVec 1 := Scalar.cmpi .ne v18 c0_i32_4
  v19

def cc0_transform_0 (inb_S81_S1_40 : ∀ a, (![40] : Fin 1 → Nat) a + S1.size a ≤ S81.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c40 : Index := 40#32
  let v0 : BitVec 32 := pf.at 0 (Rect.unit (s := S81) ![40] S1.size inb_S81_S1_40) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S81.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S81) ![v0.toNat] S1.size (k0_off1_inb i)) numel1_S1
  let c0_i32 : BitVec 32 := 0#32
  let c0_i32_0 : BitVec 32 := 0#32
  ![v1.toNat, c0_i32.toNat, arg1.toNat]

def cc0_transform_2 (k0_off1_inb : ∀ i : grid0.Coords, ∀ a, (k0_off1 i) a + S1.size a ≤ S81.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S81) ![v0.toNat] S1.size (k0_off1_inb i)) numel1_S1
  let c14_i32 : BitVec 32 := 14#32
  let v2 : BitVec 32 := Scalar.addi c14_i32 arg1
  let c0_i32 : BitVec 32 := 0#32
  let c0_i32_0 : BitVec 32 := 0#32
  ![v1.toNat, c0_i32.toNat, v2.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference2Ideal.lean ====
abbrev S40960x2048 : Shape := ⟨2, ![40960, 2048]⟩
abbrev S81 : Shape := ⟨1, ![81]⟩
abbrev S8x2048x14336 : Shape := ⟨3, ![8, 2048, 14336]⟩
abbrev S40 : Shape := ⟨1, ![40]⟩
abbrev S40x1024 : Shape := ⟨2, ![40, 1024]⟩
abbrev S40960 : Shape := ⟨1, ![40960]⟩
abbrev S40960x1 : Shape := ⟨2, ![40960, 1]⟩
abbrev S1x8 : Shape := ⟨2, ![1, 8]⟩
abbrev S40960x8 : Shape := ⟨2, ![40960, 8]⟩
abbrev S40960x8x14336 : Shape := ⟨3, ![40960, 8, 14336]⟩
abbrev S40960x8x7168 : Shape := ⟨3, ![40960, 8, 7168]⟩
abbrev S_ : Shape := ⟨0, ![]⟩
abbrev S8x40960x7168 : Shape := ⟨3, ![8, 40960, 7168]⟩
abbrev S40960x7168 : Shape := ⟨2, ![40960, 7168]⟩

abbrev nBuf : Space → Nat
  | .hbm => 28
  | .vmem => 0
  | .smem => 0
  | _ => 0

abbrev bufTy : (tb : Table) → Fin (tcTables nBuf tb) → BufTy
  | .hbm, ⟨0, _⟩ => ⟨S40960x2048, .f32⟩
  | .hbm, ⟨1, _⟩ => ⟨S81, .i32⟩
  | .hbm, ⟨2, _⟩ => ⟨S8x2048x14336, .f32⟩
  | .hbm, ⟨3, _⟩ => ⟨S40, .i32⟩
  | .hbm, ⟨4, _⟩ => ⟨S40x1024, .i32⟩
  | .hbm, ⟨5, _⟩ => ⟨S40960, .i32⟩
  | .hbm, ⟨6, _⟩ => ⟨S40960x1, .i32⟩
  | .hbm, ⟨7, _⟩ => ⟨S1x8, .i32⟩
  | .hbm, ⟨8, _⟩ => ⟨S40960x8, .i32⟩
  | .hbm, ⟨9, _⟩ => ⟨S40960x8, .i32⟩
  | .hbm, ⟨10, _⟩ => ⟨S40960x8, .i1⟩
  | .hbm, ⟨11, _⟩ => ⟨S40960x8, .f32⟩
  | .hbm, ⟨12, _⟩ => ⟨S40960x8x14336, .f32⟩
  | .hbm, ⟨13, _⟩ => ⟨S40960x8x7168, .f32⟩
  | .hbm, ⟨14, _⟩ => ⟨S40960x8x7168, .f32⟩
  | .hbm, ⟨15, _⟩ => ⟨S40960x8x7168, .f32⟩
  | .hbm, ⟨16, _⟩ => ⟨S40960x8x7168, .f32⟩
  | .hbm, ⟨17, _⟩ => ⟨S_, .f32⟩
  | .hbm, ⟨18, _⟩ => ⟨S40960x8x7168, .f32⟩
  | .hbm, ⟨19, _⟩ => ⟨S40960x8x7168, .f32⟩
  | .hbm, ⟨20, _⟩ => ⟨S_, .f32⟩
  | .hbm, ⟨21, _⟩ => ⟨S40960x8x7168, .f32⟩
  | .hbm, ⟨22, _⟩ => ⟨S40960x8x7168, .f32⟩
  | .hbm, ⟨23, _⟩ => ⟨S40960x8x7168, .f32⟩
  | .hbm, ⟨24, _⟩ => ⟨S40960x8x7168, .f32⟩
  | .hbm, ⟨25, _⟩ => ⟨S8x40960x7168, .f32⟩
  | .hbm, ⟨26, _⟩ => ⟨S40960x7168, .f32⟩
  | .hbm, ⟨27, _⟩ => ⟨S40960x7168, .bf16⟩
  | _, _ => ⟨S40960x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_call1_v0 : Ref sig .tc := ⟨.hbm, 15, rfl⟩
abbrev main_call1_v1 : Ref sig .tc := ⟨.hbm, 16, rfl⟩
abbrev main_call1_cst : Ref sig .tc := ⟨.hbm, 17, rfl⟩
abbrev main_call1_v2 : Ref sig .tc := ⟨.hbm, 18, rfl⟩
abbrev main_call1_v3 : Ref sig .tc := ⟨.hbm, 19, rfl⟩
abbrev main_call1_cst_0 : Ref sig .tc := ⟨.hbm, 20, rfl⟩
abbrev main_call1_v4 : Ref sig .tc := ⟨.hbm, 21, rfl⟩
abbrev main_call1_v5 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩

abbrev nD : Nat := 1
abbrev τ : Topo := Topo.v7x

variable {F : FTy → Type} [FloatOps F]
-- ==== Kernel3.lean ====
abbrev S40960x7168 : Shape := ⟨2, ![40960, 7168]⟩
abbrev S81 : Shape := ⟨1, ![81]⟩
abbrev S8x7168x2048 : Shape := ⟨3, ![8, 7168, 2048]⟩
abbrev S40960x2048 : Shape := ⟨2, ![40960, 2048]⟩
abbrev S1024x7168 : Shape := ⟨2, ![1024, 7168]⟩
abbrev S1 : Shape := ⟨1, ![1]⟩
abbrev S1x7168x256 : Shape := ⟨3, ![1, 7168, 256]⟩
abbrev S1024x256 : Shape := ⟨2, ![1024, 256]⟩
abbrev S7168x256 : Shape := ⟨2, ![7168, 256]⟩
abbrev S512x7168 : Shape := ⟨2, ![512, 7168]⟩
abbrev S512x256 : Shape := ⟨2, ![512, 256]⟩

abbrev nBuf : Space → Nat
  | .hbm => 4
  | .vmem => 6
  | .smem => 1
  | _ => 0

abbrev bufTy : (tb : Table) → Fin (tcTables nBuf tb) → BufTy
  | .hbm, ⟨0, _⟩ => ⟨S40960x7168, .bf16⟩
  | .hbm, ⟨1, _⟩ => ⟨S8x7168x2048, .f32⟩
  | .hbm, ⟨2, _⟩ => ⟨S8x7168x2048, .bf16⟩
  | .hbm, ⟨3, _⟩ => ⟨S40960x2048, .f32⟩
  | .local _ .vmem, ⟨0, _⟩ => ⟨S1024x7168, .bf16⟩
  | .local _ .vmem, ⟨1, _⟩ => ⟨S1024x7168, .bf16⟩
  | .local _ .vmem, ⟨2, _⟩ => ⟨S1x7168x256, .bf16⟩
  | .local _ .vmem, ⟨3, _⟩ => ⟨S1x7168x256, .bf16⟩
  | .local _ .vmem, ⟨4, _⟩ => ⟨S1024x256, .f32⟩
  | .local _ .vmem, ⟨5, _⟩ => ⟨S1024x256, .f32⟩
  | .local _ .smem, ⟨0, _⟩ => ⟨S81, .i32⟩
  | _, _ => ⟨S40960x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg2 : Ref sig .tc := ⟨.hbm, 1, rfl⟩
abbrev main_v0 : Ref sig .tc := ⟨.hbm, 2, rfl⟩
abbrev main_v1 : Ref sig .tc := ⟨.hbm, 3, rfl⟩
abbrev main_arg1 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![40, 8], ![false, false]⟩

abbrev pre0 : Pipeline.Prefetch sig := ⟨1, ![main_arg1.idx], fun | 0 => main_arg1.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let c41_i32 : BitVec 32 := 41#32
  let arg0 : BitVec 32 := BitVec.ofNat 32 (i 0).val
  let v2 : BitVec 32 := Scalar.addi c41_i32 arg0
  let v3 : Index := Scalar.indexCast v2
  ![v3.toNat]
def k0_cond1 (i : grid0.Coords) (v0 : BitVec 32) (v4 : BitVec 32) : BitVec 1 :=
  let arg0 : BitVec 32 := BitVec.ofNat 32 (i 0).val
  let v1 : BitVec 1 := Scalar.cmpi .slt arg0 v0
  let c512_i32 : BitVec 32 := 512#32
  let v5 : BitVec 1 := Scalar.cmpi .sgt v4 c512_i32
  let v6 : BitVec 1 := Scalar.andi v1 v5
  let v7 : BitVec 32 := Scalar.extui v6
  let c0_i32 : BitVec 32 := 0#32
  let v8 : BitVec 1 := Scalar.cmpi .ne v7 c0_i32
  v8

def k0_cond2 (i : grid0.Coords) (v0 : BitVec 32) (v4 : BitVec 32) : BitVec 1 :=
  let arg0 : BitVec 32 := BitVec.ofNat 32 (i 0).val
  let v1 : BitVec 1 := Scalar.cmpi .slt arg0 v0
  let c512_i32 : BitVec 32 := 512#32
  let v5 : BitVec 1 := Scalar.cmpi .sgt v4 c512_i32
  let v_true : BitVec 1 := 1#1
  let v9 : BitVec 1 := Scalar.xori v5 v_true
  let v10 : BitVec 1 := Scalar.andi v1 v9
  let v11 : BitVec 32 := Scalar.extui v10
  let c0_i32_0 : BitVec 32 := 0#32
  let v12 : BitVec 1 := Scalar.cmpi .ne v11 c0_i32_0
  v12

def k0_cond3 (i : grid0.Coords) (v0 : BitVec 32) : BitVec 1 :=
  let arg0 : BitVec 32 := BitVec.ofNat 32 (i 0).val
  let v1 : BitVec 1 := Scalar.cmpi .slt arg0 v0
  let true_1 : BitVec 1 := 1#1
  let v13 : BitVec 1 := Scalar.xori v1 true_1
  let v14 : BitVec 32 := Scalar.extui v13
  let c0_i32_2 : BitVec 32 := 0#32
  let v15 : BitVec 1 := Scalar.cmpi .ne v14 c0_i32_2
  v15

def cc0_transform_0 (inb_S81_S1_40 : ∀ a, (![40] : Fin 1 → Nat) a + S1.size a ≤ S81.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c40 : Index := 40#32
  let v0 : BitVec 32 := pf.at 0 (Rect.unit (s := S81) ![40] S1.size inb_S81_S1_40) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S81.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S81) ![v0.toNat] S1.size (k0_off1_inb i)) numel1_S1
  let c0_i32 : BitVec 32 := 0#32
  let c0_i32_0 : BitVec 32 := 0#32
  ![v1.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x7168 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x7168x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference3Ideal.lean ====
abbrev S40960x7168 : Shape := ⟨2, ![40960, 7168]⟩
abbrev S81 : Shape := ⟨1, ![81]⟩
abbrev S8x7168x2048 : Shape := ⟨3, ![8, 7168, 2048]⟩
abbrev S40 : Shape := ⟨1, ![40]⟩
abbrev S40x1024 : Shape := ⟨2, ![40, 1024]⟩
abbrev S40960 : Shape := ⟨1, ![40960]⟩
abbrev S40960x1 : Shape := ⟨2, ![40960, 1]⟩
abbrev S1x8 : Shape := ⟨2, ![1, 8]⟩
abbrev S40960x8 : Shape := ⟨2, ![40960, 8]⟩
abbrev S40960x8x2048 : Shape := ⟨3, ![40960, 8, 2048]⟩
abbrev S8x40960x2048 : Shape := ⟨3, ![8, 40960, 2048]⟩
abbrev S40960x2048 : Shape := ⟨2, ![40960, 2048]⟩

abbrev nBuf : Space → Nat
  | .hbm => 16
  | .vmem => 0
  | .smem => 0
  | _ => 0

abbrev bufTy : (tb : Table) → Fin (tcTables nBuf tb) → BufTy
  | .hbm, ⟨0, _⟩ => ⟨S40960x7168, .bf16⟩
  | .hbm, ⟨1, _⟩ => ⟨S81, .i32⟩
  | .hbm, ⟨2, _⟩ => ⟨S8x7168x2048, .f32⟩
  | .hbm, ⟨3, _⟩ => ⟨S40960x7168, .f32⟩
  | .hbm, ⟨4, _⟩ => ⟨S40, .i32⟩
  | .hbm, ⟨5, _⟩ => ⟨S40x1024, .i32⟩
  | .hbm, ⟨6, _⟩ => ⟨S40960, .i32⟩
  | .hbm, ⟨7, _⟩ => ⟨S40960x1, .i32⟩
  | .hbm, ⟨8, _⟩ => ⟨S1x8, .i32⟩
  | .hbm, ⟨9, _⟩ => ⟨S40960x8, .i32⟩
  | .hbm, ⟨10, _⟩ => ⟨S40960x8, .i32⟩
  | .hbm, ⟨11, _⟩ => ⟨S40960x8, .i1⟩
  | .hbm, ⟨12, _⟩ => ⟨S40960x8, .f32⟩
  | .hbm, ⟨13, _⟩ => ⟨S40960x8x2048, .f32⟩
  | .hbm, ⟨14, _⟩ => ⟨S8x40960x2048, .f32⟩
  | .hbm, ⟨15, _⟩ => ⟨S40960x2048, .f32⟩
  | _, _ => ⟨S40960x7168, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩

abbrev nD : Nat := 1
abbrev τ : Topo := Topo.v7x

variable {F : FTy → Type} [FloatOps F]
-- ==== Kernel4.lean ====
abbrev S4x4096x2048 : Shape := ⟨3, ![4, 4096, 2048]⟩
abbrev S2048x11264 : Shape := ⟨2, ![2048, 11264]⟩
abbrev S16384x2048 : Shape := ⟨2, ![16384, 2048]⟩
abbrev S16384x5632 : Shape := ⟨2, ![16384, 5632]⟩
abbrev S1024x2048 : Shape := ⟨2, ![1024, 2048]⟩
abbrev S2048x512 : Shape := ⟨2, ![2048, 512]⟩
abbrev S1024x512 : Shape := ⟨2, ![1024, 512]⟩
abbrev S2048x256 : Shape := ⟨2, ![2048, 256]⟩
abbrev S1024x256 : Shape := ⟨2, ![1024, 256]⟩

abbrev nBuf : Space → Nat
  | .hbm => 6
  | .vmem => 8
  | .smem => 0
  | _ => 0

abbrev bufTy : (tb : Table) → Fin (tcTables nBuf tb) → BufTy
  | .hbm, ⟨0, _⟩ => ⟨S4x4096x2048, .f32⟩
  | .hbm, ⟨1, _⟩ => ⟨S2048x11264, .f32⟩
  | .hbm, ⟨2, _⟩ => ⟨S16384x2048, .f32⟩
  | .hbm, ⟨3, _⟩ => ⟨S16384x2048, .bf16⟩
  | .hbm, ⟨4, _⟩ => ⟨S2048x11264, .bf16⟩
  | .hbm, ⟨5, _⟩ => ⟨S16384x5632, .bf16⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S1024x512, .bf16⟩
  | .local _ .vmem, ⟨7, _⟩ => ⟨S1024x512, .bf16⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference4Ideal.lean ====
abbrev S4x4096x2048 : Shape := ⟨3, ![4, 4096, 2048]⟩
abbrev S2048x11264 : Shape := ⟨2, ![2048, 11264]⟩
abbrev S4x4096x11264 : Shape := ⟨3, ![4, 4096, 11264]⟩
abbrev S4x4096x5632 : Shape := ⟨3, ![4, 4096, 5632]⟩
abbrev S_ : Shape := ⟨0, ![]⟩
abbrev S16384x5632 : Shape := ⟨2, ![16384, 5632]⟩

abbrev nBuf : Space → Nat
  | .hbm => 17
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S2048x11264, .f32⟩
  | .hbm, ⟨2, _⟩ => ⟨S4x4096x11264, .f32⟩
  | .hbm, ⟨3, _⟩ => ⟨S4x4096x5632, .f32⟩
  | .hbm, ⟨4, _⟩ => ⟨S4x4096x5632, .f32⟩
  | .hbm, ⟨5, _⟩ => ⟨S4x4096x5632, .f32⟩
  | .hbm, ⟨6, _⟩ => ⟨S4x4096x5632, .f32⟩
  | .hbm, ⟨7, _⟩ => ⟨S_, .f32⟩
  | .hbm, ⟨8, _⟩ => ⟨S4x4096x5632, .f32⟩
  | .hbm, ⟨9, _⟩ => ⟨S4x4096x5632, .f32⟩
  | .hbm, ⟨10, _⟩ => ⟨S_, .f32⟩
  | .hbm, ⟨11, _⟩ => ⟨S4x4096x5632, .f32⟩
  | .hbm, ⟨12, _⟩ => ⟨S4x4096x5632, .f32⟩
  | .hbm, ⟨13, _⟩ => ⟨S4x4096x5632, .f32⟩
  | .hbm, ⟨14, _⟩ => ⟨S4x4096x5632, .f32⟩
  | .hbm, ⟨15, _⟩ => ⟨S16384x5632, .f32⟩
  | .hbm, ⟨16, _⟩ => ⟨S16384x5632, .bf16⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩

abbrev nD : Nat := 1
abbrev τ : Topo := Topo.v7x

variable {F : FTy → Type} [FloatOps F]
-- ==== Kernel5.lean ====
abbrev S4x4096x5632 : Shape := ⟨3, ![4, 4096, 5632]⟩
abbrev S5632x2048 : Shape := ⟨2, ![5632, 2048]⟩
abbrev S4x4096x2048 : Shape := ⟨3, ![4, 4096, 2048]⟩
abbrev S4x1x2048 : Shape := ⟨3, ![4, 1, 2048]⟩
abbrev S16384x2048 : Shape := ⟨2, ![16384, 2048]⟩
abbrev S16384x5632 : Shape := ⟨2, ![16384, 5632]⟩
abbrev S1024x5632 : Shape := ⟨2, ![1024, 5632]⟩
abbrev S5632x256 : Shape := ⟨2, ![5632, 256]⟩
abbrev S1024x256 : Shape := ⟨2, ![1024, 256]⟩
abbrev S1x1x256 : Shape := ⟨3, ![1, 1, 256]⟩
abbrev S1x256 : Shape := ⟨2, ![1, 256]⟩

abbrev nBuf : Space → Nat
  | .hbm => 9
  | .vmem => 10
  | .smem => 0
  | _ => 0

abbrev bufTy : (tb : Table) → Fin (tcTables nBuf tb) → BufTy
  | .hbm, ⟨0, _⟩ => ⟨S4x4096x5632, .f32⟩
  | .hbm, ⟨1, _⟩ => ⟨S5632x2048, .f32⟩
  | .hbm, ⟨2, _⟩ => ⟨S4x4096x2048, .f32⟩
  | .hbm, ⟨3, _⟩ => ⟨S4x1x2048, .f32⟩
  | .hbm, ⟨4, _⟩ => ⟨S16384x2048, .f32⟩
  | .hbm, ⟨5, _⟩ => ⟨S16384x5632, .f32⟩
  | .hbm, ⟨6, _⟩ => ⟨S16384x5632, .bf16⟩
  | .hbm, ⟨7, _⟩ => ⟨S5632x2048, .bf16⟩
  | .hbm, ⟨8, _⟩ => ⟨S16384x2048, .f32⟩
  | .local _ .vmem, ⟨0, _⟩ => ⟨S1024x5632, .bf16⟩
  | .local _ .vmem, ⟨1, _⟩ => ⟨S1024x5632, .bf16⟩
  | .local _ .vmem, ⟨2, _⟩ => ⟨S5632x256, .bf16⟩
  | .local _ .vmem, ⟨3, _⟩ => ⟨S5632x256, .bf16⟩
  | .local _ .vmem, ⟨4, _⟩ => ⟨S1024x256, .f32⟩
  | .local _ .vmem, ⟨5, _⟩ => ⟨S1024x256, .f32⟩
  | .local _ .vmem, ⟨6, _⟩ => ⟨S1x1x256, .f32⟩
  | .local _ .vmem, ⟨7, _⟩ => ⟨S1x1x256, .f32⟩
  | .local _ .vmem, ⟨8, _⟩ => ⟨S1024x256, .f32⟩
  | .local _ .vmem, ⟨9, _⟩ => ⟨S1024x256, .f32⟩
  | _, _ => ⟨S4x4096x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S5632x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference5Ideal.lean ====
abbrev S4x4096x5632 : Shape := ⟨3, ![4, 4096, 5632]⟩
abbrev S5632x2048 : Shape := ⟨2, ![5632, 2048]⟩
abbrev S4x4096x2048 : Shape := ⟨3, ![4, 4096, 2048]⟩
abbrev S4x1x2048 : Shape := ⟨3, ![4, 1, 2048]⟩
abbrev S16384x2048 : Shape := ⟨2, ![16384, 2048]⟩

abbrev nBuf : Space → Nat
  | .hbm => 9
  | .vmem => 0
  | .smem => 0
  | _ => 0

abbrev bufTy : (tb : Table) → Fin (tcTables nBuf tb) → BufTy
  | .hbm, ⟨0, _⟩ => ⟨S4x4096x5632, .f32⟩
  | .hbm, ⟨1, _⟩ => ⟨S5632x2048, .f32⟩
  | .hbm, ⟨2, _⟩ => ⟨S4x4096x2048, .f32⟩
  | .hbm, ⟨3, _⟩ => ⟨S4x1x2048, .f32⟩
  | .hbm, ⟨4, _⟩ => ⟨S4x4096x2048, .f32⟩
  | .hbm, ⟨5, _⟩ => ⟨S4x4096x2048, .f32⟩
  | .hbm, ⟨6, _⟩ => ⟨S4x4096x2048, .f32⟩
  | .hbm, ⟨7, _⟩ => ⟨S4x4096x2048, .f32⟩
  | .hbm, ⟨8, _⟩ => ⟨S16384x2048, .f32⟩
  | _, _ => ⟨S4x4096x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Kernel6.lean ====
abbrev S4x4096x2048 : Shape := ⟨3, ![4, 4096, 2048]⟩
abbrev S2048x15168 : Shape := ⟨2, ![2048, 15168]⟩
abbrev S16384x2048 : Shape := ⟨2, ![16384, 2048]⟩
abbrev S2048x6144 : Shape := ⟨2, ![2048, 6144]⟩
abbrev S16384x6144 : Shape := ⟨2, ![16384, 6144]⟩
abbrev S1024x2048 : Shape := ⟨2, ![1024, 2048]⟩
abbrev S2048x1024 : Shape := ⟨2, ![2048, 1024]⟩
abbrev S1024x1024 : Shape := ⟨2, ![1024, 1024]⟩
abbrev S2048x256 : Shape := ⟨2, ![2048, 256]⟩
abbrev S1024x256 : Shape := ⟨2, ![1024, 256]⟩

abbrev nBuf : Space → Nat
  | .hbm => 7
  | .vmem => 6
  | .smem => 0
  | _ => 0

abbrev bufTy : (tb : Table) → Fin (tcTables nBuf tb) → BufTy
  | .hbm, ⟨0, _⟩ => ⟨S4x4096x2048, .f32⟩
  | .hbm, ⟨1, _⟩ => ⟨S2048x15168, .f32⟩
  | .hbm, ⟨2, _⟩ => ⟨S16384x2048, .f32⟩
  | .hbm, ⟨3, _⟩ => ⟨S16384x2048, .bf16⟩
  | .hbm, ⟨4, _⟩ => ⟨S2048x6144, .f32⟩
  | .hbm, ⟨5, _⟩ => ⟨S2048x6144, .bf16⟩
  | .hbm, ⟨6, _⟩ => ⟨S16384x6144, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference6Ideal.lean ====
abbrev S4x4096x2048 : Shape := ⟨3, ![4, 4096, 2048]⟩
abbrev S2048x15168 : Shape := ⟨2, ![2048, 15168]⟩
abbrev S4x4096x15168 : Shape := ⟨3, ![4, 4096, 15168]⟩
abbrev S4x4096x6144 : Shape := ⟨3, ![4, 4096, 6144]⟩
abbrev S_ : Shape := ⟨0, ![]⟩
abbrev S16384x6144 : Shape := ⟨2, ![16384, 6144]⟩

abbrev nBuf : Space → Nat
  | .hbm => 14
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S2048x15168, .f32⟩
  | .hbm, ⟨2, _⟩ => ⟨S4x4096x15168, .f32⟩
  | .hbm, ⟨3, _⟩ => ⟨S4x4096x6144, .f32⟩
  | .hbm, ⟨4, _⟩ => ⟨S4x4096x6144, .f32⟩
  | .hbm, ⟨5, _⟩ => ⟨S4x4096x6144, .f32⟩
  | .hbm, ⟨6, _⟩ => ⟨S_, .f32⟩
  | .hbm, ⟨7, _⟩ => ⟨S4x4096x6144, .f32⟩
  | .hbm, ⟨8, _⟩ => ⟨S4x4096x6144, .f32⟩
  | .hbm, ⟨9, _⟩ => ⟨S_, .f32⟩
  | .hbm, ⟨10, _⟩ => ⟨S4x4096x6144, .f32⟩
  | .hbm, ⟨11, _⟩ => ⟨S4x4096x6144, .f32⟩
  | .hbm, ⟨12, _⟩ => ⟨S16384x6144, .f32⟩
  | .hbm, ⟨13, _⟩ => ⟨S16384x6144, .bf16⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== Kernel7.lean ====
abbrev S4x4096x1024 : Shape := ⟨3, ![4, 4096, 1024]⟩
abbrev S4x4096x512 : Shape := ⟨3, ![4, 4096, 512]⟩
abbrev S1024x2048 : Shape := ⟨2, ![1024, 2048]⟩
abbrev S512x2048 : Shape := ⟨2, ![512, 2048]⟩
abbrev S4x4096x6144 : Shape := ⟨3, ![4, 4096, 6144]⟩
abbrev S16384x1024 : Shape := ⟨2, ![16384, 1024]⟩
abbrev S16384x512 : Shape := ⟨2, ![16384, 512]⟩
abbrev S16384x6144 : Shape := ⟨2, ![16384, 6144]⟩
abbrev S16384x2048 : Shape := ⟨2, ![16384, 2048]⟩
abbrev S1024x1024 : Shape := ⟨2, ![1024, 1024]⟩
abbrev S1024x512 : Shape := ⟨2, ![1024, 512]⟩
abbrev S512x512 : Shape := ⟨2, ![512, 512]⟩
abbrev S1024x256 : Shape := ⟨2, ![1024, 256]⟩
abbrev S512x256 : Shape := ⟨2, ![512, 256]⟩

abbrev nBuf : Space → Nat
  | .hbm => 19
  | .vmem => 20
  | .smem => 0
  | _ => 0

abbrev bufTy : (tb : Table) → Fin (tcTables nBuf tb) → BufTy
  | .hbm, ⟨0, _⟩ => ⟨S4x4096x1024, .f32⟩
  | .hbm, ⟨1, _⟩ => ⟨S4x4096x512, .f32⟩
  | .hbm, ⟨2, _⟩ => ⟨S4x4096x1024, .f32⟩
  | .hbm, ⟨3, _⟩ => ⟨S1024x2048, .f32⟩
  | .hbm, ⟨4, _⟩ => ⟨S512x2048, .f32⟩
  | .hbm, ⟨5, _⟩ => ⟨S1024x2048, .f32⟩
  | .hbm, ⟨6, _⟩ => ⟨S4x4096x6144, .f32⟩
  | .hbm, ⟨7, _⟩ => ⟨S16384x1024, .f32⟩
  | .hbm, ⟨8, _⟩ => ⟨S16384x1024, .bf16⟩
  | .hbm, ⟨9, _⟩ => ⟨S16384x512, .f32⟩
  | .hbm, ⟨10, _⟩ => ⟨S16384x512, .bf16⟩
  | .hbm, ⟨11, _⟩ => ⟨S16384x1024, .f32⟩
  | .hbm, ⟨12, _⟩ => ⟨S16384x1024, .bf16⟩
  | .hbm, ⟨13, _⟩ => ⟨S1024x2048, .bf16⟩
  | .hbm, ⟨14, _⟩ => ⟨S512x2048, .bf16⟩
  | .hbm, ⟨15, _⟩ => ⟨S1024x2048, .bf16⟩
  | .hbm, ⟨16, _⟩ => ⟨S16384x6144, .f32⟩
  | .hbm, ⟨17, _⟩ => ⟨S16384x6144, .bf16⟩
  | .hbm, ⟨18, _⟩ => ⟨S16384x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x1024, .bf16⟩
  | .local _ .vmem, ⟨5, _⟩ => ⟨S1024x1024, .bf16⟩
  | .local _ .vmem, ⟨6, _⟩ => ⟨S1024x512, .bf16⟩
  | .local _ .vmem, ⟨7, _⟩ => ⟨S1024x512, .bf16⟩
  | .local _ .vmem, ⟨8, _⟩ => ⟨S512x512, .bf16⟩
  | .local _ .vmem, ⟨9, _⟩ => ⟨S512x512, .bf16⟩
  | .local _ .vmem, ⟨10, _⟩ => ⟨S1024x512, .bf16⟩
  | .local _ .vmem, ⟨11, _⟩ => ⟨S1024x512, .bf16⟩
  | .local _ .vmem, ⟨12, _⟩ => ⟨S1024x512, .bf16⟩
  | .local _ .vmem, ⟨13, _⟩ => ⟨S1024x512, .bf16⟩
  | .local _ .vmem, ⟨14, _⟩ => ⟨S1024x512, .bf16⟩
  | .local _ .vmem, ⟨15, _⟩ => ⟨S1024x512, .bf16⟩
  | .local _ .vmem, ⟨16, _⟩ => ⟨S1024x512, .bf16⟩
  | .local _ .vmem, ⟨17, _⟩ => ⟨S1024x512, .bf16⟩
  | .local _ .vmem, ⟨18, _⟩ => ⟨S1024x512, .bf16⟩
  | .local _ .vmem, ⟨19, _⟩ => ⟨S1024x512, .bf16⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_7 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  ![arg0.toNat, v0.toNat]

def cc0_transform_8 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  ![arg0.toNat, v0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1024x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Reference7Ideal.lean ====
abbrev S4x4096x1024 : Shape := ⟨3, ![4, 4096, 1024]⟩
abbrev S4x4096x512 : Shape := ⟨3, ![4, 4096, 512]⟩
abbrev S1024x2048 : Shape := ⟨2, ![1024, 2048]⟩
abbrev S512x2048 : Shape := ⟨2, ![512, 2048]⟩
abbrev S4x4096x6144 : Shape := ⟨3, ![4, 4096, 6144]⟩
abbrev S4x4096x2048 : Shape := ⟨3, ![4, 4096, 2048]⟩
abbrev S16384x2048 : Shape := ⟨2, ![16384, 2048]⟩

abbrev nBuf : Space → Nat
  | .hbm => 20
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x4096x512, .f32⟩
  | .hbm, ⟨2, _⟩ => ⟨S4x4096x1024, .f32⟩
  | .hbm, ⟨3, _⟩ => ⟨S1024x2048, .f32⟩
  | .hbm, ⟨4, _⟩ => ⟨S512x2048, .f32⟩
  | .hbm, ⟨5, _⟩ => ⟨S1024x2048, .f32⟩
  | .hbm, ⟨6, _⟩ => ⟨S4x4096x6144, .f32⟩
  | .hbm, ⟨7, _⟩ => ⟨S4x4096x2048, .f32⟩
  | .hbm, ⟨8, _⟩ => ⟨S4x4096x2048, .f32⟩
  | .hbm, ⟨9, _⟩ => ⟨S4x4096x2048, .f32⟩
  | .hbm, ⟨10, _⟩ => ⟨S4x4096x2048, .f32⟩
  | .hbm, ⟨11, _⟩ => ⟨S4x4096x2048, .f32⟩
  | .hbm, ⟨12, _⟩ => ⟨S4x4096x2048, .f32⟩
  | .hbm, ⟨13, _⟩ => ⟨S4x4096x2048, .f32⟩
  | .hbm, ⟨14, _⟩ => ⟨S4x4096x2048, .f32⟩
  | .hbm, ⟨15, _⟩ => ⟨S4x4096x2048, .f32⟩
  | .hbm, ⟨16, _⟩ => ⟨S4x4096x2048, .f32⟩
  | .hbm, ⟨17, _⟩ => ⟨S4x4096x2048, .f32⟩
  | .hbm, ⟨18, _⟩ => ⟨S16384x2048, .f32⟩
  | .hbm, ⟨19, _⟩ => ⟨S16384x2048, .bf16⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩

abbrev nD : Nat := 1
abbrev τ : Topo := Topo.v7x

variable {F : FTy → Type} [FloatOps F]
-- ==== Kernel8.lean ====
abbrev S4x4096x2048 : Shape := ⟨3, ![4, 4096, 2048]⟩
abbrev S2048x2048 : Shape := ⟨2, ![2048, 2048]⟩
abbrev S4x1x2048 : Shape := ⟨3, ![4, 1, 2048]⟩
abbrev S16384x2048 : Shape := ⟨2, ![16384, 2048]⟩
abbrev S1024x2048 : Shape := ⟨2, ![1024, 2048]⟩
abbrev S2048x1024 : Shape := ⟨2, ![2048, 1024]⟩
abbrev S1024x1024 : Shape := ⟨2, ![1024, 1024]⟩
abbrev S1x1x1024 : Shape := ⟨3, ![1, 1, 1024]⟩
abbrev S2048x256 : Shape := ⟨2, ![2048, 256]⟩
abbrev S1024x256 : Shape := ⟨2, ![1024, 256]⟩
abbrev S1x1x256 : Shape := ⟨3, ![1, 1, 256]⟩
abbrev S1x256 : Shape := ⟨2, ![1, 256]⟩

abbrev nBuf : Space → Nat
  | .hbm => 9
  | .vmem => 10
  | .smem => 0
  | _ => 0

abbrev bufTy : (tb : Table) → Fin (tcTables nBuf tb) → BufTy
  | .hbm, ⟨0, _⟩ => ⟨S4x4096x2048, .f32⟩
  | .hbm, ⟨1, _⟩ => ⟨S2048x2048, .f32⟩
  | .hbm, ⟨2, _⟩ => ⟨S4x4096x2048, .f32⟩
  | .hbm, ⟨3, _⟩ => ⟨S4x1x2048, .f32⟩
  | .hbm, ⟨4, _⟩ => ⟨S16384x2048, .f32⟩
  | .hbm, ⟨5, _⟩ => ⟨S16384x2048, .f32⟩
  | .hbm, ⟨6, _⟩ => ⟨S16384x2048, .bf16⟩
  | .hbm, ⟨7, _⟩ => ⟨S2048x2048, .bf16⟩
  | .hbm, ⟨8, _⟩ => ⟨S16384x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1x1x1024, .f32⟩
  | .local _ .vmem, ⟨7, _⟩ => ⟨S1x1x1024, .f32⟩
  | .local _ .vmem, ⟨8, _⟩ => ⟨S1024x1024, .f32⟩
  | .local _ .vmem, ⟨9, _⟩ => ⟨S1024x1024, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference8Ideal.lean ====
abbrev S4x4096x2048 : Shape := ⟨3, ![4, 4096, 2048]⟩
abbrev S2048x2048 : Shape := ⟨2, ![2048, 2048]⟩
abbrev S4x1x2048 : Shape := ⟨3, ![4, 1, 2048]⟩
abbrev S16384x2048 : Shape := ⟨2, ![16384, 2048]⟩

abbrev nBuf : Space → Nat
  | .hbm => 9
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S2048x2048, .f32⟩
  | .hbm, ⟨2, _⟩ => ⟨S4x4096x2048, .f32⟩
  | .hbm, ⟨3, _⟩ => ⟨S4x1x2048, .f32⟩
  | .hbm, ⟨4, _⟩ => ⟨S4x4096x2048, .f32⟩
  | .hbm, ⟨5, _⟩ => ⟨S4x4096x2048, .f32⟩
  | .hbm, ⟨6, _⟩ => ⟨S4x4096x2048, .f32⟩
  | .hbm, ⟨7, _⟩ => ⟨S4x4096x2048, .f32⟩
  | .hbm, ⟨8, _⟩ => ⟨S16384x2048, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Kernel9.lean ====
abbrev S4x4096x2048 : Shape := ⟨3, ![4, 4096, 2048]⟩
abbrev S2048x15168 : Shape := ⟨2, ![2048, 15168]⟩
abbrev S16384x2048 : Shape := ⟨2, ![16384, 2048]⟩
abbrev S2048x1024 : Shape := ⟨2, ![2048, 1024]⟩
abbrev S16384x1024 : Shape := ⟨2, ![16384, 1024]⟩
abbrev S1024x2048 : Shape := ⟨2, ![1024, 2048]⟩
abbrev S1024x1024 : Shape := ⟨2, ![1024, 1024]⟩
abbrev S2048x256 : Shape := ⟨2, ![2048, 256]⟩
abbrev S1024x256 : Shape := ⟨2, ![1024, 256]⟩

abbrev nBuf : Space → Nat
  | .hbm => 7
  | .vmem => 5
  | .smem => 0
  | _ => 0

abbrev bufTy : (tb : Table) → Fin (tcTables nBuf tb) → BufTy
  | .hbm, ⟨0, _⟩ => ⟨S4x4096x2048, .f32⟩
  | .hbm, ⟨1, _⟩ => ⟨S2048x15168, .f32⟩
  | .hbm, ⟨2, _⟩ => ⟨S16384x2048, .f32⟩
  | .hbm, ⟨3, _⟩ => ⟨S16384x2048, .bf16⟩
  | .hbm, ⟨4, _⟩ => ⟨S2048x1024, .f32⟩
  | .hbm, ⟨5, _⟩ => ⟨S2048x1024, .bf16⟩
  | .hbm, ⟨6, _⟩ => ⟨S16384x1024, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S1024x1024, .bf16⟩
  | .local _ .vmem, ⟨4, _⟩ => ⟨S1024x1024, .bf16⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference9Ideal.lean ====
abbrev S4x4096x2048 : Shape := ⟨3, ![4, 4096, 2048]⟩
abbrev S2048x15168 : Shape := ⟨2, ![2048, 15168]⟩
abbrev S4x4096x15168 : Shape := ⟨3, ![4, 4096, 15168]⟩
abbrev S4x4096x1024 : Shape := ⟨3, ![4, 4096, 1024]⟩
abbrev S16384x1024 : Shape := ⟨2, ![16384, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S2048x15168, .f32⟩
  | .hbm, ⟨2, _⟩ => ⟨S4x4096x15168, .f32⟩
  | .hbm, ⟨3, _⟩ => ⟨S4x4096x1024, .f32⟩
  | .hbm, ⟨4, _⟩ => ⟨S16384x1024, .f32⟩
  | .hbm, ⟨5, _⟩ => ⟨S16384x1024, .bf16⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel10.lean ====
abbrev S4x4096x2048 : Shape := ⟨3, ![4, 4096, 2048]⟩
abbrev S2048x15168 : Shape := ⟨2, ![2048, 15168]⟩
abbrev S16384x2048 : Shape := ⟨2, ![16384, 2048]⟩
abbrev S2048x1536 : Shape := ⟨2, ![2048, 1536]⟩
abbrev S16384x1536 : Shape := ⟨2, ![16384, 1536]⟩
abbrev S1024x2048 : Shape := ⟨2, ![1024, 2048]⟩
abbrev S2048x512 : Shape := ⟨2, ![2048, 512]⟩
abbrev S1024x512 : Shape := ⟨2, ![1024, 512]⟩
abbrev S2048x256 : Shape := ⟨2, ![2048, 256]⟩
abbrev S1024x256 : Shape := ⟨2, ![1024, 256]⟩

abbrev nBuf : Space → Nat
  | .hbm => 7
  | .vmem => 6
  | .smem => 0
  | _ => 0

abbrev bufTy : (tb : Table) → Fin (tcTables nBuf tb) → BufTy
  | .hbm, ⟨0, _⟩ => ⟨S4x4096x2048, .f32⟩
  | .hbm, ⟨1, _⟩ => ⟨S2048x15168, .f32⟩
  | .hbm, ⟨2, _⟩ => ⟨S16384x2048, .f32⟩
  | .hbm, ⟨3, _⟩ => ⟨S16384x2048, .bf16⟩
  | .hbm, ⟨4, _⟩ => ⟨S2048x1536, .f32⟩
  | .hbm, ⟨5, _⟩ => ⟨S2048x1536, .bf16⟩
  | .hbm, ⟨6, _⟩ => ⟨S16384x1536, .f32⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .f32⟩
  | .local _ .vmem, ⟨5, _⟩ => ⟨S1024x512, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference10Ideal.lean ====
abbrev S4x4096x2048 : Shape := ⟨3, ![4, 4096, 2048]⟩
abbrev S2048x15168 : Shape := ⟨2, ![2048, 15168]⟩
abbrev S4x4096x15168 : Shape := ⟨3, ![4, 4096, 15168]⟩
abbrev S4x4096x1536 : Shape := ⟨3, ![4, 4096, 1536]⟩
abbrev S16384x1536 : Shape := ⟨2, ![16384, 1536]⟩

abbrev nBuf : Space → Nat
  | .hbm => 5
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S2048x15168, .f32⟩
  | .hbm, ⟨2, _⟩ => ⟨S4x4096x15168, .f32⟩
  | .hbm, ⟨3, _⟩ => ⟨S4x4096x1536, .f32⟩
  | .hbm, ⟨4, _⟩ => ⟨S16384x1536, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel11.lean ====
abbrev S4x4096x2048 : Shape := ⟨3, ![4, 4096, 2048]⟩
abbrev S2048x15168 : Shape := ⟨2, ![2048, 15168]⟩
abbrev S128 : Shape := ⟨1, ![128]⟩
abbrev S16384x2048 : Shape := ⟨2, ![16384, 2048]⟩
abbrev S2048x2048 : Shape := ⟨2, ![2048, 2048]⟩
abbrev S1x128 : Shape := ⟨2, ![1, 128]⟩
abbrev S8x128 : Shape := ⟨2, ![8, 128]⟩
abbrev S1024 : Shape := ⟨1, ![1024]⟩
abbrev S2048 : Shape := ⟨1, ![2048]⟩
abbrev S1x2048 : Shape := ⟨2, ![1, 2048]⟩
abbrev S1024x2048 : Shape := ⟨2, ![1024, 2048]⟩
abbrev S2048x1024 : Shape := ⟨2, ![2048, 1024]⟩
abbrev S1x1024 : Shape := ⟨2, ![1, 1024]⟩
abbrev S1024x1024 : Shape := ⟨2, ![1024, 1024]⟩
abbrev S2048x256 : Shape := ⟨2, ![2048, 256]⟩
abbrev S1024x256 : Shape := ⟨2, ![1024, 256]⟩
abbrev S1024x128 : Shape := ⟨2, ![1024, 128]⟩
abbrev S1024x1 : Shape := ⟨2, ![1024, 1]⟩

abbrev nBuf : Space → Nat
  | .hbm => 17
  | .vmem => 8
  | .smem => 0
  | _ => 0

abbrev bufTy : (tb : Table) → Fin (tcTables nBuf tb) → BufTy
  | .hbm, ⟨0, _⟩ => ⟨S4x4096x2048, .f32⟩
  | .hbm, ⟨1, _⟩ => ⟨S2048x15168, .f32⟩
  | .hbm, ⟨2, _⟩ => ⟨S128, .f32⟩
  | .hbm, ⟨3, _⟩ => ⟨S128, .f32⟩
  | .hbm, ⟨4, _⟩ => ⟨S16384x2048, .f32⟩
  | .hbm, ⟨5, _⟩ => ⟨S16384x2048, .bf16⟩
  | .hbm, ⟨6, _⟩ => ⟨S2048x2048, .f32⟩
  | .hbm, ⟨7, _⟩ => ⟨S2048x2048, .bf16⟩
  | .hbm, ⟨8, _⟩ => ⟨S1x128, .f32⟩
  | .hbm, ⟨9, _⟩ => ⟨S8x128, .f32⟩
  | .hbm, ⟨10, _⟩ => ⟨S1024, .f32⟩
  | .hbm, ⟨11, _⟩ => ⟨S1x128, .f32⟩
  | .hbm, ⟨12, _⟩ => ⟨S8x128, .f32⟩
  | .hbm, ⟨13, _⟩ => ⟨S1024, .f32⟩
  | .hbm, ⟨14, _⟩ => ⟨S2048, .f32⟩
  | .hbm, ⟨15, _⟩ => ⟨S1x2048, .f32⟩
  | .hbm, ⟨16, _⟩ => ⟨S16384x2048, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024, .f32⟩
  | .local _ .vmem, ⟨5, _⟩ => ⟨S1x1024, .f32⟩
  | .local _ .vmem, ⟨6, _⟩ => ⟨S1024x1024, .bf16⟩
  | .local _ .vmem, ⟨7, _⟩ => ⟨S1024x1024, .bf16⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference11Ideal.lean ====
abbrev S4x4096x2048 : Shape := ⟨3, ![4, 4096, 2048]⟩
abbrev S2048x15168 : Shape := ⟨2, ![2048, 15168]⟩
abbrev S128 : Shape := ⟨1, ![128]⟩
abbrev S4x4096x15168 : Shape := ⟨3, ![4, 4096, 15168]⟩
abbrev S4x4096x1024 : Shape := ⟨3, ![4, 4096, 1024]⟩
abbrev S4x4096x8x128 : Shape := ⟨4, ![4, 4096, 8, 128]⟩
abbrev S_ : Shape := ⟨0, ![]⟩
abbrev S4x4096x8 : Shape := ⟨3, ![4, 4096, 8]⟩
abbrev S4x4096x8x1 : Shape := ⟨4, ![4, 4096, 8, 1]⟩
abbrev S1x1x1x128 : Shape := ⟨4, ![1, 1, 1, 128]⟩
abbrev S16384x1024 : Shape := ⟨2, ![16384, 1024]⟩
abbrev S16384x2048 : Shape := ⟨2, ![16384, 2048]⟩

abbrev nBuf : Space → Nat
  | .hbm => 45
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S2048x15168, .f32⟩
  | .hbm, ⟨2, _⟩ => ⟨S128, .f32⟩
  | .hbm, ⟨3, _⟩ => ⟨S128, .f32⟩
  | .hbm, ⟨4, _⟩ => ⟨S4x4096x15168, .f32⟩
  | .hbm, ⟨5, _⟩ => ⟨S4x4096x1024, .f32⟩
  | .hbm, ⟨6, _⟩ => ⟨S4x4096x1024, .f32⟩
  | .hbm, ⟨7, _⟩ => ⟨S4x4096x8x128, .f32⟩
  | .hbm, ⟨8, _⟩ => ⟨S4x4096x8x128, .f32⟩
  | .hbm, ⟨9, _⟩ => ⟨S_, .f32⟩
  | .hbm, ⟨10, _⟩ => ⟨S4x4096x8, .f32⟩
  | .hbm, ⟨11, _⟩ => ⟨S4x4096x8x1, .f32⟩
  | .hbm, ⟨12, _⟩ => ⟨S_, .f32⟩
  | .hbm, ⟨13, _⟩ => ⟨S4x4096x8x1, .f32⟩
  | .hbm, ⟨14, _⟩ => ⟨S4x4096x8x1, .f32⟩
  | .hbm, ⟨15, _⟩ => ⟨S_, .f32⟩
  | .hbm, ⟨16, _⟩ => ⟨S4x4096x8x1, .f32⟩
  | .hbm, ⟨17, _⟩ => ⟨S4x4096x8x1, .f32⟩
  | .hbm, ⟨18, _⟩ => ⟨S4x4096x8x1, .f32⟩
  | .hbm, ⟨19, _⟩ => ⟨S4x4096x8x128, .f32⟩
  | .hbm, ⟨20, _⟩ => ⟨S4x4096x8x128, .f32⟩
  | .hbm, ⟨21, _⟩ => ⟨S1x1x1x128, .f32⟩
  | .hbm, ⟨22, _⟩ => ⟨S4x4096x8x128, .f32⟩
  | .hbm, ⟨23, _⟩ => ⟨S4x4096x8x128, .f32⟩
  | .hbm, ⟨24, _⟩ => ⟨S4x4096x8x128, .f32⟩
  | .hbm, ⟨25, _⟩ => ⟨S4x4096x8x128, .f32⟩
  | .hbm, ⟨26, _⟩ => ⟨S_, .f32⟩
  | .hbm, ⟨27, _⟩ => ⟨S4x4096x8, .f32⟩
  | .hbm, ⟨28, _⟩ => ⟨S4x4096x8x1, .f32⟩
  | .hbm, ⟨29, _⟩ => ⟨S_, .f32⟩
  | .hbm, ⟨30, _⟩ => ⟨S4x4096x8x1, .f32⟩
  | .hbm, ⟨31, _⟩ => ⟨S4x4096x8x1, .f32⟩
  | .hbm, ⟨32, _⟩ => ⟨S_, .f32⟩
  | .hbm, ⟨33, _⟩ => ⟨S4x4096x8x1, .f32⟩
  | .hbm, ⟨34, _⟩ => ⟨S4x4096x8x1, .f32⟩
  | .hbm, ⟨35, _⟩ => ⟨S4x4096x8x1, .f32⟩
  | .hbm, ⟨36, _⟩ => ⟨S4x4096x8x128, .f32⟩
  | .hbm, ⟨37, _⟩ => ⟨S4x4096x8x128, .f32⟩
  | .hbm, ⟨38, _⟩ => ⟨S1x1x1x128, .f32⟩
  | .hbm, ⟨39, _⟩ => ⟨S4x4096x8x128, .f32⟩
  | .hbm, ⟨40, _⟩ => ⟨S4x4096x8x128, .f32⟩
  | .hbm, ⟨41, _⟩ => ⟨S16384x1024, .f32⟩
  | .hbm, ⟨42, _⟩ => ⟨S16384x1024, .f32⟩
  | .hbm, ⟨43, _⟩ => ⟨S16384x2048, .f32⟩
  | .hbm, ⟨44, _⟩ => ⟨S16384x2048, .bf16⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩
abbrev main_cst_3 : Ref sig .tc := ⟨.hbm, 29, rfl⟩
abbrev main_v21 : Ref sig .tc := ⟨.hbm, 30, rfl⟩
abbrev main_v22 : Ref sig .tc := ⟨.hbm, 31, rfl⟩
abbrev main_cst_4 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩

abbrev nD : Nat := 1
abbrev τ : Topo := Topo.v7x

variable {F : FTy → Type} [FloatOps F]
-- ==== Kernel12.lean ====
abbrev S4x4096x2048 : Shape := ⟨3, ![4, 4096, 2048]⟩
abbrev S2048x15168 : Shape := ⟨2, ![2048, 15168]⟩
abbrev S768 : Shape := ⟨1, ![768]⟩
abbrev S16384x2048 : Shape := ⟨2, ![16384, 2048]⟩
abbrev S2048x768 : Shape := ⟨2, ![2048, 768]⟩
abbrev S1x768 : Shape := ⟨2, ![1, 768]⟩
abbrev S16384x768 : Shape := ⟨2, ![16384, 768]⟩
abbrev S1024x2048 : Shape := ⟨2, ![1024, 2048]⟩
abbrev S1024x768 : Shape := ⟨2, ![1024, 768]⟩
abbrev S1024 : Shape := ⟨1, ![1024]⟩
abbrev S1024x1 : Shape := ⟨2, ![1024, 1]⟩

abbrev nBuf : Space → Nat
  | .hbm => 9
  | .vmem => 6
  | .smem => 0
  | _ => 0

abbrev bufTy : (tb : Table) → Fin (tcTables nBuf tb) → BufTy
  | .hbm, ⟨0, _⟩ => ⟨S4x4096x2048, .f32⟩
  | .hbm, ⟨1, _⟩ => ⟨S2048x15168, .f32⟩
  | .hbm, ⟨2, _⟩ => ⟨S768, .f32⟩
  | .hbm, ⟨3, _⟩ => ⟨S16384x2048, .f32⟩
  | .hbm, ⟨4, _⟩ => ⟨S16384x2048, .bf16⟩
  | .hbm, ⟨5, _⟩ => ⟨S2048x768, .f32⟩
  | .hbm, ⟨6, _⟩ => ⟨S2048x768, .bf16⟩
  | .hbm, ⟨7, _⟩ => ⟨S1x768, .f32⟩
  | .hbm, ⟨8, _⟩ => ⟨S16384x768, .bf16⟩
  | .local _ .vmem, ⟨0, _⟩ => ⟨S1024x2048, .bf16⟩
  | .local _ .vmem, ⟨1, _⟩ => ⟨S1024x2048, .bf16⟩
  | .local _ .vmem, ⟨2, _⟩ => ⟨S2048x768, .bf16⟩
  | .local _ .vmem, ⟨3, _⟩ => ⟨S1x768, .f32⟩
  | .local _ .vmem, ⟨4, _⟩ => ⟨S1024x768, .bf16⟩
  | .local _ .vmem, ⟨5, _⟩ => ⟨S1024x768, .bf16⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S1x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference12Ideal.lean ====
abbrev S4x4096x2048 : Shape := ⟨3, ![4, 4096, 2048]⟩
abbrev S2048x15168 : Shape := ⟨2, ![2048, 15168]⟩
abbrev S768 : Shape := ⟨1, ![768]⟩
abbrev S4x4096x15168 : Shape := ⟨3, ![4, 4096, 15168]⟩
abbrev S4x4096x768 : Shape := ⟨3, ![4, 4096, 768]⟩
abbrev S_ : Shape := ⟨0, ![]⟩
abbrev S4x4096 : Shape := ⟨2, ![4, 4096]⟩
abbrev S4x4096x1 : Shape := ⟨3, ![4, 4096, 1]⟩
abbrev S1x1x768 : Shape := ⟨3, ![1, 1, 768]⟩
abbrev S16384x768 : Shape := ⟨2, ![16384, 768]⟩

abbrev nBuf : Space → Nat
  | .hbm => 23
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S2048x15168, .f32⟩
  | .hbm, ⟨2, _⟩ => ⟨S768, .f32⟩
  | .hbm, ⟨3, _⟩ => ⟨S4x4096x15168, .f32⟩
  | .hbm, ⟨4, _⟩ => ⟨S4x4096x768, .f32⟩
  | .hbm, ⟨5, _⟩ => ⟨S4x4096x768, .f32⟩
  | .hbm, ⟨6, _⟩ => ⟨S_, .f32⟩
  | .hbm, ⟨7, _⟩ => ⟨S4x4096, .f32⟩
  | .hbm, ⟨8, _⟩ => ⟨S4x4096x1, .f32⟩
  | .hbm, ⟨9, _⟩ => ⟨S_, .f32⟩
  | .hbm, ⟨10, _⟩ => ⟨S4x4096x1, .f32⟩
  | .hbm, ⟨11, _⟩ => ⟨S4x4096x1, .f32⟩
  | .hbm, ⟨12, _⟩ => ⟨S_, .f32⟩
  | .hbm, ⟨13, _⟩ => ⟨S4x4096x1, .f32⟩
  | .hbm, ⟨14, _⟩ => ⟨S4x4096x1, .f32⟩
  | .hbm, ⟨15, _⟩ => ⟨S4x4096x1, .f32⟩
  | .hbm, ⟨16, _⟩ => ⟨S4x4096x768, .f32⟩
  | .hbm, ⟨17, _⟩ => ⟨S4x4096x768, .f32⟩
  | .hbm, ⟨18, _⟩ => ⟨S1x1x768, .f32⟩
  | .hbm, ⟨19, _⟩ => ⟨S4x4096x768, .f32⟩
  | .hbm, ⟨20, _⟩ => ⟨S4x4096x768, .f32⟩
  | .hbm, ⟨21, _⟩ => ⟨S16384x768, .f32⟩
  | .hbm, ⟨22, _⟩ => ⟨S16384x768, .bf16⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== Kernel13.lean ====
abbrev S4x4096x2048 : Shape := ⟨3, ![4, 4096, 2048]⟩
abbrev S2048x15168 : Shape := ⟨2, ![2048, 15168]⟩
abbrev S512 : Shape := ⟨1, ![512]⟩
abbrev S16384x2048 : Shape := ⟨2, ![16384, 2048]⟩
abbrev S2048x512 : Shape := ⟨2, ![2048, 512]⟩
abbrev S1x512 : Shape := ⟨2, ![1, 512]⟩
abbrev S16384x512 : Shape := ⟨2, ![16384, 512]⟩
abbrev S1024x2048 : Shape := ⟨2, ![1024, 2048]⟩
abbrev S1024x512 : Shape := ⟨2, ![1024, 512]⟩
abbrev S1024 : Shape := ⟨1, ![1024]⟩
abbrev S1024x1 : Shape := ⟨2, ![1024, 1]⟩

abbrev nBuf : Space → Nat
  | .hbm => 9
  | .vmem => 6
  | .smem => 0
  | _ => 0

abbrev bufTy : (tb : Table) → Fin (tcTables nBuf tb) → BufTy
  | .hbm, ⟨0, _⟩ => ⟨S4x4096x2048, .f32⟩
  | .hbm, ⟨1, _⟩ => ⟨S2048x15168, .f32⟩
  | .hbm, ⟨2, _⟩ => ⟨S512, .f32⟩
  | .hbm, ⟨3, _⟩ => ⟨S16384x2048, .f32⟩
  | .hbm, ⟨4, _⟩ => ⟨S16384x2048, .bf16⟩
  | .hbm, ⟨5, _⟩ => ⟨S2048x512, .f32⟩
  | .hbm, ⟨6, _⟩ => ⟨S2048x512, .bf16⟩
  | .hbm, ⟨7, _⟩ => ⟨S1x512, .f32⟩
  | .hbm, ⟨8, _⟩ => ⟨S16384x512, .bf16⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S1x512, .f32⟩
  | .local _ .vmem, ⟨4, _⟩ => ⟨S1024x512, .bf16⟩
  | .local _ .vmem, ⟨5, _⟩ => ⟨S1024x512, .bf16⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference13Ideal.lean ====
abbrev S4x4096x2048 : Shape := ⟨3, ![4, 4096, 2048]⟩
abbrev S2048x15168 : Shape := ⟨2, ![2048, 15168]⟩
abbrev S512 : Shape := ⟨1, ![512]⟩
abbrev S4x4096x15168 : Shape := ⟨3, ![4, 4096, 15168]⟩
abbrev S4x4096x512 : Shape := ⟨3, ![4, 4096, 512]⟩
abbrev S_ : Shape := ⟨0, ![]⟩
abbrev S4x4096 : Shape := ⟨2, ![4, 4096]⟩
abbrev S4x4096x1 : Shape := ⟨3, ![4, 4096, 1]⟩
abbrev S1x1x512 : Shape := ⟨3, ![1, 1, 512]⟩
abbrev S16384x512 : Shape := ⟨2, ![16384, 512]⟩

abbrev nBuf : Space → Nat
  | .hbm => 23
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S2048x15168, .f32⟩
  | .hbm, ⟨2, _⟩ => ⟨S512, .f32⟩
  | .hbm, ⟨3, _⟩ => ⟨S4x4096x15168, .f32⟩
  | .hbm, ⟨4, _⟩ => ⟨S4x4096x512, .f32⟩
  | .hbm, ⟨5, _⟩ => ⟨S4x4096x512, .f32⟩
  | .hbm, ⟨6, _⟩ => ⟨S_, .f32⟩
  | .hbm, ⟨7, _⟩ => ⟨S4x4096, .f32⟩
  | .hbm, ⟨8, _⟩ => ⟨S4x4096x1, .f32⟩
  | .hbm, ⟨9, _⟩ => ⟨S_, .f32⟩
  | .hbm, ⟨10, _⟩ => ⟨S4x4096x1, .f32⟩
  | .hbm, ⟨11, _⟩ => ⟨S4x4096x1, .f32⟩
  | .hbm, ⟨12, _⟩ => ⟨S_, .f32⟩
  | .hbm, ⟨13, _⟩ => ⟨S4x4096x1, .f32⟩
  | .hbm, ⟨14, _⟩ => ⟨S4x4096x1, .f32⟩
  | .hbm, ⟨15, _⟩ => ⟨S4x4096x1, .f32⟩
  | .hbm, ⟨16, _⟩ => ⟨S4x4096x512, .f32⟩
  | .hbm, ⟨17, _⟩ => ⟨S4x4096x512, .f32⟩
  | .hbm, ⟨18, _⟩ => ⟨S1x1x512, .f32⟩
  | .hbm, ⟨19, _⟩ => ⟨S4x4096x512, .f32⟩
  | .hbm, ⟨20, _⟩ => ⟨S4x4096x512, .f32⟩
  | .hbm, ⟨21, _⟩ => ⟨S16384x512, .f32⟩
  | .hbm, ⟨22, _⟩ => ⟨S16384x512, .bf16⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== Kernel14.lean ====
abbrev S4x4096x2048 : Shape := ⟨3, ![4, 4096, 2048]⟩
abbrev S2048x15168 : Shape := ⟨2, ![2048, 15168]⟩
abbrev S128 : Shape := ⟨1, ![128]⟩
abbrev S16 : Shape := ⟨1, ![16]⟩
abbrev S_ : Shape := ⟨0, ![]⟩
abbrev S4096 : Shape := ⟨1, ![4096]⟩
abbrev S4096x1 : Shape := ⟨2, ![4096, 1]⟩
abbrev S1x16 : Shape := ⟨2, ![1, 16]⟩
abbrev S4096x16 : Shape := ⟨2, ![4096, 16]⟩
abbrev S4096x96 : Shape := ⟨2, ![4096, 96]⟩
abbrev S4096x128 : Shape := ⟨2, ![4096, 128]⟩
abbrev S16384x2048 : Shape := ⟨2, ![16384, 2048]⟩
abbrev S2048x3072 : Shape := ⟨2, ![2048, 3072]⟩
abbrev S1x128 : Shape := ⟨2, ![1, 128]⟩
abbrev S12x128 : Shape := ⟨2, ![12, 128]⟩
abbrev S1536 : Shape := ⟨1, ![1536]⟩
abbrev S3072 : Shape := ⟨1, ![3072]⟩
abbrev S1x3072 : Shape := ⟨2, ![1, 3072]⟩
abbrev S256x256 : Shape := ⟨2, ![256, 256]⟩
abbrev S16384x3072 : Shape := ⟨2, ![16384, 3072]⟩
abbrev S1024x2048 : Shape := ⟨2, ![1024, 2048]⟩
abbrev S2048x1024 : Shape := ⟨2, ![2048, 1024]⟩
abbrev S1x1024 : Shape := ⟨2, ![1, 1024]⟩
abbrev S1024x128 : Shape := ⟨2, ![1024, 128]⟩
abbrev S1024x1024 : Shape := ⟨2, ![1024, 1024]⟩
abbrev S2048x256 : Shape := ⟨2, ![2048, 256]⟩
abbrev S1024x256 : Shape := ⟨2, ![1024, 256]⟩
abbrev S1024 : Shape := ⟨1, ![1024]⟩
abbrev S1024x1 : Shape := ⟨2, ![1024, 1]⟩

abbrev nBuf : Space → Nat
  | .hbm => 68
  | .vmem => 13
  | .smem => 0
  | _ => 0

abbrev bufTy : (tb : Table) → Fin (tcTables nBuf tb) → BufTy
  | .hbm, ⟨0, _⟩ => ⟨S4x4096x2048, .f32⟩
  | .hbm, ⟨1, _⟩ => ⟨S2048x15168, .f32⟩
  | .hbm, ⟨2, _⟩ => ⟨S128, .f32⟩
  | .hbm, ⟨3, _⟩ => ⟨S128, .f32⟩
  | .hbm, ⟨4, _⟩ => ⟨S16, .f32⟩
  | .hbm, ⟨5, _⟩ => ⟨S16, .f32⟩
  | .hbm, ⟨6, _⟩ => ⟨S_, .f32⟩
  | .hbm, ⟨7, _⟩ => ⟨S16, .f32⟩
  | .hbm, ⟨8, _⟩ => ⟨S16, .f32⟩
  | .hbm, ⟨9, _⟩ => ⟨S_, .f32⟩
  | .hbm, ⟨10, _⟩ => ⟨S16, .f32⟩
  | .hbm, ⟨11, _⟩ => ⟨S16, .f32⟩
  | .hbm, ⟨12, _⟩ => ⟨S4096, .i32⟩
  | .hbm, ⟨13, _⟩ => ⟨S4096, .f32⟩
  | .hbm, ⟨14, _⟩ => ⟨S4096x1, .f32⟩
  | .hbm, ⟨15, _⟩ => ⟨S1x16, .f32⟩
  | .hbm, ⟨16, _⟩ => ⟨S4096x16, .f32⟩
  | .hbm, ⟨17, _⟩ => ⟨S4096x16, .f32⟩
  | .hbm, ⟨18, _⟩ => ⟨S4096x16, .f32⟩
  | .hbm, ⟨19, _⟩ => ⟨S4096x16, .f32⟩
  | .hbm, ⟨20, _⟩ => ⟨S4096x16, .f32⟩
  | .hbm, ⟨21, _⟩ => ⟨S_, .f32⟩
  | .hbm, ⟨22, _⟩ => ⟨S4096x96, .f32⟩
  | .hbm, ⟨23, _⟩ => ⟨S4096x128, .f32⟩
  | .hbm, ⟨24, _⟩ => ⟨S4096x16, .f32⟩
  | .hbm, ⟨25, _⟩ => ⟨S_, .f32⟩
  | .hbm, ⟨26, _⟩ => ⟨S4096x96, .f32⟩
  | .hbm, ⟨27, _⟩ => ⟨S4096x128, .f32⟩
  | .hbm, ⟨28, _⟩ => ⟨S16384x2048, .f32⟩
  | .hbm, ⟨29, _⟩ => ⟨S16384x2048, .bf16⟩
  | .hbm, ⟨30, _⟩ => ⟨S2048x3072, .f32⟩
  | .hbm, ⟨31, _⟩ => ⟨S2048x3072, .bf16⟩
  | .hbm, ⟨32, _⟩ => ⟨S1x128, .f32⟩
  | .hbm, ⟨33, _⟩ => ⟨S12x128, .f32⟩
  | .hbm, ⟨34, _⟩ => ⟨S1536, .f32⟩
  | .hbm, ⟨35, _⟩ => ⟨S1x128, .f32⟩
  | .hbm, ⟨36, _⟩ => ⟨S12x128, .f32⟩
  | .hbm, ⟨37, _⟩ => ⟨S1536, .f32⟩
  | .hbm, ⟨38, _⟩ => ⟨S3072, .f32⟩
  | .hbm, ⟨39, _⟩ => ⟨S1x3072, .f32⟩
  | .hbm, ⟨40, _⟩ => ⟨S256x256, .i32⟩
  | .hbm, ⟨41, _⟩ => ⟨S256x256, .i32⟩
  | .hbm, ⟨42, _⟩ => ⟨S_, .i32⟩
  | .hbm, ⟨43, _⟩ => ⟨S256x256, .i32⟩
  | .hbm, ⟨44, _⟩ => ⟨S256x256, .i32⟩
  | .hbm, ⟨45, _⟩ => ⟨S_, .i32⟩
  | .hbm, ⟨46, _⟩ => ⟨S256x256, .i32⟩
  | .hbm, ⟨47, _⟩ => ⟨S256x256, .i1⟩
  | .hbm, ⟨48, _⟩ => ⟨S_, .i32⟩
  | .hbm, ⟨49, _⟩ => ⟨S256x256, .i32⟩
  | .hbm, ⟨50, _⟩ => ⟨S256x256, .i32⟩
  | .hbm, ⟨51, _⟩ => ⟨S256x256, .i1⟩
  | .hbm, ⟨52, _⟩ => ⟨S256x256, .i1⟩
  | .hbm, ⟨53, _⟩ => ⟨S_, .i32⟩
  | .hbm, ⟨54, _⟩ => ⟨S256x256, .i32⟩
  | .hbm, ⟨55, _⟩ => ⟨S256x256, .i1⟩
  | .hbm, ⟨56, _⟩ => ⟨S_, .i32⟩
  | .hbm, ⟨57, _⟩ => ⟨S256x256, .i32⟩
  | .hbm, ⟨58, _⟩ => ⟨S256x256, .i1⟩
  | .hbm, ⟨59, _⟩ => ⟨S256x256, .i1⟩
  | .hbm, ⟨60, _⟩ => ⟨S_, .i32⟩
  | .hbm, ⟨61, _⟩ => ⟨S256x256, .i32⟩
  | .hbm, ⟨62, _⟩ => ⟨S256x256, .i32⟩
  | .hbm, ⟨63, _⟩ => ⟨S256x256, .i1⟩
  | .hbm, ⟨64, _⟩ => ⟨S256x256, .i1⟩
  | .hbm, ⟨65, _⟩ => ⟨S256x256, .i1⟩
  | .hbm, ⟨66, _⟩ => ⟨S256x256, .bf16⟩
  | .hbm, ⟨67, _⟩ => ⟨S16384x3072, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024, .f32⟩
  | .local _ .vmem, ⟨5, _⟩ => ⟨S1x1024, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S256x256, .bf16⟩
  | .local _ .vmem, ⟨11, _⟩ => ⟨S1024x1024, .f32⟩
  | .local _ .vmem, ⟨12, _⟩ => ⟨S1024x1024, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_1 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_c : Ref sig .tc := ⟨.hbm, 42, rfl⟩
abbrev main_v34 : Ref sig .tc := ⟨.hbm, 43, rfl⟩
abbrev main_v35 : Ref sig .tc := ⟨.hbm, 44, rfl⟩
abbrev main_c_3 : Ref sig .tc := ⟨.hbm, 45, rfl⟩
abbrev main_v36 : Ref sig .tc := ⟨.hbm, 46, rfl⟩
abbrev main_v37 : Ref sig .tc := ⟨.hbm, 47, rfl⟩
abbrev main_c_4 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_c_5 : Ref sig .tc := ⟨.hbm, 53, rfl⟩
abbrev main_v42 : Ref sig .tc := ⟨.hbm, 54, rfl⟩
abbrev main_v43 : Ref sig .tc := ⟨.hbm, 55, rfl⟩
abbrev main_c_6 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_c_7 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![16, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference14Ideal.lean ====
abbrev S4x4096x2048 : Shape := ⟨3, ![4, 4096, 2048]⟩
abbrev S2048x15168 : Shape := ⟨2, ![2048, 15168]⟩
abbrev S128 : Shape := ⟨1, ![128]⟩
abbrev S4096 : Shape := ⟨1, ![4096]⟩
abbrev S4x4096x15168 : Shape := ⟨3, ![4, 4096, 15168]⟩
abbrev S4x4096x1536 : Shape := ⟨3, ![4, 4096, 1536]⟩
abbrev S4x4096x12x128 : Shape := ⟨4, ![4, 4096, 12, 128]⟩
abbrev S_ : Shape := ⟨0, ![]⟩
abbrev S4x4096x12 : Shape := ⟨3, ![4, 4096, 12]⟩
abbrev S4x4096x12x1 : Shape := ⟨4, ![4, 4096, 12, 1]⟩
abbrev S1x1x1x128 : Shape := ⟨4, ![1, 1, 1, 128]⟩
abbrev S4x4096x12x32 : Shape := ⟨4, ![4, 4096, 12, 32]⟩
abbrev S16 : Shape := ⟨1, ![16]⟩
abbrev S4096x1 : Shape := ⟨2, ![4096, 1]⟩
abbrev S1x16 : Shape := ⟨2, ![1, 16]⟩
abbrev S4096x16 : Shape := ⟨2, ![4096, 16]⟩
abbrev S1x4096x1x16 : Shape := ⟨4, ![1, 4096, 1, 16]⟩
abbrev S4x4096x12x16 : Shape := ⟨4, ![4, 4096, 12, 16]⟩
abbrev S4x4096x12x96 : Shape := ⟨4, ![4, 4096, 12, 96]⟩
abbrev S16384x1536 : Shape := ⟨2, ![16384, 1536]⟩
abbrev S16384x3072 : Shape := ⟨2, ![16384, 3072]⟩

abbrev nBuf : Space → Nat
  | .hbm => 113
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S2048x15168, .f32⟩
  | .hbm, ⟨2, _⟩ => ⟨S128, .f32⟩
  | .hbm, ⟨3, _⟩ => ⟨S128, .f32⟩
  | .hbm, ⟨4, _⟩ => ⟨S4096, .i32⟩
  | .hbm, ⟨5, _⟩ => ⟨S4x4096x15168, .f32⟩
  | .hbm, ⟨6, _⟩ => ⟨S4x4096x1536, .f32⟩
  | .hbm, ⟨7, _⟩ => ⟨S4x4096x1536, .f32⟩
  | .hbm, ⟨8, _⟩ => ⟨S4x4096x12x128, .f32⟩
  | .hbm, ⟨9, _⟩ => ⟨S4x4096x12x128, .f32⟩
  | .hbm, ⟨10, _⟩ => ⟨S_, .f32⟩
  | .hbm, ⟨11, _⟩ => ⟨S4x4096x12, .f32⟩
  | .hbm, ⟨12, _⟩ => ⟨S4x4096x12x1, .f32⟩
  | .hbm, ⟨13, _⟩ => ⟨S_, .f32⟩
  | .hbm, ⟨14, _⟩ => ⟨S4x4096x12x1, .f32⟩
  | .hbm, ⟨15, _⟩ => ⟨S4x4096x12x1, .f32⟩
  | .hbm, ⟨16, _⟩ => ⟨S_, .f32⟩
  | .hbm, ⟨17, _⟩ => ⟨S4x4096x12x1, .f32⟩
  | .hbm, ⟨18, _⟩ => ⟨S4x4096x12x1, .f32⟩
  | .hbm, ⟨19, _⟩ => ⟨S4x4096x12x1, .f32⟩
  | .hbm, ⟨20, _⟩ => ⟨S4x4096x12x128, .f32⟩
  | .hbm, ⟨21, _⟩ => ⟨S4x4096x12x128, .f32⟩
  | .hbm, ⟨22, _⟩ => ⟨S1x1x1x128, .f32⟩
  | .hbm, ⟨23, _⟩ => ⟨S4x4096x12x128, .f32⟩
  | .hbm, ⟨24, _⟩ => ⟨S4x4096x12x128, .f32⟩
  | .hbm, ⟨25, _⟩ => ⟨S4x4096x12x32, .f32⟩
  | .hbm, ⟨26, _⟩ => ⟨S16, .f32⟩
  | .hbm, ⟨27, _⟩ => ⟨S16, .f32⟩
  | .hbm, ⟨28, _⟩ => ⟨S_, .f32⟩
  | .hbm, ⟨29, _⟩ => ⟨S16, .f32⟩
  | .hbm, ⟨30, _⟩ => ⟨S16, .f32⟩
  | .hbm, ⟨31, _⟩ => ⟨S_, .f32⟩
  | .hbm, ⟨32, _⟩ => ⟨S16, .f32⟩
  | .hbm, ⟨33, _⟩ => ⟨S16, .f32⟩
  | .hbm, ⟨34, _⟩ => ⟨S4096, .f32⟩
  | .hbm, ⟨35, _⟩ => ⟨S4096x1, .f32⟩
  | .hbm, ⟨36, _⟩ => ⟨S1x16, .f32⟩
  | .hbm, ⟨37, _⟩ => ⟨S4096x16, .f32⟩
  | .hbm, ⟨38, _⟩ => ⟨S4096x16, .f32⟩
  | .hbm, ⟨39, _⟩ => ⟨S4096x16, .f32⟩
  | .hbm, ⟨40, _⟩ => ⟨S4096x16, .f32⟩
  | .hbm, ⟨41, _⟩ => ⟨S1x4096x1x16, .f32⟩
  | .hbm, ⟨42, _⟩ => ⟨S4096x16, .f32⟩
  | .hbm, ⟨43, _⟩ => ⟨S1x4096x1x16, .f32⟩
  | .hbm, ⟨44, _⟩ => ⟨S4x4096x12x16, .f32⟩
  | .hbm, ⟨45, _⟩ => ⟨S4x4096x12x16, .f32⟩
  | .hbm, ⟨46, _⟩ => ⟨S4x4096x12x16, .f32⟩
  | .hbm, ⟨47, _⟩ => ⟨S4x4096x12x16, .f32⟩
  | .hbm, ⟨48, _⟩ => ⟨S4x4096x12x16, .f32⟩
  | .hbm, ⟨49, _⟩ => ⟨S4x4096x12x16, .f32⟩
  | .hbm, ⟨50, _⟩ => ⟨S4x4096x12x16, .f32⟩
  | .hbm, ⟨51, _⟩ => ⟨S4x4096x12x16, .f32⟩
  | .hbm, ⟨52, _⟩ => ⟨S4x4096x12x16, .f32⟩
  | .hbm, ⟨53, _⟩ => ⟨S4x4096x12x16, .f32⟩
  | .hbm, ⟨54, _⟩ => ⟨S4x4096x12x16, .f32⟩
  | .hbm, ⟨55, _⟩ => ⟨S4x4096x12x16, .f32⟩
  | .hbm, ⟨56, _⟩ => ⟨S4x4096x12x32, .f32⟩
  | .hbm, ⟨57, _⟩ => ⟨S4x4096x12x96, .f32⟩
  | .hbm, ⟨58, _⟩ => ⟨S4x4096x12x128, .f32⟩
  | .hbm, ⟨59, _⟩ => ⟨S4x4096x12x128, .f32⟩
  | .hbm, ⟨60, _⟩ => ⟨S4x4096x12x128, .f32⟩
  | .hbm, ⟨61, _⟩ => ⟨S_, .f32⟩
  | .hbm, ⟨62, _⟩ => ⟨S4x4096x12, .f32⟩
  | .hbm, ⟨63, _⟩ => ⟨S4x4096x12x1, .f32⟩
  | .hbm, ⟨64, _⟩ => ⟨S_, .f32⟩
  | .hbm, ⟨65, _⟩ => ⟨S4x4096x12x1, .f32⟩
  | .hbm, ⟨66, _⟩ => ⟨S4x4096x12x1, .f32⟩
  | .hbm, ⟨67, _⟩ => ⟨S_, .f32⟩
  | .hbm, ⟨68, _⟩ => ⟨S4x4096x12x1, .f32⟩
  | .hbm, ⟨69, _⟩ => ⟨S4x4096x12x1, .f32⟩
  | .hbm, ⟨70, _⟩ => ⟨S4x4096x12x1, .f32⟩
  | .hbm, ⟨71, _⟩ => ⟨S4x4096x12x128, .f32⟩
  | .hbm, ⟨72, _⟩ => ⟨S4x4096x12x128, .f32⟩
  | .hbm, ⟨73, _⟩ => ⟨S1x1x1x128, .f32⟩
  | .hbm, ⟨74, _⟩ => ⟨S4x4096x12x128, .f32⟩
  | .hbm, ⟨75, _⟩ => ⟨S4x4096x12x128, .f32⟩
  | .hbm, ⟨76, _⟩ => ⟨S4x4096x12x32, .f32⟩
  | .hbm, ⟨77, _⟩ => ⟨S16, .f32⟩
  | .hbm, ⟨78, _⟩ => ⟨S16, .f32⟩
  | .hbm, ⟨79, _⟩ => ⟨S_, .f32⟩
  | .hbm, ⟨80, _⟩ => ⟨S16, .f32⟩
  | .hbm, ⟨81, _⟩ => ⟨S16, .f32⟩
  | .hbm, ⟨82, _⟩ => ⟨S_, .f32⟩
  | .hbm, ⟨83, _⟩ => ⟨S16, .f32⟩
  | .hbm, ⟨84, _⟩ => ⟨S16, .f32⟩
  | .hbm, ⟨85, _⟩ => ⟨S4096, .f32⟩
  | .hbm, ⟨86, _⟩ => ⟨S4096x1, .f32⟩
  | .hbm, ⟨87, _⟩ => ⟨S1x16, .f32⟩
  | .hbm, ⟨88, _⟩ => ⟨S4096x16, .f32⟩
  | .hbm, ⟨89, _⟩ => ⟨S4096x16, .f32⟩
  | .hbm, ⟨90, _⟩ => ⟨S4096x16, .f32⟩
  | .hbm, ⟨91, _⟩ => ⟨S4096x16, .f32⟩
  | .hbm, ⟨92, _⟩ => ⟨S1x4096x1x16, .f32⟩
  | .hbm, ⟨93, _⟩ => ⟨S4096x16, .f32⟩
  | .hbm, ⟨94, _⟩ => ⟨S1x4096x1x16, .f32⟩
  | .hbm, ⟨95, _⟩ => ⟨S4x4096x12x16, .f32⟩
  | .hbm, ⟨96, _⟩ => ⟨S4x4096x12x16, .f32⟩
  | .hbm, ⟨97, _⟩ => ⟨S4x4096x12x16, .f32⟩
  | .hbm, ⟨98, _⟩ => ⟨S4x4096x12x16, .f32⟩
  | .hbm, ⟨99, _⟩ => ⟨S4x4096x12x16, .f32⟩
  | .hbm, ⟨100, _⟩ => ⟨S4x4096x12x16, .f32⟩
  | .hbm, ⟨101, _⟩ => ⟨S4x4096x12x16, .f32⟩
  | .hbm, ⟨102, _⟩ => ⟨S4x4096x12x16, .f32⟩
  | .hbm, ⟨103, _⟩ => ⟨S4x4096x12x16, .f32⟩
  | .hbm, ⟨104, _⟩ => ⟨S4x4096x12x16, .f32⟩
  | .hbm, ⟨105, _⟩ => ⟨S4x4096x12x16, .f32⟩
  | .hbm, ⟨106, _⟩ => ⟨S4x4096x12x16, .f32⟩
  | .hbm, ⟨107, _⟩ => ⟨S4x4096x12x32, .f32⟩
  | .hbm, ⟨108, _⟩ => ⟨S4x4096x12x96, .f32⟩
  | .hbm, ⟨109, _⟩ => ⟨S4x4096x12x128, .f32⟩
  | .hbm, ⟨110, _⟩ => ⟨S16384x1536, .f32⟩
  | .hbm, ⟨111, _⟩ => ⟨S16384x1536, .f32⟩
  | .hbm, ⟨112, _⟩ => ⟨S16384x3072, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_2 : Ref sig .tc := ⟨.hbm, 28, rfl⟩
abbrev main_v21 : Ref sig .tc := ⟨.hbm, 29, rfl⟩
abbrev main_v22 : Ref sig .tc := ⟨.hbm, 30, rfl⟩
abbrev main_cst_3 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_cst_4 : Ref sig .tc := ⟨.hbm, 61, rfl⟩
abbrev main_v52 : Ref sig .tc := ⟨.hbm, 62, rfl⟩
abbrev main_v53 : Ref sig .tc := ⟨.hbm, 63, rfl⟩
abbrev main_cst_5 : Ref sig .tc := ⟨.hbm, 64, rfl⟩
abbrev main_v54 : Ref sig .tc := ⟨.hbm, 65, rfl⟩
abbrev main_v55 : Ref sig .tc := ⟨.hbm, 66, rfl⟩
abbrev main_cst_6 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_cst_7 : Ref sig .tc := ⟨.hbm, 79, rfl⟩
abbrev main_v67 : Ref sig .tc := ⟨.hbm, 80, rfl⟩
abbrev main_v68 : Ref sig .tc := ⟨.hbm, 81, rfl⟩
abbrev main_cst_8 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_v83 : Ref sig .tc := ⟨.hbm, 97, rfl⟩
abbrev main_v84 : Ref sig .tc := ⟨.hbm, 98, rfl⟩
abbrev main_v85 : Ref sig .tc := ⟨.hbm, 99, rfl⟩
abbrev main_v86 : Ref sig .tc := ⟨.hbm, 100, rfl⟩
abbrev main_v87 : Ref sig .tc := ⟨.hbm, 101, rfl⟩
abbrev main_v88 : Ref sig .tc := ⟨.hbm, 102, rfl⟩
abbrev main_v89 : Ref sig .tc := ⟨.hbm, 103, rfl⟩
abbrev main_v90 : Ref sig .tc := ⟨.hbm, 104, rfl⟩
abbrev main_v91 : Ref sig .tc := ⟨.hbm, 105, rfl⟩
abbrev main_v92 : Ref sig .tc := ⟨.hbm, 106, rfl⟩
abbrev main_v93 : Ref sig .tc := ⟨.hbm, 107, rfl⟩
abbrev main_v94 : Ref sig .tc := ⟨.hbm, 108, rfl⟩
abbrev main_v95 : Ref sig .tc := ⟨.hbm, 109, rfl⟩
abbrev main_v96 : Ref sig .tc := ⟨.hbm, 110, rfl⟩
abbrev main_v97 : Ref sig .tc := ⟨.hbm, 111, rfl⟩
abbrev main_v98 : Ref sig .tc := ⟨.hbm, 112, rfl⟩

abbrev nD : Nat := 1
abbrev τ : Topo := Topo.v7x

variable {F : FTy → Type} [FloatOps F]
-- ==== Kernel15.lean ====
abbrev S4x4096x2048 : Shape := ⟨3, ![4, 4096, 2048]⟩
abbrev S2048x15168 : Shape := ⟨2, ![2048, 15168]⟩
abbrev S2048x64 : Shape := ⟨2, ![2048, 64]⟩
abbrev S_ : Shape := ⟨0, ![]⟩
abbrev S2048x128 : Shape := ⟨2, ![2048, 128]⟩
abbrev S16384x2048 : Shape := ⟨2, ![16384, 2048]⟩
abbrev S16384x128 : Shape := ⟨2, ![16384, 128]⟩
abbrev S1024x2048 : Shape := ⟨2, ![1024, 2048]⟩
abbrev S1024x128 : Shape := ⟨2, ![1024, 128]⟩

abbrev nBuf : Space → Nat
  | .hbm => 10
  | .vmem => 5
  | .smem => 0
  | _ => 0

abbrev bufTy : (tb : Table) → Fin (tcTables nBuf tb) → BufTy
  | .hbm, ⟨0, _⟩ => ⟨S4x4096x2048, .f32⟩
  | .hbm, ⟨1, _⟩ => ⟨S2048x15168, .f32⟩
  | .hbm, ⟨2, _⟩ => ⟨S2048x64, .f32⟩
  | .hbm, ⟨3, _⟩ => ⟨S_, .i32⟩
  | .hbm, ⟨4, _⟩ => ⟨S_, .f32⟩
  | .hbm, ⟨5, _⟩ => ⟨S2048x128, .f32⟩
  | .hbm, ⟨6, _⟩ => ⟨S2048x128, .bf16⟩
  | .hbm, ⟨7, _⟩ => ⟨S16384x2048, .f32⟩
  | .hbm, ⟨8, _⟩ => ⟨S16384x2048, .bf16⟩
  | .hbm, ⟨9, _⟩ => ⟨S16384x128, .f32⟩
  | .local _ .vmem, ⟨0, _⟩ => ⟨S1024x2048, .bf16⟩
  | .local _ .vmem, ⟨1, _⟩ => ⟨S1024x2048, .bf16⟩
  | .local _ .vmem, ⟨2, _⟩ => ⟨S2048x128, .bf16⟩
  | .local _ .vmem, ⟨3, _⟩ => ⟨S1024x128, .f32⟩
  | .local _ .vmem, ⟨4, _⟩ => ⟨S1024x128, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference15Ideal.lean ====
abbrev S4x4096x2048 : Shape := ⟨3, ![4, 4096, 2048]⟩
abbrev S2048x15168 : Shape := ⟨2, ![2048, 15168]⟩
abbrev S4x4096x15168 : Shape := ⟨3, ![4, 4096, 15168]⟩
abbrev S4x4096x64 : Shape := ⟨3, ![4, 4096, 64]⟩
abbrev S_ : Shape := ⟨0, ![]⟩
abbrev S4x4096x128 : Shape := ⟨3, ![4, 4096, 128]⟩
abbrev S16384x128 : Shape := ⟨2, ![16384, 128]⟩

abbrev nBuf : Space → Nat
  | .hbm => 8
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S2048x15168, .f32⟩
  | .hbm, ⟨2, _⟩ => ⟨S4x4096x15168, .f32⟩
  | .hbm, ⟨3, _⟩ => ⟨S4x4096x64, .f32⟩
  | .hbm, ⟨4, _⟩ => ⟨S_, .i32⟩
  | .hbm, ⟨5, _⟩ => ⟨S_, .f32⟩
  | .hbm, ⟨6, _⟩ => ⟨S4x4096x128, .f32⟩
  | .hbm, ⟨7, _⟩ => ⟨S16384x128, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_call0_v0 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== Kernel16.lean ====
abbrev S4x4096x2048 : Shape := ⟨3, ![4, 4096, 2048]⟩
abbrev S2048 : Shape := ⟨1, ![2048]⟩
abbrev S4x1x2048 : Shape := ⟨3, ![4, 1, 2048]⟩
abbrev S16384x2048 : Shape := ⟨2, ![16384, 2048]⟩
abbrev S1x2048 : Shape := ⟨2, ![1, 2048]⟩
abbrev S512x2048 : Shape := ⟨2, ![512, 2048]⟩
abbrev S1x1x2048 : Shape := ⟨3, ![1, 1, 2048]⟩
abbrev S512 : Shape := ⟨1, ![512]⟩
abbrev S512x1 : Shape := ⟨2, ![512, 1]⟩

abbrev nBuf : Space → Nat
  | .hbm => 7
  | .vmem => 9
  | .smem => 0
  | _ => 0

abbrev bufTy : (tb : Table) → Fin (tcTables nBuf tb) → BufTy
  | .hbm, ⟨0, _⟩ => ⟨S4x4096x2048, .f32⟩
  | .hbm, ⟨1, _⟩ => ⟨S2048, .f32⟩
  | .hbm, ⟨2, _⟩ => ⟨S4x1x2048, .f32⟩
  | .hbm, ⟨3, _⟩ => ⟨S4x1x2048, .f32⟩
  | .hbm, ⟨4, _⟩ => ⟨S16384x2048, .f32⟩
  | .hbm, ⟨5, _⟩ => ⟨S1x2048, .f32⟩
  | .hbm, ⟨6, _⟩ => ⟨S16384x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S512x2048, .bf16⟩
  | .local _ .vmem, ⟨8, _⟩ => ⟨S512x2048, .bf16⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference16Ideal.lean ====
abbrev S4x4096x2048 : Shape := ⟨3, ![4, 4096, 2048]⟩
abbrev S2048 : Shape := ⟨1, ![2048]⟩
abbrev S4x1x2048 : Shape := ⟨3, ![4, 1, 2048]⟩
abbrev S_ : Shape := ⟨0, ![]⟩
abbrev S4x4096 : Shape := ⟨2, ![4, 4096]⟩
abbrev S4x4096x1 : Shape := ⟨3, ![4, 4096, 1]⟩
abbrev S1x1x2048 : Shape := ⟨3, ![1, 1, 2048]⟩
abbrev S16384x2048 : Shape := ⟨2, ![16384, 2048]⟩

abbrev nBuf : Space → Nat
  | .hbm => 29
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S2048, .f32⟩
  | .hbm, ⟨2, _⟩ => ⟨S4x1x2048, .f32⟩
  | .hbm, ⟨3, _⟩ => ⟨S4x1x2048, .f32⟩
  | .hbm, ⟨4, _⟩ => ⟨S4x4096x2048, .f32⟩
  | .hbm, ⟨5, _⟩ => ⟨S_, .f32⟩
  | .hbm, ⟨6, _⟩ => ⟨S4x4096, .f32⟩
  | .hbm, ⟨7, _⟩ => ⟨S4x4096x1, .f32⟩
  | .hbm, ⟨8, _⟩ => ⟨S_, .f32⟩
  | .hbm, ⟨9, _⟩ => ⟨S4x4096x1, .f32⟩
  | .hbm, ⟨10, _⟩ => ⟨S4x4096x1, .f32⟩
  | .hbm, ⟨11, _⟩ => ⟨S_, .f32⟩
  | .hbm, ⟨12, _⟩ => ⟨S4x4096x1, .f32⟩
  | .hbm, ⟨13, _⟩ => ⟨S4x4096x1, .f32⟩
  | .hbm, ⟨14, _⟩ => ⟨S4x4096x1, .f32⟩
  | .hbm, ⟨15, _⟩ => ⟨S4x4096x2048, .f32⟩
  | .hbm, ⟨16, _⟩ => ⟨S4x4096x2048, .f32⟩
  | .hbm, ⟨17, _⟩ => ⟨S1x1x2048, .f32⟩
  | .hbm, ⟨18, _⟩ => ⟨S4x4096x2048, .f32⟩
  | .hbm, ⟨19, _⟩ => ⟨S4x4096x2048, .f32⟩
  | .hbm, ⟨20, _⟩ => ⟨S_, .f32⟩
  | .hbm, ⟨21, _⟩ => ⟨S4x1x2048, .f32⟩
  | .hbm, ⟨22, _⟩ => ⟨S4x1x2048, .f32⟩
  | .hbm, ⟨23, _⟩ => ⟨S4x4096x2048, .f32⟩
  | .hbm, ⟨24, _⟩ => ⟨S4x4096x2048, .f32⟩
  | .hbm, ⟨25, _⟩ => ⟨S4x4096x2048, .f32⟩
  | .hbm, ⟨26, _⟩ => ⟨S4x4096x2048, .f32⟩
  | .hbm, ⟨27, _⟩ => ⟨S16384x2048, .f32⟩
  | .hbm, ⟨28, _⟩ => ⟨S16384x2048, .bf16⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩

abbrev nD : Nat := 1
abbrev τ : Topo := Topo.v7x

variable {F : FTy → Type} [FloatOps F]
-- ==== Kernel17.lean ====
abbrev S4x4096x4x128 : Shape := ⟨4, ![4, 4096, 4, 128]⟩
abbrev S4x4096x4 : Shape := ⟨3, ![4, 4096, 4]⟩
abbrev S16384x512 : Shape := ⟨2, ![16384, 512]⟩
abbrev S16384x4 : Shape := ⟨2, ![16384, 4]⟩
abbrev S512x512 : Shape := ⟨2, ![512, 512]⟩
abbrev S512x4 : Shape := ⟨2, ![512, 4]⟩
abbrev S512x1 : Shape := ⟨2, ![512, 1]⟩
abbrev S512x128 : Shape := ⟨2, ![512, 128]⟩

abbrev nBuf : Space → Nat
  | .hbm => 13
  | .vmem => 14
  | .smem => 0
  | _ => 0

abbrev bufTy : (tb : Table) → Fin (tcTables nBuf tb) → BufTy
  | .hbm, ⟨0, _⟩ => ⟨S4x4096x4x128, .f32⟩
  | .hbm, ⟨1, _⟩ => ⟨S4x4096x4x128, .f32⟩
  | .hbm, ⟨2, _⟩ => ⟨S4x4096x4x128, .f32⟩
  | .hbm, ⟨3, _⟩ => ⟨S4x4096x4, .f32⟩
  | .hbm, ⟨4, _⟩ => ⟨S4x4096x4, .f32⟩
  | .hbm, ⟨5, _⟩ => ⟨S4x4096x4, .f32⟩
  | .hbm, ⟨6, _⟩ => ⟨S16384x512, .f32⟩
  | .hbm, ⟨7, _⟩ => ⟨S16384x512, .f32⟩
  | .hbm, ⟨8, _⟩ => ⟨S16384x512, .f32⟩
  | .hbm, ⟨9, _⟩ => ⟨S16384x4, .f32⟩
  | .hbm, ⟨10, _⟩ => ⟨S16384x4, .f32⟩
  | .hbm, ⟨11, _⟩ => ⟨S16384x4, .f32⟩
  | .hbm, ⟨12, _⟩ => ⟨S16384x512, .bf16⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x4, .f32⟩
  | .local _ .vmem, ⟨7, _⟩ => ⟨S512x4, .f32⟩
  | .local _ .vmem, ⟨8, _⟩ => ⟨S512x4, .f32⟩
  | .local _ .vmem, ⟨9, _⟩ => ⟨S512x4, .f32⟩
  | .local _ .vmem, ⟨10, _⟩ => ⟨S512x4, .f32⟩
  | .local _ .vmem, ⟨11, _⟩ => ⟨S512x4, .f32⟩
  | .local _ .vmem, ⟨12, _⟩ => ⟨S512x512, .bf16⟩
  | .local _ .vmem, ⟨13, _⟩ => ⟨S512x512, .bf16⟩
  | _, _ => ⟨S4x4096x4x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x4 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x4 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x4 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference17Ideal.lean ====
abbrev S4x4096x4x128 : Shape := ⟨4, ![4, 4096, 4, 128]⟩
abbrev S4x4096x4 : Shape := ⟨3, ![4, 4096, 4]⟩
abbrev S1x4x4096x4 : Shape := ⟨4, ![1, 4, 4096, 4]⟩
abbrev S3x4x4096x4 : Shape := ⟨4, ![3, 4, 4096, 4]⟩
abbrev S_ : Shape := ⟨0, ![]⟩
abbrev S3x4x4096x4x1 : Shape := ⟨5, ![3, 4, 4096, 4, 1]⟩
abbrev S1x4x4096x4x128 : Shape := ⟨5, ![1, 4, 4096, 4, 128]⟩
abbrev S3x4x4096x4x128 : Shape := ⟨5, ![3, 4, 4096, 4, 128]⟩
abbrev S16384x512 : Shape := ⟨2, ![16384, 512]⟩

abbrev nBuf : Space → Nat
  | .hbm => 35
  | .vmem => 0
  | .smem => 0
  | _ => 0

abbrev bufTy : (tb : Table) → Fin (tcTables nBuf tb) → BufTy
  | .hbm, ⟨0, _⟩ => ⟨S4x4096x4x128, .f32⟩
  | .hbm, ⟨1, _⟩ => ⟨S4x4096x4x128, .f32⟩
  | .hbm, ⟨2, _⟩ => ⟨S4x4096x4x128, .f32⟩
  | .hbm, ⟨3, _⟩ => ⟨S4x4096x4, .f32⟩
  | .hbm, ⟨4, _⟩ => ⟨S4x4096x4, .f32⟩
  | .hbm, ⟨5, _⟩ => ⟨S4x4096x4, .f32⟩
  | .hbm, ⟨6, _⟩ => ⟨S1x4x4096x4, .f32⟩
  | .hbm, ⟨7, _⟩ => ⟨S1x4x4096x4, .f32⟩
  | .hbm, ⟨8, _⟩ => ⟨S1x4x4096x4, .f32⟩
  | .hbm, ⟨9, _⟩ => ⟨S3x4x4096x4, .f32⟩
  | .hbm, ⟨10, _⟩ => ⟨S_, .f32⟩
  | .hbm, ⟨11, _⟩ => ⟨S4x4096x4, .f32⟩
  | .hbm, ⟨12, _⟩ => ⟨S_, .f32⟩
  | .hbm, ⟨13, _⟩ => ⟨S4x4096x4, .f32⟩
  | .hbm, ⟨14, _⟩ => ⟨S4x4096x4, .f32⟩
  | .hbm, ⟨15, _⟩ => ⟨S1x4x4096x4, .f32⟩
  | .hbm, ⟨16, _⟩ => ⟨S3x4x4096x4, .f32⟩
  | .hbm, ⟨17, _⟩ => ⟨S3x4x4096x4, .f32⟩
  | .hbm, ⟨18, _⟩ => ⟨S3x4x4096x4, .f32⟩
  | .hbm, ⟨19, _⟩ => ⟨S_, .f32⟩
  | .hbm, ⟨20, _⟩ => ⟨S4x4096x4, .f32⟩
  | .hbm, ⟨21, _⟩ => ⟨S1x4x4096x4, .f32⟩
  | .hbm, ⟨22, _⟩ => ⟨S3x4x4096x4, .f32⟩
  | .hbm, ⟨23, _⟩ => ⟨S3x4x4096x4, .f32⟩
  | .hbm, ⟨24, _⟩ => ⟨S3x4x4096x4x1, .f32⟩
  | .hbm, ⟨25, _⟩ => ⟨S1x4x4096x4x128, .f32⟩
  | .hbm, ⟨26, _⟩ => ⟨S1x4x4096x4x128, .f32⟩
  | .hbm, ⟨27, _⟩ => ⟨S1x4x4096x4x128, .f32⟩
  | .hbm, ⟨28, _⟩ => ⟨S3x4x4096x4x128, .f32⟩
  | .hbm, ⟨29, _⟩ => ⟨S3x4x4096x4x128, .f32⟩
  | .hbm, ⟨30, _⟩ => ⟨S3x4x4096x4x128, .f32⟩
  | .hbm, ⟨31, _⟩ => ⟨S_, .f32⟩
  | .hbm, ⟨32, _⟩ => ⟨S4x4096x4x128, .f32⟩
  | .hbm, ⟨33, _⟩ => ⟨S16384x512, .f32⟩
  | .hbm, ⟨34, _⟩ => ⟨S16384x512, .bf16⟩
  | _, _ => ⟨S4x4096x4x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_2 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩

abbrev nD : Nat := 1
abbrev τ : Topo := Topo.v7x

variable {F : FTy → Type} [FloatOps F]
-- ==== Kernel18.lean ====
abbrev S4x2048 : Shape := ⟨2, ![4, 2048]⟩
abbrev S2x2048x12288 : Shape := ⟨3, ![2, 2048, 12288]⟩
abbrev S2x12288 : Shape := ⟨2, ![2, 12288]⟩
abbrev S_ : Shape := ⟨0, ![]⟩
abbrev S8x2048 : Shape := ⟨2, ![8, 2048]⟩
abbrev S2x1x12288 : Shape := ⟨3, ![2, 1, 12288]⟩
abbrev S2x8x12288 : Shape := ⟨3, ![2, 8, 12288]⟩
abbrev S1x2048x1024 : Shape := ⟨3, ![1, 2048, 1024]⟩
abbrev S1x1x1024 : Shape := ⟨3, ![1, 1, 1024]⟩
abbrev S1x8x1024 : Shape := ⟨3, ![1, 8, 1024]⟩
abbrev S2048x1024 : Shape := ⟨2, ![2048, 1024]⟩
abbrev S8x1024 : Shape := ⟨2, ![8, 1024]⟩
abbrev S1x1024 : Shape := ⟨2, ![1, 1024]⟩

abbrev nBuf : Space → Nat
  | .hbm => 8
  | .vmem => 7
  | .smem => 0
  | _ => 0

abbrev bufTy : (tb : Table) → Fin (tcTables nBuf tb) → BufTy
  | .hbm, ⟨0, _⟩ => ⟨S4x2048, .f32⟩
  | .hbm, ⟨1, _⟩ => ⟨S2x2048x12288, .f32⟩
  | .hbm, ⟨2, _⟩ => ⟨S2x12288, .f32⟩
  | .hbm, ⟨3, _⟩ => ⟨S_, .i32⟩
  | .hbm, ⟨4, _⟩ => ⟨S_, .f32⟩
  | .hbm, ⟨5, _⟩ => ⟨S8x2048, .f32⟩
  | .hbm, ⟨6, _⟩ => ⟨S2x1x12288, .f32⟩
  | .hbm, ⟨7, _⟩ => ⟨S2x8x12288, .f32⟩
  | .local _ .vmem, ⟨0, _⟩ => ⟨S8x2048, .f32⟩
  | .local _ .vmem, ⟨1, _⟩ => ⟨S1x2048x1024, .f32⟩
  | .local _ .vmem, ⟨2, _⟩ => ⟨S1x2048x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x8x1024, .f32⟩
  | .local _ .vmem, ⟨6, _⟩ => ⟨S1x8x1024, .f32⟩
  | _, _ => ⟨S4x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference18Ideal.lean ====
abbrev S4x2048 : Shape := ⟨2, ![4, 2048]⟩
abbrev S2x2048x12288 : Shape := ⟨3, ![2, 2048, 12288]⟩
abbrev S2x12288 : Shape := ⟨2, ![2, 12288]⟩
abbrev S_ : Shape := ⟨0, ![]⟩
abbrev S8x2048 : Shape := ⟨2, ![8, 2048]⟩
abbrev S1x2048x12288 : Shape := ⟨3, ![1, 2048, 12288]⟩
abbrev S2048x12288 : Shape := ⟨2, ![2048, 12288]⟩
abbrev S8x12288 : Shape := ⟨2, ![8, 12288]⟩
abbrev S1x12288 : Shape := ⟨2, ![1, 12288]⟩
abbrev S12288 : Shape := ⟨1, ![12288]⟩
abbrev S1x8x12288 : Shape := ⟨3, ![1, 8, 12288]⟩
abbrev S2x8x12288 : Shape := ⟨3, ![2, 8, 12288]⟩

abbrev nBuf : Space → Nat
  | .hbm => 25
  | .vmem => 0
  | .smem => 0
  | _ => 0

abbrev bufTy : (tb : Table) → Fin (tcTables nBuf tb) → BufTy
  | .hbm, ⟨0, _⟩ => ⟨S4x2048, .f32⟩
  | .hbm, ⟨1, _⟩ => ⟨S2x2048x12288, .f32⟩
  | .hbm, ⟨2, _⟩ => ⟨S2x12288, .f32⟩
  | .hbm, ⟨3, _⟩ => ⟨S_, .i32⟩
  | .hbm, ⟨4, _⟩ => ⟨S_, .f32⟩
  | .hbm, ⟨5, _⟩ => ⟨S8x2048, .f32⟩
  | .hbm, ⟨6, _⟩ => ⟨S1x2048x12288, .f32⟩
  | .hbm, ⟨7, _⟩ => ⟨S2048x12288, .f32⟩
  | .hbm, ⟨8, _⟩ => ⟨S8x12288, .f32⟩
  | .hbm, ⟨9, _⟩ => ⟨S1x12288, .f32⟩
  | .hbm, ⟨10, _⟩ => ⟨S12288, .f32⟩
  | .hbm, ⟨11, _⟩ => ⟨S1x12288, .f32⟩
  | .hbm, ⟨12, _⟩ => ⟨S8x12288, .f32⟩
  | .hbm, ⟨13, _⟩ => ⟨S8x12288, .f32⟩
  | .hbm, ⟨14, _⟩ => ⟨S1x2048x12288, .f32⟩
  | .hbm, ⟨15, _⟩ => ⟨S2048x12288, .f32⟩
  | .hbm, ⟨16, _⟩ => ⟨S8x12288, .f32⟩
  | .hbm, ⟨17, _⟩ => ⟨S1x12288, .f32⟩
  | .hbm, ⟨18, _⟩ => ⟨S12288, .f32⟩
  | .hbm, ⟨19, _⟩ => ⟨S1x12288, .f32⟩
  | .hbm, ⟨20, _⟩ => ⟨S8x12288, .f32⟩
  | .hbm, ⟨21, _⟩ => ⟨S8x12288, .f32⟩
  | .hbm, ⟨22, _⟩ => ⟨S1x8x12288, .f32⟩
  | .hbm, ⟨23, _⟩ => ⟨S1x8x12288, .f32⟩
  | .hbm, ⟨24, _⟩ => ⟨S2x8x12288, .f32⟩
  | _, _ => ⟨S4x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩

abbrev nD : Nat := 1
abbrev τ : Topo := Topo.v7x

variable {F : FTy → Type} [FloatOps F]
-- ==== Proof.Softmax.lean ====
/- The arithmetic of the softmax over the extended reals, free of any program: sums of exponentials times arbitrary
   extended reals, rescaled from one reference maximum to another, added up over chunks of keys, and divided by the
   sum of the exponentials. The weights are positive reals, so a value may be infinite. -/
module

public import Idealize.ShloMosaic.PureOps.Ideal
public import Idealize.ShloMosaic.PureOps.Ideal.Laws

@[expose] public section

noncomputable section

namespace Cert.Softmax

open Idealize.ShloMosaic

variable {ι κ : Type*}

/-- A nonnegative real distributes over a sum of extended reals. -/
theorem coe_mul_sum (a : ℝ) (ha : 0 ≤ a) (s : Finset ι) (f : ι → EReal) :
    (a : EReal) * ∑ i ∈ s, f i = ∑ i ∈ s, (a : EReal) * f i := by
  classical
  induction s using Finset.induction_on with
  | empty => simp
  | insert i s hi ih =>
    rw [Finset.sum_insert hi, Finset.sum_insert hi,
      EReal.left_distrib_of_nonneg_of_ne_top (EReal.coe_nonneg.mpr ha) (EReal.coe_ne_top a), ih]

/-- The coercion of a sum of reals is the sum of the coercions. -/
theorem coe_sum (s : Finset ι) (f : ι → ℝ) : ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

/-- The maximum of finitely many reals, taken from `-∞`, is a real (there is at least one). -/
theorem fold_max_real (s : Finset ι) (hs : s.Nonempty) (f : ι → ℝ) :
    ∃ r : ℝ, s.fold max (⊥ : EReal) (fun i => (f i : EReal)) = r := by
  classical
  induction hs using Finset.Nonempty.cons_induction with
  | singleton a => exact ⟨f a, by rw [Finset.fold_singleton]; exact max_bot_right _⟩
  | cons a s ha hs ih =>
    obtain ⟨r, hr⟩ := ih
    exact ⟨max (f a) r, by rw [Finset.fold_cons, hr]; exact EReal.coe_strictMono.monotone.map_max.symm⟩

/-- The maximum of two reals, as extended reals, is a real. -/
theorem max_real (a b : ℝ) : max (a : EReal) b = ((max a b : ℝ) : EReal) := EReal.coe_strictMono.monotone.map_max.symm

variable [Fintype ι] [Fintype κ]

/-- The sum of `2 ^ (s i - M)` times the values: what an accumulator holds for one chunk of keys. -/
def expSum (s : ι → ℝ) (M : ℝ) (v : ι → EReal) : EReal := ∑ i, (((2 : ℝ) ^ (s i - M) : ℝ) : EReal) * v i

/-- Moving the reference maximum from `M` to `M'` rescales the sum by `2 ^ (M - M')`. -/
theorem rescale (s : ι → ℝ) (M M' : ℝ) (v : ι → EReal) :
    (((2 : ℝ) ^ (M - M') : ℝ) : EReal) * expSum s M v = expSum s M' v := by
  unfold expSum
  rw [coe_mul_sum _ (Real.rpow_nonneg (by norm_num) _)]
  refine Finset.sum_congr rfl fun i _ => ?_
  rw [← mul_assoc, ← EReal.coe_mul, ← Real.rpow_add (by norm_num)]
  congr 3
  ring

/-- The softmax weight of key `i` among scores `x`. -/
def weight (x : ι → ℝ) (i : ι) : ℝ := Real.exp (x i) / ∑ j, Real.exp (x j)

theorem sum_exp_pos [Nonempty ι] (x : ι → ℝ) : 0 < ∑ j, Real.exp (x j) :=
  Finset.sum_pos (fun _ _ => Real.exp_pos _) Finset.univ_nonempty

/-- Subtracting one number from every score changes no weight. -/
theorem weight_sub [Nonempty ι] (x : ι → ℝ) (M : ℝ) (i : ι) :
    Real.exp (x i - M) / ∑ j, Real.exp (x j - M) = weight x i := by
  unfold weight
  simp only [Real.exp_sub]
  rw [← Finset.sum_div, div_div_div_cancel_right₀ (Real.exp_ne_zero M)]

/-- The exponential through base two. -/
theorem two_rpow (x : ℝ) : (2 : ℝ) ^ (x * (Real.log 2)⁻¹) = Real.exp x := by
  have h : Real.log 2 ≠ 0 := (Real.log_pos (by norm_num)).ne'
  rw [Real.rpow_def_of_pos (by norm_num)]
  congr 1
  field_simp

/-- A weighted sum of exponentials over the sum of the exponentials is the sum of the softmax weights times the values. -/
theorem div_expSum [Nonempty ι] (x s : ι → ℝ) (hs : ∀ i, s i = x i * (Real.log 2)⁻¹) (M : ℝ) (v : ι → EReal) :
    Ideal.div (expSum s M v) (expSum s M fun _ => 1) = ∑ i, ((weight x i : ℝ) : EReal) * v i := by
  have hM : ∀ i, (2 : ℝ) ^ (s i - M) = Real.exp (x i - M * Real.log 2) := fun i => by
    rw [← two_rpow, hs i]
    congr 1
    have h : Real.log 2 ≠ 0 := (Real.log_pos (by norm_num)).ne'
    field_simp
  have hpos := sum_exp_pos fun i => x i - M * Real.log 2
  have hden : expSum s M (fun _ => (1 : EReal)) = ((∑ i, Real.exp (x i - M * Real.log 2) : ℝ) : EReal) := by
    unfold expSum
    rw [coe_sum]
    exact Finset.sum_congr rfl fun i _ => by rw [mul_one, hM i]
  rw [hden, Ideal.div_coe hpos.ne', one_div, mul_comm]
  unfold expSum
  rw [coe_mul_sum _ (inv_nonneg.mpr hpos.le)]
  refine Finset.sum_congr rfl fun i _ => ?_
  rw [← mul_assoc, ← EReal.coe_mul, hM i, ← weight_sub x (M * Real.log 2) i]
  congr 2
  rw [div_eq_inv_mul]

/-- The weight as the reference computes it: exponentials of the scores less their maximum, divided by their sum. -/
theorem div_exp [Nonempty ι] (x : ι → ℝ) (M : ℝ) (i : ι) :
    Ideal.div (Ideal.exp ((x i : EReal) - M)) (∑ j, Ideal.exp ((x j : EReal) - M)) = ((weight x i : ℝ) : EReal) := by
  have he : ∀ j, Ideal.exp ((x j : EReal) - M) = ((Real.exp (x j - M) : ℝ) : EReal) := fun j => by
    rw [← EReal.coe_sub]; rfl
  have hpos := sum_exp_pos fun i => x i - M
  simp only [he]
  rw [← coe_sum, Ideal.div_coe hpos.ne', ← EReal.coe_mul, ← weight_sub x M i, one_div, div_eq_mul_inv]

end Cert.Softmax

end
-- ==== Proof.MlaBody.lean ====
/- What one grid point of the attention kernel computes, read at a row and a lane. The body goes through the keys in eight
   chunks of 512, keeping a running maximum of the scores and a sum of `2 ^ (score - maximum)` times the values (whose
   upper 128 lanes are ones, so that they add up the denominator); each later chunk rescales the sum to the new maximum.
   The steps are named as vector functions (the printed body is their composition, by `rfl`), each is read at an index
   once, and the invariant goes through the eight chunks. -/
module

public import proofs.«01_k».proof.Proof.Softmax
public import proofs.«01_k».proof.Proof.Gen.KernelIdeal.Frame
public import Idealize.ShloMosaic.Lib.Pipeline.ValueKit
public import Idealize.ShloMosaic.Lib.Pointwise

@[expose] public section

set_option maxRecDepth 16384

noncomputable section

namespace Cert.KernelIdeal.Mla

open Cert.KernelIdeal Cert.KernelIdeal.Gen Idealize.ShloMosaic Idealize.ShloMosaic.TcCoe Idealize.SL.Sem
open Cert.Softmax

section Steps

variable {F : FTy → Type} [FloatOps F] [Named F]

/-- The scores of a block of queries against one chunk of keys. -/
def score (q : FVec F S1024x256 .bf16) (k : Vec F S1x512x256 .bf16) : FVec F S1024x512 .f32 :=
  matmul dot_S1024x256_S512x256_S1024x512_1_1_0_0_n_n none q (shapeCast S512x256 k shapeCasts_S1x512x256_S512x256)
    (constant S1024x512 .f32 0x00000000#32)

/-- The greatest score of each row. -/
def top (s : FVec F S1024x512 .f32) : FVec F S1024x1 .f32 :=
  shapeCast S1024x1 (multiReduction .maximumf [1] S1024 s 0xFF800000#32 reduces_S1024x512_S1024 (.inl rfl) rfl) shapeCasts_S1024_S1024x1

/-- Two to the score less the running maximum. -/
def wts (s : FVec F S1024x512 .f32) (m : FVec F S1024x1 .f32) : FVec F S1024x512 .bf16 :=
  truncf .bf16 (exp2 (subf s (broadcastTo S1024x512 m broadcasts_S1024x1_S1024x512))) bitsLt_bf16_f32

/-- The weights of a chunk times its values. -/
def prod (w : FVec F S1024x512 .bf16) (v : Vec F S1x512x256 .bf16) : FVec F S1024x256 .f32 :=
  matmul dot_S1024x512_S512x256_S1024x256_1_0_0_1_n_n none w (shapeCast S512x256 v shapeCasts_S1x512x256_S512x256)
    (constant S1024x256 .f32 0x00000000#32)

/-- A sum taken from the maximum `m` to the maximum `m'`. -/
def scl (m m' : FVec F S1024x1 .f32) (acc : FVec F S1024x256 .f32) : FVec F S1024x256 .f32 :=
  mulf (broadcastTo S1024x256 (exp2 (subf m m')) broadcasts_S1024x1_S1024x256) acc

/-- The sum after one more chunk: the old one rescaled from `m` to `m'`, and the chunk's own. -/
def next (m m' : FVec F S1024x1 .f32) (acc : FVec F S1024x256 .f32) (s : FVec F S1024x512 .f32) (v : Vec F S1x512x256 .bf16) :
    FVec F S1024x256 .f32 :=
  addf (scl m m' acc) (prod (wts s m') v)

/-- The weighted sum (lanes 0 to 127) over the denominator (lanes 128 to 255). -/
def finish (acc : FVec F S1024x256 .f32) : FVec F S1024x128 .bf16 :=
  truncf .bf16 (divf (extractStridedSlice S1024x128 ![0, 0] acc slices_S1024x256_o0_0_S1024x128)
    (extractStridedSlice S1024x128 ![0, 128] acc slices_S1024x256_o0_128_S1024x128)) bitsLt_bf16_f32

/-- One chunk further, from the running maximum and sum. -/
def step (q : FVec F S1024x256 .bf16) (k v : Vec F S1x512x256 .bf16) (st : FVec F S1024x1 .f32 × FVec F S1024x256 .f32) :
    FVec F S1024x1 .f32 × FVec F S1024x256 .f32 :=
  (maximumf st.1 (top (score q k)), next st.1 (maximumf st.1 (top (score q k))) st.2 (score q k) v)

/-- The first chunk. -/
def start (q : FVec F S1024x256 .bf16) (k v : Vec F S1x512x256 .bf16) : FVec F S1024x1 .f32 × FVec F S1024x256 .f32 :=
  (top (score q k), prod (wts (score q k) (top (score q k))) v)

/-- The whole body, chunk by chunk. -/
def body (q : FVec F S1024x256 .bf16) (k0 k1 k2 k3 k4 k5 k6 k7 v0 v1 v2 v3 v4 v5 v6 v7 : Vec F S1x512x256 .bf16) :
    FVec F S1024x128 .bf16 :=
  finish (step q k7 v7 (step q k6 v6 (step q k5 v5 (step q k4 v4 (step q k3 v3 (step q k2 v2 (step q k1 v1 (start q k0 v0)))))))).2

/-! ### The printed values in these words -/

variable (x : Vec F S1x1024x256 .bf16) (q : FVec F S1024x256 .bf16) (k k' v v' v'' : Vec F S1x512x256 .bf16)
  (s : FVec F S1024x512 .f32) (m : FVec F S1024x1 .f32) (acc : FVec F S1024x256 .f32) (w : FVec F S1024x512 .bf16)

theorem pay3_eq : k0_pay3 x k = score (k0_pay2 x) k := rfl
theorem pay4_eq : k0_pay4 x k = score (k0_pay2 x) k := rfl
theorem pay6_eq : k0_pay6 x k = score (k0_pay2 x) k := rfl
theorem pay10_eq : k0_pay10 q k = score q k := rfl
theorem pay12_eq : k0_pay12 q k = score q k := rfl
theorem pay17_eq : k0_pay17 q k = score q k := rfl
theorem pay19_eq : k0_pay19 q k = score q k := rfl
theorem pay5_eq : k0_pay5 x k = top (score (k0_pay2 x) k) := rfl
theorem pay7_eq : k0_pay7 x k k' = maximumf (top (score (k0_pay2 x) k)) (top (score (k0_pay2 x) k')) := rfl
theorem pay11_eq : k0_pay11 s m = maximumf m (top s) := rfl
theorem pay18_eq : k0_pay18 s m = maximumf m (top s) := rfl
theorem pay13_eq : k0_pay13 q s m k = maximumf (k0_pay11 s m) (top (score q k)) := rfl
theorem pay20_eq : k0_pay20 q s m k = maximumf (k0_pay18 s m) (top (score q k)) := rfl
theorem pay8_eq : k0_pay8 x k k' v = scl (k0_pay5 x k) (k0_pay7 x k k') (prod (wts (k0_pay3 x k) (k0_pay5 x k)) v) := rfl
theorem pay9_eq : k0_pay9 x k k' = wts (k0_pay4 x k') (k0_pay7 x k k') := rfl
theorem pay15_eq : k0_pay15 q s m k = wts (k0_pay10 q k) (k0_pay13 q s m k) := rfl
theorem pay14_eq : k0_pay14 q s m acc w v k v' = scl (k0_pay11 s m) (k0_pay13 q s m k)
    (addf (scl m (k0_pay11 s m) (addf acc (prod w v))) (prod (wts s (k0_pay11 s m)) v')) := rfl
theorem pay21_eq : k0_pay21 q s m acc w (k0_pay16 v) (constant S1024x256 .f32 0x00000000#32) k v' v'' =
    addf (scl (k0_pay18 s m) (k0_pay20 q s m k) (addf (scl m (k0_pay18 s m) (addf acc (prod w v))) (prod (wts s (k0_pay18 s m)) v')))
      (prod (wts (k0_pay17 q k) (k0_pay20 q s m k)) v'') := rfl
theorem pay1_eq : k0_pay1 q s m acc k v v' =
    finish (addf (scl (maximumf m (top s)) (maximumf (maximumf m (top s)) (top (score q k)))
      (addf (scl m (maximumf m (top s)) acc) (prod (wts s (maximumf m (top s))) v)))
      (prod (wts (score q k) (maximumf (maximumf m (top s)) (top (score q k)))) v')) := rfl

/-- The printed body's result is `body` of the chunks it loads. -/
theorem out_eq (x0 : Vec F S1x1024x256 .bf16) (x1 x2 : Vec F S1x4096x256 .bf16) :
    out0_3 x0 x1 x2 = View.canon [⟨r0_9, body (k0_pay2 (View.ld x0 r0_0))
      (View.ld x1 r0_1) (View.ld x1 r0_2) (View.ld x1 r0_3) (View.ld x1 r0_4) (View.ld x1 r0_5) (View.ld x1 r0_6) (View.ld x1 r0_7) (View.ld x1 r0_8)
      (View.ld x2 r0_1) (View.ld x2 r0_2) (View.ld x2 r0_3) (View.ld x2 r0_4) (View.ld x2 r0_5) (View.ld x2 r0_6) (View.ld x2 r0_7) (View.ld x2 r0_8)⟩] := by
  simp only [out0_3, k0_pay22, k0_pay23, k0_pay24, k0_pay25, k0_pay26, pay1_eq, pay21_eq, pay14_eq, pay15_eq, pay9_eq, pay8_eq,
    pay20_eq, pay13_eq, pay18_eq, pay11_eq, pay7_eq, pay5_eq, pay19_eq, pay17_eq, pay12_eq, pay10_eq, pay6_eq, pay4_eq, pay3_eq,
    body, step, start, next]

end Steps

/-! ## The steps at an index -/

/-- The query block as the scores take it: the loaded block times the scale. -/
theorem scaled_at (x : Vec Ideal S1x1024x256 .bf16) (r : Fin 1024) (k : Fin 256) :
    k0_pay2 (F := Ideal) x (ix2 r k) = (show EReal from x (ix3 0 r k)) * (((Real.log 2)⁻¹ * (Real.sqrt 192)⁻¹ : ℝ) : EReal) := by
  have hc : (Named.named (F := Ideal) (φ := .f32) κ "log2e_inv_sqrt_d" 0x3DD53B95#32 : EReal) = (((Real.log 2)⁻¹ * (Real.sqrt 192)⁻¹ : ℝ) : EReal) :=
    IdealRules.named_const.ideal_named_scalar _ _ _ _ rfl
  pointwise [k0_pay2, hc]

theorem score_at (q : FVec Ideal S1024x256 .bf16) (k : Vec Ideal S1x512x256 .bf16) (r : Fin 1024) (j : Fin 512) :
    score q k (ix2 r j) = ∑ l : Fin 256, (show EReal from q (ix2 r l)) * (show EReal from k (ix3 0 j l)) := by
  pointwise [score]

theorem top_at (s : FVec Ideal S1024x512 .f32) (r : Fin 1024) :
    top s (ix2 r 0) = Finset.univ.fold max (⊥ : EReal) fun j : Fin 512 => s (ix2 r j) := by
  have h : Ideal.ofBits .f32 0xFF800000#32 = (⊥ : EReal) := by simp [Ideal.ofBits, Ideal.ieee]
  pointwise [top]
  rw [h]

theorem prod_wts_at (s : FVec Ideal S1024x512 .f32) (m : FVec Ideal S1024x1 .f32) (v : Vec Ideal S1x512x256 .bf16)
    (r : Fin 1024) (d : Fin 256) :
    prod (wts s m) v (ix2 r d) = ∑ j : Fin 512, Ideal.exp2 (s (ix2 r j) - m (ix2 r 0)) * (show EReal from v (ix3 0 j d)) := by
  pointwise [prod, wts]
  rfl

theorem next_at (m m' : FVec Ideal S1024x1 .f32) (acc : FVec Ideal S1024x256 .f32) (s : FVec Ideal S1024x512 .f32)
    (v : Vec Ideal S1x512x256 .bf16) (r : Fin 1024) (d : Fin 256) :
    next m m' acc s v (ix2 r d) = Ideal.exp2 (m (ix2 r 0) - m' (ix2 r 0)) * acc (ix2 r d) + prod (wts s m') v (ix2 r d) := by
  pointwise [next, scl]
  rfl

theorem finish_at (acc : FVec Ideal S1024x256 .f32) (r : Fin 1024) (d : Fin 128) :
    finish acc (ix2 r d) = Ideal.div (acc (ix2 r ⟨d, by omega⟩)) (acc (ix2 r ⟨128 + d, by omega⟩)) := by
  pointwise [finish]

end Cert.KernelIdeal.Mla

end
-- ==== Proof.MlaRow.lean ====
/- One row of the attention kernel's block: whatever real scores the row's query has with the 4096 keys, the running
   maximum is always a real and the accumulated sum is the sum of `2 ^ (score - maximum)` times the values met so far, so
   the quotient at the end is the softmax of the scores times the values. -/
module

public import proofs.«01_k».proof.Proof.MlaBody

@[expose] public section

set_option maxRecDepth 16384

noncomputable section

namespace Cert.KernelIdeal.Mla

open Cert.KernelIdeal Cert.KernelIdeal.Gen Idealize.ShloMosaic Idealize.ShloMosaic.TcCoe Idealize.SL.Sem
open Cert.Softmax

/-- A lane of a chunk of values. -/
abbrev lane (v : Vec Ideal S1x512x256 .bf16) (d : Fin 256) : Fin 512 → EReal := fun j => v (ix3 0 j d)

/-- Row `r` of a running maximum and sum: the maximum is a real `M`, the sum is `A M`, and `A` is a sum of exponentials (it
    goes from one maximum to another by the power of two of their difference). -/
def Holds (r : Fin 1024) (st : FVec Ideal S1024x1 .f32 × FVec Ideal S1024x256 .f32) (A : ℝ → Fin 256 → EReal) : Prop :=
  (∀ M M' d, (((2 : ℝ) ^ (M - M') : ℝ) : EReal) * A M d = A M' d)
    ∧ ∃ M : ℝ, st.1 (ix2 r 0) = ((M : ℝ) : EReal) ∧ ∀ d, st.2 (ix2 r d) = A M d

/-- A power of two of a difference of reals. -/
theorem exp2_sub (a b : ℝ) : Ideal.exp2 ((a : EReal) - b) = (((2 : ℝ) ^ (a - b) : ℝ) : EReal) := by
  rw [← EReal.coe_sub]; rfl

/-- The greatest of real scores is real. -/
theorem top_real (q : FVec Ideal S1024x256 .bf16) (k : Vec Ideal S1x512x256 .bf16) (r : Fin 1024) (sc : Fin 512 → ℝ)
    (h : ∀ j, score q k (ix2 r j) = ((sc j : ℝ) : EReal)) : ∃ M : ℝ, top (score q k) (ix2 r 0) = ((M : ℝ) : EReal) := by
  rw [top_at]
  simp only [h]
  exact fold_max_real _ Finset.univ_nonempty sc

/-- The weights of a chunk times its values, for real scores and a real maximum. -/
theorem prod_expSum (s : FVec Ideal S1024x512 .f32) (m : FVec Ideal S1024x1 .f32) (v : Vec Ideal S1x512x256 .bf16) (r : Fin 1024)
    (sc : Fin 512 → ℝ) (h : ∀ j, s (ix2 r j) = ((sc j : ℝ) : EReal)) (M : ℝ) (hM : m (ix2 r 0) = ((M : ℝ) : EReal)) (d : Fin 256) :
    prod (wts s m) v (ix2 r d) = expSum sc M (lane v d) := by
  rw [prod_wts_at]
  simp only [h, hM, exp2_sub]
  rfl

theorem start_holds (q : FVec Ideal S1024x256 .bf16) (k v : Vec Ideal S1x512x256 .bf16) (r : Fin 1024) (sc : Fin 512 → ℝ)
    (h : ∀ j, score q k (ix2 r j) = ((sc j : ℝ) : EReal)) :
    Holds r (start q k v) fun M d => expSum sc M (lane v d) := by
  obtain ⟨M, hM⟩ := top_real q k r sc h
  unfold Holds start
  dsimp only
  exact ⟨fun M M' d => rescale _ _ _ _, M, hM, fun d => prod_expSum _ _ _ _ sc h M hM d⟩

theorem step_holds (q : FVec Ideal S1024x256 .bf16) (k v : Vec Ideal S1x512x256 .bf16) (r : Fin 1024) (sc : Fin 512 → ℝ)
    (h : ∀ j, score q k (ix2 r j) = ((sc j : ℝ) : EReal)) (st : FVec Ideal S1024x1 .f32 × FVec Ideal S1024x256 .f32)
    (A : ℝ → Fin 256 → EReal) (hA : Holds r st A) :
    Holds r (step q k v st) fun M d => A M d + expSum sc M (lane v d) := by
  obtain ⟨hr, M, hM, ha⟩ := hA
  obtain ⟨N, hN⟩ := top_real q k r sc h
  have hm : maximumf st.1 (top (score q k)) (ix2 r 0) = ((max M N : ℝ) : EReal) := by
    rw [← max_real, ← hM, ← hN]; exact Idealize.ShloMosaic.maximumf_apply _ _ _
  refine ⟨fun M M' d => ?_, max M N, hm, fun d => ?_⟩
  · have hp : (0 : ℝ) ≤ (2 : ℝ) ^ (M - M') := Real.rpow_nonneg (by norm_num) _
    rw [EReal.left_distrib_of_nonneg_of_ne_top (EReal.coe_nonneg.2 hp) (EReal.coe_ne_top _), hr, rescale]
  · show next _ _ _ _ _ _ = _
    rw [next_at, prod_expSum _ _ _ _ sc h _ hm, hm, hM, exp2_sub, ha, hr]

/-- The body at a row and a lane: all eight chunks at one real maximum. -/
theorem body_at (q : FVec Ideal S1024x256 .bf16) (k v : Fin 8 → Vec Ideal S1x512x256 .bf16) (r : Fin 1024) (sc : Fin 8 → Fin 512 → ℝ)
    (h : ∀ c j, score q (k c) (ix2 r j) = ((sc c j : ℝ) : EReal)) (d : Fin 128) :
    ∃ M : ℝ, body q (k 0) (k 1) (k 2) (k 3) (k 4) (k 5) (k 6) (k 7) (v 0) (v 1) (v 2) (v 3) (v 4) (v 5) (v 6) (v 7) (ix2 r d)
      = Ideal.div (∑ c, expSum (sc c) M (lane (v c) ⟨d, by omega⟩)) (∑ c, expSum (sc c) M (lane (v c) ⟨128 + d, by omega⟩)) := by
  have h0 := start_holds q (k 0) (v 0) r _ (h 0)
  have h1 := step_holds q (k 1) (v 1) r _ (h 1) _ _ h0
  have h2 := step_holds q (k 2) (v 2) r _ (h 2) _ _ h1
  have h3 := step_holds q (k 3) (v 3) r _ (h 3) _ _ h2
  have h4 := step_holds q (k 4) (v 4) r _ (h 4) _ _ h3
  have h5 := step_holds q (k 5) (v 5) r _ (h 5) _ _ h4
  have h6 := step_holds q (k 6) (v 6) r _ (h 6) _ _ h5
  obtain ⟨-, M, -, ha⟩ := step_holds q (k 7) (v 7) r _ (h 7) _ _ h6
  refine ⟨M, ?_⟩
  rw [Fin.sum_univ_eight, Fin.sum_univ_eight]
  show finish _ _ = _
  rw [finish_at, ha, ha]

/-- A sum of exponentials over the 4096 keys is the sum of the eight chunks'. -/
theorem expSum_chunks (s : Fin 4096 → ℝ) (M : ℝ) (v : Fin 4096 → EReal) :
    expSum s M v = ∑ c : Fin 8, expSum (fun j : Fin 512 => s ⟨c * 512 + j, by omega⟩) M fun j : Fin 512 => v ⟨c * 512 + j, by omega⟩ :=
  Fin.sum_univ_tiles 8 512 rfl _

/-- Chunk `c` of a block of keys or values. -/
def chunk (x : Vec Ideal S1x4096x256 .bf16) (c : Fin 8) : Vec Ideal S1x512x256 .bf16 :=
  ![View.ld x r0_1, View.ld x r0_2, View.ld x r0_3, View.ld x r0_4, View.ld x r0_5, View.ld x r0_6, View.ld x r0_7, View.ld x r0_8] c

theorem chunk_at (x : Vec Ideal S1x4096x256 .bf16) (c : Fin 8) (j : Fin 512) (l : Fin 256) :
    chunk x c (ix3 0 j l) = x (ix3 0 ⟨c * 512 + j, by omega⟩ l) := by
  fin_cases c
  all_goals
    simp only [chunk]
    show View.ld x _ _ = _
    pointwise
    try rfl

/-- What a grid point writes, at a row and a lane: the softmax of the row's scores, times the values. `y j` is the score of
    key `j` in the natural base, the upper 128 lanes of the values being ones. -/
theorem out_at (x0 : Vec Ideal S1x1024x256 .bf16) (x1 x2 : Vec Ideal S1x4096x256 .bf16) (r : Fin 1024) (d : Fin 128)
    (y : Fin 4096 → ℝ)
    (h : ∀ j, (∑ l : Fin 256, (show EReal from x0 (ix3 0 r l)) * (((Real.log 2)⁻¹ * (Real.sqrt 192)⁻¹ : ℝ) : EReal) * (show EReal from x1 (ix3 0 j l)))
      = ((y j * (Real.log 2)⁻¹ : ℝ) : EReal))
    (h1 : ∀ j, (show EReal from x2 (ix3 0 j ⟨128 + d, by omega⟩)) = 1) :
    out0_3 x0 x1 x2 (ix2 r d) = ∑ j, ((weight y j : ℝ) : EReal) * (show EReal from x2 (ix3 0 j ⟨d, by omega⟩)) := by
  have hq : ∀ l, k0_pay2 (F := Ideal) (View.ld x0 r0_0) (ix2 r l) = (show EReal from x0 (ix3 0 r l)) * (((Real.log 2)⁻¹ * (Real.sqrt 192)⁻¹ : ℝ) : EReal) := fun l => by
    rw [scaled_at]
    pointwise
  obtain ⟨M, hM⟩ := body_at (k0_pay2 (F := Ideal) (View.ld x0 r0_0)) (chunk x1) (chunk x2) r (fun c j => y ⟨c * 512 + j, by omega⟩ * (Real.log 2)⁻¹)
    (fun c j => by
      rw [score_at, ← h]
      refine Finset.sum_congr rfl fun l _ => ?_
      rw [hq, chunk_at]) d
  rw [out_eq, View.canon_unit_zero (by decide +revert)]
  refine hM.trans ?_
  have e := div_expSum y (fun j => y j * (Real.log 2)⁻¹) (fun _ => rfl) M fun j => (show EReal from x2 (ix3 0 j ⟨d, by omega⟩))
  rw [← e, expSum_chunks, expSum_chunks]
  have hl : ∀ (c : Fin 8) (l : Fin 256), lane (chunk x2 c) l = fun j : Fin 512 => (show EReal from x2 (ix3 0 ⟨c * 512 + j, by omega⟩ l)) :=
    fun c l => funext fun j => chunk_at x2 c j l
  simp only [hl]
  simp only [h1]

end Cert.KernelIdeal.Mla

end
-- ==== Proof.MlaHost.lean ====
/- What the host hands to the attention kernel: per head, the queries and keys with 64 zero lanes after their 192, and the
   values with 128 lanes of ones after their 128. Row `n` of the merged token axis is position `n % 4096` of batch
   `n / 4096`. -/
module

public import proofs.«01_k».proof.Proof.Gen.KernelIdeal.Value
public import Idealize.ShloMosaic.Lib.Pipeline.ValueKit
public import Idealize.ShloMosaic.Lib.Pointwise
public import Idealize.ShloMosaic.Lib.StableHlo.ReadAt

@[expose] public section

set_option maxRecDepth 16384

noncomputable section

namespace Cert.KernelIdeal.Mla

open Cert.KernelIdeal Cert.KernelIdeal.Gen Idealize.ShloMosaic Idealize.ShloMosaic.TcCoe Idealize.SL.Sem

variable (m : (ℓ : Loc nD τ sig) → Buf (Elt Ideal) ℓ) (c : Dev nD)

/-- The integer zero as a float. -/
theorem zero_word : (FloatOps.sitofp (F := Ideal) FTy.f32 0#32 : EReal) = 0 := by
  show (((0#32 : BitVec 32).toInt : ℝ) : EReal) = 0
  simp

/-- The queries. -/
theorem q_lo (h : Fin 8) (n : Fin 16384) (l : Fin 192) :
    (show EReal from V m c main_v3 (ix3 h n ⟨l, by omega⟩)) = (show EReal from m ((c.tc : Thread nD τ).loc main_arg0) (ix4 ⟨n / 4096, by omega⟩ ⟨n % 4096, by omega⟩ h l)) := by
  unfold V
  after_reads_at

/-- The zero lanes after them. -/
theorem q_hi (h : Fin 8) (n : Fin 16384) (l : Fin 64) :
    (show EReal from V m c main_v3 (ix3 h n ⟨192 + l, by omega⟩)) = 0 := by
  unfold V
  after_reads_at
  exact zero_word

/-- The keys. -/
theorem k_lo (h : Fin 8) (n : Fin 16384) (l : Fin 192) :
    (show EReal from V m c main_v7 (ix3 h n ⟨l, by omega⟩)) = (show EReal from m ((c.tc : Thread nD τ).loc main_arg1) (ix4 ⟨n / 4096, by omega⟩ ⟨n % 4096, by omega⟩ h l)) := by
  unfold V
  after_reads_at

/-- The zero lanes after them. -/
theorem k_hi (h : Fin 8) (n : Fin 16384) (l : Fin 64) :
    (show EReal from V m c main_v7 (ix3 h n ⟨192 + l, by omega⟩)) = 0 := by
  unfold V
  after_reads_at
  exact zero_word

/-- The values. -/
theorem v_lo (h : Fin 8) (n : Fin 16384) (l : Fin 128) :
    (show EReal from V m c main_v12 (ix3 h n ⟨l, by omega⟩)) = (show EReal from m ((c.tc : Thread nD τ).loc main_arg2) (ix4 ⟨n / 4096, by omega⟩ ⟨n % 4096, by omega⟩ h l)) := by
  unfold V
  after_reads_at

/-- The ones after them. -/
theorem v_hi (h : Fin 8) (n : Fin 16384) (l : Fin 128) :
    (show EReal from V m c main_v12 (ix3 h n ⟨128 + l, by omega⟩)) = 1 := by
  unfold V
  after_reads_at

end Cert.KernelIdeal.Mla

end
-- ==== Proof.MlaRef.lean ====
/- The reference's attention at a token and a lane of its result. -/
module

public import proofs.«01_k».proof.Proof.Softmax
public import proofs.«01_k».proof.Proof.Gen.ReferenceIdeal.Read
public import Idealize.ShloMosaic.Lib.Pointwise

@[expose] public section

set_option maxRecDepth 16384

noncomputable section

namespace Cert.ReferenceIdeal.Mla

open Cert.ReferenceIdeal Cert.ReferenceIdeal.Gen Cert.ReferenceIdeal.Read Idealize.ShloMosaic Idealize.ShloMosaic.TcCoe
open Cert.Softmax

abbrev QK := (⟨S4x4096x8x192, .f32⟩ : BufTy).Contents (Elt Ideal)
abbrev VV := (⟨S4x4096x8x128, .f32⟩ : BufTy).Contents (Elt Ideal)

/-- One over the root of 192. -/
theorem scale_eq (i : S_.Idx) : (val_main_v4 (F := Ideal) i : EReal) = (((Real.sqrt 192)⁻¹ : ℝ) : EReal) := by
  have h1 : Ideal.ofBits .f32 0x3F800000#32 = ((1 : ℝ) : EReal) := by
    simp [Ideal.ofBits, Ideal.ieee, -EReal.coe_mul]; norm_num
  have h2 : Ideal.ofBits .f32 0x43400000#32 = ((192 : ℝ) : EReal) := by
    simp [Ideal.ofBits, Ideal.ieee, -EReal.coe_mul]; norm_num
  have hs : Real.sqrt 192 ≠ 0 := (Real.sqrt_pos.2 (by norm_num)).ne'
  show Ideal.div (Ideal.ofBits .f32 0x3F800000#32) (Ideal.sqrt (Ideal.ofBits .f32 0x43400000#32)) = _
  rw [h1, h2, Ideal.sqrt_coe, if_neg (by norm_num), Ideal.div_coe hs, ← EReal.coe_mul, one_mul, one_div]

/-- The scaled scores. -/
theorem score_at (x0 x1 : QK) (b : Fin 4) (h : Fin 8) (s t : Fin 4096) :
    (val_main_v7 (F := Ideal) x0 x1 (ix4 b h s t) : EReal)
      = (∑ l : Fin 192, (show EReal from x0 (ix4 b s h l)) * (show EReal from x1 (ix4 b t h l))) * (((Real.sqrt 192)⁻¹ : ℝ) : EReal) := by
  pointwise [val_main_v7, val_main_v6, val_main_v5, val_main_v1, val_main_v0, scale_eq]

/-- The host's maximum of a row of any array of scores. -/
theorem max_row (y : FVec Ideal S4x8x4096x4096 .f32) (z : FVec Ideal S_ .f32) (b : Fin 4) (h : Fin 8) (s : Fin 4096) :
    (Host.reduce (FloatOps.maximumf (F := Ideal) (φ := .f32)) y z reducesTo_S4x8x4096x4096_S4x8x4096_d3 h_S_ (ix3 b h s) : EReal)
      = Finset.univ.fold max (z (Shape.Idx.first h_S_) : EReal) fun t : Fin 4096 => (y (ix4 b h s t) : EReal) := by
  pointwise

/-- The greatest score of a row, as softmax subtracts it. -/
theorem top_at (x0 x1 : QK) (b : Fin 4) (h : Fin 8) (s t : Fin 4096) :
    (val_main_v12 (F := Ideal) x0 x1 (ix4 b h s t) : EReal)
      = max (⊥ : EReal) (Finset.univ.fold max (⊥ : EReal) fun t : Fin 4096 => (val_main_v7 (F := Ideal) x0 x1 (ix4 b h s t) : EReal)) := by
  have hb : Ideal.ofBits .f32 0xFF800000#32 = (⊥ : EReal) := by simp [Ideal.ofBits, Ideal.ieee]
  have e := max_row (val_main_v7 (F := Ideal) x0 x1) (val_main_cst_1 (F := Ideal)) b h s
  rw [show (val_main_cst_1 (F := Ideal) (Shape.Idx.first h_S_) : EReal) = ⊥ from hb] at e
  rw [← e, ← hb, val_main_v12_apply, val_main_v11_apply, val_main_v10_apply, val_main_v9_apply]
  have hi : idx_main_v11 (idx_main_v12 (ix4 b h s t)) = ix3 b h s := by
    funext a
    fin_cases a <;> rfl
  rw [hi]
  unfold val_main_v8 val_main_cst_2
  rfl

/-- The softmax weights over the scores less their greatest. -/
theorem weight_at (x0 x1 : QK) (b : Fin 4) (h : Fin 8) (s t : Fin 4096) :
    (val_main_v18 (F := Ideal) x0 x1 (ix4 b h s t) : EReal)
      = Ideal.div (Ideal.exp ((val_main_v7 (F := Ideal) x0 x1 (ix4 b h s t) : EReal) - (val_main_v12 (F := Ideal) x0 x1 (ix4 b h s t) : EReal)))
        (∑ u : Fin 4096, Ideal.exp ((val_main_v7 (F := Ideal) x0 x1 (ix4 b h s u) : EReal) - (val_main_v12 (F := Ideal) x0 x1 (ix4 b h s u) : EReal))) := by
  pointwise [val_main_v18, val_main_v17, val_main_v16, val_main_v15, val_main_v14, val_main_v13, val_main_cst_3]

/-- The result from the weights. -/
theorem out_at (x0 x1 : QK) (x2 : VV) (n : Fin 16384) (e : Fin 1024) :
    (val_main_v22 (F := Ideal) x0 x1 x2 (ix2 n e) : EReal)
      = ∑ t : Fin 4096, (val_main_v18 (F := Ideal) x0 x1 (ix4 ⟨n / 4096, by omega⟩ ⟨e / 128, by omega⟩ ⟨n % 4096, by omega⟩ t) : EReal)
        * (show EReal from x2 (ix4 ⟨n / 4096, by omega⟩ t ⟨e / 128, by omega⟩ ⟨e % 128, by omega⟩)) := by
  pointwise [val_main_v22, val_main_v21, val_main_v20, val_main_v19, val_main_v2]

end Cert.ReferenceIdeal.Mla

end
-- ==== Proof.MlaValue.lean ====
/- The attention kernel's result array is the reference's: over finite queries and keys each row of scores is real, the
   kernel's block gives the softmax of the row times the values (`MlaRow`), and so does the reference. -/
module

public import proofs.«01_k».proof.Proof.MlaRow
public import proofs.«01_k».proof.Proof.MlaHost
public import proofs.«01_k».proof.Proof.MlaRef

@[expose] public section

set_option maxRecDepth 16384

noncomputable section

namespace Cert.Mla

open Idealize.ShloMosaic Idealize.ShloMosaic.TcCoe Idealize.SL.Sem
open Cert.Softmax

/-! ## The reference over real queries and keys -/

section Ref

open Cert.ReferenceIdeal Cert.ReferenceIdeal.Read Cert.ReferenceIdeal.Mla

/-- The score of query `s` with key `t` in head `h` of batch `b`, over real queries and keys. -/
def scoreR (q k : S4x4096x8x192.Idx → ℝ) (b : Fin 4) (h : Fin 8) (s t : Fin 4096) : ℝ :=
  (∑ l : Fin 192, q (ix4 b s h l) * k (ix4 b t h l)) * (Real.sqrt 192)⁻¹

variable (x0 x1 : QK) (x2 : VV) (q k : S4x4096x8x192.Idx → ℝ) (h0 : ∀ i, x0 i = ((q i : ℝ) : EReal)) (h1 : ∀ i, x1 i = ((k i : ℝ) : EReal))

include h0 h1 in
theorem score_real (b : Fin 4) (h : Fin 8) (s t : Fin 4096) :
    (val_main_v7 (F := Ideal) x0 x1 (ix4 b h s t) : EReal) = ((scoreR q k b h s t : ℝ) : EReal) := by
  rw [score_at]
  simp only [h0, h1, scoreR]
  rw [EReal.coe_mul, coe_sum]
  simp only [EReal.coe_mul]

include h0 h1 in
theorem top_real (b : Fin 4) (h : Fin 8) (s : Fin 4096) :
    ∃ M : ℝ, ∀ t, (val_main_v12 (F := Ideal) x0 x1 (ix4 b h s t) : EReal) = ((M : ℝ) : EReal) := by
  obtain ⟨M, hM⟩ := fold_max_real Finset.univ Finset.univ_nonempty fun t : Fin 4096 => scoreR q k b h s t
  refine ⟨M, fun t => ?_⟩
  rw [top_at]
  simp only [score_real x0 x1 q k h0 h1, hM]
  exact max_bot_left _

include h0 h1 in
/-- The reference's result: the softmax of the scores, times the values. -/
theorem ref_at (n : Fin 16384) (e : Fin 1024) :
    (val_main_v22 (F := Ideal) x0 x1 x2 (ix2 n e) : EReal)
      = ∑ t : Fin 4096, ((weight (scoreR q k ⟨n / 4096, by omega⟩ ⟨e / 128, by omega⟩ ⟨n % 4096, by omega⟩) t : ℝ) : EReal)
        * (show EReal from x2 (ix4 ⟨n / 4096, by omega⟩ t ⟨e / 128, by omega⟩ ⟨e % 128, by omega⟩)) := by
  rw [out_at]
  refine Finset.sum_congr rfl fun t _ => ?_
  obtain ⟨M, hM⟩ := top_real x0 x1 q k h0 h1 ⟨n / 4096, by omega⟩ ⟨e / 128, by omega⟩ ⟨n % 4096, by omega⟩
  rw [weight_at]
  simp only [hM, score_real x0 x1 q k h0 h1]
  rw [div_exp]

end Ref

/-! ## The kernel -/

section Kern

open Cert.KernelIdeal Cert.KernelIdeal.Gen Cert.KernelIdeal.Mla

variable (m : (ℓ : Loc nD τ sig) → Buf (Elt Ideal) ℓ) (c : Dev nD)

/-- Where each window's block lies at grid point `t`. -/
theorem idx : ∀ t : Fin cfg0.N, win0_0.index t = ![t.val / 4 % 8, t.val / 32 * 4 + t.val % 4, 0]
    ∧ win0_1.index t = ![t.val / 4 % 8, t.val / 32, 0] ∧ win0_2.index t = ![t.val / 4 % 8, t.val / 32, 0]
    ∧ win0_3.index t = ![t.val / 32 * 4 + t.val % 4, t.val / 4 % 8] ∧ t.val < 128 :=
  (by decide +kernel : ∀ t : Fin grid0.N, _)

/-- The row of the token axis that row `r` of grid point `t` is. -/
abbrev row (t : Fin cfg0.N) (r : Fin 1024) : Fin 16384 := ⟨(t.val / 32 * 4 + t.val % 4) * 1024 + r, by have := (idx t).2.2.2.2; omega⟩

/-- The token that key `j` of grid point `t` is. -/
abbrev key (t : Fin cfg0.N) (j : Fin 4096) : Fin 16384 := ⟨t.val / 32 * 4096 + j, by have := (idx t).2.2.2.2; omega⟩

/-- The head of grid point `t`. -/
abbrev head (t : Fin cfg0.N) : Fin 8 := ⟨t.val / 4 % 8, by omega⟩

theorem q_blk (t : Fin cfg0.N) (r : Fin 1024) (l : Fin 256) : iblk m c 0 t (ix3 0 r l) = V m c main_v3 (ix3 (head t) (row t r) l) := by
  blk_ext [iblk, idx t]

theorem k_blk (t : Fin cfg0.N) (j : Fin 4096) (l : Fin 256) : iblk m c 1 t (ix3 0 j l) = V m c main_v7 (ix3 (head t) (key t j) l) := by
  blk_ext [iblk, idx t]

theorem v_blk (t : Fin cfg0.N) (j : Fin 4096) (l : Fin 256) : iblk m c 2 t (ix3 0 j l) = V m c main_v12 (ix3 (head t) (key t j) l) := by
  blk_ext [iblk, idx t]

/-- A row of 256 lanes is its first 192 and its last 64. -/
theorem sum_lanes (f : Fin 256 → EReal) :
    ∑ l, f l = (∑ l : Fin 192, f ⟨l, by omega⟩) + ∑ l : Fin 64, f ⟨192 + l, by omega⟩ :=
  Fin.sum_univ_add (a := 192) (b := 64) f

variable (q k : S4x4096x8x192.Idx → ℝ)
  (h0 : ∀ i, (m ((c.tc : Thread nD τ).loc main_arg0) : FVec Ideal S4x4096x8x192 .f32) i = ((q i : ℝ) : EReal))
  (h1 : ∀ i, (m ((c.tc : Thread nD τ).loc main_arg1) : FVec Ideal S4x4096x8x192 .f32) i = ((k i : ℝ) : EReal))

/-- A product of real queries and keys, the scale inside. -/
theorem dot_real (a b : ℝ) (q k : Fin 192 → ℝ) :
    (∑ l, ((q l : ℝ) : EReal) * ((a * b : ℝ) : EReal) * ((k l : ℝ) : EReal)) = (((∑ l, q l * k l) * b * a : ℝ) : EReal) := by
  simp only [← EReal.coe_mul]
  rw [← coe_sum, Finset.sum_mul, Finset.sum_mul]
  congr 1
  exact Finset.sum_congr rfl fun l _ => by ring

include h0 h1 in
/-- What a grid point writes, at a row and a lane of its block. -/
theorem point (t : Fin cfg0.N) (r : Fin 1024) (d : Fin 128) :
    (out0_3 (iblk m c 0 t) (iblk m c 1 t) (iblk m c 2 t) (ix2 r d) : EReal)
      = Cert.ReferenceIdeal.Read.val_main_v22 (F := Ideal) (m ((c.tc : Thread nD τ).loc main_arg0)) (m ((c.tc : Thread nD τ).loc main_arg1))
          (m ((c.tc : Thread nD τ).loc main_arg2)) (ix2 (row t r) ⟨t.val / 4 % 8 * 128 + d, by omega⟩) := by
  have ht := (idx t).2.2.2.2
  have eb : ∀ p, (⟨(row t r).val / 4096, p⟩ : Fin 4) = ⟨t.val / 32, by omega⟩ := fun p => Fin.ext (by simp only [row]; omega)
  have eh : ∀ p, (⟨(t.val / 4 % 8 * 128 + d.val) / 128, p⟩ : Fin 8) = head t := fun p => Fin.ext (by simp only [head]; omega)
  have ed : ∀ p, (⟨(t.val / 4 % 8 * 128 + d.val) % 128, p⟩ : Fin 128) = d := fun p => Fin.ext (by simp only []; omega)
  have ek : ∀ j p, (⟨(key t j).val / 4096, p⟩ : Fin 4) = ⟨t.val / 32, by omega⟩ := fun j p => Fin.ext (by simp only [key]; omega)
  have ej : ∀ j p, (⟨(key t j).val % 4096, p⟩ : Fin 4096) = j := fun j p => Fin.ext (by simp only [key]; omega)
  rw [ref_at _ _ _ q k h0 h1]
  simp only [eb, eh, ed]
  refine (out_at (iblk m c 0 t) (iblk m c 1 t) (iblk m c 2 t) r d
    (scoreR q k ⟨t.val / 32, by omega⟩ (head t) ⟨(row t r).val % 4096, by omega⟩) (fun j => ?_) (fun j => ?_)).trans ?_
  · rw [sum_lanes]
    have e0 : ∀ l : Fin 64, (show EReal from iblk m c 0 t (ix3 0 r ⟨192 + l, by omega⟩)) = 0 := fun l => by
      rw [q_blk]; exact q_hi m c _ _ _
    have e1 : ∀ l : Fin 192, (show EReal from iblk m c 0 t (ix3 0 r ⟨l, by omega⟩)) = ((q (ix4 ⟨t.val / 32, by omega⟩ ⟨(row t r).val % 4096, by omega⟩ (head t) l) : ℝ) : EReal) := fun l => by
      rw [q_blk]
      refine (q_lo m c _ _ _).trans ?_
      rw [eb]; exact h0 _
    have e2 : ∀ l : Fin 192, (show EReal from iblk m c 1 t (ix3 0 j ⟨l, by omega⟩)) = ((k (ix4 ⟨t.val / 32, by omega⟩ j (head t) l) : ℝ) : EReal) := fun l => by
      rw [k_blk]
      refine (k_lo m c _ _ _).trans ?_
      rw [ek, ej]; exact h1 _
    rw [Finset.sum_eq_zero (s := (Finset.univ : Finset (Fin 64))) (fun l _ => by erw [e0 l, zero_mul, zero_mul]), add_zero]
    refine (Finset.sum_congr rfl fun l _ => ?_).trans (dot_real _ _ _ _)
    erw [e1 l, e2 l]
  · rw [v_blk]; exact v_hi m c _ _ _
  · refine Finset.sum_congr rfl fun j _ => ?_
    congr 1
    rw [v_blk]
    refine (v_lo m c _ _ _).trans ?_
    rw [ek, ej]

include h0 h1 in
/-- The kernel's result array is the reference's. -/
theorem final : (dats m 0 c).arrAt 3 cfg0.N
    = Cert.ReferenceIdeal.Read.val_main_v22 (F := Ideal) (m ((c.tc : Thread nD τ).loc main_arg0)) (m ((c.tc : Thread nD τ).loc main_arg1))
          (m ((c.tc : Thread nD τ).loc main_arg2)) := by
  refine (dats m 0 c).arrAt_eq_of_covers 3 _ (by decide +kernel) fun t hf y => ?_
  blk_simp
  rw [after0_3]
  idx_vars y
  refine (point m c q k h0 h1 t _ _).trans ?_
  blk_ext [idx t]

end Kern

end Cert.Mla

end
-- ==== Proof.MlaClaims.lean ====
/- The claims about the attention: frames, the idealization, and equal results over finite queries and keys. -/
module

public import proofs.«01_k».proof.Defs
public import proofs.«01_k».proof.Proof.Gen.Kernel.Frame
public import proofs.«01_k».proof.Proof.Gen.Pre_finite
public import proofs.«01_k».proof.Proof.Gen.ReferenceIdeal.Run
public import proofs.«01_k».proof.Proof.MlaValue
public import Idealize.ShloMosaic.Adequacy
public import Idealize.ShloMosaic.Init

@[expose] public section

set_option maxRecDepth 16384

noncomputable section

namespace Cert.Mla

open Idealize.ShloMosaic Idealize.SL.Sem

theorem frame_kernel : Cert.quiescent_Kernel := fun m ρ _ => Cert.Kernel.Gen.frame m ρ
theorem frame_kernel_ideal : Cert.quiescent_KernelIdeal := fun m ρ _ => Cert.KernelIdeal.Gen.frame m ρ
theorem frame_kernel_ideal_pre : Cert.quiescent_KernelIdeal_pre_finite := fun m ρ _ => Cert.KernelIdeal.Gen.frame m ρ

/-- The reference runs to its composed result, leaves its arguments, and has no semaphores. -/
theorem frame_reference : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

theorem frame_reference_pre : Cert.quiescent_ReferenceIdeal_pre_finite := fun m ρ _ => frame_reference m ρ trivial

theorem preserves : Cert.preserves_Kernel_KernelIdeal :=
  IdealRules.named_const.statement Cert.KernelIdeal.κ "log2e_inv_sqrt_d" .f32 0x3DD53B95#32 (((Real.log 2)⁻¹ * (Real.sqrt 192)⁻¹ : ℝ) : EReal) rfl

/-- An extended real whose absolute value is below infinity is a real. -/
theorem real_of_abs_lt (x : Ideal .f32)
    (h : FloatOps.cmpf (F := Ideal) .olt (FloatOps.hostAbsf x) (FloatOps.ofBits .f32 0x7F800000#32) = 1#1) :
    x = ((EReal.toReal x : ℝ) : EReal) := by
  have hi : Ideal.ofBits .f32 0x7F800000#32 = (⊤ : EReal) := by simp [Ideal.ofBits, Ideal.ieee]
  have h' : Ideal.cmp .olt (max (x : EReal) (-x)) (Ideal.ofBits .f32 0x7F800000#32) = 1#1 := h
  rw [hi] at h'
  induction x using EReal.rec with
  | bot => simp [Ideal.cmp] at h'
  | top => simp [Ideal.cmp] at h'
  | coe r => rfl

theorem algebraic : Cert.algebraic_KernelIdeal_ReferenceIdeal_pre_finite := by
  intro m g m' g' hpre hagree
  refine ⟨fun c => (Cert.KernelIdeal.Gen.dats m 0 c).arrAt 3 Cert.KernelIdeal.cfg0.N, ?_, ?_⟩
  · exact Cert.KernelIdeal.Value.run_blocks m g
  · refine (θ_run Cert.ReferenceIdeal.defs _ _).mono (fun r h c => ⟨(h c).1.trans ?_, (h c).2⟩) (Cert.ReferenceIdeal.Value.run (F := Ideal) m' g')
    obtain ⟨a0, a1, a2⟩ := hagree c
    rw [a0, a1, a2]
    refine Eq.trans ?_ (final m c _ _ (fun i => real_of_abs_lt _ (congrFun (hpre c).1 i)) (fun i => real_of_abs_lt _ (congrFun (hpre c).2 i))).symm
    rfl

end Cert.Mla

end
-- ==== Proof.MoeTable.lean ====
/- The routing table the grouped products are handed: for each of 40 tiles of 1024 rows its expert (words 0–39), the number
   of tiles used (word 40), and for each tile the number of its rows that hold tokens (words 41–80). -/
module

public import Idealize.ShloMosaic.Lib.WordCmp
public import Idealize.ShloMosaic.Lib.Pointwise.Index
public import Idealize.ShloMosaic.Lib.Tactic
public import Idealize.ShloMosaic.Lib.Pointwise

@[expose] public section

noncomputable section

namespace Cert.Moe

open Idealize.ShloMosaic

/-- The table's words. -/
abbrev Table : Type := IVec ⟨1, ![81]⟩ 32

def expertOf (T : Table) (i : Fin 40) : BitVec 32 := T (ix1 (⟨i.val, by omega⟩ : Fin 81))
def usedOf (T : Table) : BitVec 32 := T (ix1 (40 : Fin 81))
def rowsOf (T : Table) (i : Fin 40) : BitVec 32 := T (ix1 (⟨41 + i.val, by omega⟩ : Fin 81))

/-- The table routes: every tile names one of the eight experts, and at least one and at most 40 tiles are used. -/
structure Routed (T : Table) : Prop where
  expert : ∀ i, (expertOf T i).toNat < 8
  pos : 1 ≤ (usedOf T).toNat
  le : (usedOf T).toNat ≤ 40

/-- Row `r` of tile `i` holds a token. -/
def Holds (T : Table) (i : Fin 40) (r : ℕ) : Prop := i.val < (usedOf T).toNat ∧ (r : ℤ) < (rowsOf T i).toInt

/-- Row `r` of tile `i`, among all rows. -/
def rowAt (i : Fin 40) (r : Fin 1024) : Fin 40960 := ⟨i.val * 1024 + r.val, by omega⟩

theorem and_bits {a b : BitVec 1} (h : IntOp.andi a b = 1#1) : a = 1#1 ∧ b = 1#1 := by
  revert a b; decide

theorem or_bits {a b : BitVec 1} (h : IntOp.ori a b = 1#1) : a = 1#1 ∨ b = 1#1 := by
  revert a b; decide

/-- The tile of a row. -/
def tileOf (n : Fin 40960) : Fin 40 := ⟨n.val / 1024, by omega⟩

/-- One where the word names the expert, zero elsewhere. -/
def hot (x : BitVec 32) (e : Fin 8) : EReal := if x.toNat = e.val then 1 else 0

/-- The comparison of a word with an expert's number, as a float, is `hot`. -/
theorem hot_eq (x : BitVec 32) (e : Fin 8) :
    (FloatOps.uitofp (F := Ideal) .f32 (IntOp.cmpi .eq x (BitVec.ofNat 32 e.val)) : EReal) = hot x e := by
  have he : (BitVec.ofNat 32 e.val).toNat = e.val := by rw [BitVec.toNat_ofNat]; omega
  rw [WordCmp.cmpi_eq_eq_toNat, he]
  show ((((BitVec.ofBool (decide (x.toNat = e.val))).toNat : ℝ)) : EReal) = _
  unfold hot
  by_cases h : x.toNat = e.val
  · rw [if_pos h, decide_eq_true h]; simp
  · rw [if_neg h, decide_eq_false h]; simp

/-- The sum over the experts, each weighted by `hot`, is the named expert's term. -/
theorem select (x : BitVec 32) (hx : x.toNat < 8) (f : Fin 8 → EReal) : ∑ e, hot x e * f e = f ⟨x.toNat, hx⟩ := by
  rw [Finset.sum_eq_single (⟨x.toNat, hx⟩ : Fin 8)]
  · rw [hot, if_pos rfl, one_mul]
  · intro e _ he
    rw [hot, if_neg fun h => he (Fin.ext h.symm), zero_mul]
  · intro h; exact absurd (Finset.mem_univ _) h

/-! ## Reading comparisons of words -/

theorem lt_eight {x : BitVec 32} (h0 : IntOp.cmpi .sge x 0#32 = 1#1) (h8 : IntOp.cmpi .slt x 8#32 = 1#1) : x.toNat < 8 := by
  rw [WordCmp.cmpi_sge_eq, WordCmp.ofBool_decide_eq_one_iff] at h0
  rw [WordCmp.cmpi_slt_eq, WordCmp.ofBool_decide_eq_one_iff] at h8
  have e0 : (0#32 : BitVec 32).toInt = 0 := by decide
  have e8 : (8#32 : BitVec 32).toInt = 8 := by decide
  rw [e0] at h0; rw [e8] at h8
  rw [BitVec.toInt_eq_toNat_cond] at h0 h8
  have := x.isLt
  split at h0 <;> omega

theorem one_to_forty {x : BitVec 32} (h1 : IntOp.cmpi .sge x 1#32 = 1#1) (h40 : IntOp.cmpi .sle x 40#32 = 1#1) :
    1 ≤ x.toNat ∧ x.toNat ≤ 40 := by
  rw [WordCmp.cmpi_sge_eq, WordCmp.ofBool_decide_eq_one_iff] at h1
  rw [WordCmp.cmpi_sle_eq, WordCmp.ofBool_decide_eq_one_iff] at h40
  have e1 : (1#32 : BitVec 32).toInt = 1 := by decide
  have e40 : (40#32 : BitVec 32).toInt = 40 := by decide
  rw [e1] at h1; rw [e40] at h40
  rw [BitVec.toInt_eq_toNat_cond] at h1 h40
  have := x.isLt
  split at h1 <;> omega

theorem toInt_small {x : BitVec 32} (h : x.toNat ≤ 40) : x.toInt = (x.toNat : ℤ) := by
  rw [BitVec.toInt_eq_toNat_cond]; split <;> omega

/-- A small number is below a small word as words exactly when it is below it. -/
theorem slt_small (i : Fin 40) {u : BitVec 32} (h : u.toNat ≤ 40) :
    IntOp.cmpi .slt (BitVec.ofNat 32 i.val) u = BitVec.ofBool (decide (i.val < u.toNat)) := by
  have hi := i.isLt
  have e : (BitVec.ofNat 32 i.val).toNat = i.val := by rw [BitVec.toNat_ofNat]; omega
  rw [WordCmp.cmpi_slt_eq, toInt_small h, toInt_small (x := BitVec.ofNat 32 i.val) (by omega), e]
  congr 1
  exact decide_eq_decide.mpr (by omega)

/-- A row number compared with a word. -/
theorem slt_row (r : ℕ) (hr : r < 1024) (v : BitVec 32) :
    IntOp.cmpi .slt (BitVec.ofNat 32 r) v = BitVec.ofBool (decide ((r : ℤ) < v.toInt)) := by
  rw [WordCmp.cmpi_slt_eq, WordCmp.toInt_ofNat_of_lt (by omega)]

/-- More than 512 rows. -/
theorem sgt_half (v : BitVec 32) : IntOp.cmpi .sgt v 512#32 = BitVec.ofBool (decide (512 < v.toInt)) := by
  rw [WordCmp.cmpi_sgt_eq]
  have e : (512#32 : BitVec 32).toInt = 512 := by decide
  rw [e]

/-- The tile a used tile reads its rows from is itself. -/
theorem block_used (i : Fin 40) {u : BitVec 32} (h1 : 1 ≤ u.toNat) (h : u.toNat ≤ 40) :
    (Scalar.minsi (BitVec.ofNat 32 i.val) (Scalar.subi u 1#32)).toNat = min i.val (u.toNat - 1) := by
  have hi := i.isLt
  have e : (BitVec.ofNat 32 i.val).toNat = i.val := by rw [BitVec.toNat_ofNat]; omega
  have es : (Scalar.subi u 1#32).toNat = u.toNat - 1 := by
    show (u - 1#32).toNat = _
    rw [BitVec.toNat_sub]
    have e1 : (1#32 : BitVec 32).toNat = 1 := by decide
    rw [e1]; omega
  show (if (BitVec.ofNat 32 i.val).slt (Scalar.subi u 1#32) then _ else _ : BitVec 32).toNat = _
  have hs : (BitVec.ofNat 32 i.val).slt (Scalar.subi u 1#32) = decide (i.val < u.toNat - 1) := by
    rw [BitVec.slt, toInt_small (x := BitVec.ofNat 32 i.val) (by omega), toInt_small (x := Scalar.subi u 1#32) (by omega), e, es]
    exact decide_eq_decide.mpr (by omega)
  rw [hs]
  by_cases hlt : i.val < u.toNat - 1
  · rw [decide_eq_true hlt, if_pos rfl, e]; omega
  · rw [decide_eq_false hlt, if_neg (by decide), es]; omega

end Cert.Moe

end

end
-- ==== Proof.UpPre.lean ====
/- What the up projection's precondition says: the table routes, and rows that hold no token are zero. -/
module

public import proofs.«01_k».proof.Proof.Gen.Pre_grouped
public import proofs.«01_k».proof.Proof.MoeTable
public import Idealize.ShloMosaic.Lib.Pointwise

@[expose] public section

set_option maxRecDepth 16384

noncomputable section

namespace Cert.MoeUp

open Idealize.ShloMosaic Cert.Moe
open Cert.Pre_grouped

theorem routed_of_pre {F : FTy → Type} [FloatOps F] {x : FVec F S40960x2048 .f32} {T : IVec S81 32} {w : FVec F S8x2048x14336 .f32}
    (h1 : (Cert.Pre_grouped.fn x T w).1 = fun _ => 1#1) (h2 : (Cert.Pre_grouped.fn x T w).2.1 = fun _ => 1#1) : Routed T := by
  have hu : 1 ≤ (usedOf T).toNat ∧ (usedOf T).toNat ≤ 40 := by
    have h := congrFun h2 (default : S_.Idx)
    pointwise [Cert.Pre_grouped.fn, Cert.Pre_grouped.fn_part1] at h
    exact one_to_forty (and_bits h).1 (and_bits h).2
  refine ⟨fun i => ?_, hu.1, hu.2⟩
  have h := congrFun h1 (ix1 i)
  pointwise [Cert.Pre_grouped.fn, Cert.Pre_grouped.fn_part1] at h
  exact lt_eight (and_bits h).1 (and_bits h).2

theorem zero_of_pre {x : FVec Ideal S40960x2048 .f32} {T : IVec S81 32} {w : FVec Ideal S8x2048x14336 .f32} (hT : Routed T)
    (h3 : (Cert.Pre_grouped.fn x T w).2.2 = fun _ => 1#1) (i : Fin 40) (r : Fin 1024) (k : Fin 2048) (hr : ¬ Holds T i r.val) :
    x (ix2 (rowAt i r) k) = (0 : EReal) := by
  have h := congrFun h3 (ix3 i r k)
  pointwise [Cert.Pre_grouped.fn, Cert.Pre_grouped.fn_part1] at h
  rcases or_bits h with h | h
  · refine absurd ?_ hr
    obtain ⟨hi, hrow⟩ := and_bits h
    have hi' := (slt_small i hT.le).symm.trans hi
    have hr' := (slt_row r.val r.isLt (rowsOf T i)).symm.trans hrow
    rw [WordCmp.ofBool_decide_eq_one_iff] at hi' hr'
    exact ⟨hi', hr'⟩
  · rw [WordCmp.ofBool_decide_eq_one_iff] at h
    exact h

end Cert.MoeUp

end
-- ==== Proof.UpRun.lean ====
/- One run of the up projection's body, at any grid point: whatever the tables hold, the body casts its block of rows into
   the scratch buffer at the first point of a used tile (`rows`), and leaves in the result's buffer `out` of the scratch and
   the two blocks of weights — all rows where the point's tile is full, the upper half over zeros where at most half of
   its rows hold tokens, zeros where the tile is not used; each in two pieces of 256 columns. -/
module

public import proofs.«01_k».proof.Proof.Gen.Kernel2Ideal.Launch
public import proofs.«01_k».proof.Proof.Gen.Kernel2Ideal.Skeleton
public import Idealize.ShloMosaic.Lib.Pipeline.FrameBody
public import Idealize.ShloMosaic.Lib.Pipeline.Kit
public import Idealize.ShloMosaic.Lib.Ring
public import Idealize.ShloMosaic.Lib.Tactic
public import Idealize.ShloMosaic.Lib.WordCmp
public import Idealize.ShloMosaic.Lib.Claim
public import Idealize.ShloMosaic.Lib.VecWindow
public import Idealize.ShloMosaic.Lib.WholeRead
public import Idealize.ShloMosaic.Lib.WritesUnit
public import Idealize.ShloMosaic.Lib.Pointwise.Index

@[expose] public section

set_option maxRecDepth 16384

noncomputable section

namespace Cert.MoeUp

open Cert.Kernel2Ideal Cert.Kernel2Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The table's words -/

/-- The table as the body is handed it: its whole buffer as a memref. -/
abbrev tableRef : Memref sig .tc .smem S81 .i32 := Memref.whole main_arg1

/-- Contents of the table's buffer, and the half of it the body holds. -/
abbrev TableBuf (c : Dev nD) {S : Shape} {e : EltTy} (M : Memref sig .tc .smem S e) : Type :=
  Buf (Elt F) (M.view.loc (c : Thread nD τ))

abbrev tableHeld (c : Dev nD) {S : Shape} {e : EltTy} (M : Memref sig .tc .smem S e) (f : TableBuf (F := F) c M) : sProp 𝕄 :=
  M.view.loc (c : Thread nD τ) ↦{fullShare.right} f

/-- The number of tiles used. -/
def used (T : IVec S81 32) : BitVec 32 := T (ix1 (40 : Fin 81))

/-- The number of rows of the point's tile that hold tokens. -/
def count (T : IVec S81 32) (i : grid0.Coords) : BitVec 32 :=
  T (ix1 (⟨41 + (i 0).val, Nat.add_lt_add_left (show (i 0).val < 40 from (i 0).isLt) 41⟩ : Fin 81))

theorem off2_eq (i : grid0.Coords) : k0_off2 i = ![41 + (i 0).val] := by
  have h : (i 0).val < 40 := (i 0).isLt
  unfold k0_off2
  show ![((41#32 + BitVec.ofNat 32 (i 0).val).setWidth 32).toNat] = ![41 + (i 0).val]
  congr 1
  simp only [BitVec.toNat_setWidth, BitVec.toNat_add, BitVec.toNat_ofNat]
  omega

theorem used_read (c : Dev nD) (T : TableBuf (F := F) c tableRef) (h) (x) :
    View.readAt (Elt F) tableRef.view (Rect.unit (s := S81) ![40] S1.size h).toLoadRect T x = used T := by
  show T _ = T _
  congr 1
  funext a
  match a with
  | ⟨0, _⟩ => exact Fin.ext (by
      have hx : (x 0).val < 1 := (x 0).isLt
      show 40 + 1 * (x 0).val = 40
      omega)

theorem count_read (c : Dev nD) (T : TableBuf (F := F) c tableRef) (i : grid0.Coords) (h) (x) :
    View.readAt (Elt F) tableRef.view (Rect.unit (s := S81) (k0_off2 i) S1.size h).toLoadRect T x = count T i := by
  show T _ = T _
  congr 1
  funext a
  match a with
  | ⟨0, _⟩ => exact Fin.ext (by
      have hx : (x 0).val < 1 := (x 0).isLt
      have ho : k0_off2 i 0 = 41 + (i 0).val := congrFun (off2_eq i) 0
      show k0_off2 i 0 + 1 * (x 0).val = 41 + (i 0).val
      omega)

/-- Whatever the words, one of the three branches is taken. -/
theorem some_branch (i : grid0.Coords) (u v : BitVec 32) (h4 : ¬ k0_cond4 i u = 1#1) (h3 : ¬ k0_cond3 i u v = 1#1) :
    k0_cond2 i u v = 1#1 := by
  unfold k0_cond4 at h4
  unfold k0_cond3 at h3
  unfold k0_cond2
  simp only [Scalar.cmpi, Scalar.andi, Scalar.xori, Scalar.extui] at *
  generalize (IntOp.cmpi .slt (BitVec.ofNat 32 (i 0).val) u) = a at *
  generalize (IntOp.cmpi .sgt v 512#32) = b at *
  revert a b
  decide

/-- Whether the rows are cast afresh: the tile is used and the point is its first. -/
def fresh (i : grid0.Coords) (u : BitVec 32) : BitVec 1 :=
  Scalar.cmpi .ne (Scalar.extui (Scalar.andi (Scalar.cmpi .slt (BitVec.ofNat 32 (i 0).val) u)
    (Scalar.cmpi .eq (BitVec.ofNat 32 (i 1).val) 0#32)) : BitVec 32) 0#32

/-! ## What the body leaves -/

/-- The scratch buffer after the body: the rows, cast, where they are cast afresh. -/
def rows (i : grid0.Coords) (u : BitVec 32) (x : Vec F S1024x2048 .f32) (s : Vec F S1024x2048 .bf16) : Vec F S1024x2048 .bf16 :=
  if fresh i u = 1#1 then k0_pay1 x else s

/-- The upper half of a block of rows. -/
def upper (x : Vec F S1024x2048 .bf16) : Vec F S512x2048 .bf16 :=
  fun y => x (ix2 ⟨(y 0).val, Nat.lt_trans (show (y 0).val < 512 from (y 0).isLt) (by decide)⟩ (y 1 : Fin 2048))

/-- The left and right halves of a block of weights. -/
def leftCols (w : Vec F S1x2048x512 .f32) : Vec F S1x2048x256 .f32 :=
  fun y => w (ix3 0 (y 1 : Fin 2048) ⟨(y 2).val, Nat.lt_trans (show (y 2).val < 256 from (y 2).isLt) (by decide)⟩)
def rightCols (w : Vec F S1x2048x512 .f32) : Vec F S1x2048x256 .f32 :=
  fun y => w (ix3 0 (y 1 : Fin 2048) ⟨256 + (y 2).val, Nat.add_lt_add_left (show (y 2).val < 256 from (y 2).isLt) 256⟩)

theorem col_lt {a : ℕ} (h : ¬ a < 256) (ha : a < 512) : a - 256 < 256 := by omega
theorem row_lt {a : ℕ} (h : ¬ a < 512) (ha : a < 1024) : a - 512 < 512 := by omega

/-- What the body leaves in the result's buffer, from the scratch, its blocks and the two words it reads. -/
def out (i : grid0.Coords) (u v : BitVec 32) (h : Vec F S1024x2048 .bf16) (x1 x2 : Vec F S1x2048x512 .f32) : Vec F S1024x512 .bf16 :=
  if k0_cond4 i u = 1#1 then k0_pay7
  else if k0_cond3 i u v = 1#1 then fun y =>
    if hr : (y 0).val < 512 then
      if hc : (y 1).val < 256 then k0_pay4 (upper h) (leftCols x1) (leftCols x2) (ix2 ⟨(y 0).val, hr⟩ ⟨(y 1).val, hc⟩)
      else k0_pay5 (upper h) (rightCols x1) (rightCols x2) (ix2 ⟨(y 0).val, hr⟩ ⟨(y 1).val - 256, col_lt hc (y 1).isLt⟩)
    else k0_pay6 (ix2 ⟨(y 0).val - 512, row_lt hr (y 0).isLt⟩ (y 1 : Fin 512))
  else fun y =>
    if hc : (y 1).val < 256 then k0_pay2 h (leftCols x1) (leftCols x2) (ix2 (y 0 : Fin 1024) ⟨(y 1).val, hc⟩)
    else k0_pay3 h (rightCols x1) (rightCols x2) (ix2 (y 0 : Fin 1024) ⟨(y 1).val - 256, col_lt hc (y 1).isLt⟩)

theorem load_x0 (m : Memref sig .tc .vmem S1024x2048 .f32) (hm : m.IsWhole) (x : Vec F S1024x2048 .f32) (h) :
    View.readAt (Elt F) m.view (Rect.unit (s := S1024x2048) ![0, 0] S1024x2048.size h).toLoadRect (hm.unread x) = x := by
  rw [View.readAt_full, hm.read_unread]

theorem load_left (m : Memref sig .tc .vmem S1x2048x512 .f32) (hm : m.IsWhole) (x : Vec F S1x2048x512 .f32) (h) :
    View.readAt (Elt F) m.view (Rect.unit (s := S1x2048x512) ![0, 0, 0] S1x2048x256.size h).toLoadRect (hm.unread x) = leftCols x := by
  funext y
  rw [hm.readAt_unread]
  unfold leftCols
  congr 1
  funext a
  match a with
  | ⟨0, _⟩ => exact Fin.ext (show 0 + 1 * (y 0).val = 0 by have : (y 0).val < 1 := (y 0).isLt; omega)
  | ⟨1, _⟩ => exact Fin.ext (show 0 + 1 * (y 1).val = (y 1).val by omega)
  | ⟨2, _⟩ => exact Fin.ext (show 0 + 1 * (y 2).val = (y 2).val by omega)

theorem load_right (m : Memref sig .tc .vmem S1x2048x512 .f32) (hm : m.IsWhole) (x : Vec F S1x2048x512 .f32) (h) :
    View.readAt (Elt F) m.view (Rect.unit (s := S1x2048x512) ![0, 0, 256] S1x2048x256.size h).toLoadRect (hm.unread x) = rightCols x := by
  funext y
  rw [hm.readAt_unread]
  unfold rightCols
  congr 1
  funext a
  match a with
  | ⟨0, _⟩ => exact Fin.ext (show 0 + 1 * (y 0).val = 0 by have : (y 0).val < 1 := (y 0).isLt; omega)
  | ⟨1, _⟩ => exact Fin.ext (show 0 + 1 * (y 1).val = (y 1).val by omega)
  | ⟨2, _⟩ => exact Fin.ext (show 256 + 1 * (y 2).val = 256 + (y 2).val by omega)

/-- Reading the upper half of a buffer of rows is the upper half of reading it whole. -/
theorem load_upper (v : View sig .tc .vmem S1024x2048 .bf16) (f : v.ty.Contents (Elt F)) (h) :
    View.readAt (Elt F) v (Rect.unit (s := S1024x2048) ![0, 0] S512x2048.size h).toLoadRect f = upper (v.read (Elt F) f) := by
  funext y
  unfold upper
  show v.read (Elt F) f _ = v.read (Elt F) f _
  congr 1
  funext a
  match a with
  | ⟨0, _⟩ => exact Fin.ext (show 0 + 1 * (y 0).val = (y 0).val by omega)
  | ⟨1, _⟩ => exact Fin.ext (show 0 + 1 * (y 1).val = (y 1).val by omega)

/-- The scratch buffer, read after the store that may have been made. -/
theorem read_rows (m : Memref sig .tc .vmem S1024x2048 .bf16) (hm : m.IsWhole) (p s : Vec F S1024x2048 .bf16) (b : BitVec 1) (h) :
    m.view.read (Elt F) (if hb : b = 1#1 then m.view.writes (Elt F) (hm.unread s) [⟨Rect.unit (s := S1024x2048) ![0, 0] S1024x2048.size h, p⟩] else hm.unread s)
      = if b = 1#1 then p else s := by
  by_cases hb : b = 1#1
  · rw [dif_pos hb, if_pos hb, View.read_writes_full]
  · rw [dif_neg hb, if_neg hb, hm.read_unread]

/-- The two stores of a full tile, read back. -/
theorem read_full (v : View sig .tc .vmem S1024x512 .bf16) (f : v.ty.Contents (Elt F)) (p q : Vec F S1024x256 .bf16) (h h') (y : S1024x512.Idx) :
    v.read (Elt F) (v.writes (Elt F) f [⟨Rect.unit (s := S1024x512) ![0, 256] S1024x256.size h, q⟩, ⟨Rect.unit (s := S1024x512) ![0, 0] S1024x256.size h', p⟩]) y
      = if hc : (y 1).val < 256 then p (ix2 (y 0 : Fin 1024) ⟨(y 1).val, hc⟩)
        else q (ix2 (y 0 : Fin 1024) ⟨(y 1).val - 256, col_lt hc (y 1).isLt⟩) := by
  by_cases hc : (y 1).val < 256
  · rw [dif_pos hc, View.read_writes_cons_unit_of_not_mem (off' := ![0, 256]) v f h q _ y rfl 1 (Or.inl hc)]
    exact View.read_writes_cons_unit_of_mem (off' := ![0, 0]) v f h' p _ y _ rfl (Fin.forall_fin_two.mpr ⟨(Nat.zero_add _).symm, (Nat.zero_add _).symm⟩)
  · rw [dif_neg hc]
    exact View.read_writes_cons_unit_of_mem (off' := ![0, 256]) v f h q _ y _ rfl
      (Fin.forall_fin_two.mpr ⟨(Nat.zero_add _).symm, show (y 1).val = 256 + ((y 1).val - 256) by omega⟩)

/-- The three stores of a half tile, read back. -/
theorem read_half (v : View sig .tc .vmem S1024x512 .bf16) (f : v.ty.Contents (Elt F)) (p q : Vec F S512x256 .bf16) (z : Vec F S512x512 .bf16) (h h' h'') (y : S1024x512.Idx) :
    v.read (Elt F) (v.writes (Elt F) f [⟨Rect.unit (s := S1024x512) ![512, 0] S512x512.size h, z⟩,
        ⟨Rect.unit (s := S1024x512) ![0, 256] S512x256.size h', q⟩, ⟨Rect.unit (s := S1024x512) ![0, 0] S512x256.size h'', p⟩]) y
      = if hr : (y 0).val < 512 then
          if hc : (y 1).val < 256 then p (ix2 ⟨(y 0).val, hr⟩ ⟨(y 1).val, hc⟩)
          else q (ix2 ⟨(y 0).val, hr⟩ ⟨(y 1).val - 256, col_lt hc (y 1).isLt⟩)
        else z (ix2 ⟨(y 0).val - 512, row_lt hr (y 0).isLt⟩ (y 1 : Fin 512)) := by
  by_cases hr : (y 0).val < 512
  · rw [dif_pos hr, View.read_writes_cons_unit_of_not_mem (off' := ![512, 0]) v f h z _ y rfl 0 (Or.inl hr)]
    by_cases hc : (y 1).val < 256
    · rw [dif_pos hc, View.read_writes_cons_unit_of_not_mem (off' := ![0, 256]) v f h' q _ y rfl 1 (Or.inl hc)]
      exact View.read_writes_cons_unit_of_mem (off' := ![0, 0]) v f h'' p _ y _ rfl (Fin.forall_fin_two.mpr ⟨(Nat.zero_add _).symm, (Nat.zero_add _).symm⟩)
    · rw [dif_neg hc]
      exact View.read_writes_cons_unit_of_mem (off' := ![0, 256]) v f h' q _ y _ rfl
        (Fin.forall_fin_two.mpr ⟨(Nat.zero_add _).symm, show (y 1).val = 256 + ((y 1).val - 256) by omega⟩)
  · rw [dif_neg hr]
    exact View.read_writes_cons_unit_of_mem (off' := ![512, 0]) v f h z _ y _ rfl
      (Fin.forall_fin_two.mpr ⟨show (y 0).val = 512 + ((y 0).val - 512) by omega, (Nat.zero_add _).symm⟩)

set_option maxHeartbeats 2000000 in
/-- The body's run: from its blocks, the scratch and the table's half, whatever the result's buffer held, to the blocks and
    the table as they were, `rows` in the scratch and `out` in the result's buffer. -/
theorem run (c : Dev nD) (i : grid0.Coords)
    (arg3 : Memref sig .tc .vmem S1024x2048 .f32) (harg3 : arg3.IsWhole)
    (arg4 : Memref sig .tc .vmem S1x2048x512 .f32) (harg4 : arg4.IsWhole)
    (arg5 : Memref sig .tc .vmem S1x2048x512 .f32) (harg5 : arg5.IsWhole)
    (arg6 : Memref sig .tc .vmem S1024x512 .bf16) (harg6 : arg6.IsWhole)
    (arg7 : Memref sig .tc .vmem S1024x2048 .bf16) (harg7 : arg7.IsWhole)
    (x0 : Vec F S1024x2048 .f32) (x1 x2 : Vec F S1x2048x512 .f32) (s : Vec F S1024x2048 .bf16) (xt : TableBuf (F := F) c tableRef)
    (E : Set ℕ) (K : PUnit → sProp 𝕄) :
    iprop(owns (c : Thread nD τ) arg3 fullShare x0 ∗ owns (c : Thread nD τ) arg4 fullShare x1 ∗ owns (c : Thread nD τ) arg5 fullShare x2
        ∗ (∃ d, owns (c : Thread nD τ) arg6 fullShare d) ∗ owns (c : Thread nD τ) arg7 fullShare s ∗ tableHeld c tableRef xt
        ∗ (iprop(owns (c : Thread nD τ) arg3 fullShare x0 ∗ owns (c : Thread nD τ) arg4 fullShare x1 ∗ owns (c : Thread nD τ) arg5 fullShare x2
            ∗ owns (c : Thread nD τ) arg6 fullShare (out i (used xt) (count xt i) (rows i (used xt) x0 s) x1 x2)
            ∗ owns (c : Thread nD τ) arg7 fullShare (rows i (used xt) x0 s)
            ∗ tableHeld c tableRef xt) -∗ K ⟨⟩))
      ⊢ wp frame (wpE (defs₀ (F := F)) Variants.none c none) E
          (cc0_moe_up i tableRef (Memref.isWhole_whole _) arg3 harg3 arg4 harg4 arg5 harg5 arg6 harg6 arg7 harg7) K := by
  simp only [cc0_moe_up_eq_skeleton]; unfold cc0_moe_up_skel
  unfold owns
  iintro ⟨⟨%f0, %hf0, H0⟩, ⟨%f1, %hf1, H1⟩, ⟨%f2, %hf2, H2⟩, ⟨%d3, %f3, -, H3⟩, ⟨%f4, %hf4, H4⟩, HT, Hk⟩
  obtain rfl := harg3.eq_unread hf0; obtain rfl := harg4.eq_unread hf1; obtain rfl := harg5.eq_unread hf2
  obtain rfl := harg7.eq_unread hf4
  sl_exec
  have hu : run.sl.r c xt = used xt := by unfold run.sl.r; exact used_read c xt _ _
  have hv : run.sl.r_1 c i xt = count xt i := by unfold run.sl.r_1; exact count_read c xt i _ _
  have hf : run.sl.v9 c i xt = fresh i (used xt) := by rw [← hu]; rfl
  have hs := fun h => read_rows arg7 harg7 (k0_pay1 x0) s (fresh i (used xt)) h
  have h20 : run.sl.v20 c i arg3 harg3 arg7 harg7 x0 s xt = rows i (used xt) x0 s := by
    unfold run.sl.v20
    rw [View.readAt_full, hf, load_x0]
    exact hs _
  have h20' : run.sl.v20_1 c i arg3 harg3 arg7 harg7 x0 s xt = upper (rows i (used xt) x0 s) := by
    unfold run.sl.v20_1
    rw [load_upper, hf, load_x0]
    exact congrArg upper (hs _)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr
    swap; · iexact H3
    ipureintro
    rw [h20, h20', hu, hv, load_left, load_left, load_right, load_right]
    unfold out
    by_cases h4 : k0_cond4 i (used xt) = 1#1
    · rw [dif_pos h4, if_pos h4, View.read_writes_full]
    · rw [dif_neg h4, if_neg h4]
      by_cases h3 : k0_cond3 i (used xt) (count xt i) = 1#1
      · rw [dif_pos h3, if_pos h3]
        funext y
        exact read_half _ _ _ _ _ _ _ _ y
      · rw [dif_neg h3, if_neg h3, dif_pos (some_branch i _ _ h4 h3)]
        funext y
        exact read_full _ _ _ _ _ _ y
  isplitl [H4]
  · iexists _; isplitr
    swap; · iexact H4
    ipureintro
    rw [hf, load_x0]
    exact hs _
  iexact HT

end Cert.MoeUp

end
-- ==== Proof.UpFrame.lean ====
/- The up projection's run from any memory whose table keeps every block inside its array (`Ok`): it terminates, its
   arguments end as they were, and the result's blocks are `out` of the blocks staged at each point. The rows of a used tile
   are cast into the scratch buffer at the tile's first point and stay there over its other points (`Keeps`), so what the
   body finds there at a point of a used tile is the point's own block of rows, cast. -/
module

public import proofs.«01_k».proof.Proof.UpRun
public import Idealize.ShloMosaic.Lib.Pipeline.ValueKit

@[expose] public section

set_option maxRecDepth 16384

noncomputable section

namespace Cert.MoeUp

open Cert.Kernel2Ideal Cert.Kernel2Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Up to the kernel -/

/-- A core's buffers when the kernel is entered: as launched. -/
abbrev V (c : Dev nD) (b : Ref sig .tc) : Buf (Elt F) ((c : Thread nD τ).loc b) := m ((c : Thread nD τ).loc b)

theorem hmain (𝒱₀ : Variants) : Pipeline.HMainP (Ix := Unit) (Name := ℕ) (U := UR sig nD τ) (Lvl := ℕ) pcfgs 0 defs₀ 𝒱₀ m (main (F := F)) (V m) :=
  Pipeline.hmainP_region pcfgs 0 defs₀ 𝒱₀ m main fun c => (main_chain c).trans rfl

theorem V_arg0 (c : Dev nD) : V m c main_arg0 = m ((c : Thread nD τ).loc main_arg0) := rfl
theorem V_arg1 (c : Dev nD) : V m c main_arg1 = m ((c : Thread nD τ).loc main_arg1) := rfl
theorem V_arg2 (c : Dev nD) : V m c main_arg2 = m ((c : Thread nD τ).loc main_arg2) := rfl

/-! ## The table -/

/-- The table's words when the kernel is entered (there is one device). -/
def words : IVec S81 32 := V m (0 : Dev nD) main_arg1

def tbl : pre0.Contents (Elt F) := fun j => V m (0 : Dev nD) (pre0.ref j)

theorem V_pre (c : Dev nD) (j : Fin 1) : V m c (pre0.ref j) = tbl m j := by
  obtain rfl : c = 0 := Subsingleton.elim _ _; rfl

/-- Every block lies inside its array, at the table's words. -/
abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

theorem tableHeld_eq (c : Dev nD) : (Pipeline.ΦT pre0 (tbl m) c : sProp 𝕄) = tableHeld c tableRef (words m) := by
  unfold Pipeline.ΦT Pipeline.prefHeld
  rw [show (Finset.univ : Finset (Fin 1)) = {(0 : Fin 1)} from by decide, bigSep_singleton]
  rfl

/-- The result is stored at every point. -/
theorem not_idle (pf : pre0.Contents (Elt F)) (i : grid0.Coords) : idle0 pf 3 i = false := by
  show (!(k0_cond2 i (pf.atD 0 ![40]) (pf.atD 0 (k0_off2 i)) == 1#1) && !(k0_cond3 i (pf.atD 0 ![40]) (pf.atD 0 (k0_off2 i)) == 1#1) && !(k0_cond4 i (pf.atD 0 ![40]) == 1#1)) = false
  by_cases h4 : k0_cond4 i (pf.atD 0 ![40]) = 1#1
  · simp [h4]
  · by_cases h3 : k0_cond3 i (pf.atD 0 ![40]) (pf.atD 0 (k0_off2 i)) = 1#1
    · simp [h3]
    · simp [some_branch i _ _ h4 h3]

/-- The result is written back at every point. -/
theorem flush_out (a : (pcfg0 (F := F)).Adm) : ∀ t : Fin (cfg0 a).N, ((cfg0 a).win 3).flush t = true :=
  (fun t => (Pipeline.Window.flushOf_reads cc0_transform_3 reads0_3 hreads0_3 1 (by decide) (by decide) (Pipeline.Window.sep_of_coord cc0_transform_3 1 1 (fun _ => rfl) (by decide)) (P := 1) (m := 0) (by decide) rfl t).mpr (Nat.mod_one _) : ∀ t : Fin grid0.N, Pipeline.Window.flushOf grid0 true cc0_transform_3 t = true)

/-! ## Blocks and buffers -/

/-- The staging buffers the body is handed at a point, and the scratch buffer. -/
abbrev ms0 (hO : Ok m) (t : Fin (cfgM m hO).N) : Memref sig .tc .vmem S1024x2048 .f32 := spec0_0.stage ((cfgM m hO).slots t 0)
abbrev ms1 (hO : Ok m) (t : Fin (cfgM m hO).N) : Memref sig .tc .vmem S1x2048x512 .f32 := spec0_1.stage ((cfgM m hO).slots t 1)
abbrev ms2 (hO : Ok m) (t : Fin (cfgM m hO).N) : Memref sig .tc .vmem S1x2048x512 .f32 := spec0_2.stage ((cfgM m hO).slots t 2)
abbrev ms3 (hO : Ok m) (t : Fin (cfgM m hO).N) : Memref sig .tc .vmem S1024x512 .bf16 := spec0_3.stage ((cfgM m hO).slots t 3)
abbrev scratch : Memref sig .tc .vmem S1024x2048 .bf16 := Memref.whole cc0_scratch0

/-- The body as it is called at a point. -/
abbrev bodyAt (a : (pcfg0 (F := F)).Adm) (t : Fin (cfg0 a).N) : Prog (TpuEff nD τ sig (Elt F) Λ₀ .tc) PUnit :=
  cc0_moe_up (grid0.coords t) (Memref.whole main_arg1) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) scratch (Memref.isWhole_whole _)

/-- A window's block at a point, read off its array. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

theorem found0 (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem found1 (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem found2 (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The scratch buffer -/

/-- A grid point's coordinates. -/
theorem coords_at : ∀ t : Fin grid0.N, (grid0.coords t 0).val = t.val / 14 ∧ (grid0.coords t 1).val = t.val % 14 ∧ t.val < 560 := by
  decide +kernel

/-- The scratch buffer before the point numbered `n`: where the point before belongs to a used tile, that point's rows, cast. -/
def Keeps (hO : Ok m) (c : Dev nD) (n : ℕ) (s : Vec F S1024x2048 .bf16) : Prop :=
  ∀ t : Fin (cfgM m hO).N, t.val + 1 = n → ¬ k0_cond4 (grid0.coords t) (used (words m)) = 1#1 → s = k0_pay1 (iblk m hO c 0 t)

/-- The two conditions on a tile's use, and the block of rows, look at the point's tile alone. -/
theorem cond4_of_tile {i i' : grid0.Coords} (h : (i 0).val = (i' 0).val) (u : BitVec 32) : k0_cond4 i u = k0_cond4 i' u := by
  unfold k0_cond4; rw [h]

theorem emb_of_index (a : (pcfg0 (F := F)).Adm) (t t' : Fin (cfg0 a).N) (h : ((cfg0 a).win 0).index t = ((cfg0 a).win 0).index t') (y : S1024x2048.Idx) :
    (((cfg0 a).win 0).blk t).view.emb y = (((cfg0 a).win 0).blk t').view.emb y := by
  refine funext fun x => Fin.ext ?_
  refine (((cfg0 a).win 0).rect_emb_val t y x rfl).trans (Eq.trans ?_ (((cfg0 a).win 0).rect_emb_val t' y x rfl).symm)
  rw [h]

theorem index_of_tile (a : (pcfg0 (F := F)).Adm) (t t' : Fin (cfg0 a).N) (h : (grid0.coords t 0).val = (grid0.coords t' 0).val) :
    ((cfg0 a).win 0).index t = ((cfg0 a).win 0).index t' := by
  show cc0_transform_0 inb_S81_S1_40 numel1_S1 a.1 (grid0.coords t) = cc0_transform_0 inb_S81_S1_40 numel1_S1 a.1 (grid0.coords t')
  unfold cc0_transform_0
  rw [h]

theorem rows_of_tile (hO : Ok m) (c : Dev nD) (t t' : Fin (cfgM m hO).N) (h : (grid0.coords t 0).val = (grid0.coords t' 0).val) :
    (k0_pay1 (iblk m hO c 0 t) : Vec F S1024x2048 .bf16) = k0_pay1 (iblk m hO c 0 t') := by
  refine congrArg k0_pay1 (funext fun y => ?_)
  exact congrArg (V m c main_arg0) (emb_of_index (adm m hO) t t' (index_of_tile (adm m hO) t t' h) y)

/-- A used tile's first point casts its rows. -/
theorem fresh_first (i : grid0.Coords) (u : BitVec 32) (h : ¬ k0_cond4 i u = 1#1) (h1 : (i 1).val = 0) : fresh i u = 1#1 := by
  unfold k0_cond4 at h
  unfold fresh
  rw [h1]
  simp only [Scalar.cmpi, Scalar.andi, Scalar.xori, Scalar.extui] at *
  generalize (IntOp.cmpi .slt (BitVec.ofNat 32 (i 0).val) u) = a at *
  revert a
  decide

/-- At a point of a used tile the scratch holds, after the first store, the point's rows, cast. -/
theorem rows_eq (hO : Ok m) (c : Dev nD) (t : Fin (cfgM m hO).N) (s : Vec F S1024x2048 .bf16) (hs : Keeps m hO c t.val s)
    (h : ¬ k0_cond4 (grid0.coords t) (used (words m)) = 1#1) :
    rows (grid0.coords t) (used (words m)) (iblk m hO c 0 t) s = k0_pay1 (iblk m hO c 0 t) := by
  unfold rows
  by_cases hf : fresh (grid0.coords t) (used (words m)) = 1#1
  · exact if_pos hf
  · rw [if_neg hf]
    have h0 := coords_at t
    have h1 : ¬ t.val % 14 = 0 := fun e => hf (fresh_first _ _ h (h0.2.1.trans e))
    let t' : Fin (cfgM m hO).N := ⟨t.val - 1, Nat.lt_of_le_of_lt (Nat.sub_le _ _) t.isLt⟩
    have e : (grid0.coords t' 0).val = (grid0.coords t 0).val := by
      rw [h0.1, (coords_at t').1]
      show (t.val - 1) / 14 = t.val / 14
      omega
    rw [hs t' (show t.val - 1 + 1 = t.val by omega) (by rw [cond4_of_tile e]; exact h)]
    exact rows_of_tile m hO c t' t e

theorem keeps_next (hO : Ok m) (c : Dev nD) (t : Fin (cfgM m hO).N) (s : Vec F S1024x2048 .bf16) (hs : Keeps m hO c t.val s) :
    Keeps m hO c (t.val + 1) (rows (grid0.coords t) (used (words m)) (iblk m hO c 0 t) s) := by
  intro t' ht h
  obtain rfl : t' = t := Fin.ext (Nat.succ.inj ht)
  exact rows_eq m hO c t' s hs h

theorem keeps_first (hO : Ok m) (c : Dev nD) (s : Vec F S1024x2048 .bf16) : Keeps m hO c 0 s :=
  fun t ht => absurd ht (Nat.succ_ne_zero _)

/-! ## What the pipeline holds -/

/-- What is left in the result's buffer at a point. -/
def left (hO : Ok m) (c : Dev nD) (t : Fin (cfgM m hO).N) : Vec F S1024x512 .bf16 :=
  out (grid0.coords t) (used (words m)) (count (words m) (grid0.coords t)) (k0_pay1 (iblk m hO c 0 t)) (iblk m hO c 1 t) (iblk m hO c 2 t)

/-- It is what the body leaves, whatever the scratch held of earlier tiles. -/
theorem left_eq (hO : Ok m) (c : Dev nD) (t : Fin (cfgM m hO).N) (s : Vec F S1024x2048 .bf16) (hs : Keeps m hO c t.val s) :
    out (grid0.coords t) (used (words m)) (count (words m) (grid0.coords t)) (rows (grid0.coords t) (used (words m)) (iblk m hO c 0 t) s)
      (iblk m hO c 1 t) (iblk m hO c 2 t) = left m hO c t := by
  unfold left
  by_cases h : k0_cond4 (grid0.coords t) (used (words m)) = 1#1
  · unfold out; rw [if_pos h, if_pos h]
  · rw [rows_eq m hO c t s hs h]

/-- Between points: the scratch as `Keeps` says, the generator's register, and the table's half. -/
def between (hO : Ok m) (c : Dev nD) (n : ℕ) : sProp 𝕄 :=
  iprop(((∃ s, ⌜Keeps m hO c n s⌝ ∗ owns (c : Thread nD τ) scratch fullShare s) ∗ (∃ r, prngReg c r)) ∗ Pipeline.ΦT pre0 (tbl m) c)

/-- The pipeline's contents: the arrays as entered, each block left in place, the result's buffer at `left`. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => left m hO c t
  Φ t := between m hO c t.val
  q w := Pipeline.shareOf spec0 w
  owed _ := 0

/-- What the launch gives of the scratch: it holds something. -/
theorem rest_eq (c : Dev nD) :
    (Pipeline.ΦA spec0 c : sProp 𝕄) = iprop((∃ d, owns (c : Thread nD τ) scratch fullShare d) ∗ (∃ r, prngReg c r)) := by
  unfold Pipeline.ΦA; rw [scopedRest0_eq]; simp only [scratch, owns_whole]; try rfl

theorem A_eq (hO : Ok m) (c : Dev nD) (w : Fin (cfgM m hO).W) : (dats m hO 0 c).A w = V m c (Pipeline.arrRef spec0 w) := by
  dsimp only [dats]

theorem after0 (hO : Ok m) (c : Dev nD) (t : Fin (cfgM m hO).N) : (dats m hO 0 c).after 0 t = iblk m hO c 0 t := by dsimp only [dats]; try rfl
theorem after1 (hO : Ok m) (c : Dev nD) (t : Fin (cfgM m hO).N) : (dats m hO 0 c).after 1 t = iblk m hO c 1 t := by dsimp only [dats]; try rfl
theorem after2 (hO : Ok m) (c : Dev nD) (t : Fin (cfgM m hO).N) : (dats m hO 0 c).after 2 t = iblk m hO c 2 t := by dsimp only [dats]; try rfl
theorem after3 (hO : Ok m) (c : Dev nD) (t : Fin (cfgM m hO).N) : (dats m hO 0 c).after 3 t = left m hO c t := by dsimp only [dats]; try rfl

theorem before0 (hO : Ok m) (c : Dev nD) (t : Fin (cfgM m hO).N) (d) : (dats m hO 0 c).before 0 t d = iblk m hO c 0 t :=
  found0 m hO (dats m hO 0 c) (A_eq m hO c 0) (after0 m hO c) t d
theorem before1 (hO : Ok m) (c : Dev nD) (t : Fin (cfgM m hO).N) (d) : (dats m hO 0 c).before 1 t d = iblk m hO c 1 t :=
  found1 m hO (dats m hO 0 c) (A_eq m hO c 1) (after1 m hO c) t d

theorem before2 (hO : Ok m) (c : Dev nD) (t : Fin (cfgM m hO).N) (d) : (dats m hO 0 c).before 2 t d = iblk m hO c 2 t :=
  found2 m hO (dats m hO 0 c) (A_eq m hO c 2) (after2 m hO c) t d

theorem held_at (hO : Ok m) (c : Dev nD) (t : Fin ((cfgM m hO).N + 1)) : (dats m hO 0 c).Φ t = between m hO c t.val := by dsimp only [dats]

/-! ## The body at a point -/

def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0 m hO t) fullShare ((dats m hO 0 c).before 0 t d))
    ∗ (∃ d, owns (c : Thread nD τ) (ms1 m hO t) fullShare ((dats m hO 0 c).before 1 t d))
    ∗ (∃ d, owns (c : Thread nD τ) (ms2 m hO t) fullShare ((dats m hO 0 c).before 2 t d))
    ∗ (∃ d, owns (c : Thread nD τ) (ms3 m hO t) fullShare ((dats m hO 0 c).before 3 t d)))

def bodyPost (hO : Ok m) (c : Dev nD) (t : Fin (cfgM m hO).N) : sProp 𝕄 :=
  iprop((dats m hO 0 c).Φ t.succ ∗ (dats m hO 0 c).owesAt () t.succ
    ∗ owns (c : Thread nD τ) (ms0 m hO t) fullShare ((dats m hO 0 c).after 0 t)
    ∗ owns (c : Thread nD τ) (ms1 m hO t) fullShare ((dats m hO 0 c).after 1 t)
    ∗ owns (c : Thread nD τ) (ms2 m hO t) fullShare ((dats m hO 0 c).after 2 t)
    ∗ owns (c : Thread nD τ) (ms3 m hO t) fullShare ((dats m hO 0 c).after 3 t))

theorem body_runs (hO : Ok m) (c : Dev nD) (t : Fin (cfgM m hO).N) :
    bodyPre m hO c t ⊢ wp frame (wpE (defs₀ (F := F)) Variants.none c none) Set.univ (bodyAt (adm m hO) t) (fun _ => bodyPost m hO c t) := by
  unfold bodyPre bodyPost bodyAt
  simp only [before0, before1, before2]
  rw [show (dats m hO 0 c).owesAt () t.succ = (dats m hO 0 c).owesAt () t.castSucc from rfl, after0, after1, after2, after3]
  rw [held_at, held_at, Fin.val_succ, Fin.val_castSucc]
  unfold between
  rw [tableHeld_eq]
  iintro ⟨⟨⟨⟨%s, %hs, HS⟩, Hg⟩, HT⟩, Ho, ⟨%d0, H0⟩, ⟨%d1, H1⟩, ⟨%d2, H2⟩, ⟨%d3, H3⟩⟩
  iapply (run c (grid0.coords t) _ _ _ _ _ _ _ _ _ _ (iblk m hO c 0 t) (iblk m hO c 1 t) (iblk m hO c 2 t) s (words m) Set.univ _)
  isplitl [H0]; · iexact H0
  isplitl [H1]; · iexact H1
  isplitl [H2]; · iexact H2
  isplitl [H3]; · iexists _; iexact H3
  isplitl [HS]; · iexact HS
  isplitl [HT]; · iexact HT
  rw [left_eq m hO c t s hs]
  iintro ⟨H0, H1, H2, H3, HS, HT⟩
  isplitl [HS Hg HT]
  · isplitl [HS Hg]
    · isplitl [HS]
      · iexists _; isplitr
        swap; · iexact HS
        ipureintro; exact keeps_next m hO c t s hs
      iexact Hg
    iexact HT
  isplitl [Ho]; · iexact Ho
  isplitl [H0]; · iexact H0
  isplitl [H1]; · iexact H1
  isplitl [H2]; · iexact H2
  iexact H3

theorem defs₀_row (hO : Ok m) (t : Fin (cfgM m hO).N) :
    defs₀ (F := F) .tc (cfgM m hO).body ((cfgM m hO).bodyArgs t ((cfgM m hO).slots t)) = bodyAt (adm m hO) t := by
  unfold defs₀; rw [Defs.onTc_tc]

theorem live (hO : Ok m) (t : Fin (cfgM m hO).N) : (cfgM m hO).idle 3 ((cfgM m hO).grid.coords t) = false :=
  not_idle (tbl m) (grid0.coords t)

/-- A window stored at the point is left with what the body stored. -/
theorem settled {b f : Bool} (h : b = false) {X A B : sProp 𝕄} :
    B ⊢ (match (fun _ : Fin 4 => false) 3 with
      | true => X
      | false => match (generalizing := false) b with
        | true => match (generalizing := false) f with
          | false => A
          | true => B
        | false => B) := by
  subst h; exact .rfl

theorem body_obligation (hO : Ok m) (c : Dev nD) : BodyObligation (dats (F := F) m hO 0 c) (defs₀ (F := F)) Variants.none () Set.univ := fun t => by
  rw [bigSep_W0, bigSep_W0, defs₀_row m hO]
  refine triple_restated (body_runs m hO c t) rfl .rfl fun _ => ?_
  unfold bodyPost
  refine BI.sep_mono (BI.Entails.refl _) (BI.sep_mono (BI.Entails.refl _) (BI.sep_mono ?_ (BI.sep_mono ?_ (BI.sep_mono ?_ ?_))))
  · exact BI.Entails.refl _
  · exact BI.Entails.refl _
  · exact BI.Entails.refl _
  · exact settled (X := iprop(∃ d, owns (c : Thread nD τ) (ms3 m hO t) fullShare d)) (live m hO t)

/-! ## The run -/

theorem enter (hO : Ok m) (c : Dev nD) : iprop(Pipeline.ΦA spec0 c ∗ Pipeline.ΦT pre0 (tbl m) c) ⊢ (dats m hO 0 c).Φ 0 := by
  rw [held_at, rest_eq]
  unfold between
  iintro ⟨⟨⟨%s, HS⟩, Hg⟩, HT⟩
  isplitl [HS Hg]
  · isplitl [HS]
    · iexists _; isplitr
      swap; · iexact HS
      ipureintro; exact keeps_first m hO c _
    iexact Hg
  iexact HT

theorem leave (hO : Ok m) (c : Dev nD) : (dats m hO 0 c).Φ (Fin.last (cfgM m hO).N) ⊢ Pipeline.ΦA spec0 c := by
  rw [held_at, rest_eq]
  unfold between
  iintro ⟨⟨⟨%s, -, HS⟩, Hg⟩, -⟩
  isplitl [HS]
  · iexists _; iexact HS
  iexact Hg

set_option backward.isDefEq.respectTransparency.types false in
theorem run_main_quiescent (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP_track_shared (Q' := _) pcfgs (fun _ => adm m hO) (dats m hO) (0 : Fin 1) launch₀0 defs₀ Variants.none m ρ main
    (hbody := fun c => (body_obligation m hO c).loose) (hq := fun _ _ _ => rfl)
    (howed := fun _ _ => rfl) (V := V m) (hmain := hmain m Variants.none) (hA := A_eq m hO) (hpf := V_pre m)
    (hin := enter m hO) (hout := leave m hO)

theorem run_main (hO : Ok m) : θ_run defs (onTc (τ := τ) (main (F := F))) (s₀ m ρ) (Pipeline.FramePost (Pipeline.pin pcfgs fun _ => adm m hO) (dats m hO) 0 (V m)) :=
  (θ_run defs _ _).mono (fun _ h => h.1) (run_main_quiescent m ρ hO)

/-- The arguments end as they were. -/
theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).1 0).trans (((dats m hO 0 c).arrAt_in 0 rfl _).trans ((A_eq m hO c 0).trans (V_arg0 m c))),
      ((h c).2 main_arg1 (by decide : main_arg1 ∈ Pipeline.restRefs sig spec0)).trans (V_arg1 m c),
      ((h c).1 2).trans (((dats m hO 0 c).arrAt_in 2 rfl _).trans ((A_eq m hO c 2).trans (V_arg2 m c)))⟩) (run_main m ρ hO)

/-- The frame: the arguments end as they were and every counter is at zero. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ hO) ((θ_run defs _ _).mono (fun _ h => h.2) (run_main_quiescent m ρ hO))

end Cert.MoeUp

end
-- ==== Proof.UpTable.lean ====
/- The up projection's blocks at a routing table: which block each window stages at a point, and that every block lies
   inside its array. -/
module

public import proofs.«01_k».proof.Proof.UpFrame
public import proofs.«01_k».proof.Proof.MoeTable

@[expose] public section

set_option maxRecDepth 16384

noncomputable section

namespace Cert.MoeUp

open Cert.Kernel2Ideal Cert.Kernel2Ideal.Gen
open Idealize.ShloMosaic Idealize.ShloMosaic.TcCoe Cert.Moe

variable {F : FTy → Type} [FloatOps F]
variable (m : (ℓ : Loc nD τ sig) → Buf (Elt F) ℓ)

theorem words_used (h h1) : (tbl m).at 0 (Rect.unit (s := S81) ![40] S1.size h) h1 = usedOf (words m) := by
  show words m _ = words m _
  congr 1
  funext a
  match a with
  | ⟨0, _⟩ => rfl

theorem words_expert (i : grid0.Coords) (h h1) :
    (tbl m).at 0 (Rect.unit (s := S81) ![(Scalar.indexCast (BitVec.ofNat 32 (i 0).val)).toNat] S1.size h) h1 = expertOf (words m) (i 0) := by
  show words m _ = words m _
  congr 1
  funext a
  match a with
  | ⟨0, _⟩ => exact Fin.ext (by
      have hi : (i 0).val < 40 := (i 0).isLt
      show ((BitVec.ofNat 32 (i 0).val).setWidth 32).toNat + 1 * 0 = (i 0).val
      rw [BitVec.toNat_setWidth, BitVec.toNat_ofNat]
      omega)

/-- The rows' block: the point's tile, or the last used tile past it. -/
theorem block0 (hT : Routed (words m)) (i : grid0.Coords) :
    cc0_transform_0 inb_S81_S1_40 numel1_S1 (tbl m) i = ![min (i 0).val ((usedOf (words m)).toNat - 1), 0] := by
  show ![(Scalar.minsi (BitVec.ofNat 32 (i 0).val) (Scalar.subi ((tbl m).at 0 (Rect.unit (s := S81) ![40] S1.size inb_S81_S1_40) numel1_S1) 1#32)).toNat, (0#32).toNat] = _
  rw [words_used m inb_S81_S1_40 numel1_S1, block_used (i 0) hT.pos hT.le]
  rfl

/-- The gate weights' block: the tile's expert, and the point's columns. -/
theorem block1 (i : grid0.Coords) :
    cc0_transform_1 k0_off1_inb numel1_S1 (tbl m) i = ![(expertOf (words m) (i 0)).toNat, 0, (i 1).val] := by
  have h1 : (i 1).val < 14 := (i 1).isLt
  have e : (BitVec.ofNat 32 (i 1).val).toNat = (i 1).val := by rw [BitVec.toNat_ofNat]; omega
  funext a
  match a with
  | ⟨0, _⟩ => exact congrArg BitVec.toNat (words_expert m i (k0_off1_inb i) numel1_S1)
  | ⟨1, _⟩ => rfl
  | ⟨2, _⟩ => exact e

/-- The up weights' block: the same, in the right half of the columns. -/
theorem block2 (i : grid0.Coords) :
    cc0_transform_2 k0_off1_inb numel1_S1 (tbl m) i = ![(expertOf (words m) (i 0)).toNat, 0, 14 + (i 1).val] := by
  have h1 : (i 1).val < 14 := (i 1).isLt
  have e : (14#32 + BitVec.ofNat 32 (i 1).val).toNat = 14 + (i 1).val := by
    simp only [BitVec.toNat_add, BitVec.toNat_ofNat]; omega
  funext a
  match a with
  | ⟨0, _⟩ => exact congrArg BitVec.toNat (words_expert m i (k0_off1_inb i) numel1_S1)
  | ⟨1, _⟩ => rfl
  | ⟨2, _⟩ => exact e

theorem ok_of_routed (hT : Routed (words m)) : Ok m := by
  refine ⟨fun i => ?_, fun i => ?_, fun i => ?_⟩
  · have hi : (i 0).val < 40 := (i 0).isLt
    have hb := block0 m hT i
    have hle := hT.le
    refine ⟨fun a => ?_, .inl rfl⟩
    rw [hb]
    match a with
    | ⟨0, _⟩ => show (min (i 0).val ((usedOf (words m)).toNat - 1) + 1) * 1024 ≤ 40960; omega
    | ⟨1, _⟩ => show (0 + 1) * 2048 ≤ 2048; omega
  · have hi : (i 1).val < 14 := (i 1).isLt
    have hb := block1 m i
    have he := hT.expert (i 0)
    refine ⟨fun a => ?_, .inl rfl⟩
    rw [hb]
    match a with
    | ⟨0, _⟩ => show ((expertOf (words m) (i 0)).toNat + 1) * 1 ≤ 8; omega
    | ⟨1, _⟩ => show (0 + 1) * 2048 ≤ 2048; omega
    | ⟨2, _⟩ => show ((i 1).val + 1) * 512 ≤ 14336; omega
  · have hi : (i 1).val < 14 := (i 1).isLt
    have hb := block2 m i
    have he := hT.expert (i 0)
    refine ⟨fun a => ?_, .inl rfl⟩
    rw [hb]
    match a with
    | ⟨0, _⟩ => show ((expertOf (words m) (i 0)).toNat + 1) * 1 ≤ 8; omega
    | ⟨1, _⟩ => show (0 + 1) * 2048 ≤ 2048; omega
    | ⟨2, _⟩ => show (14 + (i 1).val + 1) * 512 ≤ 14336; omega

end Cert.MoeUp

end
-- ==== Proof.UpRef.lean ====
/- The reference's up projection at a row and a column: the gated product of the row's expert. -/
module

public import proofs.«01_k».proof.Proof.MoeTable
public import proofs.«01_k».proof.Proof.Gen.Reference2Ideal.Read
public import Idealize.ShloMosaic.Lib.Pointwise

@[expose] public section

set_option maxRecDepth 16384

noncomputable section

namespace Cert.MoeUp

open Cert.Reference2Ideal Cert.Reference2Ideal.Gen Cert.Reference2Ideal.Read Idealize.ShloMosaic Idealize.ShloMosaic.TcCoe
open Cert.Moe

abbrev Rows := (⟨S40960x2048, .f32⟩ : BufTy).Contents (Elt Ideal)
abbrev Weights := (⟨S8x2048x14336, .f32⟩ : BufTy).Contents (Elt Ideal)

/-- The weight of an expert at a row: whether the row's tile names it. -/
theorem hot_at (T : IVec S81 32) (n : Fin 40960) (e : Fin 8) :
    (val_main_v3 (F := Ideal) T (ix2 n e) : EReal) = hot (expertOf T (tileOf n)) e := by
  pointwise [val_main_v3, val_main_call0_v4, val_main_call0_v3, val_main_call0_v2, val_main_call0_v1, val_main_call0_v0, val_main_v2, val_main_v1, val_main_v0]
  exact hot_eq _ e

/-- The product with one expert's matrix. -/
def product (x : Rows) (w : Weights) (e : Fin 8) (n : Fin 40960) (d : Fin 14336) : EReal :=
  ∑ k : Fin 2048, (show EReal from x (ix2 n k)) * (show EReal from w (ix3 e k d))

/-- A gate and an up value together: the gate's SiLU times the up value. -/
def swi (g u : EReal) : EReal := g * Idealize.ShloMosaic.Ideal.logistic g * u

theorem swi_zero : swi 0 0 = 0 := mul_zero _

/-- One expert's result at a row and a column. -/
def gated (x : Rows) (w : Weights) (e : Fin 8) (n : Fin 40960) (d : Fin 7168) : EReal :=
  swi (product x w e n ⟨d.val, by omega⟩) (product x w e n ⟨7168 + d.val, by omega⟩)

theorem expert_at (x : Rows) (w : Weights) (n : Fin 40960) (e : Fin 8) (d : Fin 7168) :
    (val_main_v8 (F := Ideal) x w (ix3 n e d) : EReal) = gated x w e n d := by
  pointwise [val_main_v8, val_main_v7, val_main_call1_v5, val_main_call1_v4, val_main_call1_v3, val_main_call1_v2, val_main_call1_v1, val_main_call1_v0, val_main_call1_cst, val_main_call1_cst_0, val_main_v6, val_main_v5, val_main_v4]
  rfl

theorem ref_at (x : Rows) (T : IVec S81 32) (w : Weights) (hT : Routed T) (n : Fin 40960) (d : Fin 7168) :
    (val_main_v11 (F := Ideal) x T w (ix2 n d) : EReal) = gated x w ⟨(expertOf T (tileOf n)).toNat, hT.expert _⟩ n d := by
  pointwise [val_main_v11, val_main_v10, val_main_v9, hot_at, expert_at]
  exact select _ (hT.expert _) fun e => gated x w e n d

end Cert.MoeUp

end
-- ==== Proof.UpRow.lean ====
/- What the up projection's body leaves, at a row and a column: the row's gated product where its tile is used, zero elsewhere. -/
module

public import proofs.«01_k».proof.Proof.UpTable
public import proofs.«01_k».proof.Proof.UpRef
public import Idealize.ShloMosaic.Lib.Pointwise

@[expose] public section

set_option maxRecDepth 16384

noncomputable section

namespace Cert.MoeUp

open Cert.Kernel2Ideal Cert.Kernel2Ideal.Gen
open Idealize.ShloMosaic Idealize.ShloMosaic.TcCoe Cert.Moe

/-- The product of a row of a block of rows and a column of a block of weights. -/
def dotRow (h : Vec Ideal S1024x2048 .f32) (w : Vec Ideal S1x2048x512 .f32) (r : Fin 1024) (n : Fin 512) : EReal :=
  ∑ k : Fin 2048, (show EReal from h (ix2 r k)) * (show EReal from w (ix3 0 k n))

/-- The gated product of a row. -/
def swiRow (h : Vec Ideal S1024x2048 .f32) (w1 w2 : Vec Ideal S1x2048x512 .f32) (r : Fin 1024) (n : Fin 512) : EReal :=
  swi (dotRow h w1 r n) (dotRow h w2 r n)

/-- The cast of the rows is the identity. -/
theorem cast_at (h : Vec Ideal S1024x2048 .f32) (r : Fin 1024) (k : Fin 2048) :
    (k0_pay1 (F := Ideal) h (ix2 r k) : EReal) = (show EReal from h (ix2 r k)) := by
  pointwise [k0_pay1]

theorem full_left_at (h : Vec Ideal S1024x2048 .f32) (w1 w2 : Vec Ideal S1x2048x512 .f32) (r : Fin 1024) (n : Fin 256) :
    (k0_pay2 (F := Ideal) (k0_pay1 h) (leftCols w1) (leftCols w2) (ix2 r n) : EReal) = swiRow h w1 w2 r ⟨n.val, by omega⟩ := by
  pointwise [k0_pay2, cast_at]
  rfl

theorem full_right_at (h : Vec Ideal S1024x2048 .f32) (w1 w2 : Vec Ideal S1x2048x512 .f32) (r : Fin 1024) (n : Fin 256) :
    (k0_pay3 (F := Ideal) (k0_pay1 h) (rightCols w1) (rightCols w2) (ix2 r n) : EReal) = swiRow h w1 w2 r ⟨256 + n.val, by omega⟩ := by
  pointwise [k0_pay3, cast_at]
  rfl

theorem upper_at (h : Vec Ideal S1024x2048 .bf16) (r : Fin 512) (k : Fin 2048) :
    (upper h (ix2 r k) : EReal) = (show EReal from h (ix2 ⟨r.val, by omega⟩ k)) := rfl

theorem half_left_at (h : Vec Ideal S1024x2048 .f32) (w1 w2 : Vec Ideal S1x2048x512 .f32) (r : Fin 512) (n : Fin 256) :
    (k0_pay4 (F := Ideal) (upper (k0_pay1 h)) (leftCols w1) (leftCols w2) (ix2 r n) : EReal) = swiRow h w1 w2 ⟨r.val, by omega⟩ ⟨n.val, by omega⟩ := by
  pointwise [k0_pay4, upper_at, cast_at]
  rfl

theorem half_right_at (h : Vec Ideal S1024x2048 .f32) (w1 w2 : Vec Ideal S1x2048x512 .f32) (r : Fin 512) (n : Fin 256) :
    (k0_pay5 (F := Ideal) (upper (k0_pay1 h)) (rightCols w1) (rightCols w2) (ix2 r n) : EReal) = swiRow h w1 w2 ⟨r.val, by omega⟩ ⟨256 + n.val, by omega⟩ := by
  pointwise [k0_pay5, upper_at, cast_at]
  rfl

theorem zero_half_at (r : Fin 512) (n : Fin 512) : (k0_pay6 (F := Ideal) (ix2 r n) : EReal) = 0 := by
  pointwise [k0_pay6]

theorem zero_at (r : Fin 1024) (n : Fin 512) : (k0_pay7 (F := Ideal) (ix2 r n) : EReal) = 0 := by
  pointwise [k0_pay7]

theorem unused_iff (T : IVec S81 32) (hT : Routed T) (i : grid0.Coords) : k0_cond4 i (usedOf T) = 1#1 ↔ ¬ (i 0).val < (usedOf T).toNat := by
  unfold k0_cond4
  show Scalar.cmpi .ne (Scalar.extui (Scalar.xori (IntOp.cmpi .slt (BitVec.ofNat 32 (i 0).val) (usedOf T)) 1#1)) 0#32 = 1#1 ↔ _
  rw [slt_small (i 0) hT.le]
  by_cases h : (i 0).val < (usedOf T).toNat
  · rw [decide_eq_true h]; simp only [h, not_true_eq_false, iff_false]; decide
  · rw [decide_eq_false h]; simp only [h, not_false_eq_true, iff_true]; decide

theorem half_iff (T : IVec S81 32) (hT : Routed T) (i : grid0.Coords) (v : BitVec 32) :
    k0_cond3 i (usedOf T) v = 1#1 ↔ (i 0).val < (usedOf T).toNat ∧ ¬ 512 < v.toInt := by
  unfold k0_cond3
  show Scalar.cmpi .ne (Scalar.extui (Scalar.andi (IntOp.cmpi .slt (BitVec.ofNat 32 (i 0).val) (usedOf T)) (Scalar.xori (IntOp.cmpi .sgt v 512#32) 1#1))) 0#32 = 1#1 ↔ _
  rw [slt_small (i 0) hT.le, sgt_half]
  by_cases h : (i 0).val < (usedOf T).toNat <;> by_cases h' : 512 < v.toInt
  · rw [decide_eq_true h, decide_eq_true h']; simp only [h, h', not_true_eq_false, and_false, iff_false]; decide
  · rw [decide_eq_true h, decide_eq_false h']; simp only [h, h', not_false_eq_true, and_true, iff_true]; decide
  · rw [decide_eq_false h, decide_eq_true h']; simp only [h, h', false_and, iff_false]; decide
  · rw [decide_eq_false h, decide_eq_false h']; simp only [h, h', false_and, iff_false]; decide

/-- A row of zeros has the gated product zero. -/
theorem swiRow_zero (h : Vec Ideal S1024x2048 .f32) (w1 w2 : Vec Ideal S1x2048x512 .f32) (r : Fin 1024) (n : Fin 512)
    (h0 : ∀ k, (h (ix2 r k) : EReal) = 0) : swiRow h w1 w2 r n = 0 := by
  have z : ∀ w, dotRow h w r n = 0 := fun w => Finset.sum_eq_zero fun k _ => by
    show (h (ix2 r k) : EReal) * _ = 0
    rw [h0 k, zero_mul]
  unfold swiRow
  rw [z, z]
  exact swi_zero

/-- A used tile's rows are its gated products, as long as the rows that hold no token are zero. -/
theorem out_used (T : IVec S81 32) (hT : Routed T) (i : grid0.Coords) (hi : (i 0).val < (usedOf T).toNat)
    (x0 : Vec Ideal S1024x2048 .f32) (x1 x2 : Vec Ideal S1x2048x512 .f32)
    (hz : ∀ (r : Fin 1024) k, ¬ Holds T (i 0) r.val → (x0 (ix2 r k) : EReal) = 0) (r : Fin 1024) (n : Fin 512) :
    (out (F := Ideal) i (usedOf T) (rowsOf T (i 0)) (k0_pay1 x0) x1 x2 (ix2 r n) : EReal) = swiRow x0 x1 x2 r n := by
  unfold out
  rw [if_neg fun h => (unused_iff T hT i).mp h hi]
  by_cases h2 : k0_cond3 i (usedOf T) (rowsOf T (i 0)) = 1#1
  · rw [if_pos h2]
    by_cases hr : r.val < 512
    · refine (dif_pos (show (ix2 r n 0).val < 512 from hr)).trans ?_
      by_cases hc : n.val < 256
      · exact (dif_pos (show (ix2 r n 1).val < 256 from hc)).trans (half_left_at x0 x1 x2 ⟨r.val, hr⟩ ⟨n.val, hc⟩)
      · refine (dif_neg (show ¬ (ix2 r n 1).val < 256 from hc)).trans ((half_right_at x0 x1 x2 ⟨r.val, hr⟩ ⟨n.val - 256, by omega⟩).trans ?_)
        exact congrArg (swiRow x0 x1 x2 r) (Fin.ext (show 256 + (n.val - 256) = n.val by omega))
    · refine (dif_neg (show ¬ (ix2 r n 0).val < 512 from hr)).trans ((zero_half_at _ n).trans ?_)
      have hh := ((half_iff T hT i _).mp h2).2
      exact (swiRow_zero x0 x1 x2 r n fun k => hz r k fun hh' => by have := hh'.2; omega).symm
  · rw [if_neg h2]
    by_cases hc : n.val < 256
    · exact (dif_pos (show (ix2 r n 1).val < 256 from hc)).trans (full_left_at x0 x1 x2 r ⟨n.val, hc⟩)
    · refine (dif_neg (show ¬ (ix2 r n 1).val < 256 from hc)).trans ((full_right_at x0 x1 x2 r ⟨n.val - 256, by omega⟩).trans ?_)
      exact congrArg (swiRow x0 x1 x2 r) (Fin.ext (show 256 + (n.val - 256) = n.val by omega))

theorem out_unused (T : IVec S81 32) (hT : Routed T) (i : grid0.Coords) (hi : ¬ (i 0).val < (usedOf T).toNat)
    (v : BitVec 32) (x0 : Vec Ideal S1024x2048 .bf16) (x1 x2 : Vec Ideal S1x2048x512 .f32) (r : Fin 1024) (n : Fin 512) :
    (out (F := Ideal) i (usedOf T) v x0 x1 x2 (ix2 r n) : EReal) = 0 := by
  unfold out
  rw [if_pos ((unused_iff T hT i).mpr hi)]
  exact zero_at r n

end Cert.MoeUp

end
-- ==== Proof.UpValue.lean ====
/- The up projection's result array is the reference's, where the table routes and rows without a token are zero. -/
module

public import proofs.«01_k».proof.Proof.UpRow
public import proofs.«01_k».proof.Proof.UpRef
public import Idealize.ShloMosaic.Lib.Pipeline.ValueKit

@[expose] public section

set_option maxRecDepth 16384

noncomputable section

namespace Cert.MoeUp

open Idealize.ShloMosaic Idealize.ShloMosaic.TcCoe Cert.Moe
open Cert.Kernel2Ideal Cert.Kernel2Ideal.Gen

variable (m : (ℓ : Loc nD τ sig) → Buf (Elt Ideal) ℓ) (hO : Ok m) (c : Dev nD)

theorem index0 (hT : Routed (words m)) (t : Fin (cfgM m hO).N) :
    ((cfgM m hO).win 0).index t = ![min (t.val / 14) ((usedOf (words m)).toNat - 1), 0] := by
  have h := block0 m hT (grid0.coords t)
  rw [(coords_at t).1] at h
  exact h

theorem index1 (t : Fin (cfgM m hO).N) :
    ((cfgM m hO).win 1).index t = ![(expertOf (words m) ((grid0.coords t) 0)).toNat, 0, t.val % 14] := by
  have h := block1 m (grid0.coords t)
  rw [(coords_at t).2.1] at h
  exact h

theorem index2 (t : Fin (cfgM m hO).N) :
    ((cfgM m hO).win 2).index t = ![(expertOf (words m) ((grid0.coords t) 0)).toNat, 0, 14 + t.val % 14] := by
  have h := block2 m (grid0.coords t)
  rw [(coords_at t).2.1] at h
  exact h

theorem index3 (t : Fin (cfgM m hO).N) : ((cfgM m hO).win 3).index t = ![t.val / 14, t.val % 14] := by
  have h0 := (coords_at t).1
  have h1 := (coords_at t).2.1
  have h2 := (coords_at t).2.2
  show cc0_transform_3 (grid0.coords t) = _
  unfold cc0_transform_3
  show ![(BitVec.ofNat 32 (grid0.coords t 0).val).toNat, (BitVec.ofNat 32 (grid0.coords t 1).val).toNat] = _
  rw [BitVec.toNat_ofNat, BitVec.toNat_ofNat, h0, h1, Nat.mod_eq_of_lt (by omega), Nat.mod_eq_of_lt (by omega)]

/-- The tile of a grid point. -/
abbrev tile (t : Fin (cfgM m hO).N) : Fin 40 := grid0.coords t 0

theorem first_place {b e : ℕ} (h : b = e) : b * 1 + 0 = e := by omega
theorem own_place (k : ℕ) : 0 * 2048 + k = k := by omega

/-- Where an element of a block lies in its array: block index times block size, plus its own place. -/
theorem emb0 (a : (pcfg0 (F := Ideal)).Adm) (t : Fin (cfg0 a).N) (b0 b1 : ℕ) (h : ((cfg0 a).win 0).index t = ![b0, b1]) (r : Fin 1024) (k : Fin 2048)
    (R : Fin 40960) (K : Fin 2048) (hR : b0 * 1024 + r.val = R.val) (hK : b1 * 2048 + k.val = K.val) :
    (((cfg0 a).win 0).blk t).view.emb (ix2 r k) = ix2 R K := by
  refine funext fun x => Fin.ext ?_
  refine (((cfg0 a).win 0).rect_emb_val t (ix2 r k) x rfl).trans ?_
  rw [h]
  match x with
  | ⟨0, _⟩ => exact hR
  | ⟨1, _⟩ => exact hK

theorem emb1 (a : (pcfg0 (F := Ideal)).Adm) (t : Fin (cfg0 a).N) (b0 b2 : ℕ) (h : ((cfg0 a).win 1).index t = ![b0, 0, b2]) (k : Fin 2048) (n : Fin 512)
    (E : Fin 8) (N : Fin 14336) (hE : b0 = E.val) (hN : b2 * 512 + n.val = N.val) :
    (((cfg0 a).win 1).blk t).view.emb (ix3 0 k n) = ix3 E k N := by
  have hE' : b0 * 1 + 0 = E.val := first_place hE
  have hK' : 0 * 2048 + k.val = k.val := own_place k.val
  refine funext fun x => Fin.ext ?_
  refine (((cfg0 a).win 1).rect_emb_val t (ix3 0 k n) x rfl).trans ?_
  rw [h]
  match x with
  | ⟨0, _⟩ => exact hE'
  | ⟨1, _⟩ => exact hK'
  | ⟨2, _⟩ => exact hN

theorem emb2 (a : (pcfg0 (F := Ideal)).Adm) (t : Fin (cfg0 a).N) (b0 b2 : ℕ) (h : ((cfg0 a).win 2).index t = ![b0, 0, b2]) (k : Fin 2048) (n : Fin 512)
    (E : Fin 8) (N : Fin 14336) (hE : b0 = E.val) (hN : b2 * 512 + n.val = N.val) :
    (((cfg0 a).win 2).blk t).view.emb (ix3 0 k n) = ix3 E k N := by
  have hE' : b0 * 1 + 0 = E.val := first_place hE
  have hK' : 0 * 2048 + k.val = k.val := own_place k.val
  refine funext fun x => Fin.ext ?_
  refine (((cfg0 a).win 2).rect_emb_val t (ix3 0 k n) x rfl).trans ?_
  rw [h]
  match x with
  | ⟨0, _⟩ => exact hE'
  | ⟨1, _⟩ => exact hK'
  | ⟨2, _⟩ => exact hN

theorem emb3 (a : (pcfg0 (F := Ideal)).Adm) (t : Fin (cfg0 a).N) (b0 b1 : ℕ) (h : ((cfg0 a).win 3).index t = ![b0, b1]) (r : Fin 1024) (n : Fin 512)
    (R : Fin 40960) (N : Fin 7168) (hR : b0 * 1024 + r.val = R.val) (hN : b1 * 512 + n.val = N.val) :
    (((cfg0 a).win 3).blk t).view.emb (ix2 r n) = ix2 R N := by
  refine funext fun x => Fin.ext ?_
  refine (((cfg0 a).win 3).rect_emb_val t (ix2 r n) x rfl).trans ?_
  rw [h]
  match x with
  | ⟨0, _⟩ => exact hR
  | ⟨1, _⟩ => exact hN

theorem x_blk (hT : Routed (words m)) (t : Fin (cfgM m hO).N) (hu : t.val / 14 < (usedOf (words m)).toNat) (r : Fin 1024) (k : Fin 2048) :
    (show EReal from iblk m hO c 0 t (ix2 r k)) = (show EReal from m ((c.tc : Thread nD τ).loc main_arg0) (ix2 (rowAt (tile m hO t) r) k)) := by
  have hc := (coords_at t).1
  refine congrArg (V m c main_arg0) (emb0 (adm m hO) t _ _ (index0 m hO hT t) r k _ _ ?_ ?_)
  · rw [Nat.min_eq_left (by omega), ← hc]
    rfl
  · omega

theorem g_blk (hT : Routed (words m)) (t : Fin (cfgM m hO).N) (k : Fin 2048) (n : Fin 512) (N : Fin 14336) (hN : t.val % 14 * 512 + n.val = N.val) :
    (show EReal from iblk m hO c 1 t (ix3 0 k n)) = (show EReal from m ((c.tc : Thread nD τ).loc main_arg2) (ix3 ⟨(expertOf (words m) (tile m hO t)).toNat, hT.expert _⟩ k N)) := by
  have e := emb1 (adm m hO) t _ _ (index1 m hO t) k n ⟨(expertOf (words m) (tile m hO t)).toNat, hT.expert _⟩ N rfl hN
  exact congrArg (V m c main_arg2) e

theorem u_blk (hT : Routed (words m)) (t : Fin (cfgM m hO).N) (k : Fin 2048) (n : Fin 512) (N : Fin 14336) (hN : (14 + t.val % 14) * 512 + n.val = N.val) :
    (show EReal from iblk m hO c 2 t (ix3 0 k n)) = (show EReal from m ((c.tc : Thread nD τ).loc main_arg2) (ix3 ⟨(expertOf (words m) (tile m hO t)).toNat, hT.expert _⟩ k N)) := by
  have e := emb2 (adm m hO) t _ _ (index2 m hO t) k n ⟨(expertOf (words m) (tile m hO t)).toNat, hT.expert _⟩ N rfl hN
  exact congrArg (V m c main_arg2) e

/-- A block of the result is its rows of the gated product. -/
theorem point (hT : Routed (words m)) (hz : ∀ (i : Fin 40) (r : Fin 1024) k, ¬ Holds (words m) i r.val → (show EReal from m ((c.tc : Thread nD τ).loc main_arg0) (ix2 (rowAt i r) k)) = 0)
    (t : Fin (cfgM m hO).N) (r : Fin 1024) (n : Fin 512) (N : Fin 7168) (hN : t.val % 14 * 512 + n.val = N.val) :
    (left m hO c t (ix2 r n) : EReal) = gated (m ((c.tc : Thread nD τ).loc main_arg0)) (m ((c.tc : Thread nD τ).loc main_arg2))
      ⟨(expertOf (words m) (tile m hO t)).toNat, hT.expert _⟩ (rowAt (tile m hO t) r) N := by
  have hc := (coords_at t).1
  unfold left
  by_cases hu : t.val / 14 < (usedOf (words m)).toNat
  · refine (out_used (words m) hT (grid0.coords t) (hc ▸ hu) _ _ _ (fun r k h => (x_blk m hO c hT t hu r k).trans (hz _ r k h)) r n).trans ?_
    refine congrArg₂ swi (Finset.sum_congr rfl fun k _ => ?_) (Finset.sum_congr rfl fun k _ => ?_)
    · exact congrArg₂ (fun a b : EReal => a * b) (x_blk m hO c hT t hu r k) (g_blk m hO c hT t k n _ hN)
    · refine congrArg₂ (fun a b : EReal => a * b) (x_blk m hO c hT t hu r k) (u_blk m hO c hT t k n _ ?_)
      show (14 + t.val % 14) * 512 + n.val = 7168 + N.val
      omega
  · refine (out_unused (words m) hT (grid0.coords t) (hc ▸ hu) _ _ _ _ r n).trans ?_
    have z : ∀ d, product (m ((c.tc : Thread nD τ).loc main_arg0)) (m ((c.tc : Thread nD τ).loc main_arg2))
        ⟨(expertOf (words m) (tile m hO t)).toNat, hT.expert _⟩ (rowAt (tile m hO t) r) d = 0 := fun d => by
      refine Finset.sum_eq_zero fun k _ => ?_
      rw [show (show EReal from m ((c.tc : Thread nD τ).loc main_arg0) (ix2 (rowAt (tile m hO t) r) k)) = 0 from
        hz _ r k fun h => hu (hc ▸ h.1)]
      exact zero_mul _
    unfold gated
    rw [z, z]
    exact swi_zero.symm

/-- Every element of the result lies in a block written back. -/
theorem covered (i : S40960x7168.Idx) : ∃ t : Fin (cfgM m hO).N, ((cfgM m hO).win 3).flush t = true ∧ i ∈ (((cfgM m hO).win 3).blk t).view.set := by
  obtain ⟨R, N, rfl⟩ : ∃ R N, i = ix2 R N := ⟨i 0, i 1, by funext a; match a with | ⟨0, _⟩ => rfl | ⟨1, _⟩ => rfl⟩
  have hR := R.isLt
  have hN := N.isLt
  let t : Fin (cfgM m hO).N := ⟨R.val / 1024 * 14 + N.val / 512, (by omega : R.val / 1024 * 14 + N.val / 512 < 560)⟩
  have h : (((cfgM m hO).win 3).blk t).view.emb (ix2 ⟨R.val % 1024, Nat.mod_lt _ (by decide)⟩ ⟨N.val % 512, Nat.mod_lt _ (by decide)⟩) = ix2 R N := by
    refine emb3 (adm m hO) t _ _ (index3 m hO t) _ _ R N ?_ ?_
    · show (R.val / 1024 * 14 + N.val / 512) / 14 * 1024 + R.val % 1024 = R.val
      omega
    · show (R.val / 1024 * 14 + N.val / 512) % 14 * 512 + N.val % 512 = N.val
      omega
  refine ⟨t, flush_out (adm m hO) t, ?_⟩
  rw [← h]
  exact View.emb_mem_set _ _

/-- A block as it is written back is the reference's there. -/
theorem flushed (hT : Routed (words m)) (hz : ∀ (i : Fin 40) (r : Fin 1024) k, ¬ Holds (words m) i r.val → (show EReal from m ((c.tc : Thread nD τ).loc main_arg0) (ix2 (rowAt i r) k)) = 0)
    (t : Fin (cfgM m hO).N) (y : S1024x512.Idx) :
    (left m hO c t y : EReal) = Cert.Reference2Ideal.Read.val_main_v11 (F := Ideal) (m ((c.tc : Thread nD τ).loc main_arg0)) (words m) (m ((c.tc : Thread nD τ).loc main_arg2))
      ((((cfgM m hO).win 3).blk t).view.emb y) := by
  obtain ⟨r, n, rfl⟩ : ∃ (r : Fin 1024) (n : Fin 512), y = ix2 r n := ⟨y 0, y 1, by funext a; match a with | ⟨0, _⟩ => rfl | ⟨1, _⟩ => rfl⟩
  have ht := (coords_at t).2.2
  have hc := (coords_at t).1
  have h1 : t.val % 14 < 14 := Nat.mod_lt _ (by decide)
  have e := emb3 (adm m hO) t _ _ (index3 m hO t) r n (rowAt (tile m hO t) r) ⟨t.val % 14 * 512 + n.val, by omega⟩
    (by show _ = (grid0.coords t 0).val * 1024 + r.val; rw [hc]) rfl
  refine Eq.trans ?_ (congrArg _ e).symm
  refine (point m hO c hT hz t r n ⟨t.val % 14 * 512 + n.val, by omega⟩ rfl).trans ?_
  refine Eq.trans ?_ (ref_at _ _ _ hT _ _).symm
  congr 1
  refine Fin.ext (congrArg (fun j => (expertOf (words m) j).toNat) (Fin.ext ?_))
  show (grid0.coords t 0).val = ((grid0.coords t 0).val * 1024 + r.val) / 1024
  omega

/-- The result is the reference's. -/
theorem final (hT : Routed (words m)) (hz : ∀ (i : Fin 40) (r : Fin 1024) k, ¬ Holds (words m) i r.val → (show EReal from m ((c.tc : Thread nD τ).loc main_arg0) (ix2 (rowAt i r) k)) = 0) :
    (dats m hO 0 c).arrAt 3 (cfgM m hO).N
      = Cert.Reference2Ideal.Read.val_main_v11 (F := Ideal) (m ((c.tc : Thread nD τ).loc main_arg0)) (words m) (m ((c.tc : Thread nD τ).loc main_arg2)) :=
  (dats m hO 0 c).arrAt_eq_of_emb 3 _ (fun t hf y => (congrFun (after3 m hO c t) y).trans (flushed m hO c hT hz t y)) (covered m hO)

end Cert.MoeUp

end
-- ==== Proof.UpClaims.lean ====
/- The claims about the up projection: frames, the idealization, and equal results where the table routes. -/
module

public import proofs.«01_k».proof.Defs
public import proofs.«01_k».proof.Proof.Gen.Kernel2
public import proofs.«01_k».proof.Proof.Gen.Kernel2.Launch
public import proofs.«01_k».proof.Proof.Gen.Pre_grouped
public import proofs.«01_k».proof.Proof.UpPre
public import proofs.«01_k».proof.Proof.UpValue
public import proofs.«01_k».proof.Proof.Gen.Reference2Ideal.Run
public import Idealize.ShloMosaic.Adequacy
public import Idealize.ShloMosaic.Init

@[expose] public section

set_option maxRecDepth 16384

noncomputable section

namespace Cert.MoeUp

open Idealize.ShloMosaic Idealize.SL.Sem Cert.Moe

/-- The precondition makes the table route. -/
theorem routed_bits (m : (ℓ : Loc Cert.Kernel2.nD Cert.Kernel2.τ Cert.Kernel2.sig) → Buf (Elt Bits) ℓ) (h : Cert.Pre_Kernel2 m) :
    Routed (words (F := Bits) m) := routed_of_pre (F := Bits) (h 0).1 (h 0).2.1

/-- The two programs have the same body table. -/
theorem bodies_eq : Cert.Kernel2.defs₀ (F := Bits) = Cert.Kernel2Ideal.defs₀ (F := Bits) := by
  unfold Cert.Kernel2.defs₀ Cert.Kernel2Ideal.defs₀
  refine congrArg Defs.onTc (funext fun l => funext fun a => ?_)
  match l, a with
  | ⟨0, _⟩, (t, s) => rfl
  | ⟨_ + 1, h⟩, _ => exact absurd h (Nat.not_lt.2 (Nat.le_add_left _ _))

theorem defs_eq : Cert.Kernel2.defs (F := Bits) = Cert.Kernel2Ideal.defs (F := Bits) :=
  congrArg (Pipeline.defs (Cert.Kernel2Ideal.pcfgs (F := Bits))) bodies_eq

theorem frame_kernel : Cert.quiescent_Kernel2 := by
  intro m ρ h
  rw [defs_eq]
  exact frame (F := Bits) m ρ (ok_of_routed m (routed_bits m h))

theorem frame_kernel_ideal : Cert.quiescent_Kernel2Ideal := fun m ρ h =>
  frame (F := Ideal) m ρ (ok_of_routed m (routed_of_pre (F := Ideal) (h 0).1 (h 0).2.1))

/-- The reference runs to its composed result, leaves its arguments, and has no semaphores. -/
theorem frame_reference : Cert.quiescent_Reference2Ideal := fun m ρ _ =>
  (θ_run Cert.Reference2Ideal.defs _ _).mono (fun r h => ⟨fun c => (h c).2,
      Idealize.ShloMosaic.sem_eq_zero_of_no_sems (by decide) r.2⟩)
    (Cert.Reference2Ideal.Value.run (F := Ideal) m ρ)

theorem frame_reference_pre : Cert.quiescent_Reference2Ideal_pre_grouped := fun m ρ _ => frame_reference m ρ trivial

theorem preserves : Cert.preserves_Kernel2_Kernel2Ideal := trivial

theorem algebraic : Cert.algebraic_Kernel2Ideal_Reference2Ideal := by
  intro m g m' g' hpre hagree
  have hT := routed_of_pre (F := Ideal) (hpre 0).1 (hpre 0).2.1
  have hO : Ok m := ok_of_routed m hT
  refine ⟨fun c => (dats m hO 0 c).arrAt 3 (cfgM m hO).N, ?_, ?_⟩
  · exact (θ_run _ _ _).mono (fun r h c => ⟨(h.1 c).1 3, h.2 c⟩) (θ_run_and (run_main m g hO) (unchanged m g hO))
  · refine (θ_run Cert.Reference2Ideal.defs _ _).mono (fun r h c => ⟨(h c).1.trans ?_, (h c).2⟩) (Cert.Reference2Ideal.Value.run (F := Ideal) m' g')
    obtain ⟨a0, a1, a2⟩ := hagree c
    obtain rfl : c = 0 := Subsingleton.elim _ _
    refine Eq.trans ?_ (final m hO 0 hT fun i r k hr => zero_of_pre hT (hpre 0).2.2 i r k hr).symm
    rw [show words m = m (((0 : Dev Cert.Kernel2Ideal.nD).tc : Thread Cert.Kernel2Ideal.nD Cert.Kernel2Ideal.τ).loc Cert.Kernel2Ideal.main_arg1) from V_arg1 m 0, ← a0, ← a1, ← a2]
    exact Cert.Reference2Ideal.Read.val_main_v11_eq _ _ _

end Cert.MoeUp

end
-- ==== Proof.DownPre.lean ====
/- What the down projection's precondition says: the table routes, and rows that hold no token are zero. -/
module

public import proofs.«01_k».proof.Proof.Gen.Pre_grouped_act
public import proofs.«01_k».proof.Proof.MoeTable
public import Idealize.ShloMosaic.Lib.Pointwise

@[expose] public section

set_option maxRecDepth 16384

noncomputable section

namespace Cert.MoeDown

open Idealize.ShloMosaic Cert.Moe
open Cert.Pre_grouped_act

theorem routed_of_pre {F : FTy → Type} [FloatOps F] {x : FVec F S40960x7168 .bf16} {T : IVec S81 32} {w : FVec F S8x7168x2048 .f32}
    (h1 : (Cert.Pre_grouped_act.fn x T w).1 = fun _ => 1#1) (h2 : (Cert.Pre_grouped_act.fn x T w).2.1 = fun _ => 1#1) : Routed T := by
  have hu : 1 ≤ (usedOf T).toNat ∧ (usedOf T).toNat ≤ 40 := by
    have h := congrFun h2 (default : S_.Idx)
    pointwise [Cert.Pre_grouped_act.fn, Cert.Pre_grouped_act.fn_part1] at h
    exact one_to_forty (and_bits h).1 (and_bits h).2
  refine ⟨fun i => ?_, hu.1, hu.2⟩
  have h := congrFun h1 (ix1 i)
  pointwise [Cert.Pre_grouped_act.fn, Cert.Pre_grouped_act.fn_part1] at h
  exact lt_eight (and_bits h).1 (and_bits h).2

theorem zero_of_pre {x : FVec Ideal S40960x7168 .bf16} {T : IVec S81 32} {w : FVec Ideal S8x7168x2048 .f32} (hT : Routed T)
    (h3 : (Cert.Pre_grouped_act.fn x T w).2.2 = fun _ => 1#1) (i : Fin 40) (r : Fin 1024) (k : Fin 7168) (hr : ¬ Holds T i r.val) :
    x (ix2 (rowAt i r) k) = (0 : EReal) := by
  have h := congrFun h3 (ix3 i r k)
  pointwise [Cert.Pre_grouped_act.fn, Cert.Pre_grouped_act.fn_part1] at h
  rcases or_bits h with h | h
  · refine absurd ?_ hr
    obtain ⟨hi, hrow⟩ := and_bits h
    have hi' := (slt_small i hT.le).symm.trans hi
    have hr' := (slt_row r.val r.isLt (rowsOf T i)).symm.trans hrow
    rw [WordCmp.ofBool_decide_eq_one_iff] at hi' hr'
    exact ⟨hi', hr'⟩
  · rw [WordCmp.ofBool_decide_eq_one_iff] at h
    exact h

end Cert.MoeDown

end
-- ==== Proof.DownRun.lean ====
/- One run of the down projection's body, at any grid point: whatever the tables hold, the body reads its two blocks and
   leaves in the result's buffer `out` — the whole product where the point's tile is full, the product of the upper
   half over zeros where at most half of its rows hold tokens, zeros where the tile is not used. -/
module

public import proofs.«01_k».proof.Proof.Gen.Kernel3Ideal.Launch
public import proofs.«01_k».proof.Proof.Gen.Kernel3Ideal.Skeleton
public import Idealize.ShloMosaic.Lib.Pipeline.FrameBody
public import Idealize.ShloMosaic.Lib.Pipeline.Kit
public import Idealize.ShloMosaic.Lib.Ring
public import Idealize.ShloMosaic.Lib.Tactic
public import Idealize.ShloMosaic.Lib.WordCmp
public import Idealize.ShloMosaic.Lib.Claim
public import Idealize.ShloMosaic.Lib.VecWindow
public import Idealize.ShloMosaic.Lib.WholeRead
public import Idealize.ShloMosaic.Lib.WritesUnit
public import Idealize.ShloMosaic.Lib.Pointwise.Index

@[expose] public section

set_option maxRecDepth 16384

noncomputable section

namespace Cert.MoeDown

open Cert.Kernel3Ideal Cert.Kernel3Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The table's words -/

/-- The table as the body is handed it: its whole buffer as a memref. -/
abbrev tableRef : Memref sig .tc .smem S81 .i32 := Memref.whole main_arg1

/-- Contents of the table's buffer, and the half of it the body holds. -/
abbrev TableBuf (c : Dev nD) {S : Shape} {e : EltTy} (M : Memref sig .tc .smem S e) : Type :=
  Buf (Elt F) (M.view.loc (c : Thread nD τ))

abbrev tableHeld (c : Dev nD) {S : Shape} {e : EltTy} (M : Memref sig .tc .smem S e) (f : TableBuf (F := F) c M) : sProp 𝕄 :=
  M.view.loc (c : Thread nD τ) ↦{fullShare.right} f

/-- The number of tiles used. -/
def used (T : IVec S81 32) : BitVec 32 := T (ix1 (40 : Fin 81))

/-- The number of rows of the point's tile that hold tokens. -/
def count (T : IVec S81 32) (i : grid0.Coords) : BitVec 32 :=
  T (ix1 (⟨41 + (i 0).val, Nat.add_lt_add_left (show (i 0).val < 40 from (i 0).isLt) 41⟩ : Fin 81))

theorem off2_eq (i : grid0.Coords) : k0_off2 i = ![41 + (i 0).val] := by
  have h : (i 0).val < 40 := (i 0).isLt
  unfold k0_off2
  show ![((41#32 + BitVec.ofNat 32 (i 0).val).setWidth 32).toNat] = ![41 + (i 0).val]
  congr 1
  simp only [BitVec.toNat_setWidth, BitVec.toNat_add, BitVec.toNat_ofNat]
  omega

theorem used_read (c : Dev nD) (T : TableBuf (F := F) c tableRef) (h) (x) :
    View.readAt (Elt F) tableRef.view (Rect.unit (s := S81) ![40] S1.size h).toLoadRect T x = used T := by
  show T _ = T _
  congr 1
  funext a
  match a with
  | ⟨0, _⟩ => exact Fin.ext (by
      have hx : (x 0).val < 1 := (x 0).isLt
      show 40 + 1 * (x 0).val = 40
      omega)

theorem count_read (c : Dev nD) (T : TableBuf (F := F) c tableRef) (i : grid0.Coords) (h) (x) :
    View.readAt (Elt F) tableRef.view (Rect.unit (s := S81) (k0_off2 i) S1.size h).toLoadRect T x = count T i := by
  show T _ = T _
  congr 1
  funext a
  match a with
  | ⟨0, _⟩ => exact Fin.ext (by
      have hx : (x 0).val < 1 := (x 0).isLt
      have ho : k0_off2 i 0 = 41 + (i 0).val := congrFun (off2_eq i) 0
      show k0_off2 i 0 + 1 * (x 0).val = 41 + (i 0).val
      omega)

/-- Whatever the words, one of the three branches is taken. -/
theorem some_branch (i : grid0.Coords) (u v : BitVec 32) (h3 : ¬ k0_cond3 i u = 1#1) (h2 : ¬ k0_cond2 i u v = 1#1) :
    k0_cond1 i u v = 1#1 := by
  unfold k0_cond3 at h3
  unfold k0_cond2 at h2
  unfold k0_cond1
  simp only [Scalar.cmpi, Scalar.andi, Scalar.xori, Scalar.extui] at *
  generalize (IntOp.cmpi .slt (BitVec.ofNat 32 (i 0).val) u) = a at *
  generalize (IntOp.cmpi .sgt v 512#32) = b at *
  revert a b
  decide

/-! ## What the body leaves -/

/-- The upper half of a block of activations. -/
def upper (x : Vec F S1024x7168 .bf16) : Vec F S512x7168 .bf16 :=
  fun y => x (ix2 ⟨(y 0).val, Nat.lt_trans (show (y 0).val < 512 from (y 0).isLt) (by decide)⟩ (y 1 : Fin 7168))

/-- What the body leaves in the result's buffer, from its blocks and the two words it reads. -/
def out (i : grid0.Coords) (u v : BitVec 32) (x0 : Vec F S1024x7168 .bf16) (x1 : Vec F S1x7168x256 .bf16) : Vec F S1024x256 .f32 :=
  if k0_cond3 i u = 1#1 then k0_pay4
  else if k0_cond2 i u v = 1#1 then fun y =>
    if h : (y 0).val < 512 then k0_pay2 (upper x0) x1 (ix2 ⟨(y 0).val, h⟩ (y 1 : Fin 256))
    else k0_pay3 (ix2 ⟨(y 0).val - 512, by have : (y 0).val < 1024 := (y 0).isLt; omega⟩ (y 1 : Fin 256))
  else k0_pay1 x0 x1

theorem load_x0 (m : Memref sig .tc .vmem S1024x7168 .bf16) (hm : m.IsWhole) (x : Vec F S1024x7168 .bf16) (h) :
    View.readAt (Elt F) m.view (Rect.unit (s := S1024x7168) ![0, 0] S1024x7168.size h).toLoadRect (hm.unread x) = x := by
  rw [View.readAt_full, hm.read_unread]

theorem load_upper (m : Memref sig .tc .vmem S1024x7168 .bf16) (hm : m.IsWhole) (x : Vec F S1024x7168 .bf16) (h) :
    View.readAt (Elt F) m.view (Rect.unit (s := S1024x7168) ![0, 0] S512x7168.size h).toLoadRect (hm.unread x) = upper x := by
  funext y
  rw [hm.readAt_unread]
  unfold upper
  congr 1
  funext a
  match a with
  | ⟨0, _⟩ => exact Fin.ext (show 0 + 1 * (y 0).val = (y 0).val by omega)
  | ⟨1, _⟩ => exact Fin.ext (show 0 + 1 * (y 1).val = (y 1).val by omega)

theorem load_x1 (m : Memref sig .tc .vmem S1x7168x256 .bf16) (hm : m.IsWhole) (x : Vec F S1x7168x256 .bf16) (h) :
    View.readAt (Elt F) m.view (Rect.unit (s := S1x7168x256) ![0, 0, 0] S1x7168x256.size h).toLoadRect (hm.unread x) = x := by
  rw [View.readAt_full, hm.read_unread]

/-- The two stores of a half tile, read back. -/
theorem read_half (v : View sig .tc .vmem S1024x256 .f32) (f : v.ty.Contents (Elt F)) (p q : Vec F S512x256 .f32) (h h') (y : S1024x256.Idx) :
    v.read (Elt F) (v.writes (Elt F) f [⟨Rect.unit (s := S1024x256) ![512, 0] S512x256.size h, q⟩, ⟨Rect.unit (s := S1024x256) ![0, 0] S512x256.size h', p⟩]) y
      = if h : (y 0).val < 512 then p (ix2 ⟨(y 0).val, h⟩ (y 1 : Fin 256))
        else q (ix2 ⟨(y 0).val - 512, by have : (y 0).val < 1024 := (y 0).isLt; omega⟩ (y 1 : Fin 256)) := by
  have hy : (y 0).val < 1024 := (y 0).isLt
  by_cases hlt : (y 0).val < 512
  · rw [dif_pos hlt, View.read_writes_cons_rows_of_not_mem (o := 512) (W := 512) v f h q _ y rfl rfl (Or.inl hlt)]
    exact View.read_writes_cons_rows_of_mem (o := 0) v f h' p _ y _ rfl (Nat.zero_add _).symm rfl
  · rw [dif_neg hlt]
    exact View.read_writes_cons_rows_of_mem (o := 512) v f h q _ y _ rfl (show (y 0).val = 512 + ((y 0).val - 512) by omega) rfl

set_option maxHeartbeats 1000000 in
/-- The body's run: from its two blocks and the table's half, whatever the result's buffer held, to the blocks and the
    table as they were and `out` in the result's buffer. -/
theorem run (c : Dev nD) (i : grid0.Coords)
    (arg3 : Memref sig .tc .vmem S1024x7168 .bf16) (harg3 : arg3.IsWhole)
    (arg4 : Memref sig .tc .vmem S1x7168x256 .bf16) (harg4 : arg4.IsWhole)
    (arg5 : Memref sig .tc .vmem S1024x256 .f32) (harg5 : arg5.IsWhole)
    (x0 : Vec F S1024x7168 .bf16) (x1 : Vec F S1x7168x256 .bf16) (xt : TableBuf (F := F) c tableRef)
    (E : Set ℕ) (K : PUnit → sProp 𝕄) :
    iprop(owns (c : Thread nD τ) arg3 fullShare x0 ∗ owns (c : Thread nD τ) arg4 fullShare x1
        ∗ (∃ d, owns (c : Thread nD τ) arg5 fullShare d) ∗ tableHeld c tableRef xt
        ∗ (iprop(owns (c : Thread nD τ) arg3 fullShare x0 ∗ owns (c : Thread nD τ) arg4 fullShare x1
            ∗ owns (c : Thread nD τ) arg5 fullShare (out i (used xt) (count xt i) x0 x1)
            ∗ tableHeld c tableRef xt) -∗ K ⟨⟩))
      ⊢ wp frame (wpE (defs₀ (F := F)) Variants.none c none) E
          (cc0_moe_down i tableRef (Memref.isWhole_whole _) arg3 harg3 arg4 harg4 arg5 harg5) K := by
  simp only [cc0_moe_down_eq_skeleton]; unfold cc0_moe_down_skel
  unfold owns
  iintro ⟨⟨%f0, %hf0, H0⟩, ⟨%f1, %hf1, H1⟩, ⟨%d2, %f2, -, H2⟩, HT, Hk⟩
  obtain rfl := harg3.eq_unread hf0; obtain rfl := harg4.eq_unread hf1
  sl_exec
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr
    swap; · iexact H2
    ipureintro
    unfold run.sl.r run.sl.r_1
    rw [used_read, count_read, load_x0, load_x1, load_upper]
    unfold out
    by_cases h3 : k0_cond3 i (used xt) = 1#1
    · rw [dif_pos h3, if_pos h3, View.read_writes_full]
    · rw [dif_neg h3, if_neg h3]
      by_cases h2 : k0_cond2 i (used xt) (count xt i) = 1#1
      · rw [dif_pos h2, if_pos h2]
        funext y
        exact read_half _ _ _ _ _ _ y
      · rw [dif_neg h2, if_neg h2, dif_pos (some_branch i _ _ h3 h2), View.read_writes_full]
  iexact HT

end Cert.MoeDown

end
-- ==== Proof.DownFrame.lean ====
/- The down projection's run from any memory whose table keeps every block inside its array (`Ok`): it terminates, its
   arguments end as they were, and the result's blocks are `out` of the two blocks staged at each point. -/
module

public import proofs.«01_k».proof.Proof.DownRun
public import Idealize.ShloMosaic.Lib.StableHlo.ReadAt

@[expose] public section

set_option maxRecDepth 16384

noncomputable section

namespace Cert.MoeDown

open Cert.Kernel3Ideal Cert.Kernel3Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Up to the kernel -/

/-- A core's buffers when the kernel is entered: the weights have been cast. -/
abbrev V (c : Dev nD) (b : Ref sig .tc) : Buf (Elt F) ((c : Thread nD τ).loc b) :=
  StableHlo.after hostOps0 (fun b => m (c, b)) b

theorem hostOps0_fresh : (hostOps0 : List (HloOp τ sig (Elt F))).Forall fun op => op.fresh = ∅ := by
  simp only [List.Forall]; repeat' constructor

theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

theorem V_arg0 (c : Dev nD) : V m c main_arg0 = m ((c : Thread nD τ).loc main_arg0) := by
  unfold V; after_reads_at
theorem V_arg1 (c : Dev nD) : V m c main_arg1 = m ((c : Thread nD τ).loc main_arg1) := by
  unfold V; after_reads_at
theorem V_arg2 (c : Dev nD) : V m c main_arg2 = m ((c : Thread nD τ).loc main_arg2) := by
  unfold V; after_reads_at

/-! ## The table -/

/-- The table's words when the kernel is entered (there is one device). -/
def words : IVec S81 32 := V m (0 : Dev nD) main_arg1

def tbl : pre0.Contents (Elt F) := fun j => V m (0 : Dev nD) (pre0.ref j)

theorem V_pre (c : Dev nD) (j : Fin 1) : V m c (pre0.ref j) = tbl m j := by
  obtain rfl : c = 0 := Subsingleton.elim _ _; rfl

/-- Every block lies inside its array, at the table's words. -/
abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

theorem tableHeld_eq (c : Dev nD) : (Pipeline.ΦT pre0 (tbl m) c : sProp 𝕄) = tableHeld c tableRef (words m) := by
  unfold Pipeline.ΦT Pipeline.prefHeld
  rw [show (Finset.univ : Finset (Fin 1)) = {(0 : Fin 1)} from by decide, bigSep_singleton]
  rfl

/-- The result is stored at every point. -/
theorem not_idle (pf : pre0.Contents (Elt F)) (i : grid0.Coords) : idle0 pf 2 i = false := by
  show (!(k0_cond1 i (pf.atD 0 ![40]) (pf.atD 0 (k0_off2 i)) == 1#1) && !(k0_cond2 i (pf.atD 0 ![40]) (pf.atD 0 (k0_off2 i)) == 1#1) && !(k0_cond3 i (pf.atD 0 ![40]) == 1#1)) = false
  by_cases h3 : k0_cond3 i (pf.atD 0 ![40]) = 1#1
  · simp [h3]
  · by_cases h2 : k0_cond2 i (pf.atD 0 ![40]) (pf.atD 0 (k0_off2 i)) = 1#1
    · simp [h2]
    · simp [some_branch i _ _ h3 h2]

/-- The result is written back at every point. -/
theorem flush_out (a : (pcfg0 (F := F)).Adm) : ∀ t : Fin (cfg0 a).N, ((cfg0 a).win 2).flush t = true :=
  (fun t => (Pipeline.Window.flushOf_reads cc0_transform_2 reads0_2 hreads0_2 1 (by decide) (by decide) (Pipeline.Window.sep_of_coord cc0_transform_2 1 1 (fun _ => rfl) (by decide)) (P := 1) (m := 0) (by decide) rfl t).mpr (Nat.mod_one _) : ∀ t : Fin grid0.N, Pipeline.Window.flushOf grid0 true cc0_transform_2 t = true)

/-! ## Blocks and buffers -/

/-- The staging buffers the body is handed at a point. -/
abbrev ms0 (hO : Ok m) (t : Fin (cfgM m hO).N) : Memref sig .tc .vmem S1024x7168 .bf16 := spec0_0.stage ((cfgM m hO).slots t 0)
abbrev ms1 (hO : Ok m) (t : Fin (cfgM m hO).N) : Memref sig .tc .vmem S1x7168x256 .bf16 := spec0_1.stage ((cfgM m hO).slots t 1)
abbrev ms2 (hO : Ok m) (t : Fin (cfgM m hO).N) : Memref sig .tc .vmem S1024x256 .f32 := spec0_2.stage ((cfgM m hO).slots t 2)

/-- The body as it is called at a point. -/
abbrev bodyAt (a : (pcfg0 (F := F)).Adm) (t : Fin (cfg0 a).N) : Prog (TpuEff nD τ sig (Elt F) Λ₀ .tc) PUnit :=
  cc0_moe_down (grid0.coords t) (Memref.whole main_arg1) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2))

/-- A window's block at a point, read off its array. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

theorem found0 (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem found1 (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- What is left in the result's buffer at a point. -/
def left (hO : Ok m) (c : Dev nD) (t : Fin (cfgM m hO).N) : Vec F S1024x256 .f32 :=
  out (grid0.coords t) (used (words m)) (count (words m) (grid0.coords t)) (iblk m hO c 0 t) (iblk m hO c 1 t)

/-- The pipeline's contents: the arrays as entered, each block left in place, the result's buffer at `left`. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => left m hO c t
  Φ _ := iprop(Pipeline.ΦA spec0 c ∗ Pipeline.ΦT pre0 (tbl m) c)
  q _ := fullShare
  owed _ := 0

theorem A_eq (hO : Ok m) (c : Dev nD) (w : Fin (cfgM m hO).W) : (dats m hO 0 c).A w = V m c (Pipeline.arrRef spec0 w) := by
  dsimp only [dats]

theorem after0 (hO : Ok m) (c : Dev nD) (t : Fin (cfgM m hO).N) : (dats m hO 0 c).after 0 t = iblk m hO c 0 t := by dsimp only [dats]; try rfl
theorem after1 (hO : Ok m) (c : Dev nD) (t : Fin (cfgM m hO).N) : (dats m hO 0 c).after 1 t = iblk m hO c 1 t := by dsimp only [dats]; try rfl
theorem after2 (hO : Ok m) (c : Dev nD) (t : Fin (cfgM m hO).N) : (dats m hO 0 c).after 2 t = left m hO c t := by dsimp only [dats]; try rfl

theorem before0 (hO : Ok m) (c : Dev nD) (t : Fin (cfgM m hO).N) (d) : (dats m hO 0 c).before 0 t d = iblk m hO c 0 t :=
  found0 m hO (dats m hO 0 c) (A_eq m hO c 0) (after0 m hO c) t d
theorem before1 (hO : Ok m) (c : Dev nD) (t : Fin (cfgM m hO).N) (d) : (dats m hO 0 c).before 1 t d = iblk m hO c 1 t :=
  found1 m hO (dats m hO 0 c) (A_eq m hO c 1) (after1 m hO c) t d

/-! ## The body at a point -/

def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0 m hO t) fullShare ((dats m hO 0 c).before 0 t d))
    ∗ (∃ d, owns (c : Thread nD τ) (ms1 m hO t) fullShare ((dats m hO 0 c).before 1 t d))
    ∗ (∃ d, owns (c : Thread nD τ) (ms2 m hO t) fullShare ((dats m hO 0 c).before 2 t d)))

def bodyPost (hO : Ok m) (c : Dev nD) (t : Fin (cfgM m hO).N) : sProp 𝕄 :=
  iprop((dats m hO 0 c).Φ t.succ ∗ (dats m hO 0 c).owesAt () t.succ
    ∗ owns (c : Thread nD τ) (ms0 m hO t) fullShare ((dats m hO 0 c).after 0 t)
    ∗ owns (c : Thread nD τ) (ms1 m hO t) fullShare ((dats m hO 0 c).after 1 t)
    ∗ owns (c : Thread nD τ) (ms2 m hO t) fullShare ((dats m hO 0 c).after 2 t))

theorem body_runs (hO : Ok m) (c : Dev nD) (t : Fin (cfgM m hO).N) :
    bodyPre m hO c t ⊢ wp frame (wpE (defs₀ (F := F)) Variants.none c none) Set.univ (bodyAt (adm m hO) t) (fun _ => bodyPost m hO c t) := by
  unfold bodyPre bodyPost bodyAt
  simp only [before0, before1]
  rw [show (dats m hO 0 c).owesAt () t.succ = (dats m hO 0 c).owesAt () t.castSucc from rfl, after0, after1, after2]
  rw [show (dats m hO 0 c).Φ t.succ = iprop(Pipeline.ΦA spec0 c ∗ Pipeline.ΦT pre0 (tbl m) c) from rfl,
    show (dats m hO 0 c).Φ t.castSucc = iprop(Pipeline.ΦA spec0 c ∗ Pipeline.ΦT pre0 (tbl m) c) from rfl, tableHeld_eq]
  unfold left
  iintro ⟨⟨HA, HT⟩, Ho, ⟨%d0, H0⟩, ⟨%d1, H1⟩, ⟨%d2, H2⟩⟩
  iapply (run c (grid0.coords t) _ _ _ _ _ _ (iblk m hO c 0 t) (iblk m hO c 1 t) (words m) Set.univ _)
  isplitl [H0]; · iexact H0
  isplitl [H1]; · iexact H1
  isplitl [H2]; · iexists _; iexact H2
  isplitl [HT]; · iexact HT
  iintro ⟨H0, H1, H2, HT⟩
  isplitl [HA HT]
  · isplitl [HA]; · iexact HA
    iexact HT
  isplitl [Ho]; · iexact Ho
  isplitl [H0]; · iexact H0
  isplitl [H1]; · iexact H1
  iexact H2

theorem defs₀_row (hO : Ok m) (t : Fin (cfgM m hO).N) :
    defs₀ (F := F) .tc (cfgM m hO).body ((cfgM m hO).bodyArgs t ((cfgM m hO).slots t)) = bodyAt (adm m hO) t := by
  unfold defs₀; rw [Defs.onTc_tc]

theorem live (hO : Ok m) (t : Fin (cfgM m hO).N) : (cfgM m hO).idle 2 ((cfgM m hO).grid.coords t) = false :=
  not_idle (tbl m) (grid0.coords t)

/-- A window stored at the point is left with what the body stored. -/
theorem settled {b f : Bool} (h : b = false) {X A B : sProp 𝕄} :
    B ⊢ (match (fun _ : Fin 3 => false) 2 with
      | true => X
      | false => match (generalizing := false) b with
        | true => match (generalizing := false) f with
          | false => A
          | true => B
        | false => B) := by
  subst h; exact .rfl

theorem body_obligation (hO : Ok m) (c : Dev nD) : BodyObligation (dats (F := F) m hO 0 c) (defs₀ (F := F)) Variants.none () Set.univ := fun t => by
  rw [bigSep_W0, bigSep_W0, defs₀_row m hO]
  refine triple_restated (body_runs m hO c t) rfl .rfl fun _ => ?_
  unfold bodyPost
  refine BI.sep_mono (BI.Entails.refl _) (BI.sep_mono (BI.Entails.refl _) (BI.sep_mono ?_ (BI.sep_mono ?_ ?_)))
  · exact BI.Entails.refl _
  · exact BI.Entails.refl _
  · exact settled (X := iprop(∃ d, owns (c : Thread nD τ) (ms2 m hO t) fullShare d)) (live m hO t)

/-! ## The run -/

set_option backward.isDefEq.respectTransparency.types false in
theorem run_main_quiescent (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m)
    (hΦ := fun _ _ => rfl)

theorem run_main (hO : Ok m) : θ_run defs (onTc (τ := τ) (main (F := F))) (s₀ m ρ) (Pipeline.FramePost (Pipeline.pin pcfgs fun _ => adm m hO) (dats m hO) 0 (V m)) :=
  (θ_run defs _ _).mono (fun _ h => h.1) (run_main_quiescent m ρ hO)

/-- The arguments end as they were. -/
theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).1 0).trans (((dats m hO 0 c).arrAt_in 0 rfl _).trans ((A_eq m hO c 0).trans (V_arg0 m c))),
      ((h c).2 main_arg1 (by decide : main_arg1 ∈ Pipeline.restRefs sig spec0)).trans (V_arg1 m c),
      ((h c).2 main_arg2 (by decide : main_arg2 ∈ Pipeline.restRefs sig spec0)).trans (V_arg2 m c)⟩) (run_main m ρ hO)

/-- The frame: the arguments end as they were and every counter is at zero. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ hO) ((θ_run defs _ _).mono (fun _ h => h.2) (run_main_quiescent m ρ hO))

end Cert.MoeDown

end
-- ==== Proof.DownTable.lean ====
/- The down projection's blocks at a routing table: which block each window stages at a point, and that every block lies
   inside its array. -/
module

public import proofs.«01_k».proof.Proof.DownFrame
public import proofs.«01_k».proof.Proof.MoeTable

@[expose] public section

set_option maxRecDepth 16384

noncomputable section

namespace Cert.MoeDown

open Cert.Kernel3Ideal Cert.Kernel3Ideal.Gen
open Idealize.ShloMosaic Idealize.ShloMosaic.TcCoe Cert.Moe

variable {F : FTy → Type} [FloatOps F]
variable (m : (ℓ : Loc nD τ sig) → Buf (Elt F) ℓ)

theorem words_used (h h1) : (tbl m).at 0 (Rect.unit (s := S81) ![40] S1.size h) h1 = usedOf (words m) := by
  show words m _ = words m _
  congr 1
  funext a
  match a with
  | ⟨0, _⟩ => rfl

theorem words_expert (i : grid0.Coords) (h h1) :
    (tbl m).at 0 (Rect.unit (s := S81) ![(Scalar.indexCast (BitVec.ofNat 32 (i 0).val)).toNat] S1.size h) h1 = expertOf (words m) (i 0) := by
  show words m _ = words m _
  congr 1
  funext a
  match a with
  | ⟨0, _⟩ => exact Fin.ext (by
      have hi : (i 0).val < 40 := (i 0).isLt
      show ((BitVec.ofNat 32 (i 0).val).setWidth 32).toNat + 1 * 0 = (i 0).val
      rw [BitVec.toNat_setWidth, BitVec.toNat_ofNat]
      omega)

/-- The activations' block: the point's tile, or the last used tile past it. -/
theorem block0 (hT : Routed (words m)) (i : grid0.Coords) :
    cc0_transform_0 inb_S81_S1_40 numel1_S1 (tbl m) i = ![min (i 0).val ((usedOf (words m)).toNat - 1), 0] := by
  show ![(Scalar.minsi (BitVec.ofNat 32 (i 0).val) (Scalar.subi ((tbl m).at 0 (Rect.unit (s := S81) ![40] S1.size inb_S81_S1_40) numel1_S1) 1#32)).toNat, (0#32).toNat] = _
  rw [words_used m inb_S81_S1_40 numel1_S1, block_used (i 0) hT.pos hT.le]
  rfl

/-- The weights' block: the tile's expert, and the point's columns. -/
theorem block1 (i : grid0.Coords) :
    cc0_transform_1 k0_off1_inb numel1_S1 (tbl m) i = ![(expertOf (words m) (i 0)).toNat, 0, (i 1).val] := by
  have h1 : (i 1).val < 8 := (i 1).isLt
  have e : (BitVec.ofNat 32 (i 1).val).toNat = (i 1).val := by rw [BitVec.toNat_ofNat]; omega
  funext a
  match a with
  | ⟨0, _⟩ => exact congrArg BitVec.toNat (words_expert m i (k0_off1_inb i) numel1_S1)
  | ⟨1, _⟩ => rfl
  | ⟨2, _⟩ => exact e

theorem ok_of_routed (hT : Routed (words m)) : Ok m := by
  refine ⟨fun i => ?_, fun i => ?_⟩
  · have hi : (i 0).val < 40 := (i 0).isLt
    have hb := block0 m hT i
    have hle := hT.le
    refine ⟨fun a => ?_, .inr (.inl (.inr ⟨by decide, rfl, .inl ⟨?_, ?_⟩⟩))⟩
    · rw [hb]
      match a with
      | ⟨0, _⟩ => show (min (i 0).val ((usedOf (words m)).toNat - 1) + 1) * 1024 ≤ 40960; omega
      | ⟨1, _⟩ => show (0 + 1) * 7168 ≤ 7168; omega
    · show EltTy.packing .bf16 ∣ cc0_transform_0 inb_S81_S1_40 numel1_S1 (tbl m) i 0 * 1024
      exact Dvd.dvd.mul_left (by decide) _
    · show EltTy.packing .bf16 ∣ 1024; decide
  · have hi : (i 1).val < 8 := (i 1).isLt
    have hb := block1 m i
    have he := hT.expert (i 0)
    refine ⟨fun a => ?_, .inr (.inl (.inr ⟨by decide, rfl, .inl ⟨?_, ?_⟩⟩))⟩
    · rw [hb]
      match a with
      | ⟨0, _⟩ => show ((expertOf (words m) (i 0)).toNat + 1) * 1 ≤ 8; omega
      | ⟨1, _⟩ => show (0 + 1) * 7168 ≤ 7168; omega
      | ⟨2, _⟩ => show ((i 1).val + 1) * 256 ≤ 2048; omega
    · show EltTy.packing .bf16 ∣ cc0_transform_1 k0_off1_inb numel1_S1 (tbl m) i 1 * 7168
      exact Dvd.dvd.mul_left (by decide) _
    · show EltTy.packing .bf16 ∣ 7168; decide

end Cert.MoeDown

end
-- ==== Proof.DownRow.lean ====
/- What the down projection's body leaves, at a row and a column: the row's product where its tile is used, zero elsewhere. -/
module

public import proofs.«01_k».proof.Proof.DownTable
public import Idealize.ShloMosaic.Lib.Pointwise

@[expose] public section

set_option maxRecDepth 16384

noncomputable section

namespace Cert.MoeDown

open Cert.Kernel3Ideal Cert.Kernel3Ideal.Gen
open Idealize.ShloMosaic Idealize.ShloMosaic.TcCoe Cert.Moe

/-- The product of a row of a block of activations and a column of a block of weights. -/
def dotRow (x0 : Vec Ideal S1024x7168 .bf16) (x1 : Vec Ideal S1x7168x256 .bf16) (r : Fin 1024) (n : Fin 256) : EReal :=
  ∑ k : Fin 7168, (show EReal from x0 (ix2 r k)) * (show EReal from x1 (ix3 0 k n))

theorem full_at (x0 : Vec Ideal S1024x7168 .bf16) (x1 : Vec Ideal S1x7168x256 .bf16) (r : Fin 1024) (n : Fin 256) :
    (k0_pay1 (F := Ideal) x0 x1 (ix2 r n) : EReal) = dotRow x0 x1 r n := by
  pointwise [k0_pay1]
  rfl

theorem half_at (x0 : Vec Ideal S1024x7168 .bf16) (x1 : Vec Ideal S1x7168x256 .bf16) (r : Fin 512) (n : Fin 256) :
    (k0_pay2 (F := Ideal) (upper x0) x1 (ix2 r n) : EReal) = dotRow x0 x1 ⟨r.val, by omega⟩ n := by
  pointwise [k0_pay2]
  rfl

theorem zero_half_at (r : Fin 512) (n : Fin 256) : (k0_pay3 (F := Ideal) (ix2 r n) : EReal) = 0 := by
  pointwise [k0_pay3]

theorem zero_at (r : Fin 1024) (n : Fin 256) : (k0_pay4 (F := Ideal) (ix2 r n) : EReal) = 0 := by
  pointwise [k0_pay4]

theorem unused_iff (T : IVec S81 32) (hT : Routed T) (i : grid0.Coords) : k0_cond3 i (usedOf T) = 1#1 ↔ ¬ (i 0).val < (usedOf T).toNat := by
  unfold k0_cond3
  show Scalar.cmpi .ne (Scalar.extui (Scalar.xori (IntOp.cmpi .slt (BitVec.ofNat 32 (i 0).val) (usedOf T)) 1#1)) 0#32 = 1#1 ↔ _
  rw [slt_small (i 0) hT.le]
  by_cases h : (i 0).val < (usedOf T).toNat
  · rw [decide_eq_true h]; simp only [h, not_true_eq_false, iff_false]; decide
  · rw [decide_eq_false h]; simp only [h, not_false_eq_true, iff_true]; decide

theorem half_iff (T : IVec S81 32) (hT : Routed T) (i : grid0.Coords) (v : BitVec 32) :
    k0_cond2 i (usedOf T) v = 1#1 ↔ (i 0).val < (usedOf T).toNat ∧ ¬ 512 < v.toInt := by
  unfold k0_cond2
  show Scalar.cmpi .ne (Scalar.extui (Scalar.andi (IntOp.cmpi .slt (BitVec.ofNat 32 (i 0).val) (usedOf T)) (Scalar.xori (IntOp.cmpi .sgt v 512#32) 1#1))) 0#32 = 1#1 ↔ _
  rw [slt_small (i 0) hT.le, sgt_half]
  by_cases h : (i 0).val < (usedOf T).toNat <;> by_cases h' : 512 < v.toInt
  · rw [decide_eq_true h, decide_eq_true h']; simp only [h, h', not_true_eq_false, and_false, iff_false]; decide
  · rw [decide_eq_true h, decide_eq_false h']; simp only [h, h', not_false_eq_true, and_true, iff_true]; decide
  · rw [decide_eq_false h, decide_eq_true h']; simp only [h, h', false_and, iff_false]; decide
  · rw [decide_eq_false h, decide_eq_false h']; simp only [h, h', false_and, iff_false]; decide

/-- A used tile's rows are its products, as long as the rows that hold no token are zero. -/
theorem out_used (T : IVec S81 32) (hT : Routed T) (i : grid0.Coords) (hi : (i 0).val < (usedOf T).toNat)
    (x0 : Vec Ideal S1024x7168 .bf16) (x1 : Vec Ideal S1x7168x256 .bf16)
    (hz : ∀ (r : Fin 1024) k, ¬ Holds T (i 0) r.val → (x0 (ix2 r k) : EReal) = 0) (r : Fin 1024) (n : Fin 256) :
    (out (F := Ideal) i (usedOf T) (rowsOf T (i 0)) x0 x1 (ix2 r n) : EReal) = dotRow x0 x1 r n := by
  unfold out
  rw [if_neg fun h => (unused_iff T hT i).mp h hi]
  by_cases h2 : k0_cond2 i (usedOf T) (rowsOf T (i 0)) = 1#1
  · rw [if_pos h2]
    by_cases hr : r.val < 512
    · exact (dif_pos (show (ix2 r n 0).val < 512 from hr)).trans (half_at x0 x1 ⟨r.val, hr⟩ n)
    · refine (dif_neg (show ¬ (ix2 r n 0).val < 512 from hr)).trans ((zero_half_at _ n).trans ?_)
      symm
      refine Finset.sum_eq_zero fun k _ => ?_
      have hh := ((half_iff T hT i _).mp h2).2
      have h0 : (x0 (ix2 r k) : EReal) = 0 := hz r k fun hh' => by have := hh'.2; omega
      show (x0 (ix2 r k) : EReal) * _ = 0
      rw [h0, zero_mul]
  · rw [if_neg h2]; exact full_at x0 x1 r n

theorem out_unused (T : IVec S81 32) (hT : Routed T) (i : grid0.Coords) (hi : ¬ (i 0).val < (usedOf T).toNat)
    (v : BitVec 32) (x0 : Vec Ideal S1024x7168 .bf16) (x1 : Vec Ideal S1x7168x256 .bf16) (r : Fin 1024) (n : Fin 256) :
    (out (F := Ideal) i (usedOf T) v x0 x1 (ix2 r n) : EReal) = 0 := by
  unfold out
  rw [if_pos ((unused_iff T hT i).mpr hi)]
  exact zero_at r n

end Cert.MoeDown

end
-- ==== Proof.DownRef.lean ====
/- The reference's down projection at a row and a column: the product with the matrix of the row's expert. -/
module

public import proofs.«01_k».proof.Proof.MoeTable
public import proofs.«01_k».proof.Proof.Gen.Reference3Ideal.Read
public import Idealize.ShloMosaic.Lib.Pointwise

@[expose] public section

set_option maxRecDepth 16384

noncomputable section

namespace Cert.MoeDown

open Cert.Reference3Ideal Cert.Reference3Ideal.Gen Cert.Reference3Ideal.Read Idealize.ShloMosaic Idealize.ShloMosaic.TcCoe
open Cert.Moe

abbrev Acts := (⟨S40960x7168, .bf16⟩ : BufTy).Contents (Elt Ideal)
abbrev Weights := (⟨S8x7168x2048, .f32⟩ : BufTy).Contents (Elt Ideal)

/-- The weight of an expert at a row: whether the row's tile names it. -/
theorem hot_at (T : IVec S81 32) (n : Fin 40960) (e : Fin 8) :
    (val_main_v4 (F := Ideal) T (ix2 n e) : EReal) = hot (expertOf T (tileOf n)) e := by
  pointwise [val_main_v4, val_main_call0_v4, val_main_call0_v3, val_main_call0_v2, val_main_call0_v1, val_main_call0_v0, val_main_v3, val_main_v2, val_main_v1]
  exact hot_eq _ e

/-- The product with one expert's matrix. -/
def product (x : Acts) (w : Weights) (e : Fin 8) (n : Fin 40960) (d : Fin 2048) : EReal :=
  ∑ k : Fin 7168, (show EReal from x (ix2 n k)) * (show EReal from w (ix3 e k d))

theorem ref_at (x : Acts) (T : IVec S81 32) (w : Weights) (hT : Routed T) (n : Fin 40960) (d : Fin 2048) :
    (val_main_v7 (F := Ideal) x T w (ix2 n d) : EReal) = product x w ⟨(expertOf T (tileOf n)).toNat, hT.expert _⟩ n d := by
  pointwise [val_main_v7, val_main_v6, val_main_v5, hot_at, val_main_v0]
  exact select _ (hT.expert _) fun e => product x w e n d

end Cert.MoeDown

end
-- ==== Proof.DownValue.lean ====
/- The down projection's result array is the reference's, where the table routes and rows without a token are zero. -/
module

public import proofs.«01_k».proof.Proof.DownRow
public import proofs.«01_k».proof.Proof.DownRef
public import Idealize.ShloMosaic.Lib.Pipeline.ValueKit

@[expose] public section

set_option maxRecDepth 16384

noncomputable section

namespace Cert.MoeDown

open Idealize.ShloMosaic Idealize.ShloMosaic.TcCoe Cert.Moe
open Cert.Kernel3Ideal Cert.Kernel3Ideal.Gen

variable (m : (ℓ : Loc nD τ sig) → Buf (Elt Ideal) ℓ) (hO : Ok m) (c : Dev nD)

/-- A grid point's coordinates. -/
theorem coords_at : ∀ t : Fin grid0.N, (grid0.coords t 0).val = t.val / 8 ∧ (grid0.coords t 1).val = t.val % 8 ∧ t.val < 320 := by
  decide +kernel

/-- The weights as the kernel is handed them: cast, which is the identity. -/
theorem weights_at (e : Fin 8) (k : Fin 7168) (d : Fin 2048) :
    (show EReal from V m c main_v0 (ix3 e k d)) = (show EReal from m ((c.tc : Thread nD τ).loc main_arg2) (ix3 e k d)) := by
  unfold V
  after_reads_at

theorem index0 (hT : Routed (words m)) (t : Fin (cfgM m hO).N) :
    ((cfgM m hO).win 0).index t = ![min (t.val / 8) ((usedOf (words m)).toNat - 1), 0] := by
  have h := block0 m hT (grid0.coords t)
  rw [(coords_at t).1] at h
  exact h

theorem index1 (t : Fin (cfgM m hO).N) :
    ((cfgM m hO).win 1).index t = ![(expertOf (words m) ((grid0.coords t) 0)).toNat, 0, t.val % 8] := by
  have h := block1 m (grid0.coords t)
  rw [(coords_at t).2.1] at h
  exact h

theorem index2 (t : Fin (cfgM m hO).N) : ((cfgM m hO).win 2).index t = ![t.val / 8, t.val % 8] := by
  have h0 := (coords_at t).1
  have h1 := (coords_at t).2.1
  have h2 := (coords_at t).2.2
  show cc0_transform_2 (grid0.coords t) = _
  unfold cc0_transform_2
  show ![(BitVec.ofNat 32 (grid0.coords t 0).val).toNat, (BitVec.ofNat 32 (grid0.coords t 1).val).toNat] = _
  rw [BitVec.toNat_ofNat, BitVec.toNat_ofNat, h0, h1, Nat.mod_eq_of_lt (by omega), Nat.mod_eq_of_lt (by omega)]

/-- The tile of a grid point. -/
abbrev tile (t : Fin (cfgM m hO).N) : Fin 40 := grid0.coords t 0

/-- Where an element of a block lies in its array: block index times block size, plus its own place. -/
theorem emb0 (a : (pcfg0 (F := Ideal)).Adm) (t : Fin (cfg0 a).N) (b0 b1 : ℕ) (h : ((cfg0 a).win 0).index t = ![b0, b1]) (r : Fin 1024) (k : Fin 7168)
    (R : Fin 40960) (K : Fin 7168) (hR : b0 * 1024 + r.val = R.val) (hK : b1 * 7168 + k.val = K.val) :
    (((cfg0 a).win 0).blk t).view.emb (ix2 r k) = ix2 R K := by
  refine funext fun x => Fin.ext ?_
  refine (((cfg0 a).win 0).rect_emb_val t (ix2 r k) x rfl).trans ?_
  rw [h]
  match x with
  | ⟨0, _⟩ => exact hR
  | ⟨1, _⟩ => exact hK

theorem emb1 (a : (pcfg0 (F := Ideal)).Adm) (t : Fin (cfg0 a).N) (b0 b1 b2 : ℕ) (h : ((cfg0 a).win 1).index t = ![b0, b1, b2]) (k : Fin 7168) (n : Fin 256)
    (E : Fin 8) (K : Fin 7168) (N : Fin 2048) (hE : b0 * 1 + 0 = E.val) (hK : b1 * 7168 + k.val = K.val) (hN : b2 * 256 + n.val = N.val) :
    (((cfg0 a).win 1).blk t).view.emb (ix3 0 k n) = ix3 E K N := by
  refine funext fun x => Fin.ext ?_
  refine (((cfg0 a).win 1).rect_emb_val t (ix3 0 k n) x rfl).trans ?_
  rw [h]
  match x with
  | ⟨0, _⟩ => exact hE
  | ⟨1, _⟩ => exact hK
  | ⟨2, _⟩ => exact hN

theorem emb2 (a : (pcfg0 (F := Ideal)).Adm) (t : Fin (cfg0 a).N) (b0 b1 : ℕ) (h : ((cfg0 a).win 2).index t = ![b0, b1]) (r : Fin 1024) (n : Fin 256)
    (R : Fin 40960) (N : Fin 2048) (hR : b0 * 1024 + r.val = R.val) (hN : b1 * 256 + n.val = N.val) :
    (((cfg0 a).win 2).blk t).view.emb (ix2 r n) = ix2 R N := by
  refine funext fun x => Fin.ext ?_
  refine (((cfg0 a).win 2).rect_emb_val t (ix2 r n) x rfl).trans ?_
  rw [h]
  match x with
  | ⟨0, _⟩ => exact hR
  | ⟨1, _⟩ => exact hN

theorem x_blk (hT : Routed (words m)) (t : Fin (cfgM m hO).N) (hu : t.val / 8 < (usedOf (words m)).toNat) (r : Fin 1024) (k : Fin 7168) :
    (show EReal from iblk m hO c 0 t (ix2 r k)) = (show EReal from V m c main_arg0 (ix2 (rowAt (tile m hO t) r) k)) := by
  have hc := (coords_at t).1
  refine congrArg (V m c main_arg0) (emb0 (adm m hO) t _ _ (index0 m hO hT t) r k _ _ ?_ ?_)
  · rw [Nat.min_eq_left (by omega), ← hc]
    rfl
  · omega

theorem w_blk (hT : Routed (words m)) (t : Fin (cfgM m hO).N) (k : Fin 7168) (n : Fin 256) :
    (show EReal from iblk m hO c 1 t (ix3 0 k n)) = (show EReal from V m c main_v0 (ix3 ⟨(expertOf (words m) (tile m hO t)).toNat, hT.expert _⟩ k ⟨t.val % 8 * 256 + n, by omega⟩)) := by
  refine congrArg (V m c main_v0) (emb1 (adm m hO) t _ _ _ (index1 m hO t) k n _ _ _ (Nat.mul_one _) ?_ ?_)
  · omega
  · rfl

/-- A block of the result is its rows of the product. -/
theorem point (hT : Routed (words m)) (hz : ∀ (i : Fin 40) (r : Fin 1024) k, ¬ Holds (words m) i r.val → (show EReal from m ((c.tc : Thread nD τ).loc main_arg0) (ix2 (rowAt i r) k)) = 0)
    (t : Fin (cfgM m hO).N) (r : Fin 1024) (n : Fin 256) (N : Fin 2048) (hN : t.val % 8 * 256 + n.val = N.val) :
    (left m hO c t (ix2 r n) : EReal) = product (m ((c.tc : Thread nD τ).loc main_arg0)) (m ((c.tc : Thread nD τ).loc main_arg2))
      ⟨(expertOf (words m) (tile m hO t)).toNat, hT.expert _⟩ (rowAt (tile m hO t) r) N := by
  have hx : ∀ (i : Fin 40) (r : Fin 1024) k, ¬ Holds (words m) i r.val → (show EReal from V m c main_arg0 (ix2 (rowAt i r) k)) = 0 :=
    fun i r k h => (congrFun (V_arg0 m c) _).trans (hz i r k h)
  have hc := (coords_at t).1
  unfold left
  by_cases hu : t.val / 8 < (usedOf (words m)).toNat
  · refine (out_used (words m) hT (grid0.coords t) (hc ▸ hu) _ _ (fun r k h => (x_blk m hO c hT t hu r k).trans (hx _ r k h)) r n).trans ?_
    refine Finset.sum_congr rfl fun k _ => ?_
    refine congrArg₂ (fun a b : EReal => a * b) ((x_blk m hO c hT t hu r k).trans (congrFun (V_arg0 m c) _)) ?_
    refine (w_blk m hO c hT t k n).trans ((weights_at m c _ k _).trans ?_)
    exact congrArg (fun N => (show EReal from m ((c.tc : Thread nD τ).loc main_arg2) (ix3 _ k N))) (Fin.ext hN)
  · refine (out_unused (words m) hT (grid0.coords t) (hc ▸ hu) _ _ _ r n).trans ?_
    refine (Finset.sum_eq_zero fun k _ => ?_).symm
    rw [show (show EReal from m ((c.tc : Thread nD τ).loc main_arg0) (ix2 (rowAt (tile m hO t) r) k)) = 0 from
      hz _ r k fun h => hu (hc ▸ h.1)]
    exact zero_mul _

/-- Every element of the result lies in a block written back. -/
theorem covered (i : S40960x2048.Idx) : ∃ t : Fin (cfgM m hO).N, ((cfgM m hO).win 2).flush t = true ∧ i ∈ (((cfgM m hO).win 2).blk t).view.set := by
  obtain ⟨R, N, rfl⟩ : ∃ R N, i = ix2 R N := ⟨i 0, i 1, by funext a; match a with | ⟨0, _⟩ => rfl | ⟨1, _⟩ => rfl⟩
  have hR := R.isLt
  have hN := N.isLt
  let t : Fin (cfgM m hO).N := ⟨R.val / 1024 * 8 + N.val / 256, (by omega : R.val / 1024 * 8 + N.val / 256 < 320)⟩
  have h : (((cfgM m hO).win 2).blk t).view.emb (ix2 ⟨R.val % 1024, Nat.mod_lt _ (by decide)⟩ ⟨N.val % 256, Nat.mod_lt _ (by decide)⟩) = ix2 R N := by
    refine emb2 (adm m hO) t _ _ (index2 m hO t) _ _ R N ?_ ?_
    · show (R.val / 1024 * 8 + N.val / 256) / 8 * 1024 + R.val % 1024 = R.val
      omega
    · show (R.val / 1024 * 8 + N.val / 256) % 8 * 256 + N.val % 256 = N.val
      omega
  refine ⟨t, flush_out (adm m hO) t, ?_⟩
  rw [← h]
  exact View.emb_mem_set _ _

/-- A block as it is written back is the reference's there. -/
theorem flushed (hT : Routed (words m)) (hz : ∀ (i : Fin 40) (r : Fin 1024) k, ¬ Holds (words m) i r.val → (show EReal from m ((c.tc : Thread nD τ).loc main_arg0) (ix2 (rowAt i r) k)) = 0)
    (t : Fin (cfgM m hO).N) (y : S1024x256.Idx) :
    (left m hO c t y : EReal) = Cert.Reference3Ideal.Read.val_main_v7 (F := Ideal) (m ((c.tc : Thread nD τ).loc main_arg0)) (words m) (m ((c.tc : Thread nD τ).loc main_arg2))
      ((((cfgM m hO).win 2).blk t).view.emb y) := by
  obtain ⟨r, n, rfl⟩ : ∃ (r : Fin 1024) (n : Fin 256), y = ix2 r n := ⟨y 0, y 1, by funext a; match a with | ⟨0, _⟩ => rfl | ⟨1, _⟩ => rfl⟩
  have ht := (coords_at t).2.2
  have hc := (coords_at t).1
  have h1 : t.val % 8 < 8 := Nat.mod_lt _ (by decide)
  have e := emb2 (adm m hO) t _ _ (index2 m hO t) r n (rowAt (tile m hO t) r) ⟨t.val % 8 * 256 + n.val, by omega⟩
    (by show _ = (grid0.coords t 0).val * 1024 + r.val; rw [hc]) rfl
  refine Eq.trans ?_ (congrArg _ e).symm
  refine (point m hO c hT hz t r n ⟨t.val % 8 * 256 + n.val, by omega⟩ rfl).trans ?_
  refine Eq.trans ?_ (ref_at _ _ _ hT _ _).symm
  congr 1
  refine Fin.ext (congrArg (fun j => (expertOf (words m) j).toNat) (Fin.ext ?_))
  show (grid0.coords t 0).val = ((grid0.coords t 0).val * 1024 + r.val) / 1024
  omega

/-- The result is the reference's. -/
theorem final (hT : Routed (words m)) (hz : ∀ (i : Fin 40) (r : Fin 1024) k, ¬ Holds (words m) i r.val → (show EReal from m ((c.tc : Thread nD τ).loc main_arg0) (ix2 (rowAt i r) k)) = 0) :
    (dats m hO 0 c).arrAt 2 (cfgM m hO).N
      = Cert.Reference3Ideal.Read.val_main_v7 (F := Ideal) (m ((c.tc : Thread nD τ).loc main_arg0)) (words m) (m ((c.tc : Thread nD τ).loc main_arg2)) :=
  (dats m hO 0 c).arrAt_eq_of_emb 2 _ (fun t hf y => (congrFun (after2 m hO c t) y).trans (flushed m hO c hT hz t y)) (covered m hO)

end Cert.MoeDown

end
-- ==== Proof.DownClaims.lean ====
/- The claims about the down projection: frames, the idealization, and equal results where the table routes. -/
module

public import proofs.«01_k».proof.Defs
public import proofs.«01_k».proof.Proof.Gen.Kernel3
public import proofs.«01_k».proof.Proof.Gen.Kernel3.Launch
public import proofs.«01_k».proof.Proof.Gen.Pre_grouped_act
public import proofs.«01_k».proof.Proof.DownPre
public import proofs.«01_k».proof.Proof.DownValue
public import proofs.«01_k».proof.Proof.Gen.Reference3Ideal.Run
public import Idealize.ShloMosaic.Adequacy
public import Idealize.ShloMosaic.Init

@[expose] public section

set_option maxRecDepth 16384

noncomputable section

namespace Cert.MoeDown

open Idealize.ShloMosaic Idealize.SL.Sem Cert.Moe

/-- The precondition makes the table route. -/
theorem routed_bits (m : (ℓ : Loc Cert.Kernel3.nD Cert.Kernel3.τ Cert.Kernel3.sig) → Buf (Elt Bits) ℓ) (h : Cert.Pre_Kernel3 m) :
    Routed (words (F := Bits) m) := routed_of_pre (F := Bits) (h 0).1 (h 0).2.1

/-- The two programs have the same body table. -/
theorem bodies_eq : Cert.Kernel3.defs₀ (F := Bits) = Cert.Kernel3Ideal.defs₀ (F := Bits) := by
  unfold Cert.Kernel3.defs₀ Cert.Kernel3Ideal.defs₀
  refine congrArg Defs.onTc (funext fun l => funext fun a => ?_)
  match l, a with
  | ⟨0, _⟩, (t, s) => rfl
  | ⟨_ + 1, h⟩, _ => exact absurd h (Nat.not_lt.2 (Nat.le_add_left _ _))

theorem defs_eq : Cert.Kernel3.defs (F := Bits) = Cert.Kernel3Ideal.defs (F := Bits) :=
  congrArg (Pipeline.defs (Cert.Kernel3Ideal.pcfgs (F := Bits))) bodies_eq

theorem frame_kernel : Cert.quiescent_Kernel3 := by
  intro m ρ h
  rw [defs_eq]
  exact frame (F := Bits) m ρ (ok_of_routed m (routed_bits m h))

theorem frame_kernel_ideal : Cert.quiescent_Kernel3Ideal := fun m ρ h =>
  frame (F := Ideal) m ρ (ok_of_routed m (routed_of_pre (F := Ideal) (h 0).1 (h 0).2.1))

/-- The reference runs to its composed result, leaves its arguments, and has no semaphores. -/
theorem frame_reference : Cert.quiescent_Reference3Ideal := fun m ρ _ =>
  (θ_run Cert.Reference3Ideal.defs _ _).mono (fun r h => ⟨fun c => (h c).2,
      Idealize.ShloMosaic.sem_eq_zero_of_no_sems (by decide) r.2⟩)
    (Cert.Reference3Ideal.Value.run (F := Ideal) m ρ)

theorem frame_reference_pre : Cert.quiescent_Reference3Ideal_pre_grouped_act := fun m ρ _ => frame_reference m ρ trivial

theorem preserves : Cert.preserves_Kernel3_Kernel3Ideal := trivial

theorem algebraic : Cert.algebraic_Kernel3Ideal_Reference3Ideal := by
  intro m g m' g' hpre hagree
  have hT := routed_of_pre (F := Ideal) (hpre 0).1 (hpre 0).2.1
  have hO : Ok m := ok_of_routed m hT
  refine ⟨fun c => (dats m hO 0 c).arrAt 2 (cfgM m hO).N, ?_, ?_⟩
  · exact (θ_run _ _ _).mono (fun r h c => ⟨(h.1 c).1 2, h.2 c⟩) (θ_run_and (run_main m g hO) (unchanged m g hO))
  · refine (θ_run Cert.Reference3Ideal.defs _ _).mono (fun r h c => ⟨(h c).1.trans ?_, (h c).2⟩) (Cert.Reference3Ideal.Value.run (F := Ideal) m' g')
    obtain ⟨a0, a1, a2⟩ := hagree c
    obtain rfl : c = 0 := Subsingleton.elim _ _
    refine Eq.trans ?_ (final m hO 0 hT fun i r k hr => zero_of_pre hT (hpre 0).2.2 i r k hr).symm
    rw [show words m = m (((0 : Dev Cert.Kernel3Ideal.nD).tc : Thread Cert.Kernel3Ideal.nD Cert.Kernel3Ideal.τ).loc Cert.Kernel3Ideal.main_arg1) from V_arg1 m 0, ← a0, ← a1, ← a2]
    exact Cert.Reference3Ideal.Read.val_main_v7_eq _ _ _

end Cert.MoeDown

end
-- ==== Proof.DenseDot.lean ====
/- The scalar functions the dense products' values are stated in. -/
module

public import Idealize.ShloMosaic.Lib.Pointwise
public import Idealize.ShloMosaic.Lib.Pipeline.ValueKit

@[expose] public section

set_option maxRecDepth 16384

noncomputable section

namespace Cert.Dense

open Idealize.ShloMosaic

/-- The product of row `r` of a matrix and column `d` of another. -/
def dotRow {a k b : Nat} (x : (⟨2, ![a, k]⟩ : Shape).Idx → EReal) (w : (⟨2, ![k, b]⟩ : Shape).Idx → EReal) (r : Fin a) (d : Fin b) : EReal :=
  ∑ l : Fin k, x (ix2 r l) * w (ix2 l d)

/-- The product of token `n`'s row, position `n % 4096` of batch `n / 4096`, and column `d` of a matrix. -/
def dotTok {k b : Nat} (x : (⟨3, ![4, 4096, k]⟩ : Shape).Idx → EReal) (w : (⟨2, ![k, b]⟩ : Shape).Idx → EReal) (n : Fin 16384) (d : Fin b) : EReal :=
  ∑ l : Fin k, x (ix3 ⟨n / 4096, by omega⟩ ⟨n % 4096, by omega⟩ l) * w (ix2 l d)

/-- SiLU of the gate times the up value. -/
def gated (g u : EReal) : EReal := g * Ideal.logistic g * u

/-- The products of a row and a column are equal where the row and the column are. -/
theorem dotRow_eq {a k b b' : Nat} {x : (⟨2, ![a, k]⟩ : Shape).Idx → EReal} {w : (⟨2, ![k, b]⟩ : Shape).Idx → EReal}
    {y : (⟨3, ![4, 4096, k]⟩ : Shape).Idx → EReal} {v : (⟨2, ![k, b']⟩ : Shape).Idx → EReal}
    {r : Fin a} {d : Fin b} {n : Fin 16384} {e : Fin b'}
    (hx : ∀ l, x (ix2 r l) = y (ix3 ⟨n / 4096, by omega⟩ ⟨n % 4096, by omega⟩ l)) (hw : ∀ l, w (ix2 l d) = v (ix2 l e)) :
    dotRow x w r d = dotTok y v n e :=
  Finset.sum_congr rfl fun l _ => by rw [hx, hw]

end Cert.Dense

end
-- ==== Proof.DenseUpRow.lean ====
/- What a grid point of the dense up projection writes, at a row and a column of its block: the gated product of the row. -/
module

public import proofs.«01_k».proof.Proof.Gen.Kernel4Ideal.Value
public import proofs.«01_k».proof.Proof.DenseDot

@[expose] public section

set_option maxRecDepth 16384

noncomputable section

namespace Cert.DenseUp

open Cert.Kernel4Ideal Cert.Kernel4Ideal.Gen Idealize.ShloMosaic Idealize.ShloMosaic.TcCoe Cert.Dense

theorem out_at (x0 : Vec Ideal S1024x2048 .bf16) (x1 x2 : Vec Ideal S2048x512 .bf16) (r : Fin 1024) (n : Fin 512) :
    (out0_3 x0 x1 x2 (ix2 r n) : EReal) = gated (dotRow x0 x1 r n) (dotRow x0 x2 r n) := by
  canon_tiles x h using cover0_3 ..
  · idx_vars x
    obtain rfl := Fin.ext h0
    obtain ⟨n, hn⟩ := n
    change n = 256 + _ at h1
    subst h1
    pointwise [k0_pay3, k0_pay1]
    rfl
  · idx_vars x
    obtain rfl := Fin.ext h0
    obtain ⟨n, hn⟩ := n
    change n = _ at h1
    subst h1
    pointwise [k0_pay2, k0_pay1]
    rfl

end Cert.DenseUp

end
-- ==== Proof.DenseUpValue.lean ====
/- The dense up projection's result array is the reference's: each grid point writes a block of 1024 rows and 512 columns
   of the gated product. -/
module

public import proofs.«01_k».proof.Proof.DenseUpRow
public import proofs.«01_k».proof.Proof.Gen.Reference4Ideal.Read
public import Idealize.ShloMosaic.Lib.StableHlo.ReadAt

@[expose] public section

set_option maxRecDepth 16384

noncomputable section

namespace Cert.DenseUp

open Idealize.ShloMosaic Idealize.ShloMosaic.TcCoe Idealize.SL.Sem Cert.Dense

/-! ## The reference -/

section Ref

open Cert.Reference4Ideal Cert.Reference4Ideal.Read

theorem ref_at (x : (⟨S4x4096x2048, .f32⟩ : BufTy).Contents (Elt Ideal)) (w : (⟨S2048x11264, .f32⟩ : BufTy).Contents (Elt Ideal))
    (n : Fin 16384) (d : Fin 5632) :
    (val_main_v6 (F := Ideal) x w (ix2 n d) : EReal) = gated (dotTok x w n ⟨d.val, by omega⟩) (dotTok x w n ⟨5632 + d.val, by omega⟩) := by
  pointwise [val_main_v6, val_main_v5, val_main_v4, val_main_v3, val_main_call0_v5, val_main_call0_v4, val_main_call0_v3, val_main_call0_v2,
    val_main_call0_v1, val_main_call0_v0, val_main_call0_cst, val_main_call0_cst_0, val_main_v2, val_main_v1, val_main_v0]
  rfl

end Ref

/-! ## The kernel -/

section Kern

open Cert.Kernel4Ideal Cert.Kernel4Ideal.Gen

variable (m : (ℓ : Loc nD τ sig) → Buf (Elt Ideal) ℓ) (c : Dev nD)

/-- The activations, their first two axes merged. -/
theorem acts_at (n : Fin 16384) (k : Fin 2048) :
    (show EReal from V m c main_v1 (ix2 n k)) = (show EReal from m ((c.tc : Thread nD τ).loc main_arg0) (ix3 ⟨n / 4096, by omega⟩ ⟨n % 4096, by omega⟩ k)) := by
  unfold V
  after_reads_at

/-- The fused weights. -/
theorem weights_at (k : Fin 2048) (d : Fin 11264) :
    (show EReal from V m c main_v2 (ix2 k d)) = (show EReal from m ((c.tc : Thread nD τ).loc main_arg1) (ix2 k d)) := by
  unfold V
  after_reads_at

/-- Where each window's block lies at grid point `t`. -/
theorem idx : ∀ t : Fin cfg0.N, win0_0.index t = ![t.val / 11, 0] ∧ win0_1.index t = ![0, t.val % 11] ∧ win0_2.index t = ![0, 11 + t.val % 11] ∧ win0_3.index t = ![t.val / 11, t.val % 11] ∧ t.val < 176 :=
  (by decide +kernel : ∀ t : Fin grid0.N, _)

theorem lt (t : Fin cfg0.N) : t.val < 176 := (idx t).2.2.2.2

/-- The row of the token axis that row `r` of grid point `t` is. -/
abbrev row (t : Fin cfg0.N) (r : Fin 1024) : Fin 16384 := ⟨t.val / 11 * 1024 + r, by have := lt t; omega⟩

/-- The column of the result that column `d` of grid point `t` is. -/
abbrev col (t : Fin cfg0.N) (d : Fin 512) : Fin 5632 := ⟨t.val % 11 * 512 + d, by omega⟩

theorem h_blk (t : Fin cfg0.N) (r : Fin 1024) (k : Fin 2048) : iblk m c 0 t (ix2 r k) = V m c main_v1 (ix2 (row t r) k) := by
  have := lt t
  blk_ext [iblk, idx t]

theorem g_blk (t : Fin cfg0.N) (k : Fin 2048) (d : Fin 512) : iblk m c 1 t (ix2 k d) = V m c main_v2 (ix2 k ⟨(col t d).val, by omega⟩) := by
  have := lt t
  blk_ext [iblk, idx t]

theorem u_blk (t : Fin cfg0.N) (k : Fin 2048) (d : Fin 512) : iblk m c 2 t (ix2 k d) = V m c main_v2 (ix2 k ⟨5632 + (col t d).val, by omega⟩) := by
  have := lt t
  blk_ext [iblk, idx t]

/-- What a grid point writes, at a row and a column of its block. -/
theorem point (t : Fin cfg0.N) (r : Fin 1024) (d : Fin 512) :
    (out0_3 (iblk m c 0 t) (iblk m c 1 t) (iblk m c 2 t) (ix2 r d) : EReal)
      = Cert.Reference4Ideal.Read.val_main_v6 (F := Ideal) (m ((c.tc : Thread nD τ).loc main_arg0)) (m ((c.tc : Thread nD τ).loc main_arg1)) (ix2 (row t r) (col t d)) := by
  rw [ref_at, out_at]
  refine congrArg₂ gated (dotRow_eq (fun k => ?_) fun k => ?_) (dotRow_eq (fun k => ?_) fun k => ?_)
  · rw [h_blk]; exact acts_at m c _ _
  · rw [g_blk]; exact weights_at m c _ _
  · rw [h_blk]; exact acts_at m c _ _
  · rw [u_blk]; exact weights_at m c _ _

/-- The kernel's result array is the reference's. -/
theorem final : (dats m 0 c).arrAt 3 cfg0.N
    = Cert.Reference4Ideal.Read.val_main_v6 (F := Ideal) (m ((c.tc : Thread nD τ).loc main_arg0)) (m ((c.tc : Thread nD τ).loc main_arg1)) := by
  refine (dats m 0 c).arrAt_eq_of_covers 3 _ (by decide +kernel) fun t hf y => ?_
  blk_simp
  rw [after0_3]
  idx_vars y
  refine (point m c t _ _).trans ?_
  blk_ext [idx t]

end Kern

end Cert.DenseUp

end
-- ==== Proof.DenseUpClaims.lean ====
/- The claims about the dense up projection: frames, the idealization, and equal results. -/
module

public import proofs.«01_k».proof.Defs
public import proofs.«01_k».proof.Proof.Gen.Kernel4.Frame
public import proofs.«01_k».proof.Proof.Gen.Reference4Ideal.Run
public import proofs.«01_k».proof.Proof.DenseUpValue
public import Idealize.ShloMosaic.Adequacy
public import Idealize.ShloMosaic.Init

@[expose] public section

set_option maxRecDepth 16384

noncomputable section

namespace Cert.DenseUp

open Idealize.ShloMosaic Idealize.SL.Sem

theorem frame_kernel : Cert.quiescent_Kernel4 := fun m ρ _ => Cert.Kernel4.Gen.frame m ρ
theorem frame_kernel_ideal : Cert.quiescent_Kernel4Ideal := fun m ρ _ => Cert.Kernel4Ideal.Gen.frame m ρ

/-- The reference runs to its composed result, leaves its arguments, and has no semaphores. -/
theorem frame_reference : Cert.quiescent_Reference4Ideal := fun m ρ _ =>
  (θ_run Cert.Reference4Ideal.defs _ _).mono (fun r h => ⟨fun c => (h c).2,
      Idealize.ShloMosaic.sem_eq_zero_of_no_sems (by decide) r.2⟩)
    (Cert.Reference4Ideal.Value.run (F := Ideal) m ρ)

theorem preserves : Cert.preserves_Kernel4_Kernel4Ideal := trivial

theorem algebraic : Cert.algebraic_Kernel4Ideal_Reference4Ideal := by
  intro m g m' g' _ hagree
  refine ⟨fun c => (Cert.Kernel4Ideal.Gen.dats m 0 c).arrAt 3 Cert.Kernel4Ideal.cfg0.N, Cert.Kernel4Ideal.Value.run_blocks m g, ?_⟩
  refine (θ_run Cert.Reference4Ideal.defs _ _).mono (fun r h c => ⟨(h c).1.trans ?_, (h c).2⟩) (Cert.Reference4Ideal.Value.run (F := Ideal) m' g')
  obtain ⟨a0, a1⟩ := hagree c
  rw [a0, a1]
  exact Eq.trans rfl (final m c).symm

end Cert.DenseUp

end
-- ==== Proof.DenseDownRow.lean ====
/- What a grid point of the dense down projection writes, at a row and a column of its block: the residual and the gated product. -/
module

public import proofs.«01_k».proof.Proof.Gen.Kernel5Ideal.Value
public import proofs.«01_k».proof.Proof.DenseDot

@[expose] public section

set_option maxRecDepth 16384

noncomputable section

namespace Cert.DenseDown

open Cert.Kernel5Ideal Cert.Kernel5Ideal.Gen Idealize.ShloMosaic Idealize.ShloMosaic.TcCoe Cert.Dense

theorem out_at (x0 : Vec Ideal S1024x5632 .bf16) (x1 : Vec Ideal S5632x256 .bf16) (x2 : Vec Ideal S1024x256 .f32) (x3 : Vec Ideal S1x1x256 .f32) (r : Fin 1024) (n : Fin 256) :
    (out0_4 x0 x1 x2 x3 (ix2 r n) : EReal)
      = (show EReal from x2 (ix2 r n)) + (show EReal from x3 (ix3 0 0 n)) * dotRow x0 x1 r n := by
  canon_tiles x h using cover0_4 ..
  · idx_vars x
    obtain rfl := Fin.ext h0
    obtain ⟨n, hn⟩ := n
    change n = _ at h1
    subst h1
    pointwise [k0_pay1]
    rfl

end Cert.DenseDown

end
-- ==== Proof.DenseDownValue.lean ====
/- The dense down projection's result array is the reference's: each grid point writes a block of 1024 rows and 256 columns of
   the residual plus the gate times the product. -/
module

public import proofs.«01_k».proof.Proof.DenseDownRow
public import proofs.«01_k».proof.Proof.Gen.Reference5Ideal.Read
public import Idealize.ShloMosaic.Lib.StableHlo.ReadAt

@[expose] public section

set_option maxRecDepth 16384

noncomputable section

namespace Cert.DenseDown

open Idealize.ShloMosaic Idealize.ShloMosaic.TcCoe Idealize.SL.Sem Cert.Dense

/-! ## The reference -/

section Ref

open Cert.Reference5Ideal Cert.Reference5Ideal.Read

theorem ref_at (x : (⟨S4x4096x5632, .f32⟩ : BufTy).Contents (Elt Ideal)) (w : (⟨S5632x2048, .f32⟩ : BufTy).Contents (Elt Ideal))
    (b : (⟨S4x4096x2048, .f32⟩ : BufTy).Contents (Elt Ideal)) (g : (⟨S4x1x2048, .f32⟩ : BufTy).Contents (Elt Ideal)) (n : Fin 16384) (d : Fin 2048) :
    (val_main_v4 (F := Ideal) x w b g (ix2 n d) : EReal)
      = (show EReal from b (ix3 ⟨n / 4096, by omega⟩ ⟨n % 4096, by omega⟩ d)) + (show EReal from g (ix3 ⟨n / 4096, by omega⟩ 0 d)) * dotTok x w n d := by
  pointwise [val_main_v4, val_main_v3, val_main_v2, val_main_v1, val_main_v0]
  rfl

end Ref

/-! ## The kernel -/

section Kern

open Cert.Kernel5Ideal Cert.Kernel5Ideal.Gen

variable (m : (ℓ : Loc nD τ sig) → Buf (Elt Ideal) ℓ) (c : Dev nD)

/-- The activations, their first two axes merged. -/
theorem acts_at (n : Fin 16384) (k : Fin 5632) :
    (show EReal from V m c main_v2 (ix2 n k)) = (show EReal from m ((c.tc : Thread nD τ).loc main_arg0) (ix3 ⟨n / 4096, by omega⟩ ⟨n % 4096, by omega⟩ k)) := by
  unfold V
  after_reads_at

/-- The weights. -/
theorem weights_at (k : Fin 5632) (d : Fin 2048) :
    (show EReal from V m c main_v3 (ix2 k d)) = (show EReal from m ((c.tc : Thread nD τ).loc main_arg1) (ix2 k d)) := by
  unfold V
  after_reads_at

/-- The residual, its first two axes merged. -/
theorem resid_at (n : Fin 16384) (k : Fin 2048) :
    (show EReal from V m c main_v0 (ix2 n k)) = (show EReal from m ((c.tc : Thread nD τ).loc main_arg2) (ix3 ⟨n / 4096, by omega⟩ ⟨n % 4096, by omega⟩ k)) := by
  unfold V
  after_reads_at

/-- Where each window's block lies at grid point `t`. -/
theorem idx : ∀ t : Fin cfg0.N, win0_0.index t = ![t.val / 8, 0] ∧ win0_1.index t = ![0, t.val % 8] ∧ win0_2.index t = ![t.val / 8, t.val % 8] ∧ win0_3.index t = ![t.val / 8 / 4, 0, t.val % 8] ∧ win0_4.index t = ![t.val / 8, t.val % 8] ∧ t.val < 128 :=
  (by decide +kernel : ∀ t : Fin grid0.N, _)

theorem lt (t : Fin cfg0.N) : t.val < 128 := (idx t).2.2.2.2.2

/-- The row of the token axis that row `r` of grid point `t` is. -/
abbrev row (t : Fin cfg0.N) (r : Fin 1024) : Fin 16384 := ⟨t.val / 8 * 1024 + r, by have := lt t; omega⟩

/-- The column of the result that column `d` of grid point `t` is. -/
abbrev col (t : Fin cfg0.N) (d : Fin 256) : Fin 2048 := ⟨t.val % 8 * 256 + d, by omega⟩

theorem h_blk (t : Fin cfg0.N) (r : Fin 1024) (k : Fin 5632) : iblk m c 0 t (ix2 r k) = V m c main_v2 (ix2 (row t r) k) := by
  have := lt t
  blk_ext [iblk, idx t]

theorem w_blk (t : Fin cfg0.N) (k : Fin 5632) (d : Fin 256) : iblk m c 1 t (ix2 k d) = V m c main_v3 (ix2 k (col t d)) := by
  have := lt t
  blk_ext [iblk, idx t]

theorem b_blk (t : Fin cfg0.N) (r : Fin 1024) (d : Fin 256) : iblk m c 2 t (ix2 r d) = V m c main_v0 (ix2 (row t r) (col t d)) := by
  have := lt t
  blk_ext [iblk, idx t]

theorem gate_blk (t : Fin cfg0.N) (r : Fin 1024) (d : Fin 256) : iblk m c 3 t (ix3 0 0 d) = V m c main_arg3 (ix3 ⟨(row t r).val / 4096, by omega⟩ 0 (col t d)) := by
  have := lt t
  blk_ext [iblk, idx t]

/-- What a grid point writes, at a row and a column of its block. -/
theorem point (t : Fin cfg0.N) (r : Fin 1024) (d : Fin 256) :
    (out0_4 (iblk m c 0 t) (iblk m c 1 t) (iblk m c 2 t) (iblk m c 3 t) (ix2 r d) : EReal)
      = Cert.Reference5Ideal.Read.val_main_v4 (F := Ideal) (m ((c.tc : Thread nD τ).loc main_arg0)) (m ((c.tc : Thread nD τ).loc main_arg1)) (m ((c.tc : Thread nD τ).loc main_arg2)) (m ((c.tc : Thread nD τ).loc main_arg3)) (ix2 (row t r) (col t d)) := by
  rw [ref_at, out_at]
  refine congrArg₂ (· + ·) ?_ (congrArg₂ (· * ·) ?_ (dotRow_eq (fun k => ?_) fun k => ?_))
  · rw [b_blk]; exact resid_at m c _ _
  · rw [gate_blk m c t r, V_main_arg3]
  · rw [h_blk]; exact acts_at m c _ _
  · rw [w_blk]; exact weights_at m c _ _

/-- The kernel's result array is the reference's. -/
theorem final : (dats m 0 c).arrAt 4 cfg0.N
    = Cert.Reference5Ideal.Read.val_main_v4 (F := Ideal) (m ((c.tc : Thread nD τ).loc main_arg0)) (m ((c.tc : Thread nD τ).loc main_arg1)) (m ((c.tc : Thread nD τ).loc main_arg2)) (m ((c.tc : Thread nD τ).loc main_arg3)) := by
  refine (dats m 0 c).arrAt_eq_of_covers 4 _ (by decide +kernel) fun t hf y => ?_
  blk_simp
  rw [after0_4]
  idx_vars y
  refine (point m c t _ _).trans ?_
  blk_ext [idx t]

end Kern

end Cert.DenseDown

end
-- ==== Proof.DenseDownClaims.lean ====
/- The claims about the dense down projection: frames, the idealization, and equal results. -/
module

public import proofs.«01_k».proof.Defs
public import proofs.«01_k».proof.Proof.Gen.Kernel5.Frame
public import proofs.«01_k».proof.Proof.Gen.Reference5Ideal.Run
public import proofs.«01_k».proof.Proof.DenseDownValue
public import Idealize.ShloMosaic.Adequacy
public import Idealize.ShloMosaic.Init

@[expose] public section

set_option maxRecDepth 16384

noncomputable section

namespace Cert.DenseDown

open Idealize.ShloMosaic Idealize.SL.Sem

theorem frame_kernel : Cert.quiescent_Kernel5 := fun m ρ _ => Cert.Kernel5.Gen.frame m ρ
theorem frame_kernel_ideal : Cert.quiescent_Kernel5Ideal := fun m ρ _ => Cert.Kernel5Ideal.Gen.frame m ρ

/-- The reference runs to its composed result, leaves its arguments, and has no semaphores. -/
theorem frame_reference : Cert.quiescent_Reference5Ideal := fun m ρ _ =>
  (θ_run Cert.Reference5Ideal.defs _ _).mono (fun r h => ⟨fun c => (h c).2,
      Idealize.ShloMosaic.sem_eq_zero_of_no_sems (by decide) r.2⟩)
    (Cert.Reference5Ideal.Value.run (F := Ideal) m ρ)

theorem preserves : Cert.preserves_Kernel5_Kernel5Ideal := trivial

theorem algebraic : Cert.algebraic_Kernel5Ideal_Reference5Ideal := by
  intro m g m' g' _ hagree
  refine ⟨fun c => (Cert.Kernel5Ideal.Gen.dats m 0 c).arrAt 4 Cert.Kernel5Ideal.cfg0.N, Cert.Kernel5Ideal.Value.run_blocks m g, ?_⟩
  refine (θ_run Cert.Reference5Ideal.defs _ _).mono (fun r h c => ⟨(h c).1.trans ?_, (h c).2⟩) (Cert.Reference5Ideal.Value.run (F := Ideal) m' g')
  obtain ⟨a0, a1, a2, a3⟩ := hagree c
  rw [a0, a1, a2, a3]
  exact Eq.trans rfl (final m c).symm

end Cert.DenseDown

end
-- ==== Proof.GatesRow.lean ====
/- What a grid point of the gates' projection writes, at a row and a column of its block: the logistic of the product. -/
module

public import proofs.«01_k».proof.Proof.Gen.Kernel6Ideal.Value
public import proofs.«01_k».proof.Proof.DenseDot

@[expose] public section

set_option maxRecDepth 16384

noncomputable section

namespace Cert.Gates

open Cert.Kernel6Ideal Cert.Kernel6Ideal.Gen Idealize.ShloMosaic Idealize.ShloMosaic.TcCoe Cert.Dense

theorem out_at (x0 : Vec Ideal S1024x2048 .bf16) (x1 : Vec Ideal S2048x1024 .bf16) (r : Fin 1024) (n : Fin 1024) :
    (out0_2 x0 x1 (ix2 r n) : EReal) = Ideal.logistic (dotRow x0 x1 r n) := by
  canon_tiles x h using cover0_2 ..
  · idx_vars x
    obtain rfl := Fin.ext h0
    obtain ⟨n, hn⟩ := n
    change n = 768 + _ at h1
    subst h1
    pointwise [k0_pay5, k0_pay1]
    rfl
  · idx_vars x
    obtain rfl := Fin.ext h0
    obtain ⟨n, hn⟩ := n
    change n = 512 + _ at h1
    subst h1
    pointwise [k0_pay4, k0_pay1]
    rfl
  · idx_vars x
    obtain rfl := Fin.ext h0
    obtain ⟨n, hn⟩ := n
    change n = 256 + _ at h1
    subst h1
    pointwise [k0_pay3, k0_pay1]
    rfl
  · idx_vars x
    obtain rfl := Fin.ext h0
    obtain ⟨n, hn⟩ := n
    change n = _ at h1
    subst h1
    pointwise [k0_pay2, k0_pay1]
    rfl

end Cert.Gates

end
-- ==== Proof.GatesValue.lean ====
/- The gates' result array is the reference's: each grid point writes a block of 1024 rows and 1024 columns of the logistic
   of the product. -/
module

public import proofs.«01_k».proof.Proof.GatesRow
public import proofs.«01_k».proof.Proof.Gen.Reference6Ideal.Read
public import Idealize.ShloMosaic.Lib.StableHlo.ReadAt

@[expose] public section

set_option maxRecDepth 16384

noncomputable section

namespace Cert.Gates

open Idealize.ShloMosaic Idealize.ShloMosaic.TcCoe Idealize.SL.Sem Cert.Dense

/-! ## The reference -/

section Ref

open Cert.Reference6Ideal Cert.Reference6Ideal.Read

theorem ref_at (x : (⟨S4x4096x2048, .f32⟩ : BufTy).Contents (Elt Ideal)) (w : (⟨S2048x15168, .f32⟩ : BufTy).Contents (Elt Ideal))
    (n : Fin 16384) (d : Fin 6144) :
    (val_main_v9 (F := Ideal) x w (ix2 n d) : EReal) = Ideal.logistic (dotTok x w n ⟨9024 + d.val, by omega⟩) := by
  pointwise [val_main_v9, val_main_v8, val_main_v7, val_main_v6, val_main_v5, val_main_v4, val_main_v3, val_main_v2, val_main_v1, val_main_v0,
    val_main_cst, val_main_cst_0]
  rfl

end Ref

/-! ## The kernel -/

section Kern

open Cert.Kernel6Ideal Cert.Kernel6Ideal.Gen

variable (m : (ℓ : Loc nD τ sig) → Buf (Elt Ideal) ℓ) (c : Dev nD)

/-- The activations, their first two axes merged. -/
theorem acts_at (n : Fin 16384) (k : Fin 2048) :
    (show EReal from V m c main_v1 (ix2 n k)) = (show EReal from m ((c.tc : Thread nD τ).loc main_arg0) (ix3 ⟨n / 4096, by omega⟩ ⟨n % 4096, by omega⟩ k)) := by
  unfold V
  after_reads_at

/-- The gates' columns of the weights. -/
theorem weights_at (k : Fin 2048) (d : Fin 6144) :
    (show EReal from V m c main_v3 (ix2 k d)) = (show EReal from m ((c.tc : Thread nD τ).loc main_arg1) (ix2 k ⟨9024 + d.val, by omega⟩)) := by
  unfold V
  after_reads_at

/-- Where each window's block lies at grid point `t`. -/
theorem idx : ∀ t : Fin cfg0.N, win0_0.index t = ![t.val / 6, 0] ∧ win0_1.index t = ![0, t.val % 6] ∧ win0_2.index t = ![t.val / 6, t.val % 6] ∧ t.val < 96 :=
  (by decide +kernel : ∀ t : Fin grid0.N, _)

theorem lt (t : Fin cfg0.N) : t.val < 96 := (idx t).2.2.2

/-- The row of the token axis that row `r` of grid point `t` is. -/
abbrev row (t : Fin cfg0.N) (r : Fin 1024) : Fin 16384 := ⟨t.val / 6 * 1024 + r, by have := lt t; omega⟩

/-- The column of the result that column `d` of grid point `t` is. -/
abbrev col (t : Fin cfg0.N) (d : Fin 1024) : Fin 6144 := ⟨t.val % 6 * 1024 + d, by omega⟩

theorem h_blk (t : Fin cfg0.N) (r : Fin 1024) (k : Fin 2048) : iblk m c 0 t (ix2 r k) = V m c main_v1 (ix2 (row t r) k) := by
  have := lt t
  blk_ext [iblk, idx t]

theorem w_blk (t : Fin cfg0.N) (k : Fin 2048) (d : Fin 1024) : iblk m c 1 t (ix2 k d) = V m c main_v3 (ix2 k (col t d)) := by
  have := lt t
  blk_ext [iblk, idx t]

/-- What a grid point writes, at a row and a column of its block. -/
theorem point (t : Fin cfg0.N) (r : Fin 1024) (d : Fin 1024) :
    (out0_2 (iblk m c 0 t) (iblk m c 1 t) (ix2 r d) : EReal)
      = Cert.Reference6Ideal.Read.val_main_v9 (F := Ideal) (m ((c.tc : Thread nD τ).loc main_arg0)) (m ((c.tc : Thread nD τ).loc main_arg1)) (ix2 (row t r) (col t d)) := by
  rw [ref_at, out_at]
  refine congrArg Ideal.logistic (dotRow_eq (fun k => ?_) fun k => ?_)
  · rw [h_blk]; exact acts_at m c _ _
  · rw [w_blk]; exact weights_at m c _ _

/-- The kernel's result array is the reference's. -/
theorem final : (dats m 0 c).arrAt 2 cfg0.N
    = Cert.Reference6Ideal.Read.val_main_v9 (F := Ideal) (m ((c.tc : Thread nD τ).loc main_arg0)) (m ((c.tc : Thread nD τ).loc main_arg1)) := by
  refine (dats m 0 c).arrAt_eq_of_covers 2 _ (by decide +kernel) fun t hf y => ?_
  blk_simp
  rw [after0_2]
  idx_vars y
  refine (point m c t _ _).trans ?_
  blk_ext [idx t]

end Kern

end Cert.Gates

end
-- ==== Proof.GatesClaims.lean ====
/- The claims about the gates' projection: frames, the idealization, and equal results. -/
module

public import proofs.«01_k».proof.Defs
public import proofs.«01_k».proof.Proof.Gen.Kernel6.Frame
public import proofs.«01_k».proof.Proof.Gen.Reference6Ideal.Run
public import proofs.«01_k».proof.Proof.GatesValue
public import Idealize.ShloMosaic.Adequacy
public import Idealize.ShloMosaic.Init

@[expose] public section

set_option maxRecDepth 16384

noncomputable section

namespace Cert.Gates

open Idealize.ShloMosaic Idealize.SL.Sem

theorem frame_kernel : Cert.quiescent_Kernel6 := fun m ρ _ => Cert.Kernel6.Gen.frame m ρ
theorem frame_kernel_ideal : Cert.quiescent_Kernel6Ideal := fun m ρ _ => Cert.Kernel6Ideal.Gen.frame m ρ

/-- The reference runs to its composed result, leaves its arguments, and has no semaphores. -/
theorem frame_reference : Cert.quiescent_Reference6Ideal := fun m ρ _ =>
  (θ_run Cert.Reference6Ideal.defs _ _).mono (fun r h => ⟨fun c => (h c).2,
      Idealize.ShloMosaic.sem_eq_zero_of_no_sems (by decide) r.2⟩)
    (Cert.Reference6Ideal.Value.run (F := Ideal) m ρ)

theorem preserves : Cert.preserves_Kernel6_Kernel6Ideal := trivial

theorem algebraic : Cert.algebraic_Kernel6Ideal_Reference6Ideal := by
  intro m g m' g' _ hagree
  refine ⟨fun c => (Cert.Kernel6Ideal.Gen.dats m 0 c).arrAt 2 Cert.Kernel6Ideal.cfg0.N, Cert.Kernel6Ideal.Value.run_blocks m g, ?_⟩
  refine (θ_run Cert.Reference6Ideal.defs _ _).mono (fun r h c => ⟨(h c).1.trans ?_, (h c).2⟩) (Cert.Reference6Ideal.Value.run (F := Ideal) m' g')
  obtain ⟨a0, a1⟩ := hagree c
  rw [a0, a1]
  exact Eq.trans rfl (final m c).symm

end Cert.Gates

end
-- ==== Proof.MergeRow.lean ====
/- What a grid point of the branch merge writes, at a row and a column of its block: the three gated products, added. -/
module

public import proofs.«01_k».proof.Proof.Gen.Kernel7Ideal.Value
public import proofs.«01_k».proof.Proof.DenseDot

@[expose] public section

set_option maxRecDepth 16384

noncomputable section

namespace Cert.Merge

open Cert.Kernel7Ideal Cert.Kernel7Ideal.Gen Idealize.ShloMosaic Idealize.ShloMosaic.TcCoe Cert.Dense

theorem out_at (x0 : Vec Ideal S1024x1024 .bf16) (x1 : Vec Ideal S1024x512 .bf16) (x2 : Vec Ideal S1024x1024 .bf16)
    (x3 : Vec Ideal S1024x512 .bf16) (x4 : Vec Ideal S512x512 .bf16) (x5 : Vec Ideal S1024x512 .bf16)
    (x6 x7 x8 : Vec Ideal S1024x512 .bf16) (r : Fin 1024) (n : Fin 512) :
    (out0_9 x0 x1 x2 x3 x4 x5 x6 x7 x8 (ix2 r n) : EReal)
      = (show EReal from x6 (ix2 r n)) * dotRow x0 x3 r n + (show EReal from x7 (ix2 r n)) * dotRow x1 x4 r n
        + (show EReal from x8 (ix2 r n)) * dotRow x2 x5 r n := by
  canon_tiles x h using cover0_9 ..
  · idx_vars x
    obtain rfl := Fin.ext h0
    obtain ⟨n, hn⟩ := n
    change n = 256 + _ at h1
    subst h1
    pointwise [k0_pay1, k0_pay2, k0_pay3, k0_pay4]
    rfl
  · idx_vars x
    obtain rfl := Fin.ext h0
    obtain ⟨n, hn⟩ := n
    change n = _ at h1
    subst h1
    pointwise [k0_pay5, k0_pay2, k0_pay3, k0_pay4]
    rfl

end Cert.Merge

end
-- ==== Proof.MergeValue.lean ====
/- The branch merge's result array is the reference's: each grid point writes a block of 1024 rows and 512 columns of the three
   gated products' sum. -/
module

public import proofs.«01_k».proof.Proof.MergeRow
public import proofs.«01_k».proof.Proof.Gen.Reference7Ideal.Read
public import Idealize.ShloMosaic.Lib.StableHlo.ReadAt

@[expose] public section

set_option maxRecDepth 16384

noncomputable section

namespace Cert.Merge

open Idealize.ShloMosaic Idealize.ShloMosaic.TcCoe Idealize.SL.Sem Cert.Dense

/-! ## The reference -/

section Ref

open Cert.Reference7Ideal Cert.Reference7Ideal.Read

theorem ref_at (x0 : (⟨S4x4096x1024, .f32⟩ : BufTy).Contents (Elt Ideal)) (x1 : (⟨S4x4096x512, .f32⟩ : BufTy).Contents (Elt Ideal)) (x2 : (⟨S4x4096x1024, .f32⟩ : BufTy).Contents (Elt Ideal))
    (w0 : (⟨S1024x2048, .f32⟩ : BufTy).Contents (Elt Ideal)) (w1 : (⟨S512x2048, .f32⟩ : BufTy).Contents (Elt Ideal)) (w2 : (⟨S1024x2048, .f32⟩ : BufTy).Contents (Elt Ideal)) (g : (⟨S4x4096x6144, .f32⟩ : BufTy).Contents (Elt Ideal))
    (n : Fin 16384) (d : Fin 2048) :
    (val_main_v12 (F := Ideal) x0 x1 x2 w0 w1 w2 g (ix2 n d) : EReal)
      = (show EReal from g (ix3 ⟨n / 4096, by omega⟩ ⟨n % 4096, by omega⟩ ⟨d.val, by omega⟩)) * dotTok x0 w0 n d
        + (show EReal from g (ix3 ⟨n / 4096, by omega⟩ ⟨n % 4096, by omega⟩ ⟨2048 + d.val, by omega⟩)) * dotTok x1 w1 n d
        + (show EReal from g (ix3 ⟨n / 4096, by omega⟩ ⟨n % 4096, by omega⟩ ⟨4096 + d.val, by omega⟩)) * dotTok x2 w2 n d := by
  pointwise [val_main_v12, val_main_v11, val_main_v10, val_main_v9, val_main_v8, val_main_v7, val_main_v6, val_main_v5, val_main_v4, val_main_v3, val_main_v2, val_main_v1, val_main_v0]
  rfl

end Ref

/-! ## The kernel -/

section Kern

open Cert.Kernel7Ideal Cert.Kernel7Ideal.Gen

variable (m : (ℓ : Loc nD τ sig) → Buf (Elt Ideal) ℓ) (c : Dev nD)

/-- The first branch's result, its first two axes merged. -/
theorem a0_at (n : Fin 16384) (k : Fin 1024) :
    (show EReal from V m c main_v1 (ix2 n k)) = (show EReal from m ((c.tc : Thread nD τ).loc main_arg0) (ix3 ⟨n / 4096, by omega⟩ ⟨n % 4096, by omega⟩ k)) := by
  unfold V
  after_reads_at

/-- The second branch's. -/
theorem a1_at (n : Fin 16384) (k : Fin 512) :
    (show EReal from V m c main_v3 (ix2 n k)) = (show EReal from m ((c.tc : Thread nD τ).loc main_arg1) (ix3 ⟨n / 4096, by omega⟩ ⟨n % 4096, by omega⟩ k)) := by
  unfold V
  after_reads_at

/-- The third branch's. -/
theorem a2_at (n : Fin 16384) (k : Fin 1024) :
    (show EReal from V m c main_v5 (ix2 n k)) = (show EReal from m ((c.tc : Thread nD τ).loc main_arg2) (ix3 ⟨n / 4096, by omega⟩ ⟨n % 4096, by omega⟩ k)) := by
  unfold V
  after_reads_at

/-- The first branch's weights. -/
theorem w0_at (k : Fin 1024) (d : Fin 2048) :
    (show EReal from V m c main_v6 (ix2 k d)) = (show EReal from m ((c.tc : Thread nD τ).loc main_arg3) (ix2 k d)) := by
  unfold V
  after_reads_at

/-- The second branch's. -/
theorem w1_at (k : Fin 512) (d : Fin 2048) :
    (show EReal from V m c main_v7 (ix2 k d)) = (show EReal from m ((c.tc : Thread nD τ).loc main_arg4) (ix2 k d)) := by
  unfold V
  after_reads_at

/-- The third branch's. -/
theorem w2_at (k : Fin 1024) (d : Fin 2048) :
    (show EReal from V m c main_v8 (ix2 k d)) = (show EReal from m ((c.tc : Thread nD τ).loc main_arg5) (ix2 k d)) := by
  unfold V
  after_reads_at

/-- The gates, their first two axes merged. -/
theorem gates_at (n : Fin 16384) (k : Fin 6144) :
    (show EReal from V m c main_v10 (ix2 n k)) = (show EReal from m ((c.tc : Thread nD τ).loc main_arg6) (ix3 ⟨n / 4096, by omega⟩ ⟨n % 4096, by omega⟩ k)) := by
  unfold V
  after_reads_at

/-- Where each window's block lies at grid point `t`. -/
theorem idx : ∀ t : Fin cfg0.N, win0_0.index t = ![t.val / 4, 0] ∧ win0_1.index t = ![t.val / 4, 0] ∧ win0_2.index t = ![t.val / 4, 0] ∧ win0_3.index t = ![0, t.val % 4] ∧ win0_4.index t = ![0, t.val % 4] ∧ win0_5.index t = ![0, t.val % 4] ∧ win0_6.index t = ![t.val / 4, t.val % 4] ∧ win0_7.index t = ![t.val / 4, 4 + t.val % 4] ∧ win0_8.index t = ![t.val / 4, 8 + t.val % 4] ∧ win0_9.index t = ![t.val / 4, t.val % 4] ∧ t.val < 64 :=
  (by decide +kernel : ∀ t : Fin grid0.N, _)

theorem lt (t : Fin cfg0.N) : t.val < 64 := (idx t).2.2.2.2.2.2.2.2.2.2

/-- The row of the token axis that row `r` of grid point `t` is. -/
abbrev row (t : Fin cfg0.N) (r : Fin 1024) : Fin 16384 := ⟨t.val / 4 * 1024 + r, by have := lt t; omega⟩

/-- The column of the result that column `d` of grid point `t` is. -/
abbrev col (t : Fin cfg0.N) (d : Fin 512) : Fin 2048 := ⟨t.val % 4 * 512 + d, by omega⟩

theorem a0_blk (t : Fin cfg0.N) (r : Fin 1024) (k : Fin 1024) : iblk m c 0 t (ix2 r k) = V m c main_v1 (ix2 (row t r) k) := by
  have := lt t
  blk_ext [iblk, idx t]

theorem a1_blk (t : Fin cfg0.N) (r : Fin 1024) (k : Fin 512) : iblk m c 1 t (ix2 r k) = V m c main_v3 (ix2 (row t r) k) := by
  have := lt t
  blk_ext [iblk, idx t]

theorem a2_blk (t : Fin cfg0.N) (r : Fin 1024) (k : Fin 1024) : iblk m c 2 t (ix2 r k) = V m c main_v5 (ix2 (row t r) k) := by
  have := lt t
  blk_ext [iblk, idx t]

theorem w0_blk (t : Fin cfg0.N) (k : Fin 1024) (d : Fin 512) : iblk m c 3 t (ix2 k d) = V m c main_v6 (ix2 k (col t d)) := by
  have := lt t
  blk_ext [iblk, idx t]

theorem w1_blk (t : Fin cfg0.N) (k : Fin 512) (d : Fin 512) : iblk m c 4 t (ix2 k d) = V m c main_v7 (ix2 k (col t d)) := by
  have := lt t
  blk_ext [iblk, idx t]

theorem w2_blk (t : Fin cfg0.N) (k : Fin 1024) (d : Fin 512) : iblk m c 5 t (ix2 k d) = V m c main_v8 (ix2 k (col t d)) := by
  have := lt t
  blk_ext [iblk, idx t]

theorem g0_blk (t : Fin cfg0.N) (r : Fin 1024) (d : Fin 512) : iblk m c 6 t (ix2 r d) = V m c main_v10 (ix2 (row t r) ⟨(col t d).val, by omega⟩) := by
  have := lt t
  blk_ext [iblk, idx t]

theorem g1_blk (t : Fin cfg0.N) (r : Fin 1024) (d : Fin 512) : iblk m c 7 t (ix2 r d) = V m c main_v10 (ix2 (row t r) ⟨2048 + (col t d).val, by omega⟩) := by
  have := lt t
  blk_ext [iblk, idx t]

theorem g2_blk (t : Fin cfg0.N) (r : Fin 1024) (d : Fin 512) : iblk m c 8 t (ix2 r d) = V m c main_v10 (ix2 (row t r) ⟨4096 + (col t d).val, by omega⟩) := by
  have := lt t
  blk_ext [iblk, idx t]

/-- What a grid point writes, at a row and a column of its block. -/
theorem point (t : Fin cfg0.N) (r : Fin 1024) (d : Fin 512) :
    (out0_9 (iblk m c 0 t) (iblk m c 1 t) (iblk m c 2 t) (iblk m c 3 t) (iblk m c 4 t) (iblk m c 5 t) (iblk m c 6 t) (iblk m c 7 t) (iblk m c 8 t) (ix2 r d) : EReal)
      = Cert.Reference7Ideal.Read.val_main_v12 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (ix2 (row t r) (col t d)) := by
  rw [ref_at, out_at]
  refine congrArg₂ (· + ·) (congrArg₂ (· + ·) (congrArg₂ (· * ·) ?_ (dotRow_eq (fun k => ?_) fun k => ?_))
    (congrArg₂ (· * ·) ?_ (dotRow_eq (fun k => ?_) fun k => ?_))) (congrArg₂ (· * ·) ?_ (dotRow_eq (fun k => ?_) fun k => ?_))
  · rw [g0_blk]; exact gates_at m c _ _
  · rw [a0_blk]; exact a0_at m c _ _
  · rw [w0_blk]; exact w0_at m c _ _
  · rw [g1_blk]; exact gates_at m c _ _
  · rw [a1_blk]; exact a1_at m c _ _
  · rw [w1_blk]; exact w1_at m c _ _
  · rw [g2_blk]; exact gates_at m c _ _
  · rw [a2_blk]; exact a2_at m c _ _
  · rw [w2_blk]; exact w2_at m c _ _

/-- The kernel's result array is the reference's. -/
theorem final : (dats m 0 c).arrAt 9 cfg0.N
    = Cert.Reference7Ideal.Read.val_main_v12 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  refine (dats m 0 c).arrAt_eq_of_covers 9 _ (by decide +kernel) fun t hf y => ?_
  blk_simp
  rw [after0_9]
  idx_vars y
  refine (point m c t _ _).trans ?_
  blk_ext [idx t]

end Kern

end Cert.Merge

end
-- ==== Proof.MergeClaims.lean ====
/- The claims about the branch merge: frames, the idealization, and equal results. -/
module

public import proofs.«01_k».proof.Defs
public import proofs.«01_k».proof.Proof.Gen.Kernel7.Frame
public import proofs.«01_k».proof.Proof.Gen.Reference7Ideal.Run
public import proofs.«01_k».proof.Proof.MergeValue
public import Idealize.ShloMosaic.Adequacy
public import Idealize.ShloMosaic.Init

@[expose] public section

set_option maxRecDepth 16384

noncomputable section

namespace Cert.Merge

open Idealize.ShloMosaic Idealize.SL.Sem

theorem frame_kernel : Cert.quiescent_Kernel7 := fun m ρ _ => Cert.Kernel7.Gen.frame m ρ
theorem frame_kernel_ideal : Cert.quiescent_Kernel7Ideal := fun m ρ _ => Cert.Kernel7Ideal.Gen.frame m ρ

/-- The reference runs to its composed result, leaves its arguments, and has no semaphores. -/
theorem frame_reference : Cert.quiescent_Reference7Ideal := fun m ρ _ =>
  (θ_run Cert.Reference7Ideal.defs _ _).mono (fun r h => ⟨fun c => (h c).2,
      Idealize.ShloMosaic.sem_eq_zero_of_no_sems (by decide) r.2⟩)
    (Cert.Reference7Ideal.Value.run (F := Ideal) m ρ)

theorem preserves : Cert.preserves_Kernel7_Kernel7Ideal := trivial

theorem algebraic : Cert.algebraic_Kernel7Ideal_Reference7Ideal := by
  intro m g m' g' _ hagree
  refine ⟨fun c => (Cert.Kernel7Ideal.Gen.dats m 0 c).arrAt 9 Cert.Kernel7Ideal.cfg0.N, Cert.Kernel7Ideal.Value.run_blocks m g, ?_⟩
  refine (θ_run Cert.Reference7Ideal.defs _ _).mono (fun r h c => ⟨(h c).1.trans ?_, (h c).2⟩) (Cert.Reference7Ideal.Value.run (F := Ideal) m' g')
  obtain ⟨a0, a1, a2, a3, a4, a5, a6⟩ := hagree c
  rw [a0, a1, a2, a3, a4, a5, a6]
  exact Eq.trans rfl (final m c).symm

end Cert.Merge

end
-- ==== Proof.OutProjRow.lean ====
/- What a grid point of the output projection writes, at a row and a column of its block: the residual and the gated product. -/
module

public import proofs.«01_k».proof.Proof.Gen.Kernel8Ideal.Value
public import proofs.«01_k».proof.Proof.DenseDot

@[expose] public section

set_option maxRecDepth 16384

noncomputable section

namespace Cert.OutProj

open Cert.Kernel8Ideal Cert.Kernel8Ideal.Gen Idealize.ShloMosaic Idealize.ShloMosaic.TcCoe Cert.Dense

theorem out_at (x0 : Vec Ideal S1024x2048 .bf16) (x1 : Vec Ideal S2048x1024 .bf16) (x2 : Vec Ideal S1024x1024 .f32) (x3 : Vec Ideal S1x1x1024 .f32) (r : Fin 1024) (n : Fin 1024) :
    (out0_4 x0 x1 x2 x3 (ix2 r n) : EReal)
      = (show EReal from x2 (ix2 r n)) + (show EReal from x3 (ix3 0 0 n)) * dotRow x0 x1 r n := by
  canon_tiles x h using cover0_4 ..
  · idx_vars x
    obtain rfl := Fin.ext h0
    obtain ⟨n, hn⟩ := n
    change n = 768 + _ at h1
    subst h1
    pointwise [k0_pay2, k0_pay3, k0_pay7]
    rfl
  · idx_vars x
    obtain rfl := Fin.ext h0
    obtain ⟨n, hn⟩ := n
    change n = 512 + _ at h1
    subst h1
    pointwise [k0_pay1, k0_pay5, k0_pay3]
    rfl
  · idx_vars x
    obtain rfl := Fin.ext h0
    obtain ⟨n, hn⟩ := n
    change n = 256 + _ at h1
    subst h1
    pointwise [k0_pay6, k0_pay3]
    rfl
  · idx_vars x
    obtain rfl := Fin.ext h0
    obtain ⟨n, hn⟩ := n
    change n = _ at h1
    subst h1
    pointwise [k0_pay4, k0_pay3]
    rfl

end Cert.OutProj

end
-- ==== Proof.OutProjValue.lean ====
/- The output projection's result array is the reference's: each grid point writes a block of 1024 rows and 1024 columns of
   the residual plus the gate times the product. -/
module

public import proofs.«01_k».proof.Proof.OutProjRow
public import proofs.«01_k».proof.Proof.Gen.Reference8Ideal.Read
public import Idealize.ShloMosaic.Lib.StableHlo.ReadAt

@[expose] public section

set_option maxRecDepth 16384

noncomputable section

namespace Cert.OutProj

open Idealize.ShloMosaic Idealize.ShloMosaic.TcCoe Idealize.SL.Sem Cert.Dense

/-! ## The reference -/

section Ref

open Cert.Reference8Ideal Cert.Reference8Ideal.Read

theorem ref_at (x : (⟨S4x4096x2048, .f32⟩ : BufTy).Contents (Elt Ideal)) (w : (⟨S2048x2048, .f32⟩ : BufTy).Contents (Elt Ideal))
    (b : (⟨S4x4096x2048, .f32⟩ : BufTy).Contents (Elt Ideal)) (g : (⟨S4x1x2048, .f32⟩ : BufTy).Contents (Elt Ideal)) (n : Fin 16384) (d : Fin 2048) :
    (val_main_v4 (F := Ideal) x w b g (ix2 n d) : EReal)
      = (show EReal from b (ix3 ⟨n / 4096, by omega⟩ ⟨n % 4096, by omega⟩ d)) + (show EReal from g (ix3 ⟨n / 4096, by omega⟩ 0 d)) * dotTok x w n d := by
  pointwise [val_main_v4, val_main_v3, val_main_v2, val_main_v1, val_main_v0]
  rfl

end Ref

/-! ## The kernel -/

section Kern

open Cert.Kernel8Ideal Cert.Kernel8Ideal.Gen

variable (m : (ℓ : Loc nD τ sig) → Buf (Elt Ideal) ℓ) (c : Dev nD)

/-- The activations, their first two axes merged. -/
theorem acts_at (n : Fin 16384) (k : Fin 2048) :
    (show EReal from V m c main_v2 (ix2 n k)) = (show EReal from m ((c.tc : Thread nD τ).loc main_arg0) (ix3 ⟨n / 4096, by omega⟩ ⟨n % 4096, by omega⟩ k)) := by
  unfold V
  after_reads_at

/-- The weights. -/
theorem weights_at (k : Fin 2048) (d : Fin 2048) :
    (show EReal from V m c main_v3 (ix2 k d)) = (show EReal from m ((c.tc : Thread nD τ).loc main_arg1) (ix2 k d)) := by
  unfold V
  after_reads_at

/-- The residual, its first two axes merged. -/
theorem resid_at (n : Fin 16384) (k : Fin 2048) :
    (show EReal from V m c main_v0 (ix2 n k)) = (show EReal from m ((c.tc : Thread nD τ).loc main_arg2) (ix3 ⟨n / 4096, by omega⟩ ⟨n % 4096, by omega⟩ k)) := by
  unfold V
  after_reads_at

/-- Where each window's block lies at grid point `t`. -/
theorem idx : ∀ t : Fin cfg0.N, win0_0.index t = ![t.val / 2, 0] ∧ win0_1.index t = ![0, t.val % 2] ∧ win0_2.index t = ![t.val / 2, t.val % 2] ∧ win0_3.index t = ![t.val / 2 / 4, 0, t.val % 2] ∧ win0_4.index t = ![t.val / 2, t.val % 2] ∧ t.val < 32 :=
  (by decide +kernel : ∀ t : Fin grid0.N, _)

theorem lt (t : Fin cfg0.N) : t.val < 32 := (idx t).2.2.2.2.2

/-- The row of the token axis that row `r` of grid point `t` is. -/
abbrev row (t : Fin cfg0.N) (r : Fin 1024) : Fin 16384 := ⟨t.val / 2 * 1024 + r, by have := lt t; omega⟩

/-- The column of the result that column `d` of grid point `t` is. -/
abbrev col (t : Fin cfg0.N) (d : Fin 1024) : Fin 2048 := ⟨t.val % 2 * 1024 + d, by omega⟩

theorem h_blk (t : Fin cfg0.N) (r : Fin 1024) (k : Fin 2048) : iblk m c 0 t (ix2 r k) = V m c main_v2 (ix2 (row t r) k) := by
  have := lt t
  blk_ext [iblk, idx t]

theorem w_blk (t : Fin cfg0.N) (k : Fin 2048) (d : Fin 1024) : iblk m c 1 t (ix2 k d) = V m c main_v3 (ix2 k (col t d)) := by
  have := lt t
  blk_ext [iblk, idx t]

theorem b_blk (t : Fin cfg0.N) (r : Fin 1024) (d : Fin 1024) : iblk m c 2 t (ix2 r d) = V m c main_v0 (ix2 (row t r) (col t d)) := by
  have := lt t
  blk_ext [iblk, idx t]

theorem gate_blk (t : Fin cfg0.N) (r : Fin 1024) (d : Fin 1024) : iblk m c 3 t (ix3 0 0 d) = V m c main_arg3 (ix3 ⟨(row t r).val / 4096, by omega⟩ 0 (col t d)) := by
  have := lt t
  blk_ext [iblk, idx t]

/-- What a grid point writes, at a row and a column of its block. -/
theorem point (t : Fin cfg0.N) (r : Fin 1024) (d : Fin 1024) :
    (out0_4 (iblk m c 0 t) (iblk m c 1 t) (iblk m c 2 t) (iblk m c 3 t) (ix2 r d) : EReal)
      = Cert.Reference8Ideal.Read.val_main_v4 (F := Ideal) (m ((c.tc : Thread nD τ).loc main_arg0)) (m ((c.tc : Thread nD τ).loc main_arg1)) (m ((c.tc : Thread nD τ).loc main_arg2)) (m ((c.tc : Thread nD τ).loc main_arg3)) (ix2 (row t r) (col t d)) := by
  rw [ref_at, out_at]
  refine congrArg₂ (· + ·) ?_ (congrArg₂ (· * ·) ?_ (dotRow_eq (fun k => ?_) fun k => ?_))
  · rw [b_blk]; exact resid_at m c _ _
  · rw [gate_blk m c t r, V_main_arg3]
  · rw [h_blk]; exact acts_at m c _ _
  · rw [w_blk]; exact weights_at m c _ _

/-- The kernel's result array is the reference's. -/
theorem final : (dats m 0 c).arrAt 4 cfg0.N
    = Cert.Reference8Ideal.Read.val_main_v4 (F := Ideal) (m ((c.tc : Thread nD τ).loc main_arg0)) (m ((c.tc : Thread nD τ).loc main_arg1)) (m ((c.tc : Thread nD τ).loc main_arg2)) (m ((c.tc : Thread nD τ).loc main_arg3)) := by
  refine (dats m 0 c).arrAt_eq_of_covers 4 _ (by decide +kernel) fun t hf y => ?_
  blk_simp
  rw [after0_4]
  idx_vars y
  refine (point m c t _ _).trans ?_
  blk_ext [idx t]

end Kern

end Cert.OutProj

end
-- ==== Proof.OutProjClaims.lean ====
/- The claims about the output projection: frames, the idealization, and equal results. -/
module

public import proofs.«01_k».proof.Defs
public import proofs.«01_k».proof.Proof.Gen.Kernel8.Frame
public import proofs.«01_k».proof.Proof.Gen.Reference8Ideal.Run
public import proofs.«01_k».proof.Proof.OutProjValue
public import Idealize.ShloMosaic.Adequacy
public import Idealize.ShloMosaic.Init

@[expose] public section

set_option maxRecDepth 16384

noncomputable section

namespace Cert.OutProj

open Idealize.ShloMosaic Idealize.SL.Sem

theorem frame_kernel : Cert.quiescent_Kernel8 := fun m ρ _ => Cert.Kernel8.Gen.frame m ρ
theorem frame_kernel_ideal : Cert.quiescent_Kernel8Ideal := fun m ρ _ => Cert.Kernel8Ideal.Gen.frame m ρ

/-- The reference runs to its composed result, leaves its arguments, and has no semaphores. -/
theorem frame_reference : Cert.quiescent_Reference8Ideal := fun m ρ _ =>
  (θ_run Cert.Reference8Ideal.defs _ _).mono (fun r h => ⟨fun c => (h c).2,
      Idealize.ShloMosaic.sem_eq_zero_of_no_sems (by decide) r.2⟩)
    (Cert.Reference8Ideal.Value.run (F := Ideal) m ρ)

theorem preserves : Cert.preserves_Kernel8_Kernel8Ideal := trivial

theorem algebraic : Cert.algebraic_Kernel8Ideal_Reference8Ideal := by
  intro m g m' g' _ hagree
  refine ⟨fun c => (Cert.Kernel8Ideal.Gen.dats m 0 c).arrAt 4 Cert.Kernel8Ideal.cfg0.N, Cert.Kernel8Ideal.Value.run_blocks m g, ?_⟩
  refine (θ_run Cert.Reference8Ideal.defs _ _).mono (fun r h c => ⟨(h c).1.trans ?_, (h c).2⟩) (Cert.Reference8Ideal.Value.run (F := Ideal) m' g')
  obtain ⟨a0, a1, a2, a3⟩ := hagree c
  rw [a0, a1, a2, a3]
  exact Eq.trans rfl (final m c).symm

end Cert.OutProj

end
-- ==== Proof.NaValuesRow.lean ====
/- What a grid point of the projection to the neighbourhood attention's values writes, at a row and a column of its block: the product. -/
module

public import proofs.«01_k».proof.Proof.Gen.Kernel9Ideal.Value
public import proofs.«01_k».proof.Proof.DenseDot

@[expose] public section

set_option maxRecDepth 16384

noncomputable section

namespace Cert.NaValues

open Cert.Kernel9Ideal Cert.Kernel9Ideal.Gen Idealize.ShloMosaic Idealize.ShloMosaic.TcCoe Cert.Dense

theorem out_at (x0 : Vec Ideal S1024x2048 .bf16) (x1 : Vec Ideal S2048x1024 .bf16) (r : Fin 1024) (n : Fin 1024) :
    (out0_2 x0 x1 (ix2 r n) : EReal) = dotRow x0 x1 r n := by
  canon_tiles x h using cover0_2 ..
  · idx_vars x
    obtain rfl := Fin.ext h0
    obtain ⟨n, hn⟩ := n
    change n = 768 + _ at h1
    subst h1
    pointwise [k0_pay5, k0_pay1]
    rfl
  · idx_vars x
    obtain rfl := Fin.ext h0
    obtain ⟨n, hn⟩ := n
    change n = 512 + _ at h1
    subst h1
    pointwise [k0_pay4, k0_pay1]
    rfl
  · idx_vars x
    obtain rfl := Fin.ext h0
    obtain ⟨n, hn⟩ := n
    change n = 256 + _ at h1
    subst h1
    pointwise [k0_pay3, k0_pay1]
    rfl
  · idx_vars x
    obtain rfl := Fin.ext h0
    obtain ⟨n, hn⟩ := n
    change n = _ at h1
    subst h1
    pointwise [k0_pay2, k0_pay1]
    rfl

end Cert.NaValues

end
-- ==== Proof.NaValuesValue.lean ====
/- The result array of the projection to the neighbourhood attention's values is the reference's: each grid point writes a block of 1024 rows and 1024 columns
   of the product. -/
module

public import proofs.«01_k».proof.Proof.NaValuesRow
public import proofs.«01_k».proof.Proof.Gen.Reference9Ideal.Read
public import Idealize.ShloMosaic.Lib.StableHlo.ReadAt

@[expose] public section

set_option maxRecDepth 16384

noncomputable section

namespace Cert.NaValues

open Idealize.ShloMosaic Idealize.ShloMosaic.TcCoe Idealize.SL.Sem Cert.Dense

/-! ## The reference -/

section Ref

open Cert.Reference9Ideal Cert.Reference9Ideal.Read

theorem ref_at (x : (⟨S4x4096x2048, .f32⟩ : BufTy).Contents (Elt Ideal)) (w : (⟨S2048x15168, .f32⟩ : BufTy).Contents (Elt Ideal))
    (n : Fin 16384) (d : Fin 1024) :
    (val_main_v3 (F := Ideal) x w (ix2 n d) : EReal) = dotTok x w n ⟨2048 + d.val, by omega⟩ := by
  pointwise [val_main_v3, val_main_v2, val_main_v1, val_main_v0]
  rfl

end Ref

/-! ## The kernel -/

section Kern

open Cert.Kernel9Ideal Cert.Kernel9Ideal.Gen

variable (m : (ℓ : Loc nD τ sig) → Buf (Elt Ideal) ℓ) (c : Dev nD)

/-- The activations, their first two axes merged. -/
theorem acts_at (n : Fin 16384) (k : Fin 2048) :
    (show EReal from V m c main_v1 (ix2 n k)) = (show EReal from m ((c.tc : Thread nD τ).loc main_arg0) (ix3 ⟨n / 4096, by omega⟩ ⟨n % 4096, by omega⟩ k)) := by
  unfold V
  after_reads_at

/-- The weights' columns. -/
theorem weights_at (k : Fin 2048) (d : Fin 1024) :
    (show EReal from V m c main_v3 (ix2 k d)) = (show EReal from m ((c.tc : Thread nD τ).loc main_arg1) (ix2 k ⟨2048 + d.val, by omega⟩)) := by
  unfold V
  after_reads_at

/-- Where each window's block lies at grid point `t`. -/
theorem idx : ∀ t : Fin cfg0.N, win0_0.index t = ![t.val, 0] ∧ win0_1.index t = ![0, 0] ∧ win0_2.index t = ![t.val, 0] ∧ t.val < 16 :=
  (by decide +kernel : ∀ t : Fin grid0.N, _)

theorem lt (t : Fin cfg0.N) : t.val < 16 := (idx t).2.2.2

/-- The row of the token axis that row `r` of grid point `t` is. -/
abbrev row (t : Fin cfg0.N) (r : Fin 1024) : Fin 16384 := ⟨t.val * 1024 + r, by have := lt t; omega⟩

theorem h_blk (t : Fin cfg0.N) (r : Fin 1024) (k : Fin 2048) : iblk m c 0 t (ix2 r k) = V m c main_v1 (ix2 (row t r) k) := by
  have := lt t
  blk_ext [iblk, idx t]

theorem w_blk (t : Fin cfg0.N) (k : Fin 2048) (d : Fin 1024) : iblk m c 1 t (ix2 k d) = V m c main_v3 (ix2 k d) := by
  have := lt t
  blk_ext [iblk, idx t]

/-- What a grid point writes, at a row and a column of its block. -/
theorem point (t : Fin cfg0.N) (r : Fin 1024) (d : Fin 1024) :
    (out0_2 (iblk m c 0 t) (iblk m c 1 t) (ix2 r d) : EReal)
      = Cert.Reference9Ideal.Read.val_main_v3 (F := Ideal) (m ((c.tc : Thread nD τ).loc main_arg0)) (m ((c.tc : Thread nD τ).loc main_arg1)) (ix2 (row t r) d) := by
  rw [ref_at, out_at]
  refine dotRow_eq (fun k => ?_) fun k => ?_
  · rw [h_blk]; exact acts_at m c _ _
  · rw [w_blk]; exact weights_at m c _ _

/-- The kernel's result array is the reference's. -/
theorem final : (dats m 0 c).arrAt 2 cfg0.N
    = Cert.Reference9Ideal.Read.val_main_v3 (F := Ideal) (m ((c.tc : Thread nD τ).loc main_arg0)) (m ((c.tc : Thread nD τ).loc main_arg1)) := by
  refine (dats m 0 c).arrAt_eq_of_covers 2 _ (by decide +kernel) fun t hf y => ?_
  blk_simp
  rw [after0_2]
  idx_vars y
  refine (point m c t _ _).trans ?_
  blk_ext [idx t]

end Kern

end Cert.NaValues

end
-- ==== Proof.NaValuesClaims.lean ====
/- The claims about the projection to the neighbourhood attention's values: frames, the idealization, and equal results. -/
module

public import proofs.«01_k».proof.Defs
public import proofs.«01_k».proof.Proof.Gen.Kernel9.Frame
public import proofs.«01_k».proof.Proof.Gen.Reference9Ideal.Run
public import proofs.«01_k».proof.Proof.NaValuesValue
public import Idealize.ShloMosaic.Adequacy
public import Idealize.ShloMosaic.Init

@[expose] public section

set_option maxRecDepth 16384

noncomputable section

namespace Cert.NaValues

open Idealize.ShloMosaic Idealize.SL.Sem

theorem frame_kernel : Cert.quiescent_Kernel9 := fun m ρ _ => Cert.Kernel9.Gen.frame m ρ
theorem frame_kernel_ideal : Cert.quiescent_Kernel9Ideal := fun m ρ _ => Cert.Kernel9Ideal.Gen.frame m ρ

/-- The reference runs to its composed result, leaves its arguments, and has no semaphores. -/
theorem frame_reference : Cert.quiescent_Reference9Ideal := fun m ρ _ =>
  (θ_run Cert.Reference9Ideal.defs _ _).mono (fun r h => ⟨fun c => (h c).2,
      Idealize.ShloMosaic.sem_eq_zero_of_no_sems (by decide) r.2⟩)
    (Cert.Reference9Ideal.Value.run (F := Ideal) m ρ)

theorem preserves : Cert.preserves_Kernel9_Kernel9Ideal := trivial

theorem algebraic : Cert.algebraic_Kernel9Ideal_Reference9Ideal := by
  intro m g m' g' _ hagree
  refine ⟨fun c => (Cert.Kernel9Ideal.Gen.dats m 0 c).arrAt 2 Cert.Kernel9Ideal.cfg0.N, Cert.Kernel9Ideal.Value.run_blocks m g, ?_⟩
  refine (θ_run Cert.Reference9Ideal.defs _ _).mono (fun r h c => ⟨(h c).1.trans ?_, (h c).2⟩) (Cert.Reference9Ideal.Value.run (F := Ideal) m' g')
  obtain ⟨a0, a1⟩ := hagree c
  rw [a0, a1]
  exact Eq.trans rfl (final m c).symm

end Cert.NaValues

end
-- ==== Proof.DilValuesRow.lean ====
/- What a grid point of the projection to the dilated attention's values writes, at a row and a column of its block: the product. -/
module

public import proofs.«01_k».proof.Proof.Gen.Kernel10Ideal.Value
public import proofs.«01_k».proof.Proof.DenseDot

@[expose] public section

set_option maxRecDepth 16384

noncomputable section

namespace Cert.DilValues

open Cert.Kernel10Ideal Cert.Kernel10Ideal.Gen Idealize.ShloMosaic Idealize.ShloMosaic.TcCoe Cert.Dense

theorem out_at (x0 : Vec Ideal S1024x2048 .bf16) (x1 : Vec Ideal S2048x512 .bf16) (r : Fin 1024) (n : Fin 512) :
    (out0_2 x0 x1 (ix2 r n) : EReal) = dotRow x0 x1 r n := by
  canon_tiles x h using cover0_2 ..
  · idx_vars x
    obtain rfl := Fin.ext h0
    obtain ⟨n, hn⟩ := n
    change n = 256 + _ at h1
    subst h1
    pointwise [k0_pay3, k0_pay1]
    rfl
  · idx_vars x
    obtain rfl := Fin.ext h0
    obtain ⟨n, hn⟩ := n
    change n = _ at h1
    subst h1
    pointwise [k0_pay2, k0_pay1]
    rfl

end Cert.DilValues

end
-- ==== Proof.DilValuesValue.lean ====
/- The result array of the projection to the dilated attention's values is the reference's: each grid point writes a block of 1024 rows and 512 columns
   of the product. -/
module

public import proofs.«01_k».proof.Proof.DilValuesRow
public import proofs.«01_k».proof.Proof.Gen.Reference10Ideal.Read
public import Idealize.ShloMosaic.Lib.StableHlo.ReadAt

@[expose] public section

set_option maxRecDepth 16384

noncomputable section

namespace Cert.DilValues

open Idealize.ShloMosaic Idealize.ShloMosaic.TcCoe Idealize.SL.Sem Cert.Dense

/-! ## The reference -/

section Ref

open Cert.Reference10Ideal Cert.Reference10Ideal.Read

theorem ref_at (x : (⟨S4x4096x2048, .f32⟩ : BufTy).Contents (Elt Ideal)) (w : (⟨S2048x15168, .f32⟩ : BufTy).Contents (Elt Ideal))
    (n : Fin 16384) (d : Fin 1536) :
    (val_main_v2 (F := Ideal) x w (ix2 n d) : EReal) = dotTok x w n ⟨6144 + d.val, by omega⟩ := by
  pointwise [val_main_v2, val_main_v1, val_main_v0]
  rfl

end Ref

/-! ## The kernel -/

section Kern

open Cert.Kernel10Ideal Cert.Kernel10Ideal.Gen

variable (m : (ℓ : Loc nD τ sig) → Buf (Elt Ideal) ℓ) (c : Dev nD)

/-- The activations, their first two axes merged. -/
theorem acts_at (n : Fin 16384) (k : Fin 2048) :
    (show EReal from V m c main_v1 (ix2 n k)) = (show EReal from m ((c.tc : Thread nD τ).loc main_arg0) (ix3 ⟨n / 4096, by omega⟩ ⟨n % 4096, by omega⟩ k)) := by
  unfold V
  after_reads_at

/-- The weights' columns. -/
theorem weights_at (k : Fin 2048) (d : Fin 1536) :
    (show EReal from V m c main_v3 (ix2 k d)) = (show EReal from m ((c.tc : Thread nD τ).loc main_arg1) (ix2 k ⟨6144 + d.val, by omega⟩)) := by
  unfold V
  after_reads_at

/-- Where each window's block lies at grid point `t`. -/
theorem idx : ∀ t : Fin cfg0.N, win0_0.index t = ![t.val / 3, 0] ∧ win0_1.index t = ![0, t.val % 3] ∧ win0_2.index t = ![t.val / 3, t.val % 3] ∧ t.val < 48 :=
  (by decide +kernel : ∀ t : Fin grid0.N, _)

theorem lt (t : Fin cfg0.N) : t.val < 48 := (idx t).2.2.2

/-- The row of the token axis that row `r` of grid point `t` is. -/
abbrev row (t : Fin cfg0.N) (r : Fin 1024) : Fin 16384 := ⟨t.val / 3 * 1024 + r, by have := lt t; omega⟩

/-- The column of the result that column `d` of grid point `t` is. -/
abbrev col (t : Fin cfg0.N) (d : Fin 512) : Fin 1536 := ⟨t.val % 3 * 512 + d, by omega⟩

theorem h_blk (t : Fin cfg0.N) (r : Fin 1024) (k : Fin 2048) : iblk m c 0 t (ix2 r k) = V m c main_v1 (ix2 (row t r) k) := by
  have := lt t
  blk_ext [iblk, idx t]

theorem w_blk (t : Fin cfg0.N) (k : Fin 2048) (d : Fin 512) : iblk m c 1 t (ix2 k d) = V m c main_v3 (ix2 k (col t d)) := by
  have := lt t
  blk_ext [iblk, idx t]

/-- What a grid point writes, at a row and a column of its block. -/
theorem point (t : Fin cfg0.N) (r : Fin 1024) (d : Fin 512) :
    (out0_2 (iblk m c 0 t) (iblk m c 1 t) (ix2 r d) : EReal)
      = Cert.Reference10Ideal.Read.val_main_v2 (F := Ideal) (m ((c.tc : Thread nD τ).loc main_arg0)) (m ((c.tc : Thread nD τ).loc main_arg1)) (ix2 (row t r) (col t d)) := by
  rw [ref_at, out_at]
  refine dotRow_eq (fun k => ?_) fun k => ?_
  · rw [h_blk]; exact acts_at m c _ _
  · rw [w_blk]; exact weights_at m c _ _

/-- The kernel's result array is the reference's. -/
theorem final : (dats m 0 c).arrAt 2 cfg0.N
    = Cert.Reference10Ideal.Read.val_main_v2 (F := Ideal) (m ((c.tc : Thread nD τ).loc main_arg0)) (m ((c.tc : Thread nD τ).loc main_arg1)) := by
  refine (dats m 0 c).arrAt_eq_of_covers 2 _ (by decide +kernel) fun t hf y => ?_
  blk_simp
  rw [after0_2]
  idx_vars y
  refine (point m c t _ _).trans ?_
  blk_ext [idx t]

end Kern

end Cert.DilValues

end
-- ==== Proof.DilValuesClaims.lean ====
/- The claims about the projection to the dilated attention's values: frames, the idealization, and equal results. -/
module

public import proofs.«01_k».proof.Defs
public import proofs.«01_k».proof.Proof.Gen.Kernel10.Frame
public import proofs.«01_k».proof.Proof.Gen.Reference10Ideal.Run
public import proofs.«01_k».proof.Proof.DilValuesValue
public import Idealize.ShloMosaic.Adequacy
public import Idealize.ShloMosaic.Init

@[expose] public section

set_option maxRecDepth 16384

noncomputable section

namespace Cert.DilValues

open Idealize.ShloMosaic Idealize.SL.Sem

theorem frame_kernel : Cert.quiescent_Kernel10 := fun m ρ _ => Cert.Kernel10.Gen.frame m ρ
theorem frame_kernel_ideal : Cert.quiescent_Kernel10Ideal := fun m ρ _ => Cert.Kernel10Ideal.Gen.frame m ρ

/-- The reference runs to its composed result, leaves its arguments, and has no semaphores. -/
theorem frame_reference : Cert.quiescent_Reference10Ideal := fun m ρ _ =>
  (θ_run Cert.Reference10Ideal.defs _ _).mono (fun r h => ⟨fun c => (h c).2,
      Idealize.ShloMosaic.sem_eq_zero_of_no_sems (by decide) r.2⟩)
    (Cert.Reference10Ideal.Value.run (F := Ideal) m ρ)

theorem preserves : Cert.preserves_Kernel10_Kernel10Ideal := trivial

theorem algebraic : Cert.algebraic_Kernel10Ideal_Reference10Ideal := by
  intro m g m' g' _ hagree
  refine ⟨fun c => (Cert.Kernel10Ideal.Gen.dats m 0 c).arrAt 2 Cert.Kernel10Ideal.cfg0.N, Cert.Kernel10Ideal.Value.run_blocks m g, ?_⟩
  refine (θ_run Cert.Reference10Ideal.defs _ _).mono (fun r h c => ⟨(h c).1.trans ?_, (h c).2⟩) (Cert.Reference10Ideal.Value.run (F := Ideal) m' g')
  obtain ⟨a0, a1⟩ := hagree c
  rw [a0, a1]
  exact Eq.trans rfl (final m c).symm

end Cert.DilValues

end
-- ==== Proof.NormDot.lean ====
/- The scalar function the normalised products' values are stated in. -/
module

public import proofs.«01_k».proof.Proof.DenseDot

@[expose] public section

set_option maxRecDepth 16384

noncomputable section

namespace Cert.Dense

open Idealize.ShloMosaic

/-- The root of the mean of the squares of `f` and `1e-6`, inverted; `N` is the number of values. -/
def rms {k : Nat} (N : BitVec 32) (f : Fin k → EReal) : EReal :=
  Ideal.rsqrt (Ideal.div (∑ l, f l * f l) (Ideal.ofBits .f32 N) + Ideal.ofBits .f32 897988541#32)

end Cert.Dense

end
-- ==== Proof.NaQkRow.lean ====
/- What a grid point of the projection to the neighbourhood attention's queries and keys writes, at a row and a column of its
   block: the product, normalised over the head. -/
module

public import proofs.«01_k».proof.Proof.Gen.Kernel11Ideal.Value
public import proofs.«01_k».proof.Proof.NormDot

@[expose] public section

set_option maxRecDepth 16384

noncomputable section

namespace Cert.NaQk

open Cert.Kernel11Ideal Cert.Kernel11Ideal.Gen Idealize.ShloMosaic Idealize.ShloMosaic.TcCoe Cert.Dense

/-- The head of column `m` starts at a multiple of 128: its columns are named by any `f` that counts them from there. -/
theorem at_head (x0 : Vec Ideal S1024x2048 .bf16) (x1 : Vec Ideal S2048x1024 .bf16) (x2 : Vec Ideal S1x1024 .f32) (r m : Fin 1024)
    (f : Fin 128 → Fin 1024) (hf : ∀ l, (f l).val = m.val / 128 * 128 + l.val) :
    dotRow x0 x1 r m * rms 1124073472#32 (fun l : Fin 128 => dotRow x0 x1 r ⟨m.val / 128 * 128 + l.val, by omega⟩) * (show EReal from x2 (ix2 0 m))
      = dotRow x0 x1 r m * rms 1124073472#32 (fun l => dotRow x0 x1 r (f l)) * (show EReal from x2 (ix2 0 m)) := by
  rw [show f = fun l : Fin 128 => ⟨m.val / 128 * 128 + l.val, by omega⟩ from funext fun l => Fin.ext (hf l)]

set_option maxHeartbeats 1000000 in
theorem out_at (x0 : Vec Ideal S1024x2048 .bf16) (x1 : Vec Ideal S2048x1024 .bf16) (x2 : Vec Ideal S1x1024 .f32) (r : Fin 1024) (n : Fin 1024) :
    (out0_3 x0 x1 x2 (ix2 r n) : EReal)
      = dotRow x0 x1 r n * rms 1124073472#32 (fun l : Fin 128 => dotRow x0 x1 r ⟨n.val / 128 * 128 + l.val, by omega⟩) * (show EReal from x2 (ix2 0 n)) := by
  canon_tiles x h using cover0_3 ..
  · idx_vars x
    obtain rfl := Fin.ext h0
    obtain ⟨n, hn⟩ := n
    change n = 896 + _ at h1
    subst h1
    refine Eq.trans ?_ (at_head _ _ _ _ _ (fun l => ⟨896 + l.val, by omega⟩) fun l => ?_).symm
    · pointwise [k0_pay2, k0_pay20, k0_pay14, k0_pay17, k0_pay3]
      simp only [← Nat.add_assoc, Nat.reduceAdd]
      rfl
    · change 896 + l.val = (896 + x1.val) / 128 * 128 + l.val
      omega
  · idx_vars x
    obtain rfl := Fin.ext h0
    obtain ⟨n, hn⟩ := n
    change n = 768 + _ at h1
    subst h1
    refine Eq.trans ?_ (at_head _ _ _ _ _ (fun l => ⟨768 + l.val, by omega⟩) fun l => ?_).symm
    · pointwise [k0_pay1, k0_pay20, k0_pay14, k0_pay17, k0_pay3]
      rfl
    · change 768 + l.val = (768 + x1.val) / 128 * 128 + l.val
      omega
  · idx_vars x
    obtain rfl := Fin.ext h0
    obtain ⟨n, hn⟩ := n
    change n = 640 + _ at h1
    subst h1
    refine Eq.trans ?_ (at_head _ _ _ _ _ (fun l => ⟨640 + l.val, by omega⟩) fun l => ?_).symm
    · pointwise [k0_pay16, k0_pay19, k0_pay11, k0_pay17, k0_pay3]
      simp only [← Nat.add_assoc, Nat.reduceAdd]
      rfl
    · change 640 + l.val = (640 + x1.val) / 128 * 128 + l.val
      omega
  · idx_vars x
    obtain rfl := Fin.ext h0
    obtain ⟨n, hn⟩ := n
    change n = 512 + _ at h1
    subst h1
    refine Eq.trans ?_ (at_head _ _ _ _ _ (fun l => ⟨512 + l.val, by omega⟩) fun l => ?_).symm
    · pointwise [k0_pay15, k0_pay19, k0_pay11, k0_pay17, k0_pay3]
      rfl
    · change 512 + l.val = (512 + x1.val) / 128 * 128 + l.val
      omega
  · idx_vars x
    obtain rfl := Fin.ext h0
    obtain ⟨n, hn⟩ := n
    change n = 384 + _ at h1
    subst h1
    refine Eq.trans ?_ (at_head _ _ _ _ _ (fun l => ⟨384 + l.val, by omega⟩) fun l => ?_).symm
    · pointwise [k0_pay13, k0_pay18, k0_pay5, k0_pay3]
      simp only [← Nat.add_assoc, Nat.reduceAdd]
      rfl
    · change 384 + l.val = (384 + x1.val) / 128 * 128 + l.val
      omega
  · idx_vars x
    obtain rfl := Fin.ext h0
    obtain ⟨n, hn⟩ := n
    change n = 256 + _ at h1
    subst h1
    refine Eq.trans ?_ (at_head _ _ _ _ _ (fun l => ⟨256 + l.val, by omega⟩) fun l => ?_).symm
    · pointwise [k0_pay12, k0_pay18, k0_pay5, k0_pay3]
      rfl
    · change 256 + l.val = (256 + x1.val) / 128 * 128 + l.val
      omega
  · idx_vars x
    obtain rfl := Fin.ext h0
    obtain ⟨n, hn⟩ := n
    change n = 128 + _ at h1
    subst h1
    refine Eq.trans ?_ (at_head _ _ _ _ _ (fun l => ⟨128 + l.val, by omega⟩) fun l => ?_).symm
    · pointwise [k0_pay10, k0_pay7, k0_pay8, k0_pay9, k0_pay4, k0_pay3]
      rfl
    · change 128 + l.val = (128 + x1.val) / 128 * 128 + l.val
      omega
  · idx_vars x
    obtain rfl := Fin.ext h0
    obtain ⟨n, hn⟩ := n
    change n = _ at h1
    subst h1
    refine Eq.trans ?_ (at_head _ _ _ _ _ (fun l => ⟨l.val, by omega⟩) fun l => ?_).symm
    · pointwise [k0_pay6, k0_pay4, k0_pay3]
      rfl
    · change l.val = (x1.val) / 128 * 128 + l.val
      omega

end Cert.NaQk

end
-- ==== Proof.NaQkValue.lean ====
/- The result array of the projection to the neighbourhood attention's queries and keys is the reference's: each grid point
   writes a block of 1024 rows and 1024 columns of the products, normalised over the heads. -/
module

public import proofs.«01_k».proof.Proof.NaQkRow
public import proofs.«01_k».proof.Proof.Gen.Reference11Ideal.Read
public import Idealize.ShloMosaic.Lib.StableHlo.ReadAt

@[expose] public section

set_option maxRecDepth 16384

noncomputable section

namespace Cert.NaQk

open Idealize.ShloMosaic Idealize.ShloMosaic.TcCoe Idealize.SL.Sem Cert.Dense

/-! ## The reference -/

section Ref

open Cert.Reference11Ideal Cert.Reference11Ideal.Read

/-- The gain of column `d`: the queries' for the first eight heads, the keys' for the others. -/
def gain (g g' : (⟨S128, .f32⟩ : BufTy).Contents (Elt Ideal)) (d : Fin 2048) : EReal :=
  if h : d.val < 1024 then (show EReal from g (ix1 ⟨d.val % 128, by omega⟩)) else (show EReal from g' (ix1 ⟨(d.val - 1024) % 128, by omega⟩))

/-- A column of the queries. -/
theorem q_at (x : (⟨S4x4096x2048, .f32⟩ : BufTy).Contents (Elt Ideal)) (w : (⟨S2048x15168, .f32⟩ : BufTy).Contents (Elt Ideal)) (g : (⟨S128, .f32⟩ : BufTy).Contents (Elt Ideal)) (n : Fin 16384) (d : Fin 1024) :
    (val_main_v31 (F := Ideal) x w g (ix2 n d) : EReal)
      = dotTok x w n ⟨d.val, by omega⟩ * rms 1124073472#32 (fun l : Fin 128 => dotTok x w n ⟨d.val / 128 * 128 + l.val, by omega⟩)
        * (show EReal from g (ix1 ⟨d.val % 128, by omega⟩)) := by
  pointwise [val_main_v31, val_main_v16, val_main_v15, val_main_v14, val_main_v13, val_main_v12, val_main_v11, val_main_v10, val_main_v9, val_main_v8, val_main_v7, val_main_v6, val_main_v5, val_main_v4, val_main_v3, val_main_v1, val_main_v0, val_main_cst, val_main_cst_0, val_main_cst_1, val_main_cst_2, val_main_cst_3, val_main_cst_4]
  rfl

/-- A column of the keys. -/
theorem k_at (x : (⟨S4x4096x2048, .f32⟩ : BufTy).Contents (Elt Ideal)) (w : (⟨S2048x15168, .f32⟩ : BufTy).Contents (Elt Ideal)) (g : (⟨S128, .f32⟩ : BufTy).Contents (Elt Ideal)) (n : Fin 16384) (d : Fin 1024) :
    (val_main_v32 (F := Ideal) x w g (ix2 n d) : EReal)
      = dotTok x w n ⟨1024 + d.val, by omega⟩ * rms 1124073472#32 (fun l : Fin 128 => dotTok x w n ⟨1024 + (d.val / 128 * 128 + l.val), by omega⟩)
        * (show EReal from g (ix1 ⟨d.val % 128, by omega⟩)) := by
  pointwise [val_main_v32, val_main_v30, val_main_v29, val_main_v28, val_main_v27, val_main_v26, val_main_v25, val_main_v24, val_main_v23, val_main_v22, val_main_v21, val_main_v20, val_main_v19, val_main_v18, val_main_v17, val_main_v2, val_main_v0, val_main_cst, val_main_cst_0, val_main_cst_1, val_main_cst_2, val_main_cst_3, val_main_cst_4]
  rfl

theorem ref_at (x : (⟨S4x4096x2048, .f32⟩ : BufTy).Contents (Elt Ideal)) (w : (⟨S2048x15168, .f32⟩ : BufTy).Contents (Elt Ideal)) (g g' : (⟨S128, .f32⟩ : BufTy).Contents (Elt Ideal))
    (n : Fin 16384) (d : Fin 2048) :
    (val_main_v34 (F := Ideal) x w g g' (ix2 n d) : EReal)
      = dotTok x w n ⟨d.val, by omega⟩ * rms 1124073472#32 (fun l : Fin 128 => dotTok x w n ⟨d.val / 128 * 128 + l.val, by omega⟩) * gain g g' d := by
  pointwise [val_main_v34, val_main_v33]
  unfold gain
  split
  · exact q_at x w g n _
  · refine (k_at x w g' n _).trans ?_
    have e : ∀ l, 1024 + (d.val - 1024) = d.val ∧ 1024 + ((d.val - 1024) / 128 * 128 + l) = d.val / 128 * 128 + l := fun l => by omega
    refine congrArg₂ (· * ·) (congrArg₂ (· * ·) (congrArg (dotTok x w n) (Fin.ext (e 0).1))
      (congrArg (rms _) (funext fun l => congrArg (dotTok x w n) (Fin.ext (e l).2)))) rfl

end Ref

/-! ## The kernel -/

section Kern

open Cert.Kernel11Ideal Cert.Kernel11Ideal.Gen

variable (m : (ℓ : Loc nD τ sig) → Buf (Elt Ideal) ℓ) (c : Dev nD)

/-- The activations, their first two axes merged. -/
theorem acts_at (n : Fin 16384) (k : Fin 2048) :
    (show EReal from V m c main_v1 (ix2 n k)) = (show EReal from m ((c.tc : Thread nD τ).loc main_arg0) (ix3 ⟨n / 4096, by omega⟩ ⟨n % 4096, by omega⟩ k)) := by
  unfold V
  after_reads_at

/-- The weights' columns. -/
theorem weights_at (k : Fin 2048) (d : Fin 2048) :
    (show EReal from V m c main_v3 (ix2 k d)) = (show EReal from m ((c.tc : Thread nD τ).loc main_arg1) (ix2 k ⟨d.val, by omega⟩)) := by
  unfold V
  after_reads_at

/-- The two gains, each repeated over its eight heads. -/
theorem gain_at (d : Fin 2048) :
    (show EReal from V m c main_v11 (ix2 0 d)) = gain (m ((c.tc : Thread nD τ).loc main_arg2)) (m ((c.tc : Thread nD τ).loc main_arg3)) d := by
  unfold V
  after_reads_at
  unfold gain
  split
  · after_reads_at
  · after_reads_at

/-- Where each window's block lies at grid point `t`. -/
theorem idx : ∀ t : Fin cfg0.N, win0_0.index t = ![t.val / 2, 0] ∧ win0_1.index t = ![0, t.val % 2] ∧ win0_2.index t = ![0, t.val % 2] ∧ win0_3.index t = ![t.val / 2, t.val % 2] ∧ t.val < 32 :=
  (by decide +kernel : ∀ t : Fin grid0.N, _)

theorem lt (t : Fin cfg0.N) : t.val < 32 := (idx t).2.2.2.2

/-- The row of the token axis that row `r` of grid point `t` is. -/
abbrev row (t : Fin cfg0.N) (r : Fin 1024) : Fin 16384 := ⟨t.val / 2 * 1024 + r, by have := lt t; omega⟩

/-- The column of the result that column `d` of grid point `t` is. -/
abbrev col (t : Fin cfg0.N) (d : Fin 1024) : Fin 2048 := ⟨t.val % 2 * 1024 + d, by omega⟩

theorem h_blk (t : Fin cfg0.N) (r : Fin 1024) (k : Fin 2048) : iblk m c 0 t (ix2 r k) = V m c main_v1 (ix2 (row t r) k) := by
  have := lt t
  blk_ext [iblk, idx t]

theorem w_blk (t : Fin cfg0.N) (k : Fin 2048) (d : Fin 1024) : iblk m c 1 t (ix2 k d) = V m c main_v3 (ix2 k (col t d)) := by
  have := lt t
  blk_ext [iblk, idx t]

theorem g_blk (t : Fin cfg0.N) (d : Fin 1024) : iblk m c 2 t (ix2 0 d) = V m c main_v11 (ix2 0 (col t d)) := by
  have := lt t
  blk_ext [iblk, idx t]

/-- What a grid point writes, at a row and a column of its block. -/
theorem point (t : Fin cfg0.N) (r : Fin 1024) (d : Fin 1024) :
    (out0_3 (iblk m c 0 t) (iblk m c 1 t) (iblk m c 2 t) (ix2 r d) : EReal)
      = Cert.Reference11Ideal.Read.val_main_v34 (F := Ideal) (m ((c.tc : Thread nD τ).loc main_arg0)) (m ((c.tc : Thread nD τ).loc main_arg1)) (m ((c.tc : Thread nD τ).loc main_arg2)) (m ((c.tc : Thread nD τ).loc main_arg3)) (ix2 (row t r) (col t d)) := by
  rw [ref_at, out_at]
  have dot : ∀ d : Fin 1024, dotRow (iblk m c 0 t) (iblk m c 1 t) r d
      = dotTok (m ((c.tc : Thread nD τ).loc main_arg0)) (m ((c.tc : Thread nD τ).loc main_arg1)) (row t r) ⟨(col t d).val, by omega⟩ := fun d => by
    refine dotRow_eq (fun k => ?_) fun k => ?_
    · rw [h_blk]; exact acts_at m c _ _
    · rw [w_blk]; exact weights_at m c _ _
  refine congrArg₂ (· * ·) (congrArg₂ (· * ·) (dot d) (congrArg (rms _) (funext fun l => (dot _).trans ?_))) ?_
  · exact congrArg (dotTok _ _ _) (Fin.ext (show t.val % 2 * 1024 + (d.val / 128 * 128 + l.val) = (t.val % 2 * 1024 + d.val) / 128 * 128 + l.val by omega))
  · rw [g_blk]; exact gain_at m c _

/-- The kernel's result array is the reference's. -/
theorem final : (dats m 0 c).arrAt 3 cfg0.N
    = Cert.Reference11Ideal.Read.val_main_v34 (F := Ideal) (m ((c.tc : Thread nD τ).loc main_arg0)) (m ((c.tc : Thread nD τ).loc main_arg1)) (m ((c.tc : Thread nD τ).loc main_arg2)) (m ((c.tc : Thread nD τ).loc main_arg3)) := by
  refine (dats m 0 c).arrAt_eq_of_covers 3 _ (by decide +kernel) fun t hf y => ?_
  blk_simp
  rw [after0_3]
  idx_vars y
  refine (point m c t _ _).trans ?_
  blk_ext [idx t]

end Kern

end Cert.NaQk

end
-- ==== Proof.NaQkClaims.lean ====
/- The claims about the projection to the neighbourhood attention's queries and keys: frames, the idealization, and equal results. -/
module

public import proofs.«01_k».proof.Defs
public import proofs.«01_k».proof.Proof.Gen.Kernel11.Frame
public import proofs.«01_k».proof.Proof.Gen.Reference11Ideal.Run
public import proofs.«01_k».proof.Proof.NaQkValue
public import Idealize.ShloMosaic.Adequacy
public import Idealize.ShloMosaic.Init

@[expose] public section

set_option maxRecDepth 16384

noncomputable section

namespace Cert.NaQk

open Idealize.ShloMosaic Idealize.SL.Sem

theorem frame_kernel : Cert.quiescent_Kernel11 := fun m ρ _ => Cert.Kernel11.Gen.frame m ρ
theorem frame_kernel_ideal : Cert.quiescent_Kernel11Ideal := fun m ρ _ => Cert.Kernel11Ideal.Gen.frame m ρ

/-- The reference runs to its composed result, leaves its arguments, and has no semaphores. -/
theorem frame_reference : Cert.quiescent_Reference11Ideal := fun m ρ _ =>
  (θ_run Cert.Reference11Ideal.defs _ _).mono (fun r h => ⟨fun c => (h c).2,
      Idealize.ShloMosaic.sem_eq_zero_of_no_sems (by decide) r.2⟩)
    (Cert.Reference11Ideal.Value.run (F := Ideal) m ρ)

theorem preserves : Cert.preserves_Kernel11_Kernel11Ideal := trivial

theorem algebraic : Cert.algebraic_Kernel11Ideal_Reference11Ideal := by
  intro m g m' g' _ hagree
  refine ⟨fun c => (Cert.Kernel11Ideal.Gen.dats m 0 c).arrAt 3 Cert.Kernel11Ideal.cfg0.N, Cert.Kernel11Ideal.Value.run_blocks m g, ?_⟩
  refine (θ_run Cert.Reference11Ideal.defs _ _).mono (fun r h c => ⟨(h c).1.trans ?_, (h c).2⟩) (Cert.Reference11Ideal.Value.run (F := Ideal) m' g')
  obtain ⟨a0, a1, a2, a3⟩ := hagree c
  rw [a0, a1, a2, a3]
  exact Eq.trans rfl (final m c).symm

end Cert.NaQk

end
-- ==== Proof.MlaCqRow.lean ====
/- What a grid point of the projection to the latent queries writes, at a row and a column of its block: the product, normalised over the row. -/
module

public import proofs.«01_k».proof.Proof.Gen.Kernel12Ideal.Value
public import proofs.«01_k».proof.Proof.NormDot

@[expose] public section

set_option maxRecDepth 16384

noncomputable section

namespace Cert.MlaCq

open Cert.Kernel12Ideal Cert.Kernel12Ideal.Gen Idealize.ShloMosaic Idealize.ShloMosaic.TcCoe Cert.Dense

theorem out_at (x0 : Vec Ideal S1024x2048 .bf16) (x1 : Vec Ideal S2048x768 .bf16) (x2 : Vec Ideal S1x768 .f32) (r : Fin 1024) (n : Fin 768) :
    (out0_3 x0 x1 x2 (ix2 r n) : EReal) = dotRow x0 x1 r n * rms 1145044992#32 (dotRow x0 x1 r) * (show EReal from x2 (ix2 0 n)) := by
  canon_tiles x h using cover0_3 ..
  · idx_vars x
    obtain rfl := Fin.ext h0
    obtain ⟨n, hn⟩ := n
    change n = _ at h1
    subst h1
    pointwise [k0_pay1]
    rfl

end Cert.MlaCq

end
-- ==== Proof.MlaCqValue.lean ====
/- The result array of the projection to the latent queries is the reference's: each grid point writes a block of 1024 rows of the normalised product. -/
module

public import proofs.«01_k».proof.Proof.MlaCqRow
public import proofs.«01_k».proof.Proof.Gen.Reference12Ideal.Read
public import Idealize.ShloMosaic.Lib.StableHlo.ReadAt

@[expose] public section

set_option maxRecDepth 16384

noncomputable section

namespace Cert.MlaCq

open Idealize.ShloMosaic Idealize.ShloMosaic.TcCoe Idealize.SL.Sem Cert.Dense

/-! ## The reference -/

section Ref

open Cert.Reference12Ideal Cert.Reference12Ideal.Read

theorem ref_at (x : (⟨S4x4096x2048, .f32⟩ : BufTy).Contents (Elt Ideal)) (w : (⟨S2048x15168, .f32⟩ : BufTy).Contents (Elt Ideal)) (g : (⟨S768, .f32⟩ : BufTy).Contents (Elt Ideal))
    (n : Fin 16384) (d : Fin 768) :
    (val_main_v16 (F := Ideal) x w g (ix2 n d) : EReal)
      = dotTok x w n ⟨7680 + d.val, by omega⟩ * rms 1145044992#32 (fun l : Fin 768 => dotTok x w n ⟨7680 + l.val, by omega⟩)
        * (show EReal from g (ix1 d)) := by
  pointwise [val_main_v16, val_main_v15, val_main_v14, val_main_v13, val_main_v12, val_main_v11, val_main_v10, val_main_v9, val_main_v8, val_main_v7, val_main_v6, val_main_v5, val_main_v4, val_main_v3, val_main_v2, val_main_v1, val_main_v0,
    val_main_cst, val_main_cst_0, val_main_cst_1]
  rfl

end Ref

/-! ## The kernel -/

section Kern

open Cert.Kernel12Ideal Cert.Kernel12Ideal.Gen

variable (m : (ℓ : Loc nD τ sig) → Buf (Elt Ideal) ℓ) (c : Dev nD)

/-- The activations, their first two axes merged. -/
theorem acts_at (n : Fin 16384) (k : Fin 2048) :
    (show EReal from V m c main_v1 (ix2 n k)) = (show EReal from m ((c.tc : Thread nD τ).loc main_arg0) (ix3 ⟨n / 4096, by omega⟩ ⟨n % 4096, by omega⟩ k)) := by
  unfold V
  after_reads_at

/-- The weights' columns. -/
theorem weights_at (k : Fin 2048) (d : Fin 768) :
    (show EReal from V m c main_v3 (ix2 k d)) = (show EReal from m ((c.tc : Thread nD τ).loc main_arg1) (ix2 k ⟨7680 + d.val, by omega⟩)) := by
  unfold V
  after_reads_at

/-- The gain, as a row. -/
theorem gain_at (d : Fin 768) :
    (show EReal from V m c main_v4 (ix2 0 d)) = (show EReal from m ((c.tc : Thread nD τ).loc main_arg2) (ix1 d)) := by
  unfold V
  after_reads_at

/-- Where each window's block lies at grid point `t`. -/
theorem idx : ∀ t : Fin cfg0.N, win0_0.index t = ![t.val, 0] ∧ win0_1.index t = ![0, 0] ∧ win0_2.index t = ![0, 0] ∧ win0_3.index t = ![t.val, 0] ∧ t.val < 16 :=
  (by decide +kernel : ∀ t : Fin grid0.N, _)

theorem lt (t : Fin cfg0.N) : t.val < 16 := (idx t).2.2.2.2

/-- The row of the token axis that row `r` of grid point `t` is. -/
abbrev row (t : Fin cfg0.N) (r : Fin 1024) : Fin 16384 := ⟨t.val * 1024 + r, by have := lt t; omega⟩

theorem h_blk (t : Fin cfg0.N) (r : Fin 1024) (k : Fin 2048) : iblk m c 0 t (ix2 r k) = V m c main_v1 (ix2 (row t r) k) := by
  have := lt t
  blk_ext [iblk, idx t]

theorem w_blk (t : Fin cfg0.N) (k : Fin 2048) (d : Fin 768) : iblk m c 1 t (ix2 k d) = V m c main_v3 (ix2 k d) := by
  have := lt t
  blk_ext [iblk, idx t]

theorem g_blk (t : Fin cfg0.N) (d : Fin 768) : iblk m c 2 t (ix2 0 d) = V m c main_v4 (ix2 0 d) := by
  have := lt t
  blk_ext [iblk, idx t]

/-- What a grid point writes, at a row and a column of its block. -/
theorem point (t : Fin cfg0.N) (r : Fin 1024) (d : Fin 768) :
    (out0_3 (iblk m c 0 t) (iblk m c 1 t) (iblk m c 2 t) (ix2 r d) : EReal)
      = Cert.Reference12Ideal.Read.val_main_v16 (F := Ideal) (m ((c.tc : Thread nD τ).loc main_arg0)) (m ((c.tc : Thread nD τ).loc main_arg1)) (m ((c.tc : Thread nD τ).loc main_arg2)) (ix2 (row t r) d) := by
  rw [ref_at, out_at]
  have dot : ∀ d : Fin 768, dotRow (iblk m c 0 t) (iblk m c 1 t) r d
      = dotTok (m ((c.tc : Thread nD τ).loc main_arg0)) (m ((c.tc : Thread nD τ).loc main_arg1)) (row t r) ⟨7680 + d.val, by omega⟩ := fun d => by
    refine dotRow_eq (fun k => ?_) fun k => ?_
    · rw [h_blk]; exact acts_at m c _ _
    · rw [w_blk]; exact weights_at m c _ _
  refine congrArg₂ (· * ·) (congrArg₂ (· * ·) (dot d) (congrArg (rms _) (funext dot))) ?_
  rw [g_blk]; exact gain_at m c _

/-- The kernel's result array is the reference's. -/
theorem final : (dats m 0 c).arrAt 3 cfg0.N
    = Cert.Reference12Ideal.Read.val_main_v16 (F := Ideal) (m ((c.tc : Thread nD τ).loc main_arg0)) (m ((c.tc : Thread nD τ).loc main_arg1)) (m ((c.tc : Thread nD τ).loc main_arg2)) := by
  refine (dats m 0 c).arrAt_eq_of_covers 3 _ (by decide +kernel) fun t hf y => ?_
  blk_simp
  rw [after0_3]
  idx_vars y
  refine (point m c t _ _).trans ?_
  blk_ext [idx t]

end Kern

end Cert.MlaCq

end
-- ==== Proof.MlaCqClaims.lean ====
/- The claims about the projection to the latent queries: frames, the idealization, and equal results. -/
module

public import proofs.«01_k».proof.Defs
public import proofs.«01_k».proof.Proof.Gen.Kernel12.Frame
public import proofs.«01_k».proof.Proof.Gen.Reference12Ideal.Run
public import proofs.«01_k».proof.Proof.MlaCqValue
public import Idealize.ShloMosaic.Adequacy
public import Idealize.ShloMosaic.Init

@[expose] public section

set_option maxRecDepth 16384

noncomputable section

namespace Cert.MlaCq

open Idealize.ShloMosaic Idealize.SL.Sem

theorem frame_kernel : Cert.quiescent_Kernel12 := fun m ρ _ => Cert.Kernel12.Gen.frame m ρ
theorem frame_kernel_ideal : Cert.quiescent_Kernel12Ideal := fun m ρ _ => Cert.Kernel12Ideal.Gen.frame m ρ

/-- The reference runs to its composed result, leaves its arguments, and has no semaphores. -/
theorem frame_reference : Cert.quiescent_Reference12Ideal := fun m ρ _ =>
  (θ_run Cert.Reference12Ideal.defs _ _).mono (fun r h => ⟨fun c => (h c).2,
      Idealize.ShloMosaic.sem_eq_zero_of_no_sems (by decide) r.2⟩)
    (Cert.Reference12Ideal.Value.run (F := Ideal) m ρ)

theorem preserves : Cert.preserves_Kernel12_Kernel12Ideal := trivial

theorem algebraic : Cert.algebraic_Kernel12Ideal_Reference12Ideal := by
  intro m g m' g' _ hagree
  refine ⟨fun c => (Cert.Kernel12Ideal.Gen.dats m 0 c).arrAt 3 Cert.Kernel12Ideal.cfg0.N, Cert.Kernel12Ideal.Value.run_blocks m g, ?_⟩
  refine (θ_run Cert.Reference12Ideal.defs _ _).mono (fun r h c => ⟨(h c).1.trans ?_, (h c).2⟩) (Cert.Reference12Ideal.Value.run (F := Ideal) m' g')
  obtain ⟨a0, a1, a2⟩ := hagree c
  rw [a0, a1, a2]
  exact Eq.trans rfl (final m c).symm

end Cert.MlaCq

end
-- ==== Proof.MlaCkvRow.lean ====
/- What a grid point of the projection to the latent keys and values writes, at a row and a column of its block: the product, normalised over the row. -/
module

public import proofs.«01_k».proof.Proof.Gen.Kernel13Ideal.Value
public import proofs.«01_k».proof.Proof.NormDot

@[expose] public section

set_option maxRecDepth 16384

noncomputable section

namespace Cert.MlaCkv

open Cert.Kernel13Ideal Cert.Kernel13Ideal.Gen Idealize.ShloMosaic Idealize.ShloMosaic.TcCoe Cert.Dense

theorem out_at (x0 : Vec Ideal S1024x2048 .bf16) (x1 : Vec Ideal S2048x512 .bf16) (x2 : Vec Ideal S1x512 .f32) (r : Fin 1024) (n : Fin 512) :
    (out0_3 x0 x1 x2 (ix2 r n) : EReal) = dotRow x0 x1 r n * rms 1140850688#32 (dotRow x0 x1 r) * (show EReal from x2 (ix2 0 n)) := by
  canon_tiles x h using cover0_3 ..
  · idx_vars x
    obtain rfl := Fin.ext h0
    obtain ⟨n, hn⟩ := n
    change n = _ at h1
    subst h1
    pointwise [k0_pay1]
    rfl

end Cert.MlaCkv

end
-- ==== Proof.MlaCkvValue.lean ====
/- The result array of the projection to the latent keys and values is the reference's: each grid point writes a block of 1024 rows of the normalised product. -/
module

public import proofs.«01_k».proof.Proof.MlaCkvRow
public import proofs.«01_k».proof.Proof.Gen.Reference13Ideal.Read
public import Idealize.ShloMosaic.Lib.StableHlo.ReadAt

@[expose] public section

set_option maxRecDepth 16384

noncomputable section

namespace Cert.MlaCkv

open Idealize.ShloMosaic Idealize.ShloMosaic.TcCoe Idealize.SL.Sem Cert.Dense

/-! ## The reference -/

section Ref

open Cert.Reference13Ideal Cert.Reference13Ideal.Read

theorem ref_at (x : (⟨S4x4096x2048, .f32⟩ : BufTy).Contents (Elt Ideal)) (w : (⟨S2048x15168, .f32⟩ : BufTy).Contents (Elt Ideal)) (g : (⟨S512, .f32⟩ : BufTy).Contents (Elt Ideal))
    (n : Fin 16384) (d : Fin 512) :
    (val_main_v16 (F := Ideal) x w g (ix2 n d) : EReal)
      = dotTok x w n ⟨8448 + d.val, by omega⟩ * rms 1140850688#32 (fun l : Fin 512 => dotTok x w n ⟨8448 + l.val, by omega⟩)
        * (show EReal from g (ix1 d)) := by
  pointwise [val_main_v16, val_main_v15, val_main_v14, val_main_v13, val_main_v12, val_main_v11, val_main_v10, val_main_v9, val_main_v8, val_main_v7, val_main_v6, val_main_v5, val_main_v4, val_main_v3, val_main_v2, val_main_v1, val_main_v0,
    val_main_cst, val_main_cst_0, val_main_cst_1]
  rfl

end Ref

/-! ## The kernel -/

section Kern

open Cert.Kernel13Ideal Cert.Kernel13Ideal.Gen

variable (m : (ℓ : Loc nD τ sig) → Buf (Elt Ideal) ℓ) (c : Dev nD)

/-- The activations, their first two axes merged. -/
theorem acts_at (n : Fin 16384) (k : Fin 2048) :
    (show EReal from V m c main_v1 (ix2 n k)) = (show EReal from m ((c.tc : Thread nD τ).loc main_arg0) (ix3 ⟨n / 4096, by omega⟩ ⟨n % 4096, by omega⟩ k)) := by
  unfold V
  after_reads_at

/-- The weights' columns. -/
theorem weights_at (k : Fin 2048) (d : Fin 512) :
    (show EReal from V m c main_v3 (ix2 k d)) = (show EReal from m ((c.tc : Thread nD τ).loc main_arg1) (ix2 k ⟨8448 + d.val, by omega⟩)) := by
  unfold V
  after_reads_at

/-- The gain, as a row. -/
theorem gain_at (d : Fin 512) :
    (show EReal from V m c main_v4 (ix2 0 d)) = (show EReal from m ((c.tc : Thread nD τ).loc main_arg2) (ix1 d)) := by
  unfold V
  after_reads_at

/-- Where each window's block lies at grid point `t`. -/
theorem idx : ∀ t : Fin cfg0.N, win0_0.index t = ![t.val, 0] ∧ win0_1.index t = ![0, 0] ∧ win0_2.index t = ![0, 0] ∧ win0_3.index t = ![t.val, 0] ∧ t.val < 16 :=
  (by decide +kernel : ∀ t : Fin grid0.N, _)

theorem lt (t : Fin cfg0.N) : t.val < 16 := (idx t).2.2.2.2

/-- The row of the token axis that row `r` of grid point `t` is. -/
abbrev row (t : Fin cfg0.N) (r : Fin 1024) : Fin 16384 := ⟨t.val * 1024 + r, by have := lt t; omega⟩

theorem h_blk (t : Fin cfg0.N) (r : Fin 1024) (k : Fin 2048) : iblk m c 0 t (ix2 r k) = V m c main_v1 (ix2 (row t r) k) := by
  have := lt t
  blk_ext [iblk, idx t]

theorem w_blk (t : Fin cfg0.N) (k : Fin 2048) (d : Fin 512) : iblk m c 1 t (ix2 k d) = V m c main_v3 (ix2 k d) := by
  have := lt t
  blk_ext [iblk, idx t]

theorem g_blk (t : Fin cfg0.N) (d : Fin 512) : iblk m c 2 t (ix2 0 d) = V m c main_v4 (ix2 0 d) := by
  have := lt t
  blk_ext [iblk, idx t]

/-- What a grid point writes, at a row and a column of its block. -/
theorem point (t : Fin cfg0.N) (r : Fin 1024) (d : Fin 512) :
    (out0_3 (iblk m c 0 t) (iblk m c 1 t) (iblk m c 2 t) (ix2 r d) : EReal)
      = Cert.Reference13Ideal.Read.val_main_v16 (F := Ideal) (m ((c.tc : Thread nD τ).loc main_arg0)) (m ((c.tc : Thread nD τ).loc main_arg1)) (m ((c.tc : Thread nD τ).loc main_arg2)) (ix2 (row t r) d) := by
  rw [ref_at, out_at]
  have dot : ∀ d : Fin 512, dotRow (iblk m c 0 t) (iblk m c 1 t) r d
      = dotTok (m ((c.tc : Thread nD τ).loc main_arg0)) (m ((c.tc : Thread nD τ).loc main_arg1)) (row t r) ⟨8448 + d.val, by omega⟩ := fun d => by
    refine dotRow_eq (fun k => ?_) fun k => ?_
    · rw [h_blk]; exact acts_at m c _ _
    · rw [w_blk]; exact weights_at m c _ _
  refine congrArg₂ (· * ·) (congrArg₂ (· * ·) (dot d) (congrArg (rms _) (funext dot))) ?_
  rw [g_blk]; exact gain_at m c _

/-- The kernel's result array is the reference's. -/
theorem final : (dats m 0 c).arrAt 3 cfg0.N
    = Cert.Reference13Ideal.Read.val_main_v16 (F := Ideal) (m ((c.tc : Thread nD τ).loc main_arg0)) (m ((c.tc : Thread nD τ).loc main_arg1)) (m ((c.tc : Thread nD τ).loc main_arg2)) := by
  refine (dats m 0 c).arrAt_eq_of_covers 3 _ (by decide +kernel) fun t hf y => ?_
  blk_simp
  rw [after0_3]
  idx_vars y
  refine (point m c t _ _).trans ?_
  blk_ext [idx t]

end Kern

end Cert.MlaCkv

end
-- ==== Proof.MlaCkvClaims.lean ====
/- The claims about the projection to the latent keys and values: frames, the idealization, and equal results. -/
module

public import proofs.«01_k».proof.Defs
public import proofs.«01_k».proof.Proof.Gen.Kernel13.Frame
public import proofs.«01_k».proof.Proof.Gen.Reference13Ideal.Run
public import proofs.«01_k».proof.Proof.MlaCkvValue
public import Idealize.ShloMosaic.Adequacy
public import Idealize.ShloMosaic.Init

@[expose] public section

set_option maxRecDepth 16384

noncomputable section

namespace Cert.MlaCkv

open Idealize.ShloMosaic Idealize.SL.Sem

theorem frame_kernel : Cert.quiescent_Kernel13 := fun m ρ _ => Cert.Kernel13.Gen.frame m ρ
theorem frame_kernel_ideal : Cert.quiescent_Kernel13Ideal := fun m ρ _ => Cert.Kernel13Ideal.Gen.frame m ρ

/-- The reference runs to its composed result, leaves its arguments, and has no semaphores. -/
theorem frame_reference : Cert.quiescent_Reference13Ideal := fun m ρ _ =>
  (θ_run Cert.Reference13Ideal.defs _ _).mono (fun r h => ⟨fun c => (h c).2,
      Idealize.ShloMosaic.sem_eq_zero_of_no_sems (by decide) r.2⟩)
    (Cert.Reference13Ideal.Value.run (F := Ideal) m ρ)

theorem preserves : Cert.preserves_Kernel13_Kernel13Ideal := trivial

theorem algebraic : Cert.algebraic_Kernel13Ideal_Reference13Ideal := by
  intro m g m' g' _ hagree
  refine ⟨fun c => (Cert.Kernel13Ideal.Gen.dats m 0 c).arrAt 3 Cert.Kernel13Ideal.cfg0.N, Cert.Kernel13Ideal.Value.run_blocks m g, ?_⟩
  refine (θ_run Cert.Reference13Ideal.defs _ _).mono (fun r h c => ⟨(h c).1.trans ?_, (h c).2⟩) (Cert.Reference13Ideal.Value.run (F := Ideal) m' g')
  obtain ⟨a0, a1, a2⟩ := hagree c
  rw [a0, a1, a2]
  exact Eq.trans rfl (final m c).symm

end Cert.MlaCkv

end
-- ==== Proof.DilQkRow.lean ====
/- What a grid point of the projection to the dilated attention's queries and keys writes, at a row and a column of its
   block: the product, normalised over the head and rotated. -/
module

public import proofs.«01_k».proof.Proof.Gen.Kernel14Ideal.Value
public import proofs.«01_k».proof.Proof.NormDot

@[expose] public section

set_option maxRecDepth 16384

noncomputable section

namespace Cert.DilQk

open Cert.Kernel14Ideal Cert.Kernel14Ideal.Gen Idealize.ShloMosaic Idealize.ShloMosaic.TcCoe Cert.Dense

/-- A product normalised over its head, times its gain. -/
def normed (x0 : Vec Ideal S1024x2048 .bf16) (x1 : Vec Ideal S2048x1024 .bf16) (x2 : Vec Ideal S1x1024 .f32) (r m : Fin 1024) : EReal :=
  dotRow x0 x1 r m * rms 1124073472#32 (fun l : Fin 128 => dotRow x0 x1 r ⟨m.val / 128 * 128 + l.val, by omega⟩) * (show EReal from x2 (ix2 0 m))

/-- The head of column `m` starts at a multiple of 128: its columns are named by any `f` that counts them from there. -/
theorem normed_eq (x0 : Vec Ideal S1024x2048 .bf16) (x1 : Vec Ideal S2048x1024 .bf16) (x2 : Vec Ideal S1x1024 .f32) (r m : Fin 1024)
    (f : Fin 128 → Fin 1024) (hf : ∀ l, (f l).val = m.val / 128 * 128 + l.val) :
    normed x0 x1 x2 r m
      = dotRow x0 x1 r m * rms 1124073472#32 (fun l => dotRow x0 x1 r (f l)) * (show EReal from x2 (ix2 0 m)) := by
  rw [show f = fun l : Fin 128 => ⟨m.val / 128 * 128 + l.val, by omega⟩ from funext fun l => Fin.ext (hf l)]
  rfl

/-- What the kernel computes from a column `n` of row `r`: the normalised product times its cosine, and the product of its piece of 256
    columns by the exchanging matrix times its sine. -/
def rotated (x0 : Vec Ideal S1024x2048 .bf16) (x1 : Vec Ideal S2048x1024 .bf16) (x2 : Vec Ideal S1x1024 .f32)
    (x3 x4 : Vec Ideal S1024x128 .f32) (x5 : Vec Ideal S256x256 .bf16) (r n : Fin 1024) : EReal :=
  normed x0 x1 x2 r n * (show EReal from x3 (ix2 r ⟨n.val % 128, by omega⟩))
    + (∑ e : Fin 256, normed x0 x1 x2 r ⟨n.val / 256 * 256 + e.val, by omega⟩ * (show EReal from x5 (ix2 e ⟨n.val % 256, by omega⟩)))
      * (show EReal from x4 (ix2 r ⟨n.val % 128, by omega⟩))

/-- A sum over 256 columns is the sums over two heads. -/
theorem sum_heads (f : Fin 256 → EReal) : ∑ e, f e = (∑ l : Fin 128, f ⟨l.val, by omega⟩) + ∑ l : Fin 128, f ⟨128 + l.val, by omega⟩ :=
  Fin.sum_univ_add (a := 128) (b := 128) f

/-- The same with the columns of `n`'s head named by `f`, of its piece's two heads by `lo` and `hi`. -/
theorem rotated_eq (x0 : Vec Ideal S1024x2048 .bf16) (x1 : Vec Ideal S2048x1024 .bf16) (x2 : Vec Ideal S1x1024 .f32)
    (x3 x4 : Vec Ideal S1024x128 .f32) (x5 : Vec Ideal S256x256 .bf16) (r n : Fin 1024) (f lo hi : Fin 128 → Fin 1024) (c : Fin 128) (p : Fin 256)
    (hf : ∀ l, (f l).val = n.val / 128 * 128 + l.val) (hlo : ∀ l, (lo l).val = n.val / 256 * 256 + l.val)
    (hhi : ∀ l, (hi l).val = n.val / 256 * 256 + (128 + l.val)) (hc : c.val = n.val % 128) (hp : p.val = n.val % 256) :
    rotated x0 x1 x2 x3 x4 x5 r n
      = dotRow x0 x1 r n * rms 1124073472#32 (fun l => dotRow x0 x1 r (f l)) * (show EReal from x2 (ix2 0 n)) * (show EReal from x3 (ix2 r c))
        + ((∑ l : Fin 128, dotRow x0 x1 r (lo l) * rms 1124073472#32 (fun l => dotRow x0 x1 r (lo l)) * (show EReal from x2 (ix2 0 (lo l)))
              * (show EReal from x5 (ix2 ⟨l.val, by omega⟩ p)))
            + ∑ l : Fin 128, dotRow x0 x1 r (hi l) * rms 1124073472#32 (fun l => dotRow x0 x1 r (hi l)) * (show EReal from x2 (ix2 0 (hi l)))
              * (show EReal from x5 (ix2 ⟨128 + l.val, by omega⟩ p)))
          * (show EReal from x4 (ix2 r c)) := by
  have ec : c = ⟨n.val % 128, Nat.mod_lt _ (by decide)⟩ := Fin.ext hc
  have ep : p = ⟨n.val % 256, Nat.mod_lt _ (by decide)⟩ := Fin.ext hp
  clear hc hp
  subst ec ep
  unfold rotated
  rw [sum_heads, normed_eq x0 x1 x2 r n f hf]
  refine congrArg₂ (· + ·) rfl (congrArg₂ (· * ·) (congrArg₂ (· + ·) (Finset.sum_congr rfl fun l _ => ?_) (Finset.sum_congr rfl fun l _ => ?_)) rfl)
  · rw [show (⟨n.val / 256 * 256 + l.val, by omega⟩ : Fin 1024) = lo l from Fin.ext (hlo l).symm,
      normed_eq x0 x1 x2 r (lo l) lo fun k => by rw [hlo, hlo]; omega]
  · rw [show (⟨n.val / 256 * 256 + (128 + l.val), by omega⟩ : Fin 1024) = hi l from Fin.ext (hhi l).symm,
      normed_eq x0 x1 x2 r (hi l) hi fun k => by rw [hhi, hhi]; omega]

set_option maxHeartbeats 4000000 in
theorem out_at (x0 : Vec Ideal S1024x2048 .bf16) (x1 : Vec Ideal S2048x1024 .bf16) (x2 : Vec Ideal S1x1024 .f32)
    (x3 x4 : Vec Ideal S1024x128 .f32) (x5 : Vec Ideal S256x256 .bf16) (r : Fin 1024) (n : Fin 1024) :
    (out0_6 x0 x1 x2 x3 x4 x5 (ix2 r n) : EReal) = rotated x0 x1 x2 x3 x4 x5 r n := by
  canon_tiles x h using cover0_6 ..
  · idx_vars x
    obtain rfl := Fin.ext h0
    obtain ⟨n, hn⟩ := n
    change n = 896 + _ at h1
    subst h1
    refine Eq.trans ?_ (rotated_eq _ _ _ _ _ _ _ _ (fun l => ⟨896 + l.val, by omega⟩) (fun l => ⟨768 + l.val, by omega⟩)
      (fun l => ⟨896 + l.val, by omega⟩) x1 ⟨128 + x1.val, by omega⟩ (fun l => ?_) (fun l => ?_) (fun l => ?_) ?_ ?_).symm
    · pointwise [k0_pay4, k0_pay3, k0_pay1, k0_pay2, k0_pay58, k0_pay59, k0_pay60, k0_pay61, k0_pay37, k0_pay38, k0_pay39, k0_pay40, k0_pay57, k0_pay30, k0_pay41, k0_pay5]
      try simp only [← Nat.add_assoc, Nat.reduceAdd]
      rfl
    · change 896 + l.val = (896 + x1.val) / 128 * 128 + l.val
      omega
    · change 768 + l.val = (896 + x1.val) / 256 * 256 + l.val
      omega
    · change 896 + l.val = (896 + x1.val) / 256 * 256 + (128 + l.val)
      omega
    · change x1.val = (896 + x1.val) % 128
      omega
    · change 128 + x1.val = (896 + x1.val) % 256
      omega
  · idx_vars x
    obtain rfl := Fin.ext h0
    obtain ⟨n, hn⟩ := n
    change n = 768 + _ at h1
    subst h1
    refine Eq.trans ?_ (rotated_eq _ _ _ _ _ _ _ _ (fun l => ⟨768 + l.val, by omega⟩) (fun l => ⟨768 + l.val, by omega⟩)
      (fun l => ⟨896 + l.val, by omega⟩) x1 ⟨x1.val, by omega⟩ (fun l => ?_) (fun l => ?_) (fun l => ?_) ?_ ?_).symm
    · pointwise [k0_pay4, k0_pay3, k0_pay1, k0_pay2, k0_pay58, k0_pay59, k0_pay60, k0_pay61, k0_pay37, k0_pay38, k0_pay39, k0_pay40, k0_pay57, k0_pay30, k0_pay41, k0_pay5]
      try simp only [← Nat.add_assoc, Nat.reduceAdd]
      rfl
    · change 768 + l.val = (768 + x1.val) / 128 * 128 + l.val
      omega
    · change 768 + l.val = (768 + x1.val) / 256 * 256 + l.val
      omega
    · change 896 + l.val = (768 + x1.val) / 256 * 256 + (128 + l.val)
      omega
    · change x1.val = (768 + x1.val) % 128
      omega
    · change x1.val = (768 + x1.val) % 256
      omega
  · idx_vars x
    obtain rfl := Fin.ext h0
    obtain ⟨n, hn⟩ := n
    change n = 640 + _ at h1
    subst h1
    refine Eq.trans ?_ (rotated_eq _ _ _ _ _ _ _ _ (fun l => ⟨640 + l.val, by omega⟩) (fun l => ⟨512 + l.val, by omega⟩)
      (fun l => ⟨640 + l.val, by omega⟩) x1 ⟨128 + x1.val, by omega⟩ (fun l => ?_) (fun l => ?_) (fun l => ?_) ?_ ?_).symm
    · pointwise [k0_pay36, k0_pay35, k0_pay31, k0_pay32, k0_pay33, k0_pay34, k0_pay50, k0_pay19, k0_pay41, k0_pay5]
      try simp only [← Nat.add_assoc, Nat.reduceAdd]
      rfl
    · change 640 + l.val = (640 + x1.val) / 128 * 128 + l.val
      omega
    · change 512 + l.val = (640 + x1.val) / 256 * 256 + l.val
      omega
    · change 640 + l.val = (640 + x1.val) / 256 * 256 + (128 + l.val)
      omega
    · change x1.val = (640 + x1.val) % 128
      omega
    · change 128 + x1.val = (640 + x1.val) % 256
      omega
  · idx_vars x
    obtain rfl := Fin.ext h0
    obtain ⟨n, hn⟩ := n
    change n = 512 + _ at h1
    subst h1
    refine Eq.trans ?_ (rotated_eq _ _ _ _ _ _ _ _ (fun l => ⟨512 + l.val, by omega⟩) (fun l => ⟨512 + l.val, by omega⟩)
      (fun l => ⟨640 + l.val, by omega⟩) x1 ⟨x1.val, by omega⟩ (fun l => ?_) (fun l => ?_) (fun l => ?_) ?_ ?_).symm
    · pointwise [k0_pay36, k0_pay35, k0_pay31, k0_pay32, k0_pay33, k0_pay34, k0_pay50, k0_pay19, k0_pay41, k0_pay5]
      try simp only [← Nat.add_assoc, Nat.reduceAdd]
      rfl
    · change 512 + l.val = (512 + x1.val) / 128 * 128 + l.val
      omega
    · change 512 + l.val = (512 + x1.val) / 256 * 256 + l.val
      omega
    · change 640 + l.val = (512 + x1.val) / 256 * 256 + (128 + l.val)
      omega
    · change x1.val = (512 + x1.val) % 128
      omega
    · change x1.val = (512 + x1.val) % 256
      omega
  · idx_vars x
    obtain rfl := Fin.ext h0
    obtain ⟨n, hn⟩ := n
    change n = 384 + _ at h1
    subst h1
    refine Eq.trans ?_ (rotated_eq _ _ _ _ _ _ _ _ (fun l => ⟨384 + l.val, by omega⟩) (fun l => ⟨256 + l.val, by omega⟩)
      (fun l => ⟨384 + l.val, by omega⟩) x1 ⟨128 + x1.val, by omega⟩ (fun l => ?_) (fun l => ?_) (fun l => ?_) ?_ ?_).symm
    · pointwise [k0_pay29, k0_pay28, k0_pay27, k0_pay26, k0_pay42, k0_pay51, k0_pay52, k0_pay53, k0_pay54, k0_pay55, k0_pay56, k0_pay20, k0_pay21, k0_pay22, k0_pay23, k0_pay24, k0_pay25, k0_pay7, k0_pay5]
      try simp only [← Nat.add_assoc, Nat.reduceAdd]
      rfl
    · change 384 + l.val = (384 + x1.val) / 128 * 128 + l.val
      omega
    · change 256 + l.val = (384 + x1.val) / 256 * 256 + l.val
      omega
    · change 384 + l.val = (384 + x1.val) / 256 * 256 + (128 + l.val)
      omega
    · change x1.val = (384 + x1.val) % 128
      omega
    · change 128 + x1.val = (384 + x1.val) % 256
      omega
  · idx_vars x
    obtain rfl := Fin.ext h0
    obtain ⟨n, hn⟩ := n
    change n = 256 + _ at h1
    subst h1
    refine Eq.trans ?_ (rotated_eq _ _ _ _ _ _ _ _ (fun l => ⟨256 + l.val, by omega⟩) (fun l => ⟨256 + l.val, by omega⟩)
      (fun l => ⟨384 + l.val, by omega⟩) x1 ⟨x1.val, by omega⟩ (fun l => ?_) (fun l => ?_) (fun l => ?_) ?_ ?_).symm
    · pointwise [k0_pay29, k0_pay28, k0_pay27, k0_pay26, k0_pay42, k0_pay51, k0_pay52, k0_pay53, k0_pay54, k0_pay55, k0_pay56, k0_pay20, k0_pay21, k0_pay22, k0_pay23, k0_pay24, k0_pay25, k0_pay7, k0_pay5]
      try simp only [← Nat.add_assoc, Nat.reduceAdd]
      rfl
    · change 256 + l.val = (256 + x1.val) / 128 * 128 + l.val
      omega
    · change 256 + l.val = (256 + x1.val) / 256 * 256 + l.val
      omega
    · change 384 + l.val = (256 + x1.val) / 256 * 256 + (128 + l.val)
      omega
    · change x1.val = (256 + x1.val) % 128
      omega
    · change x1.val = (256 + x1.val) % 256
      omega
  · idx_vars x
    obtain rfl := Fin.ext h0
    obtain ⟨n, hn⟩ := n
    change n = 128 + _ at h1
    subst h1
    refine Eq.trans ?_ (rotated_eq _ _ _ _ _ _ _ _ (fun l => ⟨128 + l.val, by omega⟩) (fun l => ⟨l.val, by omega⟩)
      (fun l => ⟨128 + l.val, by omega⟩) x1 ⟨128 + x1.val, by omega⟩ (fun l => ?_) (fun l => ?_) (fun l => ?_) ?_ ?_).symm
    · pointwise [k0_pay18, k0_pay17, k0_pay16, k0_pay15, k0_pay43, k0_pay44, k0_pay45, k0_pay46, k0_pay47, k0_pay48, k0_pay49, k0_pay6, k0_pay8, k0_pay9, k0_pay10, k0_pay11, k0_pay12, k0_pay13, k0_pay14, k0_pay5]
      try simp only [← Nat.add_assoc, Nat.reduceAdd]
      rfl
    · change 128 + l.val = (128 + x1.val) / 128 * 128 + l.val
      omega
    · change l.val = (128 + x1.val) / 256 * 256 + l.val
      omega
    · change 128 + l.val = (128 + x1.val) / 256 * 256 + (128 + l.val)
      omega
    · change x1.val = (128 + x1.val) % 128
      omega
    · change 128 + x1.val = (128 + x1.val) % 256
      omega
  · idx_vars x
    obtain rfl := Fin.ext h0
    obtain ⟨n, hn⟩ := n
    change n = _ at h1
    subst h1
    refine Eq.trans ?_ (rotated_eq _ _ _ _ _ _ _ _ (fun l => ⟨l.val, by omega⟩) (fun l => ⟨l.val, by omega⟩)
      (fun l => ⟨128 + l.val, by omega⟩) x1 ⟨x1.val, by omega⟩ (fun l => ?_) (fun l => ?_) (fun l => ?_) ?_ ?_).symm
    · pointwise [k0_pay18, k0_pay17, k0_pay16, k0_pay15, k0_pay43, k0_pay44, k0_pay45, k0_pay46, k0_pay47, k0_pay48, k0_pay49, k0_pay6, k0_pay8, k0_pay9, k0_pay10, k0_pay11, k0_pay12, k0_pay13, k0_pay14, k0_pay5]
      try simp only [← Nat.add_assoc, Nat.reduceAdd]
      rfl
    · change l.val = (x1.val) / 128 * 128 + l.val
      omega
    · change l.val = (x1.val) / 256 * 256 + l.val
      omega
    · change 128 + l.val = (x1.val) / 256 * 256 + (128 + l.val)
      omega
    · change x1.val = (x1.val) % 128
      omega
    · change x1.val = (x1.val) % 256
      omega

end Cert.DilQk

end
-- ==== Proof.SwapMatrix.lean ====
/- The matrix that exchanges the two halves of a head's rotated columns: its values, and the product of a row with it. -/
module

public import Idealize.ShloMosaic.Lib.Pointwise
public import Idealize.ShloMosaic.Lib.Pipeline.ValueKit

@[expose] public section

set_option maxRecDepth 16384

noncomputable section

namespace Cert.Swap

open Idealize.ShloMosaic

/-- Whether row `e` is the partner of column `p`: sixteen further on in the first half of the rotated columns, sixteen before in the second. -/
def bit (e p : Fin 256) : BitVec 1 :=
  IntOp.ori
    (IntOp.andi (IntOp.cmpi .slt (IntOp.andi (BitVec.ofNat 32 p.val) 127#32) 16#32)
      (IntOp.cmpi .eq (BitVec.ofNat 32 e.val) (IntOp.addi (BitVec.ofNat 32 p.val) 16#32)))
    (IntOp.andi
      (IntOp.andi (IntOp.cmpi .sge (IntOp.andi (BitVec.ofNat 32 p.val) 127#32) 16#32)
        (IntOp.cmpi .slt (IntOp.andi (BitVec.ofNat 32 p.val) 127#32) 32#32))
      (IntOp.cmpi .eq (BitVec.ofNat 32 e.val) (IntOp.subi (BitVec.ofNat 32 p.val) 16#32)))

/-- The tests of the column alone. -/
theorem lanes : ∀ p : Fin 256,
    (IntOp.cmpi .slt (IntOp.andi (BitVec.ofNat 32 p.val) 127#32) 16#32 = if p.val % 128 < 16 then 1#1 else 0#1)
      ∧ (IntOp.andi (IntOp.cmpi .sge (IntOp.andi (BitVec.ofNat 32 p.val) 127#32) 16#32)
          (IntOp.cmpi .slt (IntOp.andi (BitVec.ofNat 32 p.val) 127#32) 32#32) = if 16 ≤ p.val % 128 ∧ p.val % 128 < 32 then 1#1 else 0#1)
      ∧ IntOp.addi (BitVec.ofNat 32 p.val) 16#32 = BitVec.ofNat 32 (p.val + 16)
      ∧ (16 ≤ p.val → IntOp.subi (BitVec.ofNat 32 p.val) 16#32 = BitVec.ofNat 32 (p.val - 16)) := by
  decide +kernel

theorem eq_bit (e q : Nat) (he : e < 2 ^ 32) (hq : q < 2 ^ 32) :
    IntOp.cmpi .eq (BitVec.ofNat 32 e) (BitVec.ofNat 32 q) = if e = q then 1#1 else 0#1 := by
  have h : (BitVec.ofNat 32 e = BitVec.ofNat 32 q) ↔ e = q := by
    rw [← BitVec.toNat_inj, BitVec.toNat_ofNat, BitVec.toNat_ofNat, Nat.mod_eq_of_lt he, Nat.mod_eq_of_lt hq]
  by_cases k : e = q
  · subst k
    simp [IntOp.cmpi]
  · rw [if_neg k]
    change BitVec.ofBool (BitVec.ofNat 32 e == BitVec.ofNat 32 q) = 0#1
    rw [beq_eq_false_iff_ne.mpr fun j => k (h.1 j)]
    rfl

theorem and_one (b : BitVec 1) : IntOp.andi (1#1) b = b := by revert b; decide
theorem and_zero (b : BitVec 1) : IntOp.andi (0#1) b = 0#1 := by revert b; decide
theorem or_zero (b : BitVec 1) : IntOp.ori b (0#1) = b := by revert b; decide
theorem zero_or (b : BitVec 1) : IntOp.ori (0#1) b = b := by revert b; decide

/-- The matrix's bits, a column in the first half. -/
theorem bit_first (e p : Fin 256) (h : p.val % 128 < 16) : bit e p = if e.val = p.val + 16 then 1#1 else 0#1 := by
  have l := lanes p
  unfold bit
  rw [l.1, l.2.1, l.2.2.1, if_pos h, if_neg (by omega), and_one, and_zero, or_zero, eq_bit _ _ (by omega) (by omega)]

/-- The matrix's bits, a column in the second half. -/
theorem bit_second (e p : Fin 256) (h : 16 ≤ p.val % 128 ∧ p.val % 128 < 32) : bit e p = if e.val = p.val - 16 then 1#1 else 0#1 := by
  have l := lanes p
  unfold bit
  rw [l.1, l.2.1, l.2.2.2 (by omega), if_neg (by omega), if_pos h, and_one, and_zero, zero_or, eq_bit _ _ (by omega) (by omega)]

/-- The matrix's bits, a column that isn't rotated. -/
theorem bit_rest (e p : Fin 256) (h : 32 ≤ p.val % 128) : bit e p = 0#1 := by
  have l := lanes p
  unfold bit
  rw [l.1, l.2.1, if_neg (by omega), if_neg (by omega), and_zero, and_zero, or_zero]

theorem one_at : (FloatOps.uitofp (F := Ideal) FTy.bf16 (1#1) : EReal) = 1 := by simp [FloatOps.uitofp]
theorem zero_at : (FloatOps.uitofp (F := Ideal) FTy.bf16 (0#1) : EReal) = 0 := by simp [FloatOps.uitofp]

/-- A row times a column whose only one is at `q`. -/
theorem sum_one (y : Fin 256 → EReal) (b : Fin 256 → BitVec 1) (q : Fin 256) (hb : ∀ e, b e = if e.val = q.val then 1#1 else 0#1) :
    ∑ e, y e * (FloatOps.uitofp (F := Ideal) FTy.bf16 (b e) : EReal) = y q := by
  refine (Finset.sum_eq_single q (fun e _ h => ?_) fun h => absurd (Finset.mem_univ q) h).trans ?_
  · rw [hb, if_neg fun k => h (Fin.ext k), zero_at, mul_zero]
  · rw [hb, if_pos rfl, one_at, mul_one]

/-- A row times a column in the first half. -/
theorem sum_first (y : Fin 256 → EReal) (p : Fin 256) (h : p.val % 128 < 16) :
    ∑ e, y e * (FloatOps.uitofp (F := Ideal) FTy.bf16 (bit e p) : EReal) = y ⟨p.val + 16, by omega⟩ :=
  sum_one y _ _ fun e => bit_first e p h

/-- A row times a column in the second half. -/
theorem sum_second (y : Fin 256 → EReal) (p : Fin 256) (h : 16 ≤ p.val % 128 ∧ p.val % 128 < 32) :
    ∑ e, y e * (FloatOps.uitofp (F := Ideal) FTy.bf16 (bit e p) : EReal) = y ⟨p.val - 16, by omega⟩ :=
  sum_one y _ _ fun e => bit_second e p h

/-- A row times a column that isn't rotated. -/
theorem sum_rest (y : Fin 256 → EReal) (p : Fin 256) (h : 32 ≤ p.val % 128) :
    ∑ e, y e * (FloatOps.uitofp (F := Ideal) FTy.bf16 (bit e p) : EReal) = 0 :=
  Finset.sum_eq_zero fun e _ => by rw [bit_rest e p h, zero_at, mul_zero]

/-- The float that fills the cosines of the columns that aren't rotated. -/
theorem fill_one : Ideal.ofBits .f32 1065353216#32 = 1 := by
  simp [Ideal.ofBits, Ideal.ieee]
  rw [← EReal.coe_mul]
  norm_num

theorem fill_zero : Ideal.ofBits .f32 0#32 = 0 := by simp [Ideal.ofBits, Ideal.ieee]

/-- The head rotated: column `c` of a head `y`, from the cosine and the sine of the sixteen angles. -/
def turned (y : Fin 128 → EReal) (cos sin : Fin 16 → EReal) (c : Fin 128) : EReal :=
  if h : c.val < 16 then y c * cos ⟨c.val, h⟩ - y ⟨16 + c.val, by omega⟩ * sin ⟨c.val, h⟩
  else if h : c.val < 32 then y c * cos ⟨c.val - 16, by omega⟩ + y ⟨c.val - 16, by omega⟩ * sin ⟨c.val - 16, by omega⟩
  else y c

/-- The table of cosines and the table of sines, at a column of a head. -/
def cosines (cos : Fin 16 → EReal) (c : Fin 128) : EReal :=
  if h : c.val < 16 then cos ⟨c.val, h⟩ else if h : c.val - 16 < 16 then cos ⟨c.val - 16, h⟩ else Ideal.ofBits .f32 1065353216#32
def sines (sin : Fin 16 → EReal) (c : Fin 128) : EReal :=
  if h : c.val < 16 then -sin ⟨c.val, h⟩ else if h : c.val - 16 < 16 then sin ⟨c.val - 16, h⟩ else Ideal.ofBits .f32 0#32

/-- A piece of two heads times the cosines, and its product with the exchanging matrix times the sines, is the head rotated. -/
theorem turned_eq (y : Fin 256 → EReal) (cos sin : Fin 16 → EReal) (p : Fin 256) :
    y p * cosines cos ⟨p.val % 128, by omega⟩
        + (∑ e, y e * (FloatOps.uitofp (F := Ideal) FTy.bf16 (bit e p) : EReal)) * sines sin ⟨p.val % 128, by omega⟩
      = turned (fun l => y ⟨p.val / 128 * 128 + l.val, by omega⟩) cos sin ⟨p.val % 128, by omega⟩ := by
  unfold turned cosines sines
  have e0 : (⟨p.val / 128 * 128 + p.val % 128, by omega⟩ : Fin 256) = p := Fin.ext (by simp only; omega)
  by_cases h : p.val % 128 < 16
  · rw [dif_pos h, dif_pos h, dif_pos h, sum_first y p h, mul_neg, sub_eq_add_neg]
    refine congrArg₂ (· + ·) (congrArg₂ (· * ·) (congrArg y e0.symm) rfl) (congrArg Neg.neg (congrArg₂ (· * ·) (congrArg y (Fin.ext ?_)) rfl))
    simp only
    omega
  · rw [dif_neg h, dif_neg h, dif_neg h]
    by_cases h' : p.val % 128 < 32
    · rw [dif_pos h', dif_pos (show p.val % 128 - 16 < 16 by omega), dif_pos (show p.val % 128 - 16 < 16 by omega), sum_second y p ⟨by omega, h'⟩]
      refine congrArg₂ (· + ·) (congrArg₂ (· * ·) (congrArg y e0.symm) rfl) (congrArg₂ (· * ·) (congrArg y (Fin.ext ?_)) rfl)
      simp only
      omega
    · rw [dif_neg h', dif_neg (show ¬ p.val % 128 - 16 < 16 by omega), dif_neg (show ¬ p.val % 128 - 16 < 16 by omega), sum_rest y p (by omega),
        fill_one, fill_zero, mul_one, mul_zero, add_zero]
      exact congrArg y e0.symm

end Cert.Swap

end
-- ==== Proof.DilQkValue.lean ====
/- The result array of the projection to the dilated attention's queries and keys is the reference's: each grid point
   writes a block of 1024 rows and 1024 columns of the products, normalised over the heads and rotated. -/
module

public import proofs.«01_k».proof.Proof.DilQkRow
public import proofs.«01_k».proof.Proof.SwapMatrix
public import proofs.«01_k».proof.Proof.Gen.Reference14Ideal.Read
public import Idealize.ShloMosaic.Lib.StableHlo.ReadAt

@[expose] public section

set_option maxRecDepth 16384

noncomputable section

namespace Cert.DilQk

open Idealize.ShloMosaic Idealize.ShloMosaic.TcCoe Idealize.SL.Sem Cert.Dense Cert.Swap

/-! ## The reference -/

section Ref

open Cert.Reference14Ideal Cert.Reference14Ideal.Read

/-- The gain of column `d`: the queries' for the first twelve heads, the keys' for the others. -/
def gain (g g' : (⟨S128, .f32⟩ : BufTy).Contents (Elt Ideal)) (d : Fin 3072) : EReal :=
  if h : d.val < 1536 then (show EReal from g (ix1 ⟨d.val % 128, by omega⟩)) else (show EReal from g' (ix1 ⟨(d.val - 1536) % 128, by omega⟩))

/-- The product of token `n` and column `d`, normalised over its head, times its gain. -/
def normTok (x : (⟨S4x4096x2048, .f32⟩ : BufTy).Contents (Elt Ideal)) (w : (⟨S2048x15168, .f32⟩ : BufTy).Contents (Elt Ideal)) (g g' : (⟨S128, .f32⟩ : BufTy).Contents (Elt Ideal)) (n : Fin 16384) (d : Fin 3072) : EReal :=
  dotTok x w n ⟨3072 + d.val, by omega⟩ * rms 1124073472#32 (fun l : Fin 128 => dotTok x w n ⟨3072 + (d.val / 128 * 128 + l.val), by omega⟩) * gain g g' d

/-- The cosines and the sines of the sixteen angles of token `n`'s position. -/
def cosTok (n : Fin 16384) (j : Fin 16) : EReal := val_main_v31 (F := Ideal) (ix2 ⟨n.val % 4096, by omega⟩ j)
def sinTok (n : Fin 16384) (j : Fin 16) : EReal := val_main_v33 (F := Ideal) (ix2 ⟨n.val % 4096, by omega⟩ j)

/-- A column of the queries, before the rotation. -/
theorem qn_at (x : (⟨S4x4096x2048, .f32⟩ : BufTy).Contents (Elt Ideal)) (w : (⟨S2048x15168, .f32⟩ : BufTy).Contents (Elt Ideal)) (g : (⟨S128, .f32⟩ : BufTy).Contents (Elt Ideal)) (n : Fin 16384) (d : Fin 12) (c : Fin 128) :
    (val_main_v17 (F := Ideal) x w g (ix4 ⟨n.val / 4096, by omega⟩ ⟨n.val % 4096, by omega⟩ d c) : EReal)
      = dotTok x w n ⟨3072 + (d.val * 128 + c.val), by omega⟩ * rms 1124073472#32 (fun l : Fin 128 => dotTok x w n ⟨3072 + (d.val * 128 + l.val), by omega⟩)
        * (show EReal from g (ix1 c)) := by
  pointwise [val_main_v17, val_main_v16, val_main_v15, val_main_v14, val_main_v13, val_main_v12, val_main_v11, val_main_v10, val_main_v9, val_main_v8, val_main_v7, val_main_v6, val_main_v5, val_main_v4, val_main_v2, val_main_v1, val_main_cst, val_main_cst_0, val_main_cst_1, val_main_cst_2, val_main_cst_3, val_main_cst_4, val_main_cst_5, val_main_cst_6, val_main_cst_7, val_main_cst_8]
  rfl

/-- A column of the keys, before the rotation. -/
theorem kn_at (x : (⟨S4x4096x2048, .f32⟩ : BufTy).Contents (Elt Ideal)) (w : (⟨S2048x15168, .f32⟩ : BufTy).Contents (Elt Ideal)) (g : (⟨S128, .f32⟩ : BufTy).Contents (Elt Ideal)) (n : Fin 16384) (d : Fin 12) (c : Fin 128) :
    (val_main_v63 (F := Ideal) x w g (ix4 ⟨n.val / 4096, by omega⟩ ⟨n.val % 4096, by omega⟩ d c) : EReal)
      = dotTok x w n ⟨4608 + (d.val * 128 + c.val), by omega⟩ * rms 1124073472#32 (fun l : Fin 128 => dotTok x w n ⟨4608 + (d.val * 128 + l.val), by omega⟩)
        * (show EReal from g (ix1 c)) := by
  pointwise [val_main_v63, val_main_v62, val_main_v61, val_main_v60, val_main_v59, val_main_v58, val_main_v57, val_main_v56, val_main_v55, val_main_v54, val_main_v53, val_main_v52, val_main_v51, val_main_v50, val_main_v3, val_main_v1, val_main_cst, val_main_cst_0, val_main_cst_1, val_main_cst_2, val_main_cst_3, val_main_cst_4, val_main_cst_5, val_main_cst_6, val_main_cst_7, val_main_cst_8]
  rfl

/-- The rotation of a head whose columns are `y`. -/
theorem turned_of (y : Fin 128 → EReal) (cos sin : Fin 16 → EReal) (c : Fin 128) (v : EReal)
    (h0 : ∀ h : c.val < 16, v = y c * cos ⟨c.val, h⟩ - y ⟨16 + c.val, by omega⟩ * sin ⟨c.val, h⟩)
    (h1 : ∀ (h : ¬ c.val < 16) (h' : c.val < 32), v = y c * cos ⟨c.val - 16, by omega⟩ + y ⟨c.val - 16, by omega⟩ * sin ⟨c.val - 16, by omega⟩)
    (h2 : ∀ h : ¬ c.val < 32, v = y c) : v = turned y cos sin c := by
  unfold turned
  split
  · exact h0 _
  · split
    · exact h1 ‹_› ‹_›
    · exact h2 ‹_›

/-- A column of the queries. -/
theorem q_at (x : (⟨S4x4096x2048, .f32⟩ : BufTy).Contents (Elt Ideal)) (w : (⟨S2048x15168, .f32⟩ : BufTy).Contents (Elt Ideal)) (g : (⟨S128, .f32⟩ : BufTy).Contents (Elt Ideal)) (n : Fin 16384) (d : Fin 1536) :
    (val_main_v96 (F := Ideal) x w g (ix2 n d) : EReal)
      = turned (fun c => val_main_v17 (F := Ideal) x w g (ix4 ⟨n.val / 4096, by omega⟩ ⟨n.val % 4096, by omega⟩ ⟨d.val / 128, by omega⟩ c))
          (cosTok n) (sinTok n) ⟨d.val % 128, by omega⟩ := by
  pointwise [val_main_v96, val_main_v49, val_main_v48, val_main_v47, val_main_v46, val_main_v45, val_main_v44, val_main_v43, val_main_v42, val_main_v41, val_main_v40, val_main_v39, val_main_v38, val_main_v37, val_main_v36, val_main_v35, val_main_v34, val_main_v32, val_main_v18]
  refine turned_of _ _ _ _ _ (fun h => ?_) (fun h h' => ?_) fun h => ?_
  · simp only at h
    rw [dif_pos (by omega), dif_pos h]
    rfl
  · simp only at h h'
    rw [dif_pos h', dif_neg h]
    simp only [show 16 + (d.val % 128 - 16) = d.val % 128 by omega]
    rfl
  · simp only at h
    rw [dif_neg h]
    simp only [show 32 + (d.val % 128 - 32) = d.val % 128 by omega]

/-- A column of the keys. -/
theorem k_at (x : (⟨S4x4096x2048, .f32⟩ : BufTy).Contents (Elt Ideal)) (w : (⟨S2048x15168, .f32⟩ : BufTy).Contents (Elt Ideal)) (g : (⟨S128, .f32⟩ : BufTy).Contents (Elt Ideal)) (n : Fin 16384) (d : Fin 1536) :
    (val_main_v97 (F := Ideal) x w g (ix2 n d) : EReal)
      = turned (fun c => val_main_v63 (F := Ideal) x w g (ix4 ⟨n.val / 4096, by omega⟩ ⟨n.val % 4096, by omega⟩ ⟨d.val / 128, by omega⟩ c))
          (cosTok n) (sinTok n) ⟨d.val % 128, by omega⟩ := by
  pointwise [val_main_v97, val_main_v95, val_main_v94, val_main_v93, val_main_v92, val_main_v91, val_main_v90, val_main_v89, val_main_v88, val_main_v87, val_main_v86, val_main_v85, val_main_v84, val_main_v83, val_main_v82, val_main_v81, val_main_v80, val_main_v78, val_main_v64]
  refine turned_of _ _ _ _ _ (fun h => ?_) (fun h h' => ?_) fun h => ?_
  · simp only at h
    rw [dif_pos (by omega), dif_pos h]
    rfl
  · simp only at h h'
    rw [dif_pos h', dif_neg h]
    simp only [show 16 + (d.val % 128 - 16) = d.val % 128 by omega]
    rfl
  · simp only at h
    rw [dif_neg h]
    simp only [show 32 + (d.val % 128 - 32) = d.val % 128 by omega]

theorem ref_at (x : (⟨S4x4096x2048, .f32⟩ : BufTy).Contents (Elt Ideal)) (w : (⟨S2048x15168, .f32⟩ : BufTy).Contents (Elt Ideal)) (g g' : (⟨S128, .f32⟩ : BufTy).Contents (Elt Ideal)) (n : Fin 16384) (d : Fin 3072) :
    (val_main_v98 (F := Ideal) x w g g' (ix2 n d) : EReal)
      = turned (fun l => normTok x w g g' n ⟨d.val / 128 * 128 + l.val, by omega⟩) (cosTok n) (sinTok n) ⟨d.val % 128, by omega⟩ := by
  pointwise [val_main_v98]
  split
  · rename_i h
    rw [q_at]
    refine congrArg (fun y => turned y _ _ _) (funext fun c => (qn_at x w g n _ c).trans ?_)
    unfold normTok gain
    rw [dif_pos (show d.val / 128 * 128 + c.val < 1536 by omega)]
    refine congrArg₂ (· * ·) (congrArg₂ (· * ·) rfl (congrArg (rms _) (funext fun l => congrArg (dotTok x w n) (Fin.ext ?_))))
      (congrArg (fun i => (show EReal from g (ix1 i))) (Fin.ext ?_))
    · show 3072 + (d.val / 128 * 128 + l.val) = 3072 + ((d.val / 128 * 128 + c.val) / 128 * 128 + l.val)
      omega
    · show c.val = (d.val / 128 * 128 + c.val) % 128
      omega
  · rename_i h
    rw [k_at]
    rw [show (⟨(d.val - 1536) % 128, by omega⟩ : Fin 128) = ⟨d.val % 128, by omega⟩ from Fin.ext (by simp only; omega)]
    refine congrArg (fun y => turned y _ _ _) (funext fun c => (kn_at x w g' n _ c).trans ?_)
    unfold normTok gain
    rw [dif_neg (show ¬ d.val / 128 * 128 + c.val < 1536 by omega)]
    refine congrArg₂ (· * ·) (congrArg₂ (· * ·) (congrArg (dotTok x w n) (Fin.ext ?_)) (congrArg (rms _) (funext fun l => congrArg (dotTok x w n) (Fin.ext ?_))))
      (congrArg (fun i => (show EReal from g' (ix1 i))) (Fin.ext ?_))
    · show 4608 + ((d.val - 1536) / 128 * 128 + c.val) = 3072 + (d.val / 128 * 128 + c.val)
      omega
    · show 4608 + ((d.val - 1536) / 128 * 128 + l.val) = 3072 + ((d.val / 128 * 128 + c.val) / 128 * 128 + l.val)
      omega
    · show c.val = (d.val / 128 * 128 + c.val - 1536) % 128
      omega

end Ref

/-! ## The kernel -/

section Kern

open Cert.Kernel14Ideal Cert.Kernel14Ideal.Gen

variable (m : (ℓ : Loc nD τ sig) → Buf (Elt Ideal) ℓ) (c : Dev nD)

/-- The activations, their first two axes merged. -/
theorem acts_at (n : Fin 16384) (k : Fin 2048) :
    (show EReal from V m c main_v21 (ix2 n k)) = (show EReal from m ((c.tc : Thread nD τ).loc main_arg0) (ix3 ⟨n / 4096, by omega⟩ ⟨n % 4096, by omega⟩ k)) := by
  unfold V
  after_reads_at

/-- The weights' columns. -/
theorem weights_at (k : Fin 2048) (d : Fin 3072) :
    (show EReal from V m c main_v23 (ix2 k d)) = (show EReal from m ((c.tc : Thread nD τ).loc main_arg1) (ix2 k ⟨3072 + d.val, by omega⟩)) := by
  unfold V
  after_reads_at

/-- The two gains, each repeated over its twelve heads. -/
theorem gain_at (d : Fin 3072) :
    (show EReal from V m c main_v31 (ix2 0 d)) = gain (m ((c.tc : Thread nD τ).loc main_arg2)) (m ((c.tc : Thread nD τ).loc main_arg3)) d := by
  unfold V
  after_reads_at
  unfold gain
  split
  · after_reads_at
  · after_reads_at

/-- The table of cosines. -/
theorem cos_at (n : Fin 4096) (k : Fin 128) :
    (show EReal from V m c main_v16 (ix2 n k)) = cosines (fun j => Cert.Reference14Ideal.Read.val_main_v31 (F := Ideal) (ix2 n j)) k := by
  unfold V
  after_reads_at
  unfold cosines
  split
  · after_reads_at
    rfl
  · split
    · after_reads_at
      rfl
    · after_reads_at

/-- The table of sines. -/
theorem sin_at (n : Fin 4096) (k : Fin 128) :
    (show EReal from V m c main_v19 (ix2 n k)) = sines (fun j => Cert.Reference14Ideal.Read.val_main_v33 (F := Ideal) (ix2 n j)) k := by
  unfold V
  after_reads_at
  unfold sines
  split
  · after_reads_at
    rfl
  · split
    · after_reads_at
      rfl
    · after_reads_at

/-- The exchanging matrix. -/
theorem swap_at (e p : Fin 256) :
    (show EReal from V m c main_v52 (ix2 e p)) = (FloatOps.uitofp (F := Ideal) FTy.bf16 (bit e p) : EReal) := by
  unfold V
  after_reads_at
  rfl

/-- Where each window's block lies at grid point `t`. -/
theorem idx : ∀ t : Fin cfg0.N, win0_0.index t = ![t.val / 3, 0] ∧ win0_1.index t = ![0, t.val % 3] ∧ win0_2.index t = ![0, t.val % 3]
    ∧ win0_3.index t = ![t.val / 3 % 4, 0] ∧ win0_4.index t = ![t.val / 3 % 4, 0] ∧ win0_5.index t = ![0, 0]
    ∧ win0_6.index t = ![t.val / 3, t.val % 3] ∧ t.val < 48 :=
  (by decide +kernel : ∀ t : Fin grid0.N, _)

theorem lt (t : Fin cfg0.N) : t.val < 48 := (idx t).2.2.2.2.2.2.2

/-- The row of the token axis that row `r` of grid point `t` is. -/
abbrev row (t : Fin cfg0.N) (r : Fin 1024) : Fin 16384 := ⟨t.val / 3 * 1024 + r, by have := lt t; omega⟩

/-- The column of the result that column `d` of grid point `t` is. -/
abbrev col (t : Fin cfg0.N) (d : Fin 1024) : Fin 3072 := ⟨t.val % 3 * 1024 + d, by omega⟩

theorem h_blk (t : Fin cfg0.N) (r : Fin 1024) (k : Fin 2048) : iblk m c 0 t (ix2 r k) = V m c main_v21 (ix2 (row t r) k) := by
  have := lt t
  blk_ext [iblk, idx t]

theorem w_blk (t : Fin cfg0.N) (k : Fin 2048) (d : Fin 1024) : iblk m c 1 t (ix2 k d) = V m c main_v23 (ix2 k (col t d)) := by
  have := lt t
  blk_ext [iblk, idx t]

theorem g_blk (t : Fin cfg0.N) (d : Fin 1024) : iblk m c 2 t (ix2 0 d) = V m c main_v31 (ix2 0 (col t d)) := by
  have := lt t
  blk_ext [iblk, idx t]

theorem c_blk (t : Fin cfg0.N) (r : Fin 1024) (k : Fin 128) : iblk m c 3 t (ix2 r k) = V m c main_v16 (ix2 ⟨(row t r).val % 4096, by omega⟩ k) := by
  have := lt t
  blk_ext [iblk, idx t]

theorem s_blk (t : Fin cfg0.N) (r : Fin 1024) (k : Fin 128) : iblk m c 4 t (ix2 r k) = V m c main_v19 (ix2 ⟨(row t r).val % 4096, by omega⟩ k) := by
  have := lt t
  blk_ext [iblk, idx t]

theorem p_blk (t : Fin cfg0.N) (e p : Fin 256) : iblk m c 5 t (ix2 e p) = V m c main_v52 (ix2 e p) := by
  have := lt t
  blk_ext [iblk, idx t]

/-- The normalised products of a grid point are the token's. -/
theorem normed_at (t : Fin cfg0.N) (r d : Fin 1024) :
    normed (iblk m c 0 t) (iblk m c 1 t) (iblk m c 2 t) r d = normTok (m ((c.tc : Thread nD τ).loc main_arg0)) (m ((c.tc : Thread nD τ).loc main_arg1)) (m ((c.tc : Thread nD τ).loc main_arg2)) (m ((c.tc : Thread nD τ).loc main_arg3)) (row t r) (col t d) := by
  have dot : ∀ d : Fin 1024, dotRow (iblk m c 0 t) (iblk m c 1 t) r d
      = dotTok (m ((c.tc : Thread nD τ).loc main_arg0)) (m ((c.tc : Thread nD τ).loc main_arg1)) (row t r) ⟨3072 + (col t d).val, by omega⟩ := fun d => by
    refine dotRow_eq (fun k => ?_) fun k => ?_
    · rw [h_blk]; exact acts_at m c _ _
    · rw [w_blk]; exact weights_at m c _ _
  refine congrArg₂ (· * ·) (congrArg₂ (· * ·) (dot d) (congrArg (rms _) (funext fun l => (dot _).trans ?_))) ?_
  · exact congrArg (dotTok _ _ _) (Fin.ext (show 3072 + (t.val % 3 * 1024 + (d.val / 128 * 128 + l.val)) = 3072 + ((t.val % 3 * 1024 + d.val) / 128 * 128 + l.val) by omega))
  · rw [g_blk]; exact gain_at m c _

/-- What a grid point writes, at a row and a column of its block. -/
theorem point (t : Fin cfg0.N) (r : Fin 1024) (d : Fin 1024) :
    (out0_6 (iblk m c 0 t) (iblk m c 1 t) (iblk m c 2 t) (iblk m c 3 t) (iblk m c 4 t) (iblk m c 5 t) (ix2 r d) : EReal)
      = Cert.Reference14Ideal.Read.val_main_v98 (F := Ideal) (m ((c.tc : Thread nD τ).loc main_arg0)) (m ((c.tc : Thread nD τ).loc main_arg1)) (m ((c.tc : Thread nD τ).loc main_arg2)) (m ((c.tc : Thread nD τ).loc main_arg3)) (ix2 (row t r) (col t d)) := by
  have e : (⟨d.val % 128, by omega⟩ : Fin 128) = ⟨d.val % 256 % 128, by omega⟩ := Fin.ext (by simp only; omega)
  rw [ref_at, out_at]
  unfold rotated
  rw [e]
  refine Eq.trans (congrArg₂ (· + ·) (congrArg₂ (· * ·) (normed_at m c t r d) ((c_blk m c t r _).trans (cos_at m c _ _)))
    (congrArg₂ (· * ·) (Finset.sum_congr rfl fun e _ => congrArg₂ (· * ·) (normed_at m c t r _) ((p_blk m c t e _).trans (swap_at m c e _)))
      ((s_blk m c t r _).trans (sin_at m c _ _)))) ?_
  have k := turned_eq (fun e => normTok (m ((c.tc : Thread nD τ).loc main_arg0)) (m ((c.tc : Thread nD τ).loc main_arg1)) (m ((c.tc : Thread nD τ).loc main_arg2)) (m ((c.tc : Thread nD τ).loc main_arg3)) (row t r) (col t ⟨d.val / 256 * 256 + e.val, by omega⟩))
    (cosTok (row t r)) (sinTok (row t r)) ⟨d.val % 256, by omega⟩
  refine Eq.trans (congrArg₂ (· + ·) (congrArg₂ (· * ·) (congrArg (normTok _ _ _ _ _) (Fin.ext ?_)) rfl) rfl) (k.trans ?_)
  · show t.val % 3 * 1024 + d.val = t.val % 3 * 1024 + (d.val / 256 * 256 + d.val % 256)
    omega
  · refine congrArg₂ (fun y q => turned y _ _ q) (funext fun l => congrArg (normTok _ _ _ _ _) (Fin.ext ?_)) (Fin.ext ?_)
    · show t.val % 3 * 1024 + (d.val / 256 * 256 + (d.val % 256 / 128 * 128 + l.val)) = (t.val % 3 * 1024 + d.val) / 128 * 128 + l.val
      omega
    · show d.val % 256 % 128 = (t.val % 3 * 1024 + d.val) % 128
      omega

/-- The kernel's result array is the reference's. -/
theorem final : (dats m 0 c).arrAt 6 cfg0.N
    = Cert.Reference14Ideal.Read.val_main_v98 (F := Ideal) (m ((c.tc : Thread nD τ).loc main_arg0)) (m ((c.tc : Thread nD τ).loc main_arg1)) (m ((c.tc : Thread nD τ).loc main_arg2)) (m ((c.tc : Thread nD τ).loc main_arg3)) := by
  refine (dats m 0 c).arrAt_eq_of_covers 6 _ (by decide +kernel) fun t hf y => ?_
  blk_simp
  rw [after0_6]
  idx_vars y
  refine (point m c t _ _).trans ?_
  blk_ext [idx t]

end Kern

end Cert.DilQk

end
-- ==== Proof.DilQkClaims.lean ====
/- The claims about the projection to the dilated attention's queries and keys: frames, the idealization, and equal results. -/
module

public import proofs.«01_k».proof.Defs
public import proofs.«01_k».proof.Proof.Gen.Kernel14.Frame
public import proofs.«01_k».proof.Proof.Gen.Reference14Ideal.Run
public import proofs.«01_k».proof.Proof.Gen.Reference14Ideal.Read
public import proofs.«01_k».proof.Proof.DilQkValue
public import Idealize.ShloMosaic.Adequacy
public import Idealize.ShloMosaic.Init

@[expose] public section

set_option maxRecDepth 16384

noncomputable section

namespace Cert.DilQk

open Idealize.ShloMosaic Idealize.SL.Sem

theorem frame_kernel : Cert.quiescent_Kernel14 := fun m ρ _ => Cert.Kernel14.Gen.frame m ρ
theorem frame_kernel_ideal : Cert.quiescent_Kernel14Ideal := fun m ρ _ => Cert.Kernel14Ideal.Gen.frame m ρ

/-- The reference runs to its composed result, leaves its arguments, and has no semaphores. -/
theorem frame_reference : Cert.quiescent_Reference14Ideal := fun m ρ _ =>
  (θ_run Cert.Reference14Ideal.defs _ _).mono (fun r h => ⟨fun c => (h c).2,
      Idealize.ShloMosaic.sem_eq_zero_of_no_sems (by decide) r.2⟩)
    (Cert.Reference14Ideal.Value.run (F := Ideal) m ρ)

theorem preserves : Cert.preserves_Kernel14_Kernel14Ideal := trivial

theorem algebraic : Cert.algebraic_Kernel14Ideal_Reference14Ideal := by
  intro m g m' g' _ hagree
  refine ⟨fun c => (Cert.Kernel14Ideal.Gen.dats m 0 c).arrAt 6 Cert.Kernel14Ideal.cfg0.N, Cert.Kernel14Ideal.Value.run_blocks m g, ?_⟩
  refine (θ_run Cert.Reference14Ideal.defs _ _).mono (fun r h c => ⟨(h c).1.trans ?_, (h c).2⟩) (Cert.Reference14Ideal.Value.run (F := Ideal) m' g')
  obtain ⟨a0, a1, a2, a3⟩ := hagree c
  rw [Cert.Reference14Ideal.Read.val_main_v98_eq, a0, a1, a2, a3]
  exact (final m c).symm

end Cert.DilQk

end
-- ==== Proof.MlaKrValue.lean ====
/- The result array of the projection to the rotary key is the reference's: each grid point writes a block of 1024 rows of the
   products with the 64 columns, padded to 128. -/
module

public import proofs.«01_k».proof.Proof.Gen.Kernel15Ideal.Value
public import proofs.«01_k».proof.Proof.NormDot
public import proofs.«01_k».proof.Proof.Gen.Reference15Ideal.Read
public import Idealize.ShloMosaic.Lib.StableHlo.ReadAt

@[expose] public section

set_option maxRecDepth 16384

noncomputable section

namespace Cert.MlaKr

open Idealize.ShloMosaic Idealize.ShloMosaic.TcCoe Idealize.SL.Sem Cert.Dense

/-- A case distinction by an equivalent condition. -/
theorem dite_eq {P Q : Prop} [Decidable P] [Decidable Q] (h : P ↔ Q) {f : P → EReal} {g : Q → EReal} {z : EReal} (e : ∀ p q, f p = g q) :
    (if p : P then f p else z) = if q : Q then g q else z := by
  by_cases q : Q
  · rw [dif_pos q, dif_pos (h.2 q)]
    exact e _ _
  · rw [dif_neg q, dif_neg fun p => q (h.1 p)]

theorem pad_zero : (FloatOps.sitofp (F := Ideal) FTy.f32 (0#32) : EReal) = 0 := by simp [FloatOps.sitofp]

section Ref

open Cert.Reference15Ideal Cert.Reference15Ideal.Read

theorem ref_at (x : (⟨S4x4096x2048, .f32⟩ : BufTy).Contents (Elt Ideal)) (w : (⟨S2048x15168, .f32⟩ : BufTy).Contents (Elt Ideal)) (n : Fin 16384) (d : Fin 128) :
    (val_main_v3 (F := Ideal) x w (ix2 n d) : EReal) = if h : d.val < 64 then dotTok x w n ⟨8960 + d.val, by omega⟩ else 0 := by
  rw [← pad_zero]
  pointwise [val_main_v3, val_main_v2, val_main_call0_v0, val_main_c, val_main_v1, val_main_v0]
  exact dite_eq ⟨fun e => e.2.2, fun e => ⟨by omega, by omega, e⟩⟩ fun _ _ => rfl

end Ref

section Kern

open Cert.Kernel15Ideal Cert.Kernel15Ideal.Gen

variable (m : (ℓ : Loc nD τ sig) → Buf (Elt Ideal) ℓ) (c : Dev nD)

theorem out_at (x0 : Vec Ideal S1024x2048 .bf16) (x1 : Vec Ideal S2048x128 .bf16) (r : Fin 1024) (n : Fin 128) :
    (out0_2 x0 x1 (ix2 r n) : EReal) = dotRow x0 x1 r n := by
  canon_tiles x h using cover0_2 ..
  idx_vars x
  obtain rfl := Fin.ext h0
  obtain rfl := Fin.ext h1
  pointwise [k0_pay1]
  rfl

/-- The activations, their first two axes merged. -/
theorem acts_at (n : Fin 16384) (k : Fin 2048) :
    (show EReal from V m c main_v4 (ix2 n k)) = (show EReal from (m ((c.tc : Thread nD τ).loc main_arg0)) (ix3 ⟨n / 4096, by omega⟩ ⟨n % 4096, by omega⟩ k)) := by
  unfold V
  after_reads_at

/-- The weights' columns, and zeros after them. -/
theorem weights_at (k : Fin 2048) (d : Fin 128) :
    (show EReal from V m c main_v2 (ix2 k d)) = if h : d.val < 64 then (show EReal from (m ((c.tc : Thread nD τ).loc main_arg1)) (ix2 k ⟨8960 + d.val, by omega⟩)) else 0 := by
  rw [← pad_zero]
  unfold V
  after_reads_at

/-- Where each window's block lies at grid point `t`. -/
theorem idx : ∀ t : Fin cfg0.N, win0_0.index t = ![t.val, 0] ∧ win0_1.index t = ![0, 0] ∧ win0_2.index t = ![t.val, 0] ∧ t.val < 16 :=
  (by decide +kernel : ∀ t : Fin grid0.N, _)

theorem lt (t : Fin cfg0.N) : t.val < 16 := (idx t).2.2.2

/-- The row of the token axis that row `r` of grid point `t` is. -/
abbrev row (t : Fin cfg0.N) (r : Fin 1024) : Fin 16384 := ⟨t.val * 1024 + r, by have := lt t; omega⟩

theorem h_blk (t : Fin cfg0.N) (r : Fin 1024) (k : Fin 2048) : iblk m c 0 t (ix2 r k) = V m c main_v4 (ix2 (row t r) k) := by
  have := lt t
  blk_ext [iblk, idx t]

theorem w_blk (t : Fin cfg0.N) (k : Fin 2048) (d : Fin 128) : iblk m c 1 t (ix2 k d) = V m c main_v2 (ix2 k d) := by
  have := lt t
  blk_ext [iblk, idx t]

/-- What a grid point writes, at a row and a column of its block. -/
theorem point (t : Fin cfg0.N) (r : Fin 1024) (d : Fin 128) :
    (out0_2 (iblk m c 0 t) (iblk m c 1 t) (ix2 r d) : EReal) = Cert.Reference15Ideal.Read.val_main_v3 (F := Ideal) (m ((c.tc : Thread nD τ).loc main_arg0)) (m ((c.tc : Thread nD τ).loc main_arg1)) (ix2 (row t r) d) := by
  rw [ref_at, out_at]
  by_cases h : d.val < 64
  · rw [dif_pos h]
    refine dotRow_eq (fun k => ?_) fun k => ?_
    · rw [h_blk]; exact acts_at m c _ _
    · rw [w_blk]; exact (weights_at m c _ _).trans (dif_pos h)
  · rw [dif_neg h]
    refine Finset.sum_eq_zero fun k _ => ?_
    rw [w_blk]
    exact (congrArg₂ (· * ·) rfl ((weights_at m c _ _).trans (dif_neg h))).trans (mul_zero _)

/-- The kernel's result array is the reference's. -/
theorem final : (dats m 0 c).arrAt 2 cfg0.N = Cert.Reference15Ideal.Read.val_main_v3 (F := Ideal) (m ((c.tc : Thread nD τ).loc main_arg0)) (m ((c.tc : Thread nD τ).loc main_arg1)) := by
  refine (dats m 0 c).arrAt_eq_of_covers 2 _ (by decide +kernel) fun t hf y => ?_
  blk_simp
  rw [after0_2]
  idx_vars y
  refine (point m c t _ _).trans ?_
  blk_ext [idx t]

end Kern

end Cert.MlaKr

end
-- ==== Proof.MlaKrClaims.lean ====
/- The claims about the projection to the rotary key: frames, the idealization, and equal results. -/
module

public import proofs.«01_k».proof.Defs
public import proofs.«01_k».proof.Proof.Gen.Kernel15.Frame
public import proofs.«01_k».proof.Proof.Gen.Reference15Ideal.Run
public import proofs.«01_k».proof.Proof.Gen.Reference15Ideal.Read
public import proofs.«01_k».proof.Proof.MlaKrValue
public import Idealize.ShloMosaic.Adequacy
public import Idealize.ShloMosaic.Init

@[expose] public section

set_option maxRecDepth 16384

noncomputable section

namespace Cert.MlaKr

open Idealize.ShloMosaic Idealize.SL.Sem

theorem frame_kernel : Cert.quiescent_Kernel15 := fun m ρ _ => Cert.Kernel15.Gen.frame m ρ
theorem frame_kernel_ideal : Cert.quiescent_Kernel15Ideal := fun m ρ _ => Cert.Kernel15Ideal.Gen.frame m ρ

/-- The reference runs to its composed result, leaves its arguments, and has no semaphores. -/
theorem frame_reference : Cert.quiescent_Reference15Ideal := fun m ρ _ =>
  (θ_run Cert.Reference15Ideal.defs _ _).mono (fun r h => ⟨fun c => (h c).2,
      Idealize.ShloMosaic.sem_eq_zero_of_no_sems (by decide) r.2⟩)
    (Cert.Reference15Ideal.Value.run (F := Ideal) m ρ)

theorem preserves : Cert.preserves_Kernel15_Kernel15Ideal := trivial

theorem algebraic : Cert.algebraic_Kernel15Ideal_Reference15Ideal := by
  intro m g m' g' _ hagree
  refine ⟨fun c => (Cert.Kernel15Ideal.Gen.dats m 0 c).arrAt 2 Cert.Kernel15Ideal.cfg0.N, Cert.Kernel15Ideal.Value.run_blocks m g, ?_⟩
  refine (θ_run Cert.Reference15Ideal.defs _ _).mono (fun r h c => ⟨(h c).1.trans ?_, (h c).2⟩) (Cert.Reference15Ideal.Value.run (F := Ideal) m' g')
  obtain ⟨a0, a1⟩ := hagree c
  rw [Cert.Reference15Ideal.Read.val_main_v3_eq, a0, a1]
  exact (final m c).symm

end Cert.MlaKr

end
-- ==== Proof.NormModValue.lean ====
/- The result array of the modulated norm is the reference's: each grid point writes a block of 512 rows. -/
module

public import proofs.«01_k».proof.Proof.Gen.Kernel16Ideal.Value
public import proofs.«01_k».proof.Proof.NormDot
public import proofs.«01_k».proof.Proof.Gen.Reference16Ideal.Read
public import Idealize.ShloMosaic.Lib.StableHlo.ReadAt

@[expose] public section

set_option maxRecDepth 16384

noncomputable section

namespace Cert.NormMod

open Idealize.ShloMosaic Idealize.ShloMosaic.TcCoe Idealize.SL.Sem Cert.Dense

/-- The norm of a row, scaled and shifted: `a` is the scale, `b` the shift. -/
def modRow (f : Fin 2048 → EReal) (d : Fin 2048) (g a b : EReal) : EReal := f d * rms 1157627904#32 f * g * (1 + a) + b

section Ref

open Cert.Reference16Ideal Cert.Reference16Ideal.Read

theorem ref_at (x : (⟨S4x4096x2048, .f32⟩ : BufTy).Contents (Elt Ideal)) (g : (⟨S2048, .f32⟩ : BufTy).Contents (Elt Ideal)) (a b : (⟨S4x1x2048, .f32⟩ : BufTy).Contents (Elt Ideal)) (n : Fin 16384) (d : Fin 2048) :
    (val_main_v20 (F := Ideal) x g a b (ix2 n d) : EReal)
      = modRow (fun k => x (ix3 ⟨n / 4096, by omega⟩ ⟨n % 4096, by omega⟩ k)) d (show EReal from g (ix1 d))
          (show EReal from a (ix3 ⟨n / 4096, by omega⟩ 0 d)) (show EReal from b (ix3 ⟨n / 4096, by omega⟩ 0 d)) := by
  pointwise [val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2]
  rfl

end Ref

section Kern

open Cert.Kernel16Ideal Cert.Kernel16Ideal.Gen

variable (m : (ℓ : Loc nD τ sig) → Buf (Elt Ideal) ℓ) (c : Dev nD)

theorem out_at (x : Vec Ideal S512x2048 .f32) (g : Vec Ideal S1x2048 .f32) (a b : Vec Ideal S1x1x2048 .f32) (r : Fin 512) (d : Fin 2048) :
    (out0_4 x g a b (ix2 r d) : EReal)
      = modRow (fun k => x (ix2 r k)) d (show EReal from g (ix2 0 d)) (show EReal from a (ix3 0 0 d)) (show EReal from b (ix3 0 0 d)) := by
  canon_tiles x h using cover0_4 ..
  idx_vars x
  obtain rfl := Fin.ext h0
  obtain rfl := Fin.ext h1
  pointwise [k0_pay1]
  rfl

/-- The rows, their first two axes merged. -/
theorem rows_at (n : Fin 16384) (k : Fin 2048) :
    (show EReal from V m c main_v0 (ix2 n k)) = (show EReal from (m ((c.tc : Thread nD τ).loc main_arg0)) (ix3 ⟨n / 4096, by omega⟩ ⟨n % 4096, by omega⟩ k)) := by
  unfold V
  after_reads_at

/-- The gain, as a row. -/
theorem gain_at (d : Fin 2048) : (show EReal from V m c main_v1 (ix2 0 d)) = (show EReal from (m ((c.tc : Thread nD τ).loc main_arg1)) (ix1 d)) := by
  unfold V
  after_reads_at

/-- Where each window's block lies at grid point `t`. -/
theorem idx : ∀ t : Fin cfg0.N, win0_0.index t = ![t.val, 0] ∧ win0_1.index t = ![0, 0] ∧ win0_2.index t = ![t.val / 8, 0, 0]
    ∧ win0_3.index t = ![t.val / 8, 0, 0] ∧ win0_4.index t = ![t.val, 0] ∧ t.val < 32 :=
  (by decide +kernel : ∀ t : Fin grid0.N, _)

theorem lt (t : Fin cfg0.N) : t.val < 32 := (idx t).2.2.2.2.2

/-- The row of the token axis that row `r` of grid point `t` is. -/
abbrev row (t : Fin cfg0.N) (r : Fin 512) : Fin 16384 := ⟨t.val * 512 + r, by have := lt t; omega⟩

theorem x_blk (t : Fin cfg0.N) (r : Fin 512) (k : Fin 2048) : iblk m c 0 t (ix2 r k) = V m c main_v0 (ix2 (row t r) k) := by
  have := lt t
  blk_ext [iblk, idx t]

theorem g_blk (t : Fin cfg0.N) (d : Fin 2048) : iblk m c 1 t (ix2 0 d) = V m c main_v1 (ix2 0 d) := by
  have := lt t
  blk_ext [iblk, idx t]

theorem a_blk (t : Fin cfg0.N) (r : Fin 512) (d : Fin 2048) : iblk m c 2 t (ix3 0 0 d) = V m c main_arg2 (ix3 ⟨(row t r).val / 4096, by omega⟩ 0 d) := by
  have := lt t
  blk_ext [iblk, idx t]

theorem b_blk (t : Fin cfg0.N) (r : Fin 512) (d : Fin 2048) : iblk m c 3 t (ix3 0 0 d) = V m c main_arg3 (ix3 ⟨(row t r).val / 4096, by omega⟩ 0 d) := by
  have := lt t
  blk_ext [iblk, idx t]

/-- What a grid point writes, at a row and a column of its block. -/
theorem point (t : Fin cfg0.N) (r : Fin 512) (d : Fin 2048) :
    (out0_4 (iblk m c 0 t) (iblk m c 1 t) (iblk m c 2 t) (iblk m c 3 t) (ix2 r d) : EReal)
      = Cert.Reference16Ideal.Read.val_main_v20 (F := Ideal) (m ((c.tc : Thread nD τ).loc main_arg0)) (m ((c.tc : Thread nD τ).loc main_arg1)) (m ((c.tc : Thread nD τ).loc main_arg2)) (m ((c.tc : Thread nD τ).loc main_arg3)) (ix2 (row t r) d) := by
  rw [ref_at, out_at, g_blk, a_blk m c t r, b_blk m c t r, V_main_arg2, V_main_arg3]
  refine congrArg₂ (fun f g => modRow f d g _ _) (funext fun k => ?_) (gain_at m c d)
  rw [x_blk]
  exact rows_at m c _ _

/-- The kernel's result array is the reference's. -/
theorem final : (dats m 0 c).arrAt 4 cfg0.N = Cert.Reference16Ideal.Read.val_main_v20 (F := Ideal) (m ((c.tc : Thread nD τ).loc main_arg0)) (m ((c.tc : Thread nD τ).loc main_arg1)) (m ((c.tc : Thread nD τ).loc main_arg2)) (m ((c.tc : Thread nD τ).loc main_arg3)) := by
  refine (dats m 0 c).arrAt_eq_of_covers 4 _ (by decide +kernel) fun t hf y => ?_
  blk_simp
  rw [after0_4]
  idx_vars y
  refine (point m c t _ _).trans ?_
  blk_ext [idx t]

end Kern

end Cert.NormMod

end
-- ==== Proof.NormModClaims.lean ====
/- The claims about the modulated norm: frames, the idealization, and equal results. -/
module

public import proofs.«01_k».proof.Defs
public import proofs.«01_k».proof.Proof.Gen.Kernel16.Frame
public import proofs.«01_k».proof.Proof.Gen.Reference16Ideal.Run
public import proofs.«01_k».proof.Proof.Gen.Reference16Ideal.Read
public import proofs.«01_k».proof.Proof.NormModValue
public import Idealize.ShloMosaic.Adequacy
public import Idealize.ShloMosaic.Init

@[expose] public section

set_option maxRecDepth 16384

noncomputable section

namespace Cert.NormMod

open Idealize.ShloMosaic Idealize.SL.Sem

theorem frame_kernel : Cert.quiescent_Kernel16 := fun m ρ _ => Cert.Kernel16.Gen.frame m ρ
theorem frame_kernel_ideal : Cert.quiescent_Kernel16Ideal := fun m ρ _ => Cert.Kernel16Ideal.Gen.frame m ρ

/-- The reference runs to its composed result, leaves its arguments, and has no semaphores. -/
theorem frame_reference : Cert.quiescent_Reference16Ideal := fun m ρ _ =>
  (θ_run Cert.Reference16Ideal.defs _ _).mono (fun r h => ⟨fun c => (h c).2,
      Idealize.ShloMosaic.sem_eq_zero_of_no_sems (by decide) r.2⟩)
    (Cert.Reference16Ideal.Value.run (F := Ideal) m ρ)

theorem preserves : Cert.preserves_Kernel16_Kernel16Ideal := trivial

theorem algebraic : Cert.algebraic_Kernel16Ideal_Reference16Ideal := by
  intro m g m' g' _ hagree
  refine ⟨fun c => (Cert.Kernel16Ideal.Gen.dats m 0 c).arrAt 4 Cert.Kernel16Ideal.cfg0.N, Cert.Kernel16Ideal.Value.run_blocks m g, ?_⟩
  refine (θ_run Cert.Reference16Ideal.defs _ _).mono (fun r h c => ⟨(h c).1.trans ?_, (h c).2⟩) (Cert.Reference16Ideal.Value.run (F := Ideal) m' g')
  obtain ⟨a0, a1, a2, a3⟩ := hagree c
  rw [Cert.Reference16Ideal.Read.val_main_v20_eq, a0, a1, a2, a3]
  exact (final m c).symm

end Cert.NormMod

end
-- ==== Proof.DilMixValue.lean ====
/- The result array of the mix of the dilated attention's groups is the reference's: each grid point writes a block of 512 rows,
   one head after another. -/
module

public import proofs.«01_k».proof.Proof.Gen.Kernel17Ideal.Value
public import proofs.«01_k».proof.Proof.NormDot
public import proofs.«01_k».proof.Proof.Gen.Reference17Ideal.Read
public import Idealize.ShloMosaic.Lib.StableHlo.ReadAt

@[expose] public section

set_option maxRecDepth 16384

noncomputable section

namespace Cert.DilMix

open Idealize.ShloMosaic Idealize.ShloMosaic.TcCoe Idealize.SL.Sem Cert.Dense

/-- The mix of three values by the softmax of three logarithms. -/
def mix (a b e x y z : EReal) : EReal :=
  let M := max (max a b) e
  let s := Ideal.exp (a - M) + Ideal.exp (b - M) + Ideal.exp (e - M)
  Ideal.div (Ideal.exp (a - M)) s * x + Ideal.div (Ideal.exp (b - M)) s * y + Ideal.div (Ideal.exp (e - M)) s * z

theorem lowest : Ideal.ofBits .f32 4286578688#32 = ⊥ := by simp [Ideal.ofBits, Ideal.ieee]

/-- The greatest of three. -/
theorem greatest (f : Fin 3 → EReal) : max (Ideal.ofBits .f32 4286578688#32) (Finset.fold max (Ideal.ofBits .f32 4286578688#32) f Finset.univ) = max (max (f 0) (f 1)) (f 2) := by
  rw [lowest, show (Finset.univ : Finset (Fin 3)) = {0, 1, 2} by decide, Finset.fold_insert (by decide), Finset.fold_insert (by decide), Finset.fold_singleton]
  rw [max_eq_right bot_le, max_eq_left (bot_le : ⊥ ≤ f 2), max_assoc]

/-- The mix as a sum over the three groups. -/
theorem mix_eq (f g : Fin 3 → EReal) :
    ∑ i, Ideal.div (Ideal.exp (f i - max (Ideal.ofBits .f32 4286578688#32) (Finset.fold max (Ideal.ofBits .f32 4286578688#32) f Finset.univ)))
        (∑ j, Ideal.exp (f j - max (Ideal.ofBits .f32 4286578688#32) (Finset.fold max (Ideal.ofBits .f32 4286578688#32) f Finset.univ))) * g i
      = mix (f 0) (f 1) (f 2) (g 0) (g 1) (g 2) := by
  rw [greatest, Fin.sum_univ_three, Fin.sum_univ_three]
  rfl

section Ref

open Cert.Reference17Ideal Cert.Reference17Ideal.Read

theorem ref_at (x y z : (⟨S4x4096x4x128, .f32⟩ : BufTy).Contents (Elt Ideal)) (a b e : (⟨S4x4096x4, .f32⟩ : BufTy).Contents (Elt Ideal)) (n : Fin 16384) (d : Fin 512) :
    (val_main_v24 (F := Ideal) x y z a b e (ix2 n d) : EReal)
      = mix (show EReal from a (ix3 ⟨n / 4096, by omega⟩ ⟨n % 4096, by omega⟩ ⟨d / 128, by omega⟩)) (show EReal from b (ix3 ⟨n / 4096, by omega⟩ ⟨n % 4096, by omega⟩ ⟨d / 128, by omega⟩)) (show EReal from e (ix3 ⟨n / 4096, by omega⟩ ⟨n % 4096, by omega⟩ ⟨d / 128, by omega⟩))
          (show EReal from x (ix4 ⟨n / 4096, by omega⟩ ⟨n % 4096, by omega⟩ ⟨d / 128, by omega⟩ ⟨d % 128, by omega⟩)) (show EReal from y (ix4 ⟨n / 4096, by omega⟩ ⟨n % 4096, by omega⟩ ⟨d / 128, by omega⟩ ⟨d % 128, by omega⟩)) (show EReal from z (ix4 ⟨n / 4096, by omega⟩ ⟨n % 4096, by omega⟩ ⟨d / 128, by omega⟩ ⟨d % 128, by omega⟩)) := by
  pointwise [val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2]
  exact mix_eq (fun i => if h : i.val < 1 then (show EReal from a (ix3 ⟨n / 4096, by omega⟩ ⟨n % 4096, by omega⟩ ⟨d / 128, by omega⟩)) else if h : i.val - 1 < 1 then (show EReal from b (ix3 ⟨n / 4096, by omega⟩ ⟨n % 4096, by omega⟩ ⟨d / 128, by omega⟩)) else (show EReal from e (ix3 ⟨n / 4096, by omega⟩ ⟨n % 4096, by omega⟩ ⟨d / 128, by omega⟩)))
    (fun i => if h : i.val < 1 then (show EReal from x (ix4 ⟨n / 4096, by omega⟩ ⟨n % 4096, by omega⟩ ⟨d / 128, by omega⟩ ⟨d % 128, by omega⟩)) else if h : i.val - 1 < 1 then (show EReal from y (ix4 ⟨n / 4096, by omega⟩ ⟨n % 4096, by omega⟩ ⟨d / 128, by omega⟩ ⟨d % 128, by omega⟩)) else (show EReal from z (ix4 ⟨n / 4096, by omega⟩ ⟨n % 4096, by omega⟩ ⟨d / 128, by omega⟩ ⟨d % 128, by omega⟩)))

end Ref

section Kern

open Cert.Kernel17Ideal Cert.Kernel17Ideal.Gen

variable (m : (ℓ : Loc nD τ sig) → Buf (Elt Ideal) ℓ) (c : Dev nD)

theorem out_at (x y z : Vec Ideal S512x512 .f32) (a b e : Vec Ideal S512x4 .f32) (r n : Fin 512) :
    (out0_6 x y z a b e (ix2 r n) : EReal)
      = mix (show EReal from a (ix2 r ⟨n.val / 128, by omega⟩)) (show EReal from b (ix2 r ⟨n.val / 128, by omega⟩)) (show EReal from e (ix2 r ⟨n.val / 128, by omega⟩))
          (show EReal from x (ix2 r n)) (show EReal from y (ix2 r n)) (show EReal from z (ix2 r n)) := by
  canon_tiles x h using cover0_6 ..
  · idx_vars x
    obtain rfl := Fin.ext h0
    obtain ⟨n, hn⟩ := n
    change n = 384 + _ at h1
    subst h1
    rw [show (⟨(384 + x1.val) / 128, by omega⟩ : Fin 4) = 3 from Fin.ext (show (384 + x1.val) / 128 = 3 by omega)]
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22]
    rfl
  · idx_vars x
    obtain rfl := Fin.ext h0
    obtain ⟨n, hn⟩ := n
    change n = 256 + _ at h1
    subst h1
    rw [show (⟨(256 + x1.val) / 128, by omega⟩ : Fin 4) = 2 from Fin.ext (show (256 + x1.val) / 128 = 2 by omega)]
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22]
    rfl
  · idx_vars x
    obtain rfl := Fin.ext h0
    obtain ⟨n, hn⟩ := n
    change n = 128 + _ at h1
    subst h1
    rw [show (⟨(128 + x1.val) / 128, by omega⟩ : Fin 4) = 1 from Fin.ext (show (128 + x1.val) / 128 = 1 by omega)]
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22]
    rfl
  · idx_vars x
    obtain rfl := Fin.ext h0
    obtain ⟨n, hn⟩ := n
    change n = _ at h1
    subst h1
    rw [show (⟨(x1.val) / 128, by omega⟩ : Fin 4) = 0 from Fin.ext (show (x1.val) / 128 = 0 by omega)]
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22]
    rfl

theorem x_at (n : Fin 16384) (d : Fin 512) : (show EReal from V m c main_v0 (ix2 n d)) = (show EReal from (m ((c.tc : Thread nD τ).loc main_arg0)) (ix4 ⟨n / 4096, by omega⟩ ⟨n % 4096, by omega⟩ ⟨d / 128, by omega⟩ ⟨d % 128, by omega⟩)) := by
  unfold V
  after_reads_at

theorem y_at (n : Fin 16384) (d : Fin 512) : (show EReal from V m c main_v1 (ix2 n d)) = (show EReal from (m ((c.tc : Thread nD τ).loc main_arg1)) (ix4 ⟨n / 4096, by omega⟩ ⟨n % 4096, by omega⟩ ⟨d / 128, by omega⟩ ⟨d % 128, by omega⟩)) := by
  unfold V
  after_reads_at

theorem z_at (n : Fin 16384) (d : Fin 512) : (show EReal from V m c main_v2 (ix2 n d)) = (show EReal from (m ((c.tc : Thread nD τ).loc main_arg2)) (ix4 ⟨n / 4096, by omega⟩ ⟨n % 4096, by omega⟩ ⟨d / 128, by omega⟩ ⟨d % 128, by omega⟩)) := by
  unfold V
  after_reads_at

theorem a_at (n : Fin 16384) (h : Fin 4) : (show EReal from V m c main_v3 (ix2 n h)) = (show EReal from (m ((c.tc : Thread nD τ).loc main_arg3)) (ix3 ⟨n / 4096, by omega⟩ ⟨n % 4096, by omega⟩ h)) := by
  unfold V
  after_reads_at

theorem b_at (n : Fin 16384) (h : Fin 4) : (show EReal from V m c main_v4 (ix2 n h)) = (show EReal from (m ((c.tc : Thread nD τ).loc main_arg4)) (ix3 ⟨n / 4096, by omega⟩ ⟨n % 4096, by omega⟩ h)) := by
  unfold V
  after_reads_at

theorem e_at (n : Fin 16384) (h : Fin 4) : (show EReal from V m c main_v5 (ix2 n h)) = (show EReal from (m ((c.tc : Thread nD τ).loc main_arg5)) (ix3 ⟨n / 4096, by omega⟩ ⟨n % 4096, by omega⟩ h)) := by
  unfold V
  after_reads_at

/-- Where each window's block lies at grid point `t`. -/
theorem idx : ∀ t : Fin cfg0.N, win0_0.index t = ![t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] ∧ t.val < 32 :=
  (by decide +kernel : ∀ t : Fin grid0.N, _)

theorem lt (t : Fin cfg0.N) : t.val < 32 := (idx t).2.2.2.2.2.2.2

/-- The row of the token axis that row `r` of grid point `t` is. -/
abbrev row (t : Fin cfg0.N) (r : Fin 512) : Fin 16384 := ⟨t.val * 512 + r, by have := lt t; omega⟩

theorem x_blk (t : Fin cfg0.N) (r d : Fin 512) : iblk m c 0 t (ix2 r d) = V m c main_v0 (ix2 (row t r) d) := by
  have := lt t
  blk_ext [iblk, idx t]

theorem y_blk (t : Fin cfg0.N) (r d : Fin 512) : iblk m c 1 t (ix2 r d) = V m c main_v1 (ix2 (row t r) d) := by
  have := lt t
  blk_ext [iblk, idx t]

theorem z_blk (t : Fin cfg0.N) (r d : Fin 512) : iblk m c 2 t (ix2 r d) = V m c main_v2 (ix2 (row t r) d) := by
  have := lt t
  blk_ext [iblk, idx t]

theorem a_blk (t : Fin cfg0.N) (r : Fin 512) (h : Fin 4) : iblk m c 3 t (ix2 r h) = V m c main_v3 (ix2 (row t r) h) := by
  have := lt t
  blk_ext [iblk, idx t]

theorem b_blk (t : Fin cfg0.N) (r : Fin 512) (h : Fin 4) : iblk m c 4 t (ix2 r h) = V m c main_v4 (ix2 (row t r) h) := by
  have := lt t
  blk_ext [iblk, idx t]

theorem e_blk (t : Fin cfg0.N) (r : Fin 512) (h : Fin 4) : iblk m c 5 t (ix2 r h) = V m c main_v5 (ix2 (row t r) h) := by
  have := lt t
  blk_ext [iblk, idx t]

/-- What a grid point writes, at a row and a column of its block. -/
theorem point (t : Fin cfg0.N) (r d : Fin 512) :
    (out0_6 (iblk m c 0 t) (iblk m c 1 t) (iblk m c 2 t) (iblk m c 3 t) (iblk m c 4 t) (iblk m c 5 t) (ix2 r d) : EReal) = Cert.Reference17Ideal.Read.val_main_v24 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (ix2 (row t r) d) := by
  rw [ref_at, out_at, x_blk, y_blk, z_blk, a_blk, b_blk, e_blk]
  exact congr (congr (congr (congr (congr (congrArg mix (a_at m c _ _)) (b_at m c _ _)) (e_at m c _ _)) (x_at m c _ _)) (y_at m c _ _)) (z_at m c _ _)

/-- The kernel's result array is the reference's. -/
theorem final : (dats m 0 c).arrAt 6 cfg0.N = Cert.Reference17Ideal.Read.val_main_v24 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  refine (dats m 0 c).arrAt_eq_of_covers 6 _ (by decide +kernel) fun t hf y => ?_
  blk_simp
  rw [after0_6]
  idx_vars y
  refine (point m c t _ _).trans ?_
  blk_ext [idx t]

end Kern

end Cert.DilMix

end
-- ==== Proof.DilMixClaims.lean ====
/- The claims about the mix of the dilated attention's groups: frames, the idealization, and equal results. -/
module

public import proofs.«01_k».proof.Defs
public import proofs.«01_k».proof.Proof.Gen.Kernel17.Frame
public import proofs.«01_k».proof.Proof.Gen.Reference17Ideal.Run
public import proofs.«01_k».proof.Proof.Gen.Reference17Ideal.Read
public import proofs.«01_k».proof.Proof.DilMixValue
public import Idealize.ShloMosaic.Adequacy
public import Idealize.ShloMosaic.Init

@[expose] public section

set_option maxRecDepth 16384

noncomputable section

namespace Cert.DilMix

open Idealize.ShloMosaic Idealize.SL.Sem

theorem frame_kernel : Cert.quiescent_Kernel17 := fun m ρ _ => Cert.Kernel17.Gen.frame m ρ
theorem frame_kernel_ideal : Cert.quiescent_Kernel17Ideal := fun m ρ _ => Cert.Kernel17Ideal.Gen.frame m ρ

/-- The reference runs to its composed result, leaves its arguments, and has no semaphores. -/
theorem frame_reference : Cert.quiescent_Reference17Ideal := fun m ρ _ =>
  (θ_run Cert.Reference17Ideal.defs _ _).mono (fun r h => ⟨fun c => (h c).2,
      Idealize.ShloMosaic.sem_eq_zero_of_no_sems (by decide) r.2⟩)
    (Cert.Reference17Ideal.Value.run (F := Ideal) m ρ)

theorem preserves : Cert.preserves_Kernel17_Kernel17Ideal := trivial

theorem algebraic : Cert.algebraic_Kernel17Ideal_Reference17Ideal := by
  intro m g m' g' _ hagree
  refine ⟨fun c => (Cert.Kernel17Ideal.Gen.dats m 0 c).arrAt 6 Cert.Kernel17Ideal.cfg0.N, Cert.Kernel17Ideal.Value.run_blocks m g, ?_⟩
  refine (θ_run Cert.Reference17Ideal.defs _ _).mono (fun r h c => ⟨(h c).1.trans ?_, (h c).2⟩) (Cert.Reference17Ideal.Value.run (F := Ideal) m' g')
  obtain ⟨a0, a1, a2, a3, a4, a5⟩ := hagree c
  rw [Cert.Reference17Ideal.Read.val_main_v24_eq, a0, a1, a2, a3, a4, a5]
  exact (final m c).symm

end Cert.DilMix

end
-- ==== Proof.AdaLnValue.lean ====
/- The result array of the modulation's projection is the reference's: each grid point writes 1024 columns of one layer's. -/
module

public import proofs.«01_k».proof.Proof.Gen.Kernel18Ideal.Value
public import proofs.«01_k».proof.Proof.NormDot
public import proofs.«01_k».proof.Proof.Gen.Reference18Ideal.Read
public import Idealize.ShloMosaic.Lib.StableHlo.ReadAt

@[expose] public section

set_option maxRecDepth 16384

noncomputable section

namespace Cert.AdaLn

open Idealize.ShloMosaic Idealize.ShloMosaic.TcCoe Idealize.SL.Sem Cert.Dense

/-- The condition, four rows padded to eight by `z`. -/
def padded (x : (⟨2, ![4, 2048]⟩ : Shape).Idx → EReal) (z : EReal) (n : Fin 8) (k : Fin 2048) : EReal := if h : n.val < 4 then x (ix2 ⟨n.val, h⟩ k) else z

section Ref

open Cert.Reference18Ideal Cert.Reference18Ideal.Read

theorem ref_at (x : (⟨S4x2048, .f32⟩ : BufTy).Contents (Elt Ideal)) (w : (⟨S2x2048x12288, .f32⟩ : BufTy).Contents (Elt Ideal)) (b : (⟨S2x12288, .f32⟩ : BufTy).Contents (Elt Ideal)) (l : Fin 2) (n : Fin 8) (d : Fin 12288) :
    (val_main_v19 (F := Ideal) x w b (ix3 l n d) : EReal)
      = (∑ k : Fin 2048, padded x (FloatOps.sitofp (F := Ideal) FTy.f32 (0#32)) n k * (show EReal from w (ix3 l k d))) + (show EReal from b (ix2 l d)) := by
  pointwise [val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_call0_v0, val_main_c]
  split
  · rename_i h
    obtain rfl : l = 0 := Fin.ext (by simpa using h)
    rfl
  · rename_i h
    obtain rfl : l = 1 := Fin.ext (show l.val = 1 by omega)
    rfl

end Ref

section Kern

open Cert.Kernel18Ideal Cert.Kernel18Ideal.Gen

variable (m : (ℓ : Loc nD τ sig) → Buf (Elt Ideal) ℓ) (c : Dev nD)

theorem out_at (x : Vec Ideal S8x2048 .f32) (w : Vec Ideal S1x2048x1024 .f32) (b : Vec Ideal S1x1x1024 .f32) (n : Fin 8) (d : Fin 1024) :
    (out0_3 x w b (ix3 0 n d) : EReal)
      = (∑ k : Fin 2048, (show EReal from x (ix2 n k)) * (show EReal from w (ix3 0 k d))) + (show EReal from b (ix3 0 0 d)) := by
  canon_tiles x h using cover0_3 ..
  idx_vars x
  obtain rfl := Fin.ext h1
  obtain rfl := Fin.ext h2
  pointwise [k0_pay1]

/-- The condition, padded to eight rows. -/
theorem cond_at (n : Fin 8) (k : Fin 2048) :
    (show EReal from V m c main_v0 (ix2 n k)) = padded (m ((c.tc : Thread nD τ).loc main_arg0)) (FloatOps.sitofp (F := Ideal) FTy.f32 (0#32)) n k := by
  unfold V
  after_reads_at
  rfl

/-- The bias, with an axis of one row. -/
theorem bias_at (l : Fin 2) (d : Fin 12288) : (show EReal from V m c main_v1 (ix3 l 0 d)) = (show EReal from (m ((c.tc : Thread nD τ).loc main_arg2)) (ix2 l d)) := by
  unfold V
  after_reads_at

/-- Where each window's block lies at grid point `t`. -/
theorem idx : ∀ t : Fin cfg0.N, win0_0.index t = ![0, 0] ∧ win0_1.index t = ![t.val / 12, 0, t.val % 12] ∧ win0_2.index t = ![t.val / 12, 0, t.val % 12]
    ∧ win0_3.index t = ![t.val / 12, 0, t.val % 12] ∧ t.val < 24 :=
  (by decide +kernel : ∀ t : Fin grid0.N, _)

theorem lt (t : Fin cfg0.N) : t.val < 24 := (idx t).2.2.2.2

/-- The layer of grid point `t`. -/
abbrev layer (t : Fin cfg0.N) : Fin 2 := ⟨t.val / 12, by have := lt t; omega⟩

/-- The column of the result that column `d` of grid point `t` is. -/
abbrev col (t : Fin cfg0.N) (d : Fin 1024) : Fin 12288 := ⟨t.val % 12 * 1024 + d, by omega⟩

theorem c_blk (t : Fin cfg0.N) (n : Fin 8) (k : Fin 2048) : iblk m c 0 t (ix2 n k) = V m c main_v0 (ix2 n k) := by
  have := lt t
  blk_ext [iblk, idx t]

theorem w_blk (t : Fin cfg0.N) (k : Fin 2048) (d : Fin 1024) : iblk m c 1 t (ix3 0 k d) = V m c main_arg1 (ix3 (layer t) k (col t d)) := by
  have := lt t
  blk_ext [iblk, idx t]

theorem b_blk (t : Fin cfg0.N) (d : Fin 1024) : iblk m c 2 t (ix3 0 0 d) = V m c main_v1 (ix3 (layer t) 0 (col t d)) := by
  have := lt t
  blk_ext [iblk, idx t]

/-- What a grid point writes, at a row and a column of its block. -/
theorem point (t : Fin cfg0.N) (n : Fin 8) (d : Fin 1024) :
    (out0_3 (iblk m c 0 t) (iblk m c 1 t) (iblk m c 2 t) (ix3 0 n d) : EReal)
      = Cert.Reference18Ideal.Read.val_main_v19 (F := Ideal) (m ((c.tc : Thread nD τ).loc main_arg0)) (m ((c.tc : Thread nD τ).loc main_arg1)) (m ((c.tc : Thread nD τ).loc main_arg2)) (ix3 (layer t) n (col t d)) := by
  rw [ref_at, out_at, b_blk]
  refine congrArg₂ (· + ·) (Finset.sum_congr rfl fun k _ => ?_) (bias_at m c _ _)
  rw [c_blk, w_blk, V_main_arg1]
  exact congrArg₂ (· * ·) (cond_at m c _ _) rfl

/-- The kernel's result array is the reference's. -/
theorem final : (dats m 0 c).arrAt 3 cfg0.N = Cert.Reference18Ideal.Read.val_main_v19 (F := Ideal) (m ((c.tc : Thread nD τ).loc main_arg0)) (m ((c.tc : Thread nD τ).loc main_arg1)) (m ((c.tc : Thread nD τ).loc main_arg2)) := by
  refine (dats m 0 c).arrAt_eq_of_covers 3 _ (by decide +kernel) fun t hf y => ?_
  blk_simp
  rw [after0_3]
  idx_vars y
  obtain rfl : y0 = 0 := Fin.ext (by omega)
  refine (point m c t _ _).trans ?_
  blk_ext [idx t]

end Kern

end Cert.AdaLn

end
-- ==== Proof.AdaLnClaims.lean ====
/- The claims about the modulation's projection: frames, the idealization, and equal results. -/
module

public import proofs.«01_k».proof.Defs
public import proofs.«01_k».proof.Proof.Gen.Kernel18.Frame
public import proofs.«01_k».proof.Proof.Gen.Reference18Ideal.Run
public import proofs.«01_k».proof.Proof.Gen.Reference18Ideal.Read
public import proofs.«01_k».proof.Proof.AdaLnValue
public import Idealize.ShloMosaic.Adequacy
public import Idealize.ShloMosaic.Init

@[expose] public section

set_option maxRecDepth 16384

noncomputable section

namespace Cert.AdaLn

open Idealize.ShloMosaic Idealize.SL.Sem

theorem frame_kernel : Cert.quiescent_Kernel18 := fun m ρ _ => Cert.Kernel18.Gen.frame m ρ
theorem frame_kernel_ideal : Cert.quiescent_Kernel18Ideal := fun m ρ _ => Cert.Kernel18Ideal.Gen.frame m ρ

/-- The reference runs to its composed result, leaves its arguments, and has no semaphores. -/
theorem frame_reference : Cert.quiescent_Reference18Ideal := fun m ρ _ =>
  (θ_run Cert.Reference18Ideal.defs _ _).mono (fun r h => ⟨fun c => (h c).2,
      Idealize.ShloMosaic.sem_eq_zero_of_no_sems (by decide) r.2⟩)
    (Cert.Reference18Ideal.Value.run (F := Ideal) m ρ)

theorem preserves : Cert.preserves_Kernel18_Kernel18Ideal := trivial

theorem algebraic : Cert.algebraic_Kernel18Ideal_Reference18Ideal := by
  intro m g m' g' _ hagree
  refine ⟨fun c => (Cert.Kernel18Ideal.Gen.dats m 0 c).arrAt 3 Cert.Kernel18Ideal.cfg0.N, Cert.Kernel18Ideal.Value.run_blocks m g, ?_⟩
  refine (θ_run Cert.Reference18Ideal.defs _ _).mono (fun r h c => ⟨(h c).1.trans ?_, (h c).2⟩) (Cert.Reference18Ideal.Value.run (F := Ideal) m' g')
  obtain ⟨a0, a1, a2⟩ := hagree c
  rw [Cert.Reference18Ideal.Read.val_main_v19_eq, a0, a1, a2]
  exact (final m c).symm

end Cert.AdaLn

end
-- ==== Proof.lean ====
/- The proof of the claims about the kernels and the references of this directory, assembled from the modules under Proof/. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Flash
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Flash
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Flash
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Flash
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Reference12Ideal.Read
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Reference13Ideal.Read
public import proofs.«01_k».proof.Proof.Gen.Kernel14
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Frame
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Kernel14Ideal.Value
public import proofs.«01_k».proof.Proof.Gen.Reference14Ideal
public import proofs.«01_k».proof.Proof.Gen.Reference14Ideal.Run
public import proofs.«01_k».proof.Proof.Gen.Reference14Ideal.Read
public import proofs.«01_k».proof.Proof.Gen.Kernel15
public import proofs.«01_k».proof.Proof.Gen.Kernel15.Skeleton
public import proofs.«01_k».proof.Proof.Gen.Kernel15.Launch
public import proofs.«01_k».proof.Proof.Gen.Kernel15.Points
public import proofs.«01_k».proof.Proof.Gen.Kernel15.Frame
public import proofs.«01_k».proof.Proof.Gen.Kernel15Ideal
public import proofs.«01_k».proof.Proof.Gen.Kernel15Ideal.Skeleton
public import proofs.«01_k».proof.Proof.Gen.Kernel15Ideal.Launch
public import proofs.«01_k».proof.Proof.Gen.Kernel15Ideal.Points
public import proofs.«01_k».proof.Proof.Gen.Kernel15Ideal.Frame
public import proofs.«01_k».proof.Proof.Gen.Kernel15Ideal.Value
public import proofs.«01_k».proof.Proof.Gen.Reference15Ideal
public import proofs.«01_k».proof.Proof.Gen.Reference15Ideal.Run
public import proofs.«01_k».proof.Proof.Gen.Reference15Ideal.Read
public import proofs.«01_k».proof.Proof.Gen.Kernel16
public import proofs.«01_k».proof.Proof.Gen.Kernel16.Skeleton
public import proofs.«01_k».proof.Proof.Gen.Kernel16.Launch
public import proofs.«01_k».proof.Proof.Gen.Kernel16.Points
public import proofs.«01_k».proof.Proof.Gen.Kernel16.Frame
public import proofs.«01_k».proof.Proof.Gen.Kernel16Ideal
public import proofs.«01_k».proof.Proof.Gen.Kernel16Ideal.Skeleton
public import proofs.«01_k».proof.Proof.Gen.Kernel16Ideal.Launch
public import proofs.«01_k».proof.Proof.Gen.Kernel16Ideal.Points
public import proofs.«01_k».proof.Proof.Gen.Kernel16Ideal.Frame
public import proofs.«01_k».proof.Proof.Gen.Kernel16Ideal.Value
public import proofs.«01_k».proof.Proof.Gen.Reference16Ideal
public import proofs.«01_k».proof.Proof.Gen.Reference16Ideal.Run
public import proofs.«01_k».proof.Proof.Gen.Reference16Ideal.Read
public import proofs.«01_k».proof.Proof.Gen.Kernel17
public import proofs.«01_k».proof.Proof.Gen.Kernel17.Skeleton
public import proofs.«01_k».proof.Proof.Gen.Kernel17.Launch
public import proofs.«01_k».proof.Proof.Gen.Kernel17.Points
public import proofs.«01_k».proof.Proof.Gen.Kernel17.Frame
public import proofs.«01_k».proof.Proof.Gen.Kernel17Ideal
public import proofs.«01_k».proof.Proof.Gen.Kernel17Ideal.Skeleton
public import proofs.«01_k».proof.Proof.Gen.Kernel17Ideal.Launch
public import proofs.«01_k».proof.Proof.Gen.Kernel17Ideal.Points
public import proofs.«01_k».proof.Proof.Gen.Kernel17Ideal.Frame
public import proofs.«01_k».proof.Proof.Gen.Kernel17Ideal.Value
public import proofs.«01_k».proof.Proof.Gen.Reference17Ideal
public import proofs.«01_k».proof.Proof.Gen.Reference17Ideal.Run
public import proofs.«01_k».proof.Proof.Gen.Reference17Ideal.Read
public import proofs.«01_k».proof.Proof.Gen.Kernel18
public import proofs.«01_k».proof.Proof.Gen.Kernel18.Skeleton
public import proofs.«01_k».proof.Proof.Gen.Kernel18.Launch
public import proofs.«01_k».proof.Proof.Gen.Kernel18.Points
public import proofs.«01_k».proof.Proof.Gen.Kernel18.Frame
public import proofs.«01_k».proof.Proof.Gen.Kernel18Ideal
public import proofs.«01_k».proof.Proof.Gen.Kernel18Ideal.Skeleton
public import proofs.«01_k».proof.Proof.Gen.Kernel18Ideal.Launch
public import proofs.«01_k».proof.Proof.Gen.Kernel18Ideal.Points
public import proofs.«01_k».proof.Proof.Gen.Kernel18Ideal.Frame
public import proofs.«01_k».proof.Proof.Gen.Kernel18Ideal.Value
public import proofs.«01_k».proof.Proof.Gen.Reference18Ideal
public import proofs.«01_k».proof.Proof.Gen.Reference18Ideal.Run
public import proofs.«01_k».proof.Proof.Gen.Reference18Ideal.Read
public import proofs.«01_k».proof.Proof.Gen.Pre_finite
public import proofs.«01_k».proof.Proof.Gen.Pre_grouped
public import proofs.«01_k».proof.Proof.Gen.Pre_grouped_act
public import proofs.«01_k».proof.Proof.MlaClaims
public import proofs.«01_k».proof.Proof.UpClaims
public import proofs.«01_k».proof.Proof.DownClaims
public import proofs.«01_k».proof.Proof.DenseUpClaims
public import proofs.«01_k».proof.Proof.DenseDownClaims
public import proofs.«01_k».proof.Proof.GatesClaims
public import proofs.«01_k».proof.Proof.MergeClaims
public import proofs.«01_k».proof.Proof.OutProjClaims
public import proofs.«01_k».proof.Proof.NaValuesClaims
public import proofs.«01_k».proof.Proof.DilValuesClaims
public import proofs.«01_k».proof.Proof.NaQkClaims
public import proofs.«01_k».proof.Proof.MlaCqClaims
public import proofs.«01_k».proof.Proof.MlaCkvClaims
public import proofs.«01_k».proof.Proof.DilQkClaims
public import proofs.«01_k».proof.Proof.MlaKrClaims
public import proofs.«01_k».proof.Proof.NormModClaims
public import proofs.«01_k».proof.Proof.DilMixClaims
public import proofs.«01_k».proof.Proof.AdaLnClaims

@[expose] public section

noncomputable section

namespace Cert.Proof

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Kernel16.Gen.facts, Cert.Kernel16Ideal.Gen.facts, Cert.Reference16Ideal.Gen.facts,
  Cert.Kernel17.Gen.facts, Cert.Kernel17Ideal.Gen.facts, Cert.Reference17Ideal.Gen.facts,
  Cert.Kernel18.Gen.facts, Cert.Kernel18Ideal.Gen.facts, Cert.Reference18Ideal.Gen.facts,
  Cert.Pre_finite.Gen.facts, Cert.Pre_grouped.Gen.facts, Cert.Pre_grouped_act.Gen.facts,
  Cert.Mla.frame_kernel, Cert.Mla.frame_kernel_ideal, Cert.Mla.frame_kernel_ideal_pre, Cert.Mla.frame_reference, Cert.Mla.frame_reference_pre,
  Cert.MoeUp.frame_kernel, Cert.MoeUp.frame_kernel_ideal, Cert.MoeUp.frame_reference, Cert.MoeUp.frame_reference_pre,
  Cert.MoeDown.frame_kernel, Cert.MoeDown.frame_kernel_ideal, Cert.MoeDown.frame_reference, Cert.MoeDown.frame_reference_pre,
  Cert.DenseUp.frame_kernel, Cert.DenseUp.frame_kernel_ideal, Cert.DenseUp.frame_reference,
  Cert.DenseDown.frame_kernel, Cert.DenseDown.frame_kernel_ideal, Cert.DenseDown.frame_reference,
  Cert.Gates.frame_kernel, Cert.Gates.frame_kernel_ideal, Cert.Gates.frame_reference,
  Cert.Merge.frame_kernel, Cert.Merge.frame_kernel_ideal, Cert.Merge.frame_reference,
  Cert.OutProj.frame_kernel, Cert.OutProj.frame_kernel_ideal, Cert.OutProj.frame_reference,
  Cert.NaValues.frame_kernel, Cert.NaValues.frame_kernel_ideal, Cert.NaValues.frame_reference,
  Cert.DilValues.frame_kernel, Cert.DilValues.frame_kernel_ideal, Cert.DilValues.frame_reference,
  Cert.NaQk.frame_kernel, Cert.NaQk.frame_kernel_ideal, Cert.NaQk.frame_reference,
  Cert.MlaCq.frame_kernel, Cert.MlaCq.frame_kernel_ideal, Cert.MlaCq.frame_reference,
  Cert.MlaCkv.frame_kernel, Cert.MlaCkv.frame_kernel_ideal, Cert.MlaCkv.frame_reference,
  Cert.DilQk.frame_kernel, Cert.DilQk.frame_kernel_ideal, Cert.DilQk.frame_reference,
  Cert.MlaKr.frame_kernel, Cert.MlaKr.frame_kernel_ideal, Cert.MlaKr.frame_reference,
  Cert.NormMod.frame_kernel, Cert.NormMod.frame_kernel_ideal, Cert.NormMod.frame_reference,
  Cert.DilMix.frame_kernel, Cert.DilMix.frame_kernel_ideal, Cert.DilMix.frame_reference,
  Cert.AdaLn.frame_kernel, Cert.AdaLn.frame_kernel_ideal, Cert.AdaLn.frame_reference,
  Cert.Mla.preserves, Cert.Mla.algebraic, Cert.MoeUp.preserves, Cert.MoeUp.algebraic, Cert.MoeDown.preserves, Cert.MoeDown.algebraic,
  Cert.DenseUp.preserves, Cert.DenseUp.algebraic,
  Cert.DenseDown.preserves, Cert.DenseDown.algebraic,
  Cert.Gates.preserves, Cert.Gates.algebraic,
  Cert.Merge.preserves, Cert.Merge.algebraic,
  Cert.OutProj.preserves, Cert.OutProj.algebraic,
  Cert.NaValues.preserves, Cert.NaValues.algebraic,
  Cert.DilValues.preserves, Cert.DilValues.algebraic,
  Cert.NaQk.preserves, Cert.NaQk.algebraic,
  Cert.MlaCq.preserves, Cert.MlaCq.algebraic,
  Cert.MlaCkv.preserves, Cert.MlaCkv.algebraic,
  Cert.DilQk.preserves, Cert.DilQk.algebraic,
  Cert.MlaKr.preserves, Cert.MlaKr.algebraic,
  Cert.NormMod.preserves, Cert.NormMod.algebraic,
  Cert.DilMix.preserves, Cert.DilMix.algebraic,
  Cert.AdaLn.preserves, Cert.AdaLn.algebraic⟩

end Cert.Proof

end
